-- ==== Defs.lean ====
def Pre_SbAttn (m : (ℓ : Loc Cert.SbAttn.nD Cert.SbAttn.τ Cert.SbAttn.sig) → Buf (Elt Bits) ℓ) : Prop :=
  True

def Pre_SbAttnIdeal (m : (ℓ : Loc Cert.SbAttnIdeal.nD Cert.SbAttnIdeal.τ Cert.SbAttnIdeal.sig) → Buf (Elt Ideal) ℓ) : Prop :=
  True

def Pre_SbAttnIdeal_finite_qk [hPre_finite_qk : Cert.Pre_finite_qk.Facts] (m : (ℓ : Loc Cert.SbAttnIdeal.nD Cert.SbAttnIdeal.τ Cert.SbAttnIdeal.sig) → Buf (Elt Ideal) ℓ) : Prop :=
  ∀ c : Dev Cert.SbAttnIdeal.nD,
    (Cert.Pre_finite_qk.fn (F := Ideal) (m ((c.tc : Thread Cert.SbAttnIdeal.nD Cert.SbAttnIdeal.τ).loc Cert.SbAttnIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_qk [hPre_finite_qk : Cert.Pre_finite_qk.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_qk.fn (F := Ideal) (m ((c.tc : Thread Cert.SbRefIdeal.nD Cert.SbRefIdeal.τ).loc Cert.SbRefIdeal.main_arg0))) = (fun _ => 1#1)

def Pre_ChunkAttn (m : (ℓ : Loc Cert.ChunkAttn.nD Cert.ChunkAttn.τ Cert.ChunkAttn.sig) → Buf (Elt Bits) ℓ) : Prop :=
  True

def Pre_ChunkAttnIdeal (m : (ℓ : Loc Cert.ChunkAttnIdeal.nD Cert.ChunkAttnIdeal.τ Cert.ChunkAttnIdeal.sig) → Buf (Elt Ideal) ℓ) : Prop :=
  True

def Pre_ChunkAttnIdeal_finite_chunk [hPre_finite_chunk : Cert.Pre_finite_chunk.Facts] (m : (ℓ : Loc Cert.ChunkAttnIdeal.nD Cert.ChunkAttnIdeal.τ Cert.ChunkAttnIdeal.sig) → Buf (Elt Ideal) ℓ) : Prop :=
  ∀ c : Dev Cert.ChunkAttnIdeal.nD,
    (Cert.Pre_finite_chunk.fn (F := Ideal) (m ((c.tc : Thread Cert.ChunkAttnIdeal.nD Cert.ChunkAttnIdeal.τ).loc Cert.ChunkAttnIdeal.main_arg0)) (m ((c.tc : Thread Cert.ChunkAttnIdeal.nD Cert.ChunkAttnIdeal.τ).loc Cert.ChunkAttnIdeal.main_arg1))) = (fun _ => 1#1)

def Pre_ChunkRefIdeal (m : (ℓ : Loc Cert.ChunkRefIdeal.nD Cert.ChunkRefIdeal.τ Cert.ChunkRefIdeal.sig) → Buf (Elt Ideal) ℓ) : Prop :=
  True

def Pre_ChunkRefIdeal_finite_chunk [hPre_finite_chunk : Cert.Pre_finite_chunk.Facts] (m : (ℓ : Loc Cert.ChunkRefIdeal.nD Cert.ChunkRefIdeal.τ Cert.ChunkRefIdeal.sig) → Buf (Elt Ideal) ℓ) : Prop :=
  ∀ c : Dev Cert.ChunkRefIdeal.nD,
    (Cert.Pre_finite_chunk.fn (F := Ideal) (m ((c.tc : Thread Cert.ChunkRefIdeal.nD Cert.ChunkRefIdeal.τ).loc Cert.ChunkRefIdeal.main_arg0)) (m ((c.tc : Thread Cert.ChunkRefIdeal.nD Cert.ChunkRefIdeal.τ).loc Cert.ChunkRefIdeal.main_arg1))) = (fun _ => 1#1)

def Pre_FfnOdd (m : (ℓ : Loc Cert.FfnOdd.nD Cert.FfnOdd.τ Cert.FfnOdd.sig) → Buf (Elt Bits) ℓ) : Prop :=
  True

def Pre_FfnOddIdeal (m : (ℓ : Loc Cert.FfnOddIdeal.nD Cert.FfnOddIdeal.τ Cert.FfnOddIdeal.sig) → Buf (Elt Ideal) ℓ) : Prop :=
  True

def Pre_FfnOddRefIdeal (m : (ℓ : Loc Cert.FfnOddRefIdeal.nD Cert.FfnOddRefIdeal.τ Cert.FfnOddRefIdeal.sig) → Buf (Elt Ideal) ℓ) : Prop :=
  True

def Pre_FfnEven (m : (ℓ : Loc Cert.FfnEven.nD Cert.FfnEven.τ Cert.FfnEven.sig) → Buf (Elt Bits) ℓ) : Prop :=
  True

def Pre_FfnEvenIdeal (m : (ℓ : Loc Cert.FfnEvenIdeal.nD Cert.FfnEvenIdeal.τ Cert.FfnEvenIdeal.sig) → Buf (Elt Ideal) ℓ) : Prop :=
  True

def Pre_FfnEvenRefIdeal (m : (ℓ : Loc Cert.FfnEvenRefIdeal.nD Cert.FfnEvenRefIdeal.τ Cert.FfnEvenRefIdeal.sig) → Buf (Elt Ideal) ℓ) : Prop :=
  True

def Pre_ProjOdd (m : (ℓ : Loc Cert.ProjOdd.nD Cert.ProjOdd.τ Cert.ProjOdd.sig) → Buf (Elt Bits) ℓ) : Prop :=
  True

def Pre_ProjOddIdeal (m : (ℓ : Loc Cert.ProjOddIdeal.nD Cert.ProjOddIdeal.τ Cert.ProjOddIdeal.sig) → Buf (Elt Ideal) ℓ) : Prop :=
  True

def Pre_ProjOddRefIdeal (m : (ℓ : Loc Cert.ProjOddRefIdeal.nD Cert.ProjOddRefIdeal.τ Cert.ProjOddRefIdeal.sig) → Buf (Elt Ideal) ℓ) : Prop :=
  True

def Pre_ProjEven (m : (ℓ : Loc Cert.ProjEven.nD Cert.ProjEven.τ Cert.ProjEven.sig) → Buf (Elt Bits) ℓ) : Prop :=
  True

def Pre_ProjEvenIdeal (m : (ℓ : Loc Cert.ProjEvenIdeal.nD Cert.ProjEvenIdeal.τ Cert.ProjEvenIdeal.sig) → Buf (Elt Ideal) ℓ) : Prop :=
  True

def Pre_ProjEvenRefIdeal (m : (ℓ : Loc Cert.ProjEvenRefIdeal.nD Cert.ProjEvenRefIdeal.τ Cert.ProjEvenRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddIdeal_finite_in [hPre_finite_in : Cert.Pre_finite_in.Facts] (m : (ℓ : Loc Cert.OddIdeal.nD Cert.OddIdeal.τ Cert.OddIdeal.sig) → Buf (Elt Ideal) ℓ) : Prop :=
  ∀ c : Dev Cert.OddIdeal.nD,
    (Cert.Pre_finite_in.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (m ((c.tc : Thread Cert.OddIdeal.nD Cert.OddIdeal.τ).loc Cert.OddIdeal.main_arg6)) (m ((c.tc : Thread Cert.OddIdeal.nD Cert.OddIdeal.τ).loc Cert.OddIdeal.main_arg7)) (m ((c.tc : Thread Cert.OddIdeal.nD Cert.OddIdeal.τ).loc Cert.OddIdeal.main_arg8)) (m ((c.tc : Thread Cert.OddIdeal.nD Cert.OddIdeal.τ).loc Cert.OddIdeal.main_arg9))) = (fun _ => 1#1)

def Pre_OddRefIdeal (m : (ℓ : Loc Cert.OddRefIdeal.nD Cert.OddRefIdeal.τ Cert.OddRefIdeal.sig) → Buf (Elt Ideal) ℓ) : Prop :=
  True

def Pre_OddRefIdeal_finite_in [hPre_finite_in : Cert.Pre_finite_in.Facts] (m : (ℓ : Loc Cert.OddRefIdeal.nD Cert.OddRefIdeal.τ Cert.OddRefIdeal.sig) → Buf (Elt Ideal) ℓ) : Prop :=
  ∀ c : Dev Cert.OddRefIdeal.nD,
    (Cert.Pre_finite_in.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9))) = (fun _ => 1#1)

def quiescent_SbAttn [hSbAttn : Cert.SbAttn.Facts] : Prop :=
  ∀ (m : (ℓ : Loc Cert.SbAttn.nD Cert.SbAttn.τ Cert.SbAttn.sig) → Buf (Elt Bits) ℓ) (g : Dev Cert.SbAttn.nD → PrngReg), Pre_SbAttn m →
    θ_run (Cert.SbAttn.defs (F := Bits)) (onTc (τ := Cert.SbAttn.τ) (Cert.SbAttn.main (F := Bits))) ⟨m, fun _ => 0, g⟩ (fun r => (∀ c : Dev Cert.SbAttn.nD,
      r.2.mem ((c.tc : Thread Cert.SbAttn.nD Cert.SbAttn.τ).loc Cert.SbAttn.main_arg0) = m ((c.tc : Thread Cert.SbAttn.nD Cert.SbAttn.τ).loc Cert.SbAttn.main_arg0))
      ∧ r.2.sem = fun _ => 0)

def quiescent_SbAttnIdeal [hSbAttnIdeal : Cert.SbAttnIdeal.Facts] : Prop :=
  ∀ (m : (ℓ : Loc Cert.SbAttnIdeal.nD Cert.SbAttnIdeal.τ Cert.SbAttnIdeal.sig) → Buf (Elt Ideal) ℓ) (g : Dev Cert.SbAttnIdeal.nD → PrngReg), Pre_SbAttnIdeal m →
    θ_run (Cert.SbAttnIdeal.defs (F := Ideal)) (onTc (τ := Cert.SbAttnIdeal.τ) (Cert.SbAttnIdeal.main (F := Ideal))) ⟨m, fun _ => 0, g⟩ (fun r => (∀ c : Dev Cert.SbAttnIdeal.nD,
      r.2.mem ((c.tc : Thread Cert.SbAttnIdeal.nD Cert.SbAttnIdeal.τ).loc Cert.SbAttnIdeal.main_arg0) = m ((c.tc : Thread Cert.SbAttnIdeal.nD Cert.SbAttnIdeal.τ).loc Cert.SbAttnIdeal.main_arg0))
      ∧ r.2.sem = fun _ => 0)

def quiescent_SbAttnIdeal_pre_finite_qk [hSbAttnIdeal : Cert.SbAttnIdeal.Facts] [hPre_finite_qk : Cert.Pre_finite_qk.Facts] : Prop :=
  ∀ (m : (ℓ : Loc Cert.SbAttnIdeal.nD Cert.SbAttnIdeal.τ Cert.SbAttnIdeal.sig) → Buf (Elt Ideal) ℓ) (g : Dev Cert.SbAttnIdeal.nD → PrngReg), Pre_SbAttnIdeal_finite_qk m →
    θ_run (Cert.SbAttnIdeal.defs (F := Ideal)) (onTc (τ := Cert.SbAttnIdeal.τ) (Cert.SbAttnIdeal.main (F := Ideal))) ⟨m, fun _ => 0, g⟩ (fun r => (∀ c : Dev Cert.SbAttnIdeal.nD,
      r.2.mem ((c.tc : Thread Cert.SbAttnIdeal.nD Cert.SbAttnIdeal.τ).loc Cert.SbAttnIdeal.main_arg0) = m ((c.tc : Thread Cert.SbAttnIdeal.nD Cert.SbAttnIdeal.τ).loc Cert.SbAttnIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_finite_qk [hSbRefIdeal : Cert.SbRefIdeal.Facts] [hPre_finite_qk : Cert.Pre_finite_qk.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_qk m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_ChunkAttn [hChunkAttn : Cert.ChunkAttn.Facts] : Prop :=
  ∀ (m : (ℓ : Loc Cert.ChunkAttn.nD Cert.ChunkAttn.τ Cert.ChunkAttn.sig) → Buf (Elt Bits) ℓ) (g : Dev Cert.ChunkAttn.nD → PrngReg), Pre_ChunkAttn m →
    θ_run (Cert.ChunkAttn.defs (F := Bits)) (onTc (τ := Cert.ChunkAttn.τ) (Cert.ChunkAttn.main (F := Bits))) ⟨m, fun _ => 0, g⟩ (fun r => (∀ c : Dev Cert.ChunkAttn.nD,
      r.2.mem ((c.tc : Thread Cert.ChunkAttn.nD Cert.ChunkAttn.τ).loc Cert.ChunkAttn.main_arg0) = m ((c.tc : Thread Cert.ChunkAttn.nD Cert.ChunkAttn.τ).loc Cert.ChunkAttn.main_arg0)
      ∧ r.2.mem ((c.tc : Thread Cert.ChunkAttn.nD Cert.ChunkAttn.τ).loc Cert.ChunkAttn.main_arg1) = m ((c.tc : Thread Cert.ChunkAttn.nD Cert.ChunkAttn.τ).loc Cert.ChunkAttn.main_arg1))
      ∧ r.2.sem = fun _ => 0)

def quiescent_ChunkAttnIdeal [hChunkAttnIdeal : Cert.ChunkAttnIdeal.Facts] : Prop :=
  ∀ (m : (ℓ : Loc Cert.ChunkAttnIdeal.nD Cert.ChunkAttnIdeal.τ Cert.ChunkAttnIdeal.sig) → Buf (Elt Ideal) ℓ) (g : Dev Cert.ChunkAttnIdeal.nD → PrngReg), Pre_ChunkAttnIdeal m →
    θ_run (Cert.ChunkAttnIdeal.defs (F := Ideal)) (onTc (τ := Cert.ChunkAttnIdeal.τ) (Cert.ChunkAttnIdeal.main (F := Ideal))) ⟨m, fun _ => 0, g⟩ (fun r => (∀ c : Dev Cert.ChunkAttnIdeal.nD,
      r.2.mem ((c.tc : Thread Cert.ChunkAttnIdeal.nD Cert.ChunkAttnIdeal.τ).loc Cert.ChunkAttnIdeal.main_arg0) = m ((c.tc : Thread Cert.ChunkAttnIdeal.nD Cert.ChunkAttnIdeal.τ).loc Cert.ChunkAttnIdeal.main_arg0)
      ∧ r.2.mem ((c.tc : Thread Cert.ChunkAttnIdeal.nD Cert.ChunkAttnIdeal.τ).loc Cert.ChunkAttnIdeal.main_arg1) = m ((c.tc : Thread Cert.ChunkAttnIdeal.nD Cert.ChunkAttnIdeal.τ).loc Cert.ChunkAttnIdeal.main_arg1))
      ∧ r.2.sem = fun _ => 0)

def quiescent_ChunkAttnIdeal_pre_finite_chunk [hChunkAttnIdeal : Cert.ChunkAttnIdeal.Facts] [hPre_finite_chunk : Cert.Pre_finite_chunk.Facts] : Prop :=
  ∀ (m : (ℓ : Loc Cert.ChunkAttnIdeal.nD Cert.ChunkAttnIdeal.τ Cert.ChunkAttnIdeal.sig) → Buf (Elt Ideal) ℓ) (g : Dev Cert.ChunkAttnIdeal.nD → PrngReg), Pre_ChunkAttnIdeal_finite_chunk m →
    θ_run (Cert.ChunkAttnIdeal.defs (F := Ideal)) (onTc (τ := Cert.ChunkAttnIdeal.τ) (Cert.ChunkAttnIdeal.main (F := Ideal))) ⟨m, fun _ => 0, g⟩ (fun r => (∀ c : Dev Cert.ChunkAttnIdeal.nD,
      r.2.mem ((c.tc : Thread Cert.ChunkAttnIdeal.nD Cert.ChunkAttnIdeal.τ).loc Cert.ChunkAttnIdeal.main_arg0) = m ((c.tc : Thread Cert.ChunkAttnIdeal.nD Cert.ChunkAttnIdeal.τ).loc Cert.ChunkAttnIdeal.main_arg0)
      ∧ r.2.mem ((c.tc : Thread Cert.ChunkAttnIdeal.nD Cert.ChunkAttnIdeal.τ).loc Cert.ChunkAttnIdeal.main_arg1) = m ((c.tc : Thread Cert.ChunkAttnIdeal.nD Cert.ChunkAttnIdeal.τ).loc Cert.ChunkAttnIdeal.main_arg1))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_ChunkRefIdeal_pre_finite_chunk [hChunkRefIdeal : Cert.ChunkRefIdeal.Facts] [hPre_finite_chunk : Cert.Pre_finite_chunk.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal_finite_chunk m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_FfnOdd [hFfnOdd : Cert.FfnOdd.Facts] : Prop :=
  ∀ (m : (ℓ : Loc Cert.FfnOdd.nD Cert.FfnOdd.τ Cert.FfnOdd.sig) → Buf (Elt Bits) ℓ) (g : Dev Cert.FfnOdd.nD → PrngReg), Pre_FfnOdd m →
    θ_run (Cert.FfnOdd.defs (F := Bits)) (onTc (τ := Cert.FfnOdd.τ) (Cert.FfnOdd.main (F := Bits))) ⟨m, fun _ => 0, g⟩ (fun r => (∀ c : Dev Cert.FfnOdd.nD,
      r.2.mem ((c.tc : Thread Cert.FfnOdd.nD Cert.FfnOdd.τ).loc Cert.FfnOdd.main_arg0) = m ((c.tc : Thread Cert.FfnOdd.nD Cert.FfnOdd.τ).loc Cert.FfnOdd.main_arg0)
      ∧ r.2.mem ((c.tc : Thread Cert.FfnOdd.nD Cert.FfnOdd.τ).loc Cert.FfnOdd.main_arg1) = m ((c.tc : Thread Cert.FfnOdd.nD Cert.FfnOdd.τ).loc Cert.FfnOdd.main_arg1)
      ∧ r.2.mem ((c.tc : Thread Cert.FfnOdd.nD Cert.FfnOdd.τ).loc Cert.FfnOdd.main_arg2) = m ((c.tc : Thread Cert.FfnOdd.nD Cert.FfnOdd.τ).loc Cert.FfnOdd.main_arg2)
      ∧ r.2.mem ((c.tc : Thread Cert.FfnOdd.nD Cert.FfnOdd.τ).loc Cert.FfnOdd.main_arg3) = m ((c.tc : Thread Cert.FfnOdd.nD Cert.FfnOdd.τ).loc Cert.FfnOdd.main_arg3)
      ∧ r.2.mem ((c.tc : Thread Cert.FfnOdd.nD Cert.FfnOdd.τ).loc Cert.FfnOdd.main_arg4) = m ((c.tc : Thread Cert.FfnOdd.nD Cert.FfnOdd.τ).loc Cert.FfnOdd.main_arg4)
      ∧ r.2.mem ((c.tc : Thread Cert.FfnOdd.nD Cert.FfnOdd.τ).loc Cert.FfnOdd.main_arg5) = m ((c.tc : Thread Cert.FfnOdd.nD Cert.FfnOdd.τ).loc Cert.FfnOdd.main_arg5)
      ∧ r.2.mem ((c.tc : Thread Cert.FfnOdd.nD Cert.FfnOdd.τ).loc Cert.FfnOdd.main_arg6) = m ((c.tc : Thread Cert.FfnOdd.nD Cert.FfnOdd.τ).loc Cert.FfnOdd.main_arg6)
      ∧ r.2.mem ((c.tc : Thread Cert.FfnOdd.nD Cert.FfnOdd.τ).loc Cert.FfnOdd.main_arg7) = m ((c.tc : Thread Cert.FfnOdd.nD Cert.FfnOdd.τ).loc Cert.FfnOdd.main_arg7)
      ∧ r.2.mem ((c.tc : Thread Cert.FfnOdd.nD Cert.FfnOdd.τ).loc Cert.FfnOdd.main_arg8) = m ((c.tc : Thread Cert.FfnOdd.nD Cert.FfnOdd.τ).loc Cert.FfnOdd.main_arg8)
      ∧ r.2.mem ((c.tc : Thread Cert.FfnOdd.nD Cert.FfnOdd.τ).loc Cert.FfnOdd.main_arg9) = m ((c.tc : Thread Cert.FfnOdd.nD Cert.FfnOdd.τ).loc Cert.FfnOdd.main_arg9))
      ∧ r.2.sem = fun _ => 0)

def quiescent_FfnOddIdeal [hFfnOddIdeal : Cert.FfnOddIdeal.Facts] : Prop :=
  ∀ (m : (ℓ : Loc Cert.FfnOddIdeal.nD Cert.FfnOddIdeal.τ Cert.FfnOddIdeal.sig) → Buf (Elt Ideal) ℓ) (g : Dev Cert.FfnOddIdeal.nD → PrngReg), Pre_FfnOddIdeal m →
    θ_run (Cert.FfnOddIdeal.defs (F := Ideal)) (onTc (τ := Cert.FfnOddIdeal.τ) (Cert.FfnOddIdeal.main (F := Ideal))) ⟨m, fun _ => 0, g⟩ (fun r => (∀ c : Dev Cert.FfnOddIdeal.nD,
      r.2.mem ((c.tc : Thread Cert.FfnOddIdeal.nD Cert.FfnOddIdeal.τ).loc Cert.FfnOddIdeal.main_arg0) = m ((c.tc : Thread Cert.FfnOddIdeal.nD Cert.FfnOddIdeal.τ).loc Cert.FfnOddIdeal.main_arg0)
      ∧ r.2.mem ((c.tc : Thread Cert.FfnOddIdeal.nD Cert.FfnOddIdeal.τ).loc Cert.FfnOddIdeal.main_arg1) = m ((c.tc : Thread Cert.FfnOddIdeal.nD Cert.FfnOddIdeal.τ).loc Cert.FfnOddIdeal.main_arg1)
      ∧ r.2.mem ((c.tc : Thread Cert.FfnOddIdeal.nD Cert.FfnOddIdeal.τ).loc Cert.FfnOddIdeal.main_arg2) = m ((c.tc : Thread Cert.FfnOddIdeal.nD Cert.FfnOddIdeal.τ).loc Cert.FfnOddIdeal.main_arg2)
      ∧ r.2.mem ((c.tc : Thread Cert.FfnOddIdeal.nD Cert.FfnOddIdeal.τ).loc Cert.FfnOddIdeal.main_arg3) = m ((c.tc : Thread Cert.FfnOddIdeal.nD Cert.FfnOddIdeal.τ).loc Cert.FfnOddIdeal.main_arg3)
      ∧ r.2.mem ((c.tc : Thread Cert.FfnOddIdeal.nD Cert.FfnOddIdeal.τ).loc Cert.FfnOddIdeal.main_arg4) = m ((c.tc : Thread Cert.FfnOddIdeal.nD Cert.FfnOddIdeal.τ).loc Cert.FfnOddIdeal.main_arg4)
      ∧ r.2.mem ((c.tc : Thread Cert.FfnOddIdeal.nD Cert.FfnOddIdeal.τ).loc Cert.FfnOddIdeal.main_arg5) = m ((c.tc : Thread Cert.FfnOddIdeal.nD Cert.FfnOddIdeal.τ).loc Cert.FfnOddIdeal.main_arg5)
      ∧ r.2.mem ((c.tc : Thread Cert.FfnOddIdeal.nD Cert.FfnOddIdeal.τ).loc Cert.FfnOddIdeal.main_arg6) = m ((c.tc : Thread Cert.FfnOddIdeal.nD Cert.FfnOddIdeal.τ).loc Cert.FfnOddIdeal.main_arg6)
      ∧ r.2.mem ((c.tc : Thread Cert.FfnOddIdeal.nD Cert.FfnOddIdeal.τ).loc Cert.FfnOddIdeal.main_arg7) = m ((c.tc : Thread Cert.FfnOddIdeal.nD Cert.FfnOddIdeal.τ).loc Cert.FfnOddIdeal.main_arg7)
      ∧ r.2.mem ((c.tc : Thread Cert.FfnOddIdeal.nD Cert.FfnOddIdeal.τ).loc Cert.FfnOddIdeal.main_arg8) = m ((c.tc : Thread Cert.FfnOddIdeal.nD Cert.FfnOddIdeal.τ).loc Cert.FfnOddIdeal.main_arg8)
      ∧ r.2.mem ((c.tc : Thread Cert.FfnOddIdeal.nD Cert.FfnOddIdeal.τ).loc Cert.FfnOddIdeal.main_arg9) = m ((c.tc : Thread Cert.FfnOddIdeal.nD Cert.FfnOddIdeal.τ).loc Cert.FfnOddIdeal.main_arg9))
      ∧ r.2.sem = fun _ => 0)

def quiescent_FfnOddRefIdeal [hFfnOddRefIdeal : Cert.FfnOddRefIdeal.Facts] : Prop :=
  ∀ (m : (ℓ : Loc Cert.FfnOddRefIdeal.nD Cert.FfnOddRefIdeal.τ Cert.FfnOddRefIdeal.sig) → Buf (Elt Ideal) ℓ) (g : Dev Cert.FfnOddRefIdeal.nD → PrngReg), Pre_FfnOddRefIdeal m →
    θ_run (Cert.FfnOddRefIdeal.defs (F := Ideal)) (onTc (τ := Cert.FfnOddRefIdeal.τ) (Cert.FfnOddRefIdeal.main (F := Ideal))) ⟨m, fun _ => 0, g⟩ (fun r => (∀ c : Dev Cert.FfnOddRefIdeal.nD,
      r.2.mem ((c.tc : Thread Cert.FfnOddRefIdeal.nD Cert.FfnOddRefIdeal.τ).loc Cert.FfnOddRefIdeal.main_arg0) = m ((c.tc : Thread Cert.FfnOddRefIdeal.nD Cert.FfnOddRefIdeal.τ).loc Cert.FfnOddRefIdeal.main_arg0)
      ∧ r.2.mem ((c.tc : Thread Cert.FfnOddRefIdeal.nD Cert.FfnOddRefIdeal.τ).loc Cert.FfnOddRefIdeal.main_arg1) = m ((c.tc : Thread Cert.FfnOddRefIdeal.nD Cert.FfnOddRefIdeal.τ).loc Cert.FfnOddRefIdeal.main_arg1)
      ∧ r.2.mem ((c.tc : Thread Cert.FfnOddRefIdeal.nD Cert.FfnOddRefIdeal.τ).loc Cert.FfnOddRefIdeal.main_arg2) = m ((c.tc : Thread Cert.FfnOddRefIdeal.nD Cert.FfnOddRefIdeal.τ).loc Cert.FfnOddRefIdeal.main_arg2)
      ∧ r.2.mem ((c.tc : Thread Cert.FfnOddRefIdeal.nD Cert.FfnOddRefIdeal.τ).loc Cert.FfnOddRefIdeal.main_arg3) = m ((c.tc : Thread Cert.FfnOddRefIdeal.nD Cert.FfnOddRefIdeal.τ).loc Cert.FfnOddRefIdeal.main_arg3)
      ∧ r.2.mem ((c.tc : Thread Cert.FfnOddRefIdeal.nD Cert.FfnOddRefIdeal.τ).loc Cert.FfnOddRefIdeal.main_arg4) = m ((c.tc : Thread Cert.FfnOddRefIdeal.nD Cert.FfnOddRefIdeal.τ).loc Cert.FfnOddRefIdeal.main_arg4)
      ∧ r.2.mem ((c.tc : Thread Cert.FfnOddRefIdeal.nD Cert.FfnOddRefIdeal.τ).loc Cert.FfnOddRefIdeal.main_arg5) = m ((c.tc : Thread Cert.FfnOddRefIdeal.nD Cert.FfnOddRefIdeal.τ).loc Cert.FfnOddRefIdeal.main_arg5)
      ∧ r.2.mem ((c.tc : Thread Cert.FfnOddRefIdeal.nD Cert.FfnOddRefIdeal.τ).loc Cert.FfnOddRefIdeal.main_arg6) = m ((c.tc : Thread Cert.FfnOddRefIdeal.nD Cert.FfnOddRefIdeal.τ).loc Cert.FfnOddRefIdeal.main_arg6)
      ∧ r.2.mem ((c.tc : Thread Cert.FfnOddRefIdeal.nD Cert.FfnOddRefIdeal.τ).loc Cert.FfnOddRefIdeal.main_arg7) = m ((c.tc : Thread Cert.FfnOddRefIdeal.nD Cert.FfnOddRefIdeal.τ).loc Cert.FfnOddRefIdeal.main_arg7)
      ∧ r.2.mem ((c.tc : Thread Cert.FfnOddRefIdeal.nD Cert.FfnOddRefIdeal.τ).loc Cert.FfnOddRefIdeal.main_arg8) = m ((c.tc : Thread Cert.FfnOddRefIdeal.nD Cert.FfnOddRefIdeal.τ).loc Cert.FfnOddRefIdeal.main_arg8)
      ∧ r.2.mem ((c.tc : Thread Cert.FfnOddRefIdeal.nD Cert.FfnOddRefIdeal.τ).loc Cert.FfnOddRefIdeal.main_arg9) = m ((c.tc : Thread Cert.FfnOddRefIdeal.nD Cert.FfnOddRefIdeal.τ).loc Cert.FfnOddRefIdeal.main_arg9))
      ∧ r.2.sem = fun _ => 0)

def quiescent_FfnEven [hFfnEven : Cert.FfnEven.Facts] : Prop :=
  ∀ (m : (ℓ : Loc Cert.FfnEven.nD Cert.FfnEven.τ Cert.FfnEven.sig) → Buf (Elt Bits) ℓ) (g : Dev Cert.FfnEven.nD → PrngReg), Pre_FfnEven m →
    θ_run (Cert.FfnEven.defs (F := Bits)) (onTc (τ := Cert.FfnEven.τ) (Cert.FfnEven.main (F := Bits))) ⟨m, fun _ => 0, g⟩ (fun r => (∀ c : Dev Cert.FfnEven.nD,
      r.2.mem ((c.tc : Thread Cert.FfnEven.nD Cert.FfnEven.τ).loc Cert.FfnEven.main_arg0) = m ((c.tc : Thread Cert.FfnEven.nD Cert.FfnEven.τ).loc Cert.FfnEven.main_arg0)
      ∧ r.2.mem ((c.tc : Thread Cert.FfnEven.nD Cert.FfnEven.τ).loc Cert.FfnEven.main_arg1) = m ((c.tc : Thread Cert.FfnEven.nD Cert.FfnEven.τ).loc Cert.FfnEven.main_arg1)
      ∧ r.2.mem ((c.tc : Thread Cert.FfnEven.nD Cert.FfnEven.τ).loc Cert.FfnEven.main_arg2) = m ((c.tc : Thread Cert.FfnEven.nD Cert.FfnEven.τ).loc Cert.FfnEven.main_arg2)
      ∧ r.2.mem ((c.tc : Thread Cert.FfnEven.nD Cert.FfnEven.τ).loc Cert.FfnEven.main_arg3) = m ((c.tc : Thread Cert.FfnEven.nD Cert.FfnEven.τ).loc Cert.FfnEven.main_arg3)
      ∧ r.2.mem ((c.tc : Thread Cert.FfnEven.nD Cert.FfnEven.τ).loc Cert.FfnEven.main_arg4) = m ((c.tc : Thread Cert.FfnEven.nD Cert.FfnEven.τ).loc Cert.FfnEven.main_arg4)
      ∧ r.2.mem ((c.tc : Thread Cert.FfnEven.nD Cert.FfnEven.τ).loc Cert.FfnEven.main_arg5) = m ((c.tc : Thread Cert.FfnEven.nD Cert.FfnEven.τ).loc Cert.FfnEven.main_arg5)
      ∧ r.2.mem ((c.tc : Thread Cert.FfnEven.nD Cert.FfnEven.τ).loc Cert.FfnEven.main_arg6) = m ((c.tc : Thread Cert.FfnEven.nD Cert.FfnEven.τ).loc Cert.FfnEven.main_arg6)
      ∧ r.2.mem ((c.tc : Thread Cert.FfnEven.nD Cert.FfnEven.τ).loc Cert.FfnEven.main_arg7) = m ((c.tc : Thread Cert.FfnEven.nD Cert.FfnEven.τ).loc Cert.FfnEven.main_arg7)
      ∧ r.2.mem ((c.tc : Thread Cert.FfnEven.nD Cert.FfnEven.τ).loc Cert.FfnEven.main_arg8) = m ((c.tc : Thread Cert.FfnEven.nD Cert.FfnEven.τ).loc Cert.FfnEven.main_arg8)
      ∧ r.2.mem ((c.tc : Thread Cert.FfnEven.nD Cert.FfnEven.τ).loc Cert.FfnEven.main_arg9) = m ((c.tc : Thread Cert.FfnEven.nD Cert.FfnEven.τ).loc Cert.FfnEven.main_arg9)
      ∧ r.2.mem ((c.tc : Thread Cert.FfnEven.nD Cert.FfnEven.τ).loc Cert.FfnEven.main_arg10) = m ((c.tc : Thread Cert.FfnEven.nD Cert.FfnEven.τ).loc Cert.FfnEven.main_arg10)
      ∧ r.2.mem ((c.tc : Thread Cert.FfnEven.nD Cert.FfnEven.τ).loc Cert.FfnEven.main_arg11) = m ((c.tc : Thread Cert.FfnEven.nD Cert.FfnEven.τ).loc Cert.FfnEven.main_arg11))
      ∧ r.2.sem = fun _ => 0)

def quiescent_FfnEvenIdeal [hFfnEvenIdeal : Cert.FfnEvenIdeal.Facts] : Prop :=
  ∀ (m : (ℓ : Loc Cert.FfnEvenIdeal.nD Cert.FfnEvenIdeal.τ Cert.FfnEvenIdeal.sig) → Buf (Elt Ideal) ℓ) (g : Dev Cert.FfnEvenIdeal.nD → PrngReg), Pre_FfnEvenIdeal m →
    θ_run (Cert.FfnEvenIdeal.defs (F := Ideal)) (onTc (τ := Cert.FfnEvenIdeal.τ) (Cert.FfnEvenIdeal.main (F := Ideal))) ⟨m, fun _ => 0, g⟩ (fun r => (∀ c : Dev Cert.FfnEvenIdeal.nD,
      r.2.mem ((c.tc : Thread Cert.FfnEvenIdeal.nD Cert.FfnEvenIdeal.τ).loc Cert.FfnEvenIdeal.main_arg0) = m ((c.tc : Thread Cert.FfnEvenIdeal.nD Cert.FfnEvenIdeal.τ).loc Cert.FfnEvenIdeal.main_arg0)
      ∧ r.2.mem ((c.tc : Thread Cert.FfnEvenIdeal.nD Cert.FfnEvenIdeal.τ).loc Cert.FfnEvenIdeal.main_arg1) = m ((c.tc : Thread Cert.FfnEvenIdeal.nD Cert.FfnEvenIdeal.τ).loc Cert.FfnEvenIdeal.main_arg1)
      ∧ r.2.mem ((c.tc : Thread Cert.FfnEvenIdeal.nD Cert.FfnEvenIdeal.τ).loc Cert.FfnEvenIdeal.main_arg2) = m ((c.tc : Thread Cert.FfnEvenIdeal.nD Cert.FfnEvenIdeal.τ).loc Cert.FfnEvenIdeal.main_arg2)
      ∧ r.2.mem ((c.tc : Thread Cert.FfnEvenIdeal.nD Cert.FfnEvenIdeal.τ).loc Cert.FfnEvenIdeal.main_arg3) = m ((c.tc : Thread Cert.FfnEvenIdeal.nD Cert.FfnEvenIdeal.τ).loc Cert.FfnEvenIdeal.main_arg3)
      ∧ r.2.mem ((c.tc : Thread Cert.FfnEvenIdeal.nD Cert.FfnEvenIdeal.τ).loc Cert.FfnEvenIdeal.main_arg4) = m ((c.tc : Thread Cert.FfnEvenIdeal.nD Cert.FfnEvenIdeal.τ).loc Cert.FfnEvenIdeal.main_arg4)
      ∧ r.2.mem ((c.tc : Thread Cert.FfnEvenIdeal.nD Cert.FfnEvenIdeal.τ).loc Cert.FfnEvenIdeal.main_arg5) = m ((c.tc : Thread Cert.FfnEvenIdeal.nD Cert.FfnEvenIdeal.τ).loc Cert.FfnEvenIdeal.main_arg5)
      ∧ r.2.mem ((c.tc : Thread Cert.FfnEvenIdeal.nD Cert.FfnEvenIdeal.τ).loc Cert.FfnEvenIdeal.main_arg6) = m ((c.tc : Thread Cert.FfnEvenIdeal.nD Cert.FfnEvenIdeal.τ).loc Cert.FfnEvenIdeal.main_arg6)
      ∧ r.2.mem ((c.tc : Thread Cert.FfnEvenIdeal.nD Cert.FfnEvenIdeal.τ).loc Cert.FfnEvenIdeal.main_arg7) = m ((c.tc : Thread Cert.FfnEvenIdeal.nD Cert.FfnEvenIdeal.τ).loc Cert.FfnEvenIdeal.main_arg7)
      ∧ r.2.mem ((c.tc : Thread Cert.FfnEvenIdeal.nD Cert.FfnEvenIdeal.τ).loc Cert.FfnEvenIdeal.main_arg8) = m ((c.tc : Thread Cert.FfnEvenIdeal.nD Cert.FfnEvenIdeal.τ).loc Cert.FfnEvenIdeal.main_arg8)
      ∧ r.2.mem ((c.tc : Thread Cert.FfnEvenIdeal.nD Cert.FfnEvenIdeal.τ).loc Cert.FfnEvenIdeal.main_arg9) = m ((c.tc : Thread Cert.FfnEvenIdeal.nD Cert.FfnEvenIdeal.τ).loc Cert.FfnEvenIdeal.main_arg9)
      ∧ r.2.mem ((c.tc : Thread Cert.FfnEvenIdeal.nD Cert.FfnEvenIdeal.τ).loc Cert.FfnEvenIdeal.main_arg10) = m ((c.tc : Thread Cert.FfnEvenIdeal.nD Cert.FfnEvenIdeal.τ).loc Cert.FfnEvenIdeal.main_arg10)
      ∧ r.2.mem ((c.tc : Thread Cert.FfnEvenIdeal.nD Cert.FfnEvenIdeal.τ).loc Cert.FfnEvenIdeal.main_arg11) = m ((c.tc : Thread Cert.FfnEvenIdeal.nD Cert.FfnEvenIdeal.τ).loc Cert.FfnEvenIdeal.main_arg11))
      ∧ r.2.sem = fun _ => 0)

def quiescent_FfnEvenRefIdeal [hFfnEvenRefIdeal : Cert.FfnEvenRefIdeal.Facts] : Prop :=
  ∀ (m : (ℓ : Loc Cert.FfnEvenRefIdeal.nD Cert.FfnEvenRefIdeal.τ Cert.FfnEvenRefIdeal.sig) → Buf (Elt Ideal) ℓ) (g : Dev Cert.FfnEvenRefIdeal.nD → PrngReg), Pre_FfnEvenRefIdeal m →
    θ_run (Cert.FfnEvenRefIdeal.defs (F := Ideal)) (onTc (τ := Cert.FfnEvenRefIdeal.τ) (Cert.FfnEvenRefIdeal.main (F := Ideal))) ⟨m, fun _ => 0, g⟩ (fun r => (∀ c : Dev Cert.FfnEvenRefIdeal.nD,
      r.2.mem ((c.tc : Thread Cert.FfnEvenRefIdeal.nD Cert.FfnEvenRefIdeal.τ).loc Cert.FfnEvenRefIdeal.main_arg0) = m ((c.tc : Thread Cert.FfnEvenRefIdeal.nD Cert.FfnEvenRefIdeal.τ).loc Cert.FfnEvenRefIdeal.main_arg0)
      ∧ r.2.mem ((c.tc : Thread Cert.FfnEvenRefIdeal.nD Cert.FfnEvenRefIdeal.τ).loc Cert.FfnEvenRefIdeal.main_arg1) = m ((c.tc : Thread Cert.FfnEvenRefIdeal.nD Cert.FfnEvenRefIdeal.τ).loc Cert.FfnEvenRefIdeal.main_arg1)
      ∧ r.2.mem ((c.tc : Thread Cert.FfnEvenRefIdeal.nD Cert.FfnEvenRefIdeal.τ).loc Cert.FfnEvenRefIdeal.main_arg2) = m ((c.tc : Thread Cert.FfnEvenRefIdeal.nD Cert.FfnEvenRefIdeal.τ).loc Cert.FfnEvenRefIdeal.main_arg2)
      ∧ r.2.mem ((c.tc : Thread Cert.FfnEvenRefIdeal.nD Cert.FfnEvenRefIdeal.τ).loc Cert.FfnEvenRefIdeal.main_arg3) = m ((c.tc : Thread Cert.FfnEvenRefIdeal.nD Cert.FfnEvenRefIdeal.τ).loc Cert.FfnEvenRefIdeal.main_arg3)
      ∧ r.2.mem ((c.tc : Thread Cert.FfnEvenRefIdeal.nD Cert.FfnEvenRefIdeal.τ).loc Cert.FfnEvenRefIdeal.main_arg4) = m ((c.tc : Thread Cert.FfnEvenRefIdeal.nD Cert.FfnEvenRefIdeal.τ).loc Cert.FfnEvenRefIdeal.main_arg4)
      ∧ r.2.mem ((c.tc : Thread Cert.FfnEvenRefIdeal.nD Cert.FfnEvenRefIdeal.τ).loc Cert.FfnEvenRefIdeal.main_arg5) = m ((c.tc : Thread Cert.FfnEvenRefIdeal.nD Cert.FfnEvenRefIdeal.τ).loc Cert.FfnEvenRefIdeal.main_arg5)
      ∧ r.2.mem ((c.tc : Thread Cert.FfnEvenRefIdeal.nD Cert.FfnEvenRefIdeal.τ).loc Cert.FfnEvenRefIdeal.main_arg6) = m ((c.tc : Thread Cert.FfnEvenRefIdeal.nD Cert.FfnEvenRefIdeal.τ).loc Cert.FfnEvenRefIdeal.main_arg6)
      ∧ r.2.mem ((c.tc : Thread Cert.FfnEvenRefIdeal.nD Cert.FfnEvenRefIdeal.τ).loc Cert.FfnEvenRefIdeal.main_arg7) = m ((c.tc : Thread Cert.FfnEvenRefIdeal.nD Cert.FfnEvenRefIdeal.τ).loc Cert.FfnEvenRefIdeal.main_arg7)
      ∧ r.2.mem ((c.tc : Thread Cert.FfnEvenRefIdeal.nD Cert.FfnEvenRefIdeal.τ).loc Cert.FfnEvenRefIdeal.main_arg8) = m ((c.tc : Thread Cert.FfnEvenRefIdeal.nD Cert.FfnEvenRefIdeal.τ).loc Cert.FfnEvenRefIdeal.main_arg8)
      ∧ r.2.mem ((c.tc : Thread Cert.FfnEvenRefIdeal.nD Cert.FfnEvenRefIdeal.τ).loc Cert.FfnEvenRefIdeal.main_arg9) = m ((c.tc : Thread Cert.FfnEvenRefIdeal.nD Cert.FfnEvenRefIdeal.τ).loc Cert.FfnEvenRefIdeal.main_arg9)
      ∧ r.2.mem ((c.tc : Thread Cert.FfnEvenRefIdeal.nD Cert.FfnEvenRefIdeal.τ).loc Cert.FfnEvenRefIdeal.main_arg10) = m ((c.tc : Thread Cert.FfnEvenRefIdeal.nD Cert.FfnEvenRefIdeal.τ).loc Cert.FfnEvenRefIdeal.main_arg10)
      ∧ r.2.mem ((c.tc : Thread Cert.FfnEvenRefIdeal.nD Cert.FfnEvenRefIdeal.τ).loc Cert.FfnEvenRefIdeal.main_arg11) = m ((c.tc : Thread Cert.FfnEvenRefIdeal.nD Cert.FfnEvenRefIdeal.τ).loc Cert.FfnEvenRefIdeal.main_arg11))
      ∧ r.2.sem = fun _ => 0)

def quiescent_ProjOdd [hProjOdd : Cert.ProjOdd.Facts] : Prop :=
  ∀ (m : (ℓ : Loc Cert.ProjOdd.nD Cert.ProjOdd.τ Cert.ProjOdd.sig) → Buf (Elt Bits) ℓ) (g : Dev Cert.ProjOdd.nD → PrngReg), Pre_ProjOdd m →
    θ_run (Cert.ProjOdd.defs (F := Bits)) (onTc (τ := Cert.ProjOdd.τ) (Cert.ProjOdd.main (F := Bits))) ⟨m, fun _ => 0, g⟩ (fun r => (∀ c : Dev Cert.ProjOdd.nD,
      r.2.mem ((c.tc : Thread Cert.ProjOdd.nD Cert.ProjOdd.τ).loc Cert.ProjOdd.main_arg0) = m ((c.tc : Thread Cert.ProjOdd.nD Cert.ProjOdd.τ).loc Cert.ProjOdd.main_arg0)
      ∧ r.2.mem ((c.tc : Thread Cert.ProjOdd.nD Cert.ProjOdd.τ).loc Cert.ProjOdd.main_arg1) = m ((c.tc : Thread Cert.ProjOdd.nD Cert.ProjOdd.τ).loc Cert.ProjOdd.main_arg1))
      ∧ r.2.sem = fun _ => 0)

def quiescent_ProjOddIdeal [hProjOddIdeal : Cert.ProjOddIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg), Pre_ProjOddIdeal m →
    θ_run (Cert.ProjOddIdeal.defs (F := Ideal)) (onTc (τ := Cert.ProjOddIdeal.τ) (Cert.ProjOddIdeal.main (F := Ideal))) ⟨m, fun _ => 0, g⟩ (fun r => (∀ c : Dev Cert.ProjOddIdeal.nD,
      r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
      ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1))
      ∧ r.2.sem = fun _ => 0)

def quiescent_ProjOddRefIdeal [hProjOddRefIdeal : Cert.ProjOddRefIdeal.Facts] : Prop :=
  ∀ (m : (ℓ : Loc Cert.ProjOddRefIdeal.nD Cert.ProjOddRefIdeal.τ Cert.ProjOddRefIdeal.sig) → Buf (Elt Ideal) ℓ) (g : Dev Cert.ProjOddRefIdeal.nD → PrngReg), Pre_ProjOddRefIdeal m →
    θ_run (Cert.ProjOddRefIdeal.defs (F := Ideal)) (onTc (τ := Cert.ProjOddRefIdeal.τ) (Cert.ProjOddRefIdeal.main (F := Ideal))) ⟨m, fun _ => 0, g⟩ (fun r => (∀ c : Dev Cert.ProjOddRefIdeal.nD,
      r.2.mem ((c.tc : Thread Cert.ProjOddRefIdeal.nD Cert.ProjOddRefIdeal.τ).loc Cert.ProjOddRefIdeal.main_arg0) = m ((c.tc : Thread Cert.ProjOddRefIdeal.nD Cert.ProjOddRefIdeal.τ).loc Cert.ProjOddRefIdeal.main_arg0)
      ∧ r.2.mem ((c.tc : Thread Cert.ProjOddRefIdeal.nD Cert.ProjOddRefIdeal.τ).loc Cert.ProjOddRefIdeal.main_arg1) = m ((c.tc : Thread Cert.ProjOddRefIdeal.nD Cert.ProjOddRefIdeal.τ).loc Cert.ProjOddRefIdeal.main_arg1))
      ∧ r.2.sem = fun _ => 0)

def quiescent_ProjEven [hProjEven : Cert.ProjEven.Facts] : Prop :=
  ∀ (m : (ℓ : Loc Cert.ProjEven.nD Cert.ProjEven.τ Cert.ProjEven.sig) → Buf (Elt Bits) ℓ) (g : Dev Cert.ProjEven.nD → PrngReg), Pre_ProjEven m →
    θ_run (Cert.ProjEven.defs (F := Bits)) (onTc (τ := Cert.ProjEven.τ) (Cert.ProjEven.main (F := Bits))) ⟨m, fun _ => 0, g⟩ (fun r => (∀ c : Dev Cert.ProjEven.nD,
      r.2.mem ((c.tc : Thread Cert.ProjEven.nD Cert.ProjEven.τ).loc Cert.ProjEven.main_arg0) = m ((c.tc : Thread Cert.ProjEven.nD Cert.ProjEven.τ).loc Cert.ProjEven.main_arg0)
      ∧ r.2.mem ((c.tc : Thread Cert.ProjEven.nD Cert.ProjEven.τ).loc Cert.ProjEven.main_arg1) = m ((c.tc : Thread Cert.ProjEven.nD Cert.ProjEven.τ).loc Cert.ProjEven.main_arg1))
      ∧ r.2.sem = fun _ => 0)

def quiescent_ProjEvenIdeal [hProjEvenIdeal : Cert.ProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg), Pre_ProjEvenIdeal m →
    θ_run (Cert.ProjEvenIdeal.defs (F := Ideal)) (onTc (τ := Cert.ProjEvenIdeal.τ) (Cert.ProjEvenIdeal.main (F := Ideal))) ⟨m, fun _ => 0, g⟩ (fun r => (∀ c : Dev Cert.ProjEvenIdeal.nD,
      r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
      ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1))
      ∧ r.2.sem = fun _ => 0)

def quiescent_ProjEvenRefIdeal [hProjEvenRefIdeal : Cert.ProjEvenRefIdeal.Facts] : Prop :=
  ∀ (m : (ℓ : Loc Cert.ProjEvenRefIdeal.nD Cert.ProjEvenRefIdeal.τ Cert.ProjEvenRefIdeal.sig) → Buf (Elt Ideal) ℓ) (g : Dev Cert.ProjEvenRefIdeal.nD → PrngReg), Pre_ProjEvenRefIdeal m →
    θ_run (Cert.ProjEvenRefIdeal.defs (F := Ideal)) (onTc (τ := Cert.ProjEvenRefIdeal.τ) (Cert.ProjEvenRefIdeal.main (F := Ideal))) ⟨m, fun _ => 0, g⟩ (fun r => (∀ c : Dev Cert.ProjEvenRefIdeal.nD,
      r.2.mem ((c.tc : Thread Cert.ProjEvenRefIdeal.nD Cert.ProjEvenRefIdeal.τ).loc Cert.ProjEvenRefIdeal.main_arg0) = m ((c.tc : Thread Cert.ProjEvenRefIdeal.nD Cert.ProjEvenRefIdeal.τ).loc Cert.ProjEvenRefIdeal.main_arg0)
      ∧ r.2.mem ((c.tc : Thread Cert.ProjEvenRefIdeal.nD Cert.ProjEvenRefIdeal.τ).loc Cert.ProjEvenRefIdeal.main_arg1) = m ((c.tc : Thread Cert.ProjEvenRefIdeal.nD Cert.ProjEvenRefIdeal.τ).loc Cert.ProjEvenRefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8)
      ∧ r.2.mem ((c.tc : Thread Cert.Odd.nD Cert.Odd.τ).loc Cert.Odd.main_arg9) = m ((c.tc : Thread Cert.Odd.nD Cert.Odd.τ).loc Cert.Odd.main_arg9))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9))
      ∧ r.2.sem = fun _ => 0)

def quiescent_OddIdeal_pre_finite_in [hOddIdeal : Cert.OddIdeal.Facts] [hPre_finite_in : Cert.Pre_finite_in.Facts] : Prop :=
  ∀ (m : (ℓ : Loc Cert.OddIdeal.nD Cert.OddIdeal.τ Cert.OddIdeal.sig) → Buf (Elt Ideal) ℓ) (g : Dev Cert.OddIdeal.nD → PrngReg), Pre_OddIdeal_finite_in m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9))
      ∧ r.2.sem = fun _ => 0)

def quiescent_OddRefIdeal_pre_finite_in [hOddRefIdeal : Cert.OddRefIdeal.Facts] [hPre_finite_in : Cert.Pre_finite_in.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal_finite_in m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9))
      ∧ r.2.sem = fun _ => 0)

def preserves_SbAttn_SbAttnIdeal : Prop :=
  IdealRules.named_const.Statement Cert.SbAttnIdeal.κ "log2e" .f32 0x3FB8AA3B#32 (((Real.log 2)⁻¹ : ℝ) : EReal)
  ∧ IdealRules.named_const.Statement Cert.SbAttnIdeal.κ "exp_zero_below" .f32 0xC2D00000#32 ⊥

def algebraic_SbAttnIdeal_SbRefIdeal_pre_finite_qk [hSbAttnIdeal : Cert.SbAttnIdeal.Facts] [hSbRefIdeal : Cert.SbRefIdeal.Facts] [hPre_finite_qk : Cert.Pre_finite_qk.Facts] : Prop :=
  ∀ (m : (ℓ : Loc Cert.SbAttnIdeal.nD Cert.SbAttnIdeal.τ Cert.SbAttnIdeal.sig) → Buf (Elt Ideal) ℓ) (g : Dev Cert.SbAttnIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbAttnIdeal_finite_qk m →
    (∀ c : Dev Cert.SbAttnIdeal.nD,
      m' ((c.tc : Thread Cert.SbRefIdeal.nD Cert.SbRefIdeal.τ).loc Cert.SbRefIdeal.main_arg0) = m ((c.tc : Thread Cert.SbAttnIdeal.nD Cert.SbAttnIdeal.τ).loc Cert.SbAttnIdeal.main_arg0)) →
    ∃ (v0 : (c : Dev Cert.SbAttnIdeal.nD) → Buf (Elt Ideal) ((c.tc : Thread Cert.SbAttnIdeal.nD Cert.SbAttnIdeal.τ).loc Cert.SbAttnIdeal.main_v15)),
      θ_run (Cert.SbAttnIdeal.defs (F := Ideal)) (onTc (τ := Cert.SbAttnIdeal.τ) (Cert.SbAttnIdeal.main (F := Ideal))) ⟨m, fun _ => 0, g⟩ (fun r => ∀ c : Dev Cert.SbAttnIdeal.nD,
          r.2.mem ((c.tc : Thread Cert.SbAttnIdeal.nD Cert.SbAttnIdeal.τ).loc Cert.SbAttnIdeal.main_v15) = v0 c
          ∧ r.2.mem ((c.tc : Thread Cert.SbAttnIdeal.nD Cert.SbAttnIdeal.τ).loc Cert.SbAttnIdeal.main_arg0) = m ((c.tc : Thread Cert.SbAttnIdeal.nD Cert.SbAttnIdeal.τ).loc Cert.SbAttnIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v34) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_ChunkAttn_ChunkAttnIdeal : Prop :=
  IdealRules.named_const.Statement Cert.ChunkAttnIdeal.κ "mask" .f32 0xF149F2CA#32 ⊥

def algebraic_ChunkAttnIdeal_ChunkRefIdeal_pre_finite_chunk [hChunkAttnIdeal : Cert.ChunkAttnIdeal.Facts] [hChunkRefIdeal : Cert.ChunkRefIdeal.Facts] [hPre_finite_chunk : Cert.Pre_finite_chunk.Facts] : Prop :=
  ∀ (m : (ℓ : Loc Cert.ChunkAttnIdeal.nD Cert.ChunkAttnIdeal.τ Cert.ChunkAttnIdeal.sig) → Buf (Elt Ideal) ℓ) (g : Dev Cert.ChunkAttnIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkAttnIdeal_finite_chunk m →
    (∀ c : Dev Cert.ChunkAttnIdeal.nD,
      m' ((c.tc : Thread Cert.ChunkRefIdeal.nD Cert.ChunkRefIdeal.τ).loc Cert.ChunkRefIdeal.main_arg0) = m ((c.tc : Thread Cert.ChunkAttnIdeal.nD Cert.ChunkAttnIdeal.τ).loc Cert.ChunkAttnIdeal.main_arg0)
      ∧ m' ((c.tc : Thread Cert.ChunkRefIdeal.nD Cert.ChunkRefIdeal.τ).loc Cert.ChunkRefIdeal.main_arg1) = m ((c.tc : Thread Cert.ChunkAttnIdeal.nD Cert.ChunkAttnIdeal.τ).loc Cert.ChunkAttnIdeal.main_arg1)) →
    ∃ (v0 : (c : Dev Cert.ChunkAttnIdeal.nD) → Buf (Elt Ideal) ((c.tc : Thread Cert.ChunkAttnIdeal.nD Cert.ChunkAttnIdeal.τ).loc Cert.ChunkAttnIdeal.main_v27)),
      θ_run (Cert.ChunkAttnIdeal.defs (F := Ideal)) (onTc (τ := Cert.ChunkAttnIdeal.τ) (Cert.ChunkAttnIdeal.main (F := Ideal))) ⟨m, fun _ => 0, g⟩ (fun r => ∀ c : Dev Cert.ChunkAttnIdeal.nD,
          r.2.mem ((c.tc : Thread Cert.ChunkAttnIdeal.nD Cert.ChunkAttnIdeal.τ).loc Cert.ChunkAttnIdeal.main_v27) = v0 c
          ∧ r.2.mem ((c.tc : Thread Cert.ChunkAttnIdeal.nD Cert.ChunkAttnIdeal.τ).loc Cert.ChunkAttnIdeal.main_arg0) = m ((c.tc : Thread Cert.ChunkAttnIdeal.nD Cert.ChunkAttnIdeal.τ).loc Cert.ChunkAttnIdeal.main_arg0)
          ∧ r.2.mem ((c.tc : Thread Cert.ChunkAttnIdeal.nD Cert.ChunkAttnIdeal.τ).loc Cert.ChunkAttnIdeal.main_arg1) = m ((c.tc : Thread Cert.ChunkAttnIdeal.nD Cert.ChunkAttnIdeal.τ).loc Cert.ChunkAttnIdeal.main_arg1))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v59) = v0 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1))

def preserves_FfnOdd_FfnOddIdeal : Prop :=
  True

def algebraic_FfnOddIdeal_FfnOddRefIdeal [hFfnOddIdeal : Cert.FfnOddIdeal.Facts] [hFfnOddRefIdeal : Cert.FfnOddRefIdeal.Facts] : Prop :=
  ∀ (m : (ℓ : Loc Cert.FfnOddIdeal.nD Cert.FfnOddIdeal.τ Cert.FfnOddIdeal.sig) → Buf (Elt Ideal) ℓ) (g : Dev Cert.FfnOddIdeal.nD → PrngReg)
    (m' : (ℓ : Loc Cert.FfnOddRefIdeal.nD Cert.FfnOddRefIdeal.τ Cert.FfnOddRefIdeal.sig) → Buf (Elt Ideal) ℓ) (g' : Dev Cert.FfnOddRefIdeal.nD → PrngReg), Pre_FfnOddIdeal m →
    (∀ c : Dev Cert.FfnOddIdeal.nD,
      m' ((c.tc : Thread Cert.FfnOddRefIdeal.nD Cert.FfnOddRefIdeal.τ).loc Cert.FfnOddRefIdeal.main_arg0) = m ((c.tc : Thread Cert.FfnOddIdeal.nD Cert.FfnOddIdeal.τ).loc Cert.FfnOddIdeal.main_arg0)
      ∧ m' ((c.tc : Thread Cert.FfnOddRefIdeal.nD Cert.FfnOddRefIdeal.τ).loc Cert.FfnOddRefIdeal.main_arg1) = m ((c.tc : Thread Cert.FfnOddIdeal.nD Cert.FfnOddIdeal.τ).loc Cert.FfnOddIdeal.main_arg1)
      ∧ m' ((c.tc : Thread Cert.FfnOddRefIdeal.nD Cert.FfnOddRefIdeal.τ).loc Cert.FfnOddRefIdeal.main_arg2) = m ((c.tc : Thread Cert.FfnOddIdeal.nD Cert.FfnOddIdeal.τ).loc Cert.FfnOddIdeal.main_arg2)
      ∧ m' ((c.tc : Thread Cert.FfnOddRefIdeal.nD Cert.FfnOddRefIdeal.τ).loc Cert.FfnOddRefIdeal.main_arg3) = m ((c.tc : Thread Cert.FfnOddIdeal.nD Cert.FfnOddIdeal.τ).loc Cert.FfnOddIdeal.main_arg3)
      ∧ m' ((c.tc : Thread Cert.FfnOddRefIdeal.nD Cert.FfnOddRefIdeal.τ).loc Cert.FfnOddRefIdeal.main_arg4) = m ((c.tc : Thread Cert.FfnOddIdeal.nD Cert.FfnOddIdeal.τ).loc Cert.FfnOddIdeal.main_arg4)
      ∧ m' ((c.tc : Thread Cert.FfnOddRefIdeal.nD Cert.FfnOddRefIdeal.τ).loc Cert.FfnOddRefIdeal.main_arg5) = m ((c.tc : Thread Cert.FfnOddIdeal.nD Cert.FfnOddIdeal.τ).loc Cert.FfnOddIdeal.main_arg5)
      ∧ m' ((c.tc : Thread Cert.FfnOddRefIdeal.nD Cert.FfnOddRefIdeal.τ).loc Cert.FfnOddRefIdeal.main_arg6) = m ((c.tc : Thread Cert.FfnOddIdeal.nD Cert.FfnOddIdeal.τ).loc Cert.FfnOddIdeal.main_arg6)
      ∧ m' ((c.tc : Thread Cert.FfnOddRefIdeal.nD Cert.FfnOddRefIdeal.τ).loc Cert.FfnOddRefIdeal.main_arg7) = m ((c.tc : Thread Cert.FfnOddIdeal.nD Cert.FfnOddIdeal.τ).loc Cert.FfnOddIdeal.main_arg7)
      ∧ m' ((c.tc : Thread Cert.FfnOddRefIdeal.nD Cert.FfnOddRefIdeal.τ).loc Cert.FfnOddRefIdeal.main_arg8) = m ((c.tc : Thread Cert.FfnOddIdeal.nD Cert.FfnOddIdeal.τ).loc Cert.FfnOddIdeal.main_arg8)
      ∧ m' ((c.tc : Thread Cert.FfnOddRefIdeal.nD Cert.FfnOddRefIdeal.τ).loc Cert.FfnOddRefIdeal.main_arg9) = m ((c.tc : Thread Cert.FfnOddIdeal.nD Cert.FfnOddIdeal.τ).loc Cert.FfnOddIdeal.main_arg9)) →
    ∃ (v0 : (c : Dev Cert.FfnOddIdeal.nD) → Buf (Elt Ideal) ((c.tc : Thread Cert.FfnOddIdeal.nD Cert.FfnOddIdeal.τ).loc Cert.FfnOddIdeal.main_v0)),
      θ_run (Cert.FfnOddIdeal.defs (F := Ideal)) (onTc (τ := Cert.FfnOddIdeal.τ) (Cert.FfnOddIdeal.main (F := Ideal))) ⟨m, fun _ => 0, g⟩ (fun r => ∀ c : Dev Cert.FfnOddIdeal.nD,
          r.2.mem ((c.tc : Thread Cert.FfnOddIdeal.nD Cert.FfnOddIdeal.τ).loc Cert.FfnOddIdeal.main_v0) = v0 c
          ∧ r.2.mem ((c.tc : Thread Cert.FfnOddIdeal.nD Cert.FfnOddIdeal.τ).loc Cert.FfnOddIdeal.main_arg0) = m ((c.tc : Thread Cert.FfnOddIdeal.nD Cert.FfnOddIdeal.τ).loc Cert.FfnOddIdeal.main_arg0)
          ∧ r.2.mem ((c.tc : Thread Cert.FfnOddIdeal.nD Cert.FfnOddIdeal.τ).loc Cert.FfnOddIdeal.main_arg1) = m ((c.tc : Thread Cert.FfnOddIdeal.nD Cert.FfnOddIdeal.τ).loc Cert.FfnOddIdeal.main_arg1)
          ∧ r.2.mem ((c.tc : Thread Cert.FfnOddIdeal.nD Cert.FfnOddIdeal.τ).loc Cert.FfnOddIdeal.main_arg2) = m ((c.tc : Thread Cert.FfnOddIdeal.nD Cert.FfnOddIdeal.τ).loc Cert.FfnOddIdeal.main_arg2)
          ∧ r.2.mem ((c.tc : Thread Cert.FfnOddIdeal.nD Cert.FfnOddIdeal.τ).loc Cert.FfnOddIdeal.main_arg3) = m ((c.tc : Thread Cert.FfnOddIdeal.nD Cert.FfnOddIdeal.τ).loc Cert.FfnOddIdeal.main_arg3)
          ∧ r.2.mem ((c.tc : Thread Cert.FfnOddIdeal.nD Cert.FfnOddIdeal.τ).loc Cert.FfnOddIdeal.main_arg4) = m ((c.tc : Thread Cert.FfnOddIdeal.nD Cert.FfnOddIdeal.τ).loc Cert.FfnOddIdeal.main_arg4)
          ∧ r.2.mem ((c.tc : Thread Cert.FfnOddIdeal.nD Cert.FfnOddIdeal.τ).loc Cert.FfnOddIdeal.main_arg5) = m ((c.tc : Thread Cert.FfnOddIdeal.nD Cert.FfnOddIdeal.τ).loc Cert.FfnOddIdeal.main_arg5)
          ∧ r.2.mem ((c.tc : Thread Cert.FfnOddIdeal.nD Cert.FfnOddIdeal.τ).loc Cert.FfnOddIdeal.main_arg6) = m ((c.tc : Thread Cert.FfnOddIdeal.nD Cert.FfnOddIdeal.τ).loc Cert.FfnOddIdeal.main_arg6)
          ∧ r.2.mem ((c.tc : Thread Cert.FfnOddIdeal.nD Cert.FfnOddIdeal.τ).loc Cert.FfnOddIdeal.main_arg7) = m ((c.tc : Thread Cert.FfnOddIdeal.nD Cert.FfnOddIdeal.τ).loc Cert.FfnOddIdeal.main_arg7)
          ∧ r.2.mem ((c.tc : Thread Cert.FfnOddIdeal.nD Cert.FfnOddIdeal.τ).loc Cert.FfnOddIdeal.main_arg8) = m ((c.tc : Thread Cert.FfnOddIdeal.nD Cert.FfnOddIdeal.τ).loc Cert.FfnOddIdeal.main_arg8)
          ∧ r.2.mem ((c.tc : Thread Cert.FfnOddIdeal.nD Cert.FfnOddIdeal.τ).loc Cert.FfnOddIdeal.main_arg9) = m ((c.tc : Thread Cert.FfnOddIdeal.nD Cert.FfnOddIdeal.τ).loc Cert.FfnOddIdeal.main_arg9))
      ∧ θ_run (Cert.FfnOddRefIdeal.defs (F := Ideal)) (onTc (τ := Cert.FfnOddRefIdeal.τ) (Cert.FfnOddRefIdeal.main (F := Ideal))) ⟨m', fun _ => 0, g'⟩ (fun r => ∀ c : Dev Cert.FfnOddRefIdeal.nD,
          r.2.mem ((c.tc : Thread Cert.FfnOddRefIdeal.nD Cert.FfnOddRefIdeal.τ).loc Cert.FfnOddRefIdeal.main_v60) = v0 c
          ∧ r.2.mem ((c.tc : Thread Cert.FfnOddRefIdeal.nD Cert.FfnOddRefIdeal.τ).loc Cert.FfnOddRefIdeal.main_arg0) = m' ((c.tc : Thread Cert.FfnOddRefIdeal.nD Cert.FfnOddRefIdeal.τ).loc Cert.FfnOddRefIdeal.main_arg0)
          ∧ r.2.mem ((c.tc : Thread Cert.FfnOddRefIdeal.nD Cert.FfnOddRefIdeal.τ).loc Cert.FfnOddRefIdeal.main_arg1) = m' ((c.tc : Thread Cert.FfnOddRefIdeal.nD Cert.FfnOddRefIdeal.τ).loc Cert.FfnOddRefIdeal.main_arg1)
          ∧ r.2.mem ((c.tc : Thread Cert.FfnOddRefIdeal.nD Cert.FfnOddRefIdeal.τ).loc Cert.FfnOddRefIdeal.main_arg2) = m' ((c.tc : Thread Cert.FfnOddRefIdeal.nD Cert.FfnOddRefIdeal.τ).loc Cert.FfnOddRefIdeal.main_arg2)
          ∧ r.2.mem ((c.tc : Thread Cert.FfnOddRefIdeal.nD Cert.FfnOddRefIdeal.τ).loc Cert.FfnOddRefIdeal.main_arg3) = m' ((c.tc : Thread Cert.FfnOddRefIdeal.nD Cert.FfnOddRefIdeal.τ).loc Cert.FfnOddRefIdeal.main_arg3)
          ∧ r.2.mem ((c.tc : Thread Cert.FfnOddRefIdeal.nD Cert.FfnOddRefIdeal.τ).loc Cert.FfnOddRefIdeal.main_arg4) = m' ((c.tc : Thread Cert.FfnOddRefIdeal.nD Cert.FfnOddRefIdeal.τ).loc Cert.FfnOddRefIdeal.main_arg4)
          ∧ r.2.mem ((c.tc : Thread Cert.FfnOddRefIdeal.nD Cert.FfnOddRefIdeal.τ).loc Cert.FfnOddRefIdeal.main_arg5) = m' ((c.tc : Thread Cert.FfnOddRefIdeal.nD Cert.FfnOddRefIdeal.τ).loc Cert.FfnOddRefIdeal.main_arg5)
          ∧ r.2.mem ((c.tc : Thread Cert.FfnOddRefIdeal.nD Cert.FfnOddRefIdeal.τ).loc Cert.FfnOddRefIdeal.main_arg6) = m' ((c.tc : Thread Cert.FfnOddRefIdeal.nD Cert.FfnOddRefIdeal.τ).loc Cert.FfnOddRefIdeal.main_arg6)
          ∧ r.2.mem ((c.tc : Thread Cert.FfnOddRefIdeal.nD Cert.FfnOddRefIdeal.τ).loc Cert.FfnOddRefIdeal.main_arg7) = m' ((c.tc : Thread Cert.FfnOddRefIdeal.nD Cert.FfnOddRefIdeal.τ).loc Cert.FfnOddRefIdeal.main_arg7)
          ∧ r.2.mem ((c.tc : Thread Cert.FfnOddRefIdeal.nD Cert.FfnOddRefIdeal.τ).loc Cert.FfnOddRefIdeal.main_arg8) = m' ((c.tc : Thread Cert.FfnOddRefIdeal.nD Cert.FfnOddRefIdeal.τ).loc Cert.FfnOddRefIdeal.main_arg8)
          ∧ r.2.mem ((c.tc : Thread Cert.FfnOddRefIdeal.nD Cert.FfnOddRefIdeal.τ).loc Cert.FfnOddRefIdeal.main_arg9) = m' ((c.tc : Thread Cert.FfnOddRefIdeal.nD Cert.FfnOddRefIdeal.τ).loc Cert.FfnOddRefIdeal.main_arg9))

def preserves_FfnEven_FfnEvenIdeal : Prop :=
  True

def algebraic_FfnEvenIdeal_FfnEvenRefIdeal [hFfnEvenIdeal : Cert.FfnEvenIdeal.Facts] [hFfnEvenRefIdeal : Cert.FfnEvenRefIdeal.Facts] : Prop :=
  ∀ (m : (ℓ : Loc Cert.FfnEvenIdeal.nD Cert.FfnEvenIdeal.τ Cert.FfnEvenIdeal.sig) → Buf (Elt Ideal) ℓ) (g : Dev Cert.FfnEvenIdeal.nD → PrngReg)
    (m' : (ℓ : Loc Cert.FfnEvenRefIdeal.nD Cert.FfnEvenRefIdeal.τ Cert.FfnEvenRefIdeal.sig) → Buf (Elt Ideal) ℓ) (g' : Dev Cert.FfnEvenRefIdeal.nD → PrngReg), Pre_FfnEvenIdeal m →
    (∀ c : Dev Cert.FfnEvenIdeal.nD,
      m' ((c.tc : Thread Cert.FfnEvenRefIdeal.nD Cert.FfnEvenRefIdeal.τ).loc Cert.FfnEvenRefIdeal.main_arg0) = m ((c.tc : Thread Cert.FfnEvenIdeal.nD Cert.FfnEvenIdeal.τ).loc Cert.FfnEvenIdeal.main_arg0)
      ∧ m' ((c.tc : Thread Cert.FfnEvenRefIdeal.nD Cert.FfnEvenRefIdeal.τ).loc Cert.FfnEvenRefIdeal.main_arg1) = m ((c.tc : Thread Cert.FfnEvenIdeal.nD Cert.FfnEvenIdeal.τ).loc Cert.FfnEvenIdeal.main_arg1)
      ∧ m' ((c.tc : Thread Cert.FfnEvenRefIdeal.nD Cert.FfnEvenRefIdeal.τ).loc Cert.FfnEvenRefIdeal.main_arg2) = m ((c.tc : Thread Cert.FfnEvenIdeal.nD Cert.FfnEvenIdeal.τ).loc Cert.FfnEvenIdeal.main_arg2)
      ∧ m' ((c.tc : Thread Cert.FfnEvenRefIdeal.nD Cert.FfnEvenRefIdeal.τ).loc Cert.FfnEvenRefIdeal.main_arg3) = m ((c.tc : Thread Cert.FfnEvenIdeal.nD Cert.FfnEvenIdeal.τ).loc Cert.FfnEvenIdeal.main_arg3)
      ∧ m' ((c.tc : Thread Cert.FfnEvenRefIdeal.nD Cert.FfnEvenRefIdeal.τ).loc Cert.FfnEvenRefIdeal.main_arg4) = m ((c.tc : Thread Cert.FfnEvenIdeal.nD Cert.FfnEvenIdeal.τ).loc Cert.FfnEvenIdeal.main_arg4)
      ∧ m' ((c.tc : Thread Cert.FfnEvenRefIdeal.nD Cert.FfnEvenRefIdeal.τ).loc Cert.FfnEvenRefIdeal.main_arg5) = m ((c.tc : Thread Cert.FfnEvenIdeal.nD Cert.FfnEvenIdeal.τ).loc Cert.FfnEvenIdeal.main_arg5)
      ∧ m' ((c.tc : Thread Cert.FfnEvenRefIdeal.nD Cert.FfnEvenRefIdeal.τ).loc Cert.FfnEvenRefIdeal.main_arg6) = m ((c.tc : Thread Cert.FfnEvenIdeal.nD Cert.FfnEvenIdeal.τ).loc Cert.FfnEvenIdeal.main_arg6)
      ∧ m' ((c.tc : Thread Cert.FfnEvenRefIdeal.nD Cert.FfnEvenRefIdeal.τ).loc Cert.FfnEvenRefIdeal.main_arg7) = m ((c.tc : Thread Cert.FfnEvenIdeal.nD Cert.FfnEvenIdeal.τ).loc Cert.FfnEvenIdeal.main_arg7)
      ∧ m' ((c.tc : Thread Cert.FfnEvenRefIdeal.nD Cert.FfnEvenRefIdeal.τ).loc Cert.FfnEvenRefIdeal.main_arg8) = m ((c.tc : Thread Cert.FfnEvenIdeal.nD Cert.FfnEvenIdeal.τ).loc Cert.FfnEvenIdeal.main_arg8)
      ∧ m' ((c.tc : Thread Cert.FfnEvenRefIdeal.nD Cert.FfnEvenRefIdeal.τ).loc Cert.FfnEvenRefIdeal.main_arg9) = m ((c.tc : Thread Cert.FfnEvenIdeal.nD Cert.FfnEvenIdeal.τ).loc Cert.FfnEvenIdeal.main_arg9)
      ∧ m' ((c.tc : Thread Cert.FfnEvenRefIdeal.nD Cert.FfnEvenRefIdeal.τ).loc Cert.FfnEvenRefIdeal.main_arg10) = m ((c.tc : Thread Cert.FfnEvenIdeal.nD Cert.FfnEvenIdeal.τ).loc Cert.FfnEvenIdeal.main_arg10)
      ∧ m' ((c.tc : Thread Cert.FfnEvenRefIdeal.nD Cert.FfnEvenRefIdeal.τ).loc Cert.FfnEvenRefIdeal.main_arg11) = m ((c.tc : Thread Cert.FfnEvenIdeal.nD Cert.FfnEvenIdeal.τ).loc Cert.FfnEvenIdeal.main_arg11)) →
    ∃ (v0 : (c : Dev Cert.FfnEvenIdeal.nD) → Buf (Elt Ideal) ((c.tc : Thread Cert.FfnEvenIdeal.nD Cert.FfnEvenIdeal.τ).loc Cert.FfnEvenIdeal.main_v0)),
      θ_run (Cert.FfnEvenIdeal.defs (F := Ideal)) (onTc (τ := Cert.FfnEvenIdeal.τ) (Cert.FfnEvenIdeal.main (F := Ideal))) ⟨m, fun _ => 0, g⟩ (fun r => ∀ c : Dev Cert.FfnEvenIdeal.nD,
          r.2.mem ((c.tc : Thread Cert.FfnEvenIdeal.nD Cert.FfnEvenIdeal.τ).loc Cert.FfnEvenIdeal.main_v0) = v0 c
          ∧ r.2.mem ((c.tc : Thread Cert.FfnEvenIdeal.nD Cert.FfnEvenIdeal.τ).loc Cert.FfnEvenIdeal.main_arg0) = m ((c.tc : Thread Cert.FfnEvenIdeal.nD Cert.FfnEvenIdeal.τ).loc Cert.FfnEvenIdeal.main_arg0)
          ∧ r.2.mem ((c.tc : Thread Cert.FfnEvenIdeal.nD Cert.FfnEvenIdeal.τ).loc Cert.FfnEvenIdeal.main_arg1) = m ((c.tc : Thread Cert.FfnEvenIdeal.nD Cert.FfnEvenIdeal.τ).loc Cert.FfnEvenIdeal.main_arg1)
          ∧ r.2.mem ((c.tc : Thread Cert.FfnEvenIdeal.nD Cert.FfnEvenIdeal.τ).loc Cert.FfnEvenIdeal.main_arg2) = m ((c.tc : Thread Cert.FfnEvenIdeal.nD Cert.FfnEvenIdeal.τ).loc Cert.FfnEvenIdeal.main_arg2)
          ∧ r.2.mem ((c.tc : Thread Cert.FfnEvenIdeal.nD Cert.FfnEvenIdeal.τ).loc Cert.FfnEvenIdeal.main_arg3) = m ((c.tc : Thread Cert.FfnEvenIdeal.nD Cert.FfnEvenIdeal.τ).loc Cert.FfnEvenIdeal.main_arg3)
          ∧ r.2.mem ((c.tc : Thread Cert.FfnEvenIdeal.nD Cert.FfnEvenIdeal.τ).loc Cert.FfnEvenIdeal.main_arg4) = m ((c.tc : Thread Cert.FfnEvenIdeal.nD Cert.FfnEvenIdeal.τ).loc Cert.FfnEvenIdeal.main_arg4)
          ∧ r.2.mem ((c.tc : Thread Cert.FfnEvenIdeal.nD Cert.FfnEvenIdeal.τ).loc Cert.FfnEvenIdeal.main_arg5) = m ((c.tc : Thread Cert.FfnEvenIdeal.nD Cert.FfnEvenIdeal.τ).loc Cert.FfnEvenIdeal.main_arg5)
          ∧ r.2.mem ((c.tc : Thread Cert.FfnEvenIdeal.nD Cert.FfnEvenIdeal.τ).loc Cert.FfnEvenIdeal.main_arg6) = m ((c.tc : Thread Cert.FfnEvenIdeal.nD Cert.FfnEvenIdeal.τ).loc Cert.FfnEvenIdeal.main_arg6)
          ∧ r.2.mem ((c.tc : Thread Cert.FfnEvenIdeal.nD Cert.FfnEvenIdeal.τ).loc Cert.FfnEvenIdeal.main_arg7) = m ((c.tc : Thread Cert.FfnEvenIdeal.nD Cert.FfnEvenIdeal.τ).loc Cert.FfnEvenIdeal.main_arg7)
          ∧ r.2.mem ((c.tc : Thread Cert.FfnEvenIdeal.nD Cert.FfnEvenIdeal.τ).loc Cert.FfnEvenIdeal.main_arg8) = m ((c.tc : Thread Cert.FfnEvenIdeal.nD Cert.FfnEvenIdeal.τ).loc Cert.FfnEvenIdeal.main_arg8)
          ∧ r.2.mem ((c.tc : Thread Cert.FfnEvenIdeal.nD Cert.FfnEvenIdeal.τ).loc Cert.FfnEvenIdeal.main_arg9) = m ((c.tc : Thread Cert.FfnEvenIdeal.nD Cert.FfnEvenIdeal.τ).loc Cert.FfnEvenIdeal.main_arg9)
          ∧ r.2.mem ((c.tc : Thread Cert.FfnEvenIdeal.nD Cert.FfnEvenIdeal.τ).loc Cert.FfnEvenIdeal.main_arg10) = m ((c.tc : Thread Cert.FfnEvenIdeal.nD Cert.FfnEvenIdeal.τ).loc Cert.FfnEvenIdeal.main_arg10)
          ∧ r.2.mem ((c.tc : Thread Cert.FfnEvenIdeal.nD Cert.FfnEvenIdeal.τ).loc Cert.FfnEvenIdeal.main_arg11) = m ((c.tc : Thread Cert.FfnEvenIdeal.nD Cert.FfnEvenIdeal.τ).loc Cert.FfnEvenIdeal.main_arg11))
      ∧ θ_run (Cert.FfnEvenRefIdeal.defs (F := Ideal)) (onTc (τ := Cert.FfnEvenRefIdeal.τ) (Cert.FfnEvenRefIdeal.main (F := Ideal))) ⟨m', fun _ => 0, g'⟩ (fun r => ∀ c : Dev Cert.FfnEvenRefIdeal.nD,
          r.2.mem ((c.tc : Thread Cert.FfnEvenRefIdeal.nD Cert.FfnEvenRefIdeal.τ).loc Cert.FfnEvenRefIdeal.main_v65) = v0 c
          ∧ r.2.mem ((c.tc : Thread Cert.FfnEvenRefIdeal.nD Cert.FfnEvenRefIdeal.τ).loc Cert.FfnEvenRefIdeal.main_arg0) = m' ((c.tc : Thread Cert.FfnEvenRefIdeal.nD Cert.FfnEvenRefIdeal.τ).loc Cert.FfnEvenRefIdeal.main_arg0)
          ∧ r.2.mem ((c.tc : Thread Cert.FfnEvenRefIdeal.nD Cert.FfnEvenRefIdeal.τ).loc Cert.FfnEvenRefIdeal.main_arg1) = m' ((c.tc : Thread Cert.FfnEvenRefIdeal.nD Cert.FfnEvenRefIdeal.τ).loc Cert.FfnEvenRefIdeal.main_arg1)
          ∧ r.2.mem ((c.tc : Thread Cert.FfnEvenRefIdeal.nD Cert.FfnEvenRefIdeal.τ).loc Cert.FfnEvenRefIdeal.main_arg2) = m' ((c.tc : Thread Cert.FfnEvenRefIdeal.nD Cert.FfnEvenRefIdeal.τ).loc Cert.FfnEvenRefIdeal.main_arg2)
          ∧ r.2.mem ((c.tc : Thread Cert.FfnEvenRefIdeal.nD Cert.FfnEvenRefIdeal.τ).loc Cert.FfnEvenRefIdeal.main_arg3) = m' ((c.tc : Thread Cert.FfnEvenRefIdeal.nD Cert.FfnEvenRefIdeal.τ).loc Cert.FfnEvenRefIdeal.main_arg3)
          ∧ r.2.mem ((c.tc : Thread Cert.FfnEvenRefIdeal.nD Cert.FfnEvenRefIdeal.τ).loc Cert.FfnEvenRefIdeal.main_arg4) = m' ((c.tc : Thread Cert.FfnEvenRefIdeal.nD Cert.FfnEvenRefIdeal.τ).loc Cert.FfnEvenRefIdeal.main_arg4)
          ∧ r.2.mem ((c.tc : Thread Cert.FfnEvenRefIdeal.nD Cert.FfnEvenRefIdeal.τ).loc Cert.FfnEvenRefIdeal.main_arg5) = m' ((c.tc : Thread Cert.FfnEvenRefIdeal.nD Cert.FfnEvenRefIdeal.τ).loc Cert.FfnEvenRefIdeal.main_arg5)
          ∧ r.2.mem ((c.tc : Thread Cert.FfnEvenRefIdeal.nD Cert.FfnEvenRefIdeal.τ).loc Cert.FfnEvenRefIdeal.main_arg6) = m' ((c.tc : Thread Cert.FfnEvenRefIdeal.nD Cert.FfnEvenRefIdeal.τ).loc Cert.FfnEvenRefIdeal.main_arg6)
          ∧ r.2.mem ((c.tc : Thread Cert.FfnEvenRefIdeal.nD Cert.FfnEvenRefIdeal.τ).loc Cert.FfnEvenRefIdeal.main_arg7) = m' ((c.tc : Thread Cert.FfnEvenRefIdeal.nD Cert.FfnEvenRefIdeal.τ).loc Cert.FfnEvenRefIdeal.main_arg7)
          ∧ r.2.mem ((c.tc : Thread Cert.FfnEvenRefIdeal.nD Cert.FfnEvenRefIdeal.τ).loc Cert.FfnEvenRefIdeal.main_arg8) = m' ((c.tc : Thread Cert.FfnEvenRefIdeal.nD Cert.FfnEvenRefIdeal.τ).loc Cert.FfnEvenRefIdeal.main_arg8)
          ∧ r.2.mem ((c.tc : Thread Cert.FfnEvenRefIdeal.nD Cert.FfnEvenRefIdeal.τ).loc Cert.FfnEvenRefIdeal.main_arg9) = m' ((c.tc : Thread Cert.FfnEvenRefIdeal.nD Cert.FfnEvenRefIdeal.τ).loc Cert.FfnEvenRefIdeal.main_arg9)
          ∧ r.2.mem ((c.tc : Thread Cert.FfnEvenRefIdeal.nD Cert.FfnEvenRefIdeal.τ).loc Cert.FfnEvenRefIdeal.main_arg10) = m' ((c.tc : Thread Cert.FfnEvenRefIdeal.nD Cert.FfnEvenRefIdeal.τ).loc Cert.FfnEvenRefIdeal.main_arg10)
          ∧ r.2.mem ((c.tc : Thread Cert.FfnEvenRefIdeal.nD Cert.FfnEvenRefIdeal.τ).loc Cert.FfnEvenRefIdeal.main_arg11) = m' ((c.tc : Thread Cert.FfnEvenRefIdeal.nD Cert.FfnEvenRefIdeal.τ).loc Cert.FfnEvenRefIdeal.main_arg11))

def preserves_ProjOdd_ProjOddIdeal : Prop :=
  True

def algebraic_ProjOddIdeal_ProjOddRefIdeal [hProjOddIdeal : Cert.ProjOddIdeal.Facts] [hProjOddRefIdeal : Cert.ProjOddRefIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg)
    (m' : (ℓ : Loc Cert.ProjOddRefIdeal.nD Cert.ProjOddRefIdeal.τ Cert.ProjOddRefIdeal.sig) → Buf (Elt Ideal) ℓ) (g' : Dev Cert.ProjOddRefIdeal.nD → PrngReg), Pre_ProjOddIdeal m →
    (∀ c : Dev Cert.ProjOddIdeal.nD,
      m' ((c.tc : Thread Cert.ProjOddRefIdeal.nD Cert.ProjOddRefIdeal.τ).loc Cert.ProjOddRefIdeal.main_arg0) = m ((c.tc : Thread Cert.ProjOddIdeal.nD Cert.ProjOddIdeal.τ).loc Cert.ProjOddIdeal.main_arg0)
      ∧ m' ((c.tc : Thread Cert.ProjOddRefIdeal.nD Cert.ProjOddRefIdeal.τ).loc Cert.ProjOddRefIdeal.main_arg1) = m ((c.tc : Thread Cert.ProjOddIdeal.nD Cert.ProjOddIdeal.τ).loc Cert.ProjOddIdeal.main_arg1)) →
    ∃ (v0 : (c : Dev Cert.ProjOddIdeal.nD) → Buf (Elt Ideal) ((c.tc : Thread Cert.ProjOddIdeal.nD Cert.ProjOddIdeal.τ).loc Cert.ProjOddIdeal.main_v0)),
      θ_run (Cert.ProjOddIdeal.defs (F := Ideal)) (onTc (τ := Cert.ProjOddIdeal.τ) (Cert.ProjOddIdeal.main (F := Ideal))) ⟨m, fun _ => 0, g⟩ (fun r => ∀ c : Dev Cert.ProjOddIdeal.nD,
          r.2.mem ((c.tc : Thread Cert.ProjOddIdeal.nD Cert.ProjOddIdeal.τ).loc Cert.ProjOddIdeal.main_v0) = v0 c
          ∧ r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
          ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1))
      ∧ θ_run (Cert.ProjOddRefIdeal.defs (F := Ideal)) (onTc (τ := Cert.ProjOddRefIdeal.τ) (Cert.ProjOddRefIdeal.main (F := Ideal))) ⟨m', fun _ => 0, g'⟩ (fun r => ∀ c : Dev Cert.ProjOddRefIdeal.nD,
          r.2.mem ((c.tc : Thread Cert.ProjOddRefIdeal.nD Cert.ProjOddRefIdeal.τ).loc Cert.ProjOddRefIdeal.main_v2) = v0 c
          ∧ r.2.mem ((c.tc : Thread Cert.ProjOddRefIdeal.nD Cert.ProjOddRefIdeal.τ).loc Cert.ProjOddRefIdeal.main_arg0) = m' ((c.tc : Thread Cert.ProjOddRefIdeal.nD Cert.ProjOddRefIdeal.τ).loc Cert.ProjOddRefIdeal.main_arg0)
          ∧ r.2.mem ((c.tc : Thread Cert.ProjOddRefIdeal.nD Cert.ProjOddRefIdeal.τ).loc Cert.ProjOddRefIdeal.main_arg1) = m' ((c.tc : Thread Cert.ProjOddRefIdeal.nD Cert.ProjOddRefIdeal.τ).loc Cert.ProjOddRefIdeal.main_arg1))

def preserves_ProjEven_ProjEvenIdeal : Prop :=
  True

def algebraic_ProjEvenIdeal_ProjEvenRefIdeal [hProjEvenIdeal : Cert.ProjEvenIdeal.Facts] [hProjEvenRefIdeal : Cert.ProjEvenRefIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg)
    (m' : (ℓ : Loc Cert.ProjEvenRefIdeal.nD Cert.ProjEvenRefIdeal.τ Cert.ProjEvenRefIdeal.sig) → Buf (Elt Ideal) ℓ) (g' : Dev Cert.ProjEvenRefIdeal.nD → PrngReg), Pre_ProjEvenIdeal m →
    (∀ c : Dev Cert.ProjEvenIdeal.nD,
      m' ((c.tc : Thread Cert.ProjEvenRefIdeal.nD Cert.ProjEvenRefIdeal.τ).loc Cert.ProjEvenRefIdeal.main_arg0) = m ((c.tc : Thread Cert.ProjEvenIdeal.nD Cert.ProjEvenIdeal.τ).loc Cert.ProjEvenIdeal.main_arg0)
      ∧ m' ((c.tc : Thread Cert.ProjEvenRefIdeal.nD Cert.ProjEvenRefIdeal.τ).loc Cert.ProjEvenRefIdeal.main_arg1) = m ((c.tc : Thread Cert.ProjEvenIdeal.nD Cert.ProjEvenIdeal.τ).loc Cert.ProjEvenIdeal.main_arg1)) →
    ∃ (v0 : (c : Dev Cert.ProjEvenIdeal.nD) → Buf (Elt Ideal) ((c.tc : Thread Cert.ProjEvenIdeal.nD Cert.ProjEvenIdeal.τ).loc Cert.ProjEvenIdeal.main_v0_0)) (v1 : (c : Dev Cert.ProjEvenIdeal.nD) → Buf (Elt Ideal) ((c.tc : Thread Cert.ProjEvenIdeal.nD Cert.ProjEvenIdeal.τ).loc Cert.ProjEvenIdeal.main_v0_1)),
      θ_run (Cert.ProjEvenIdeal.defs (F := Ideal)) (onTc (τ := Cert.ProjEvenIdeal.τ) (Cert.ProjEvenIdeal.main (F := Ideal))) ⟨m, fun _ => 0, g⟩ (fun r => ∀ c : Dev Cert.ProjEvenIdeal.nD,
          r.2.mem ((c.tc : Thread Cert.ProjEvenIdeal.nD Cert.ProjEvenIdeal.τ).loc Cert.ProjEvenIdeal.main_v0_0) = v0 c
          ∧ r.2.mem ((c.tc : Thread Cert.ProjEvenIdeal.nD Cert.ProjEvenIdeal.τ).loc Cert.ProjEvenIdeal.main_v0_1) = v1 c
          ∧ r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
          ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1))
      ∧ θ_run (Cert.ProjEvenRefIdeal.defs (F := Ideal)) (onTc (τ := Cert.ProjEvenRefIdeal.τ) (Cert.ProjEvenRefIdeal.main (F := Ideal))) ⟨m', fun _ => 0, g'⟩ (fun r => ∀ c : Dev Cert.ProjEvenRefIdeal.nD,
          r.2.mem ((c.tc : Thread Cert.ProjEvenRefIdeal.nD Cert.ProjEvenRefIdeal.τ).loc Cert.ProjEvenRefIdeal.main_v5) = v0 c
          ∧ r.2.mem ((c.tc : Thread Cert.ProjEvenRefIdeal.nD Cert.ProjEvenRefIdeal.τ).loc Cert.ProjEvenRefIdeal.main_v7) = v1 c
          ∧ r.2.mem ((c.tc : Thread Cert.ProjEvenRefIdeal.nD Cert.ProjEvenRefIdeal.τ).loc Cert.ProjEvenRefIdeal.main_arg0) = m' ((c.tc : Thread Cert.ProjEvenRefIdeal.nD Cert.ProjEvenRefIdeal.τ).loc Cert.ProjEvenRefIdeal.main_arg0)
          ∧ r.2.mem ((c.tc : Thread Cert.ProjEvenRefIdeal.nD Cert.ProjEvenRefIdeal.τ).loc Cert.ProjEvenRefIdeal.main_arg1) = m' ((c.tc : Thread Cert.ProjEvenRefIdeal.nD Cert.ProjEvenRefIdeal.τ).loc Cert.ProjEvenRefIdeal.main_arg1))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)) →
    ∃ (v0 : (c : Dev Cert.MidIdeal.nD) → Buf (Elt Ideal) ((c.tc : Thread Cert.MidIdeal.nD Cert.MidIdeal.τ).loc Cert.MidIdeal.main_v0)) (v1 : (c : Dev Cert.MidIdeal.nD) → Buf (Elt Ideal) ((c.tc : Thread Cert.MidIdeal.nD Cert.MidIdeal.τ).loc Cert.MidIdeal.main_v1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0) = v0 c
          ∧ r.2.mem ((c.tc : Thread Cert.MidIdeal.nD Cert.MidIdeal.τ).loc Cert.MidIdeal.main_v1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v65) = v0 c
          ∧ r.2.mem ((c.tc : Thread Cert.MidRefIdeal.nD Cert.MidRefIdeal.τ).loc Cert.MidRefIdeal.main_v68) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12))

def preserves_Odd_OddIdeal : Prop :=
  IdealRules.named_const.Statement Cert.OddIdeal.κ "log2e" .f32 0x3FB8AA3B#32 (((Real.log 2)⁻¹ : ℝ) : EReal)
  ∧ IdealRules.named_const.Statement Cert.OddIdeal.κ "exp_zero_below" .f32 0xC2D00000#32 ⊥

def algebraic_OddIdeal_OddRefIdeal_pre_finite_in [hOddIdeal : Cert.OddIdeal.Facts] [hOddRefIdeal : Cert.OddRefIdeal.Facts] [hPre_finite_in : Cert.Pre_finite_in.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal_finite_in m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)
      ∧ m' ((c.tc : Thread Cert.OddRefIdeal.nD Cert.OddRefIdeal.τ).loc Cert.OddRefIdeal.main_arg8) = m ((c.tc : Thread Cert.OddIdeal.nD Cert.OddIdeal.τ).loc Cert.OddIdeal.main_arg8)
      ∧ m' ((c.tc : Thread Cert.OddRefIdeal.nD Cert.OddRefIdeal.τ).loc Cert.OddRefIdeal.main_arg9) = m ((c.tc : Thread Cert.OddIdeal.nD Cert.OddIdeal.τ).loc Cert.OddIdeal.main_arg9)) →
    ∃ (v0 : (c : Dev Cert.OddIdeal.nD) → Buf (Elt Ideal) ((c.tc : Thread Cert.OddIdeal.nD Cert.OddIdeal.τ).loc Cert.OddIdeal.main_v19)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v19) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
          ∧ r.2.mem ((c.tc : Thread Cert.OddIdeal.nD Cert.OddIdeal.τ).loc Cert.OddIdeal.main_arg9) = m ((c.tc : Thread Cert.OddIdeal.nD Cert.OddIdeal.τ).loc Cert.OddIdeal.main_arg9))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v100) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8)
          ∧ r.2.mem ((c.tc : Thread Cert.OddRefIdeal.nD Cert.OddRefIdeal.τ).loc Cert.OddRefIdeal.main_arg9) = m' ((c.tc : Thread Cert.OddRefIdeal.nD Cert.OddRefIdeal.τ).loc Cert.OddRefIdeal.main_arg9))

def Claim : Prop :=
  ∃ (hSbAttn : Cert.SbAttn.Facts) (hSbAttnIdeal : Cert.SbAttnIdeal.Facts) (hSbRefIdeal : Cert.SbRefIdeal.Facts) (hChunkAttn : Cert.ChunkAttn.Facts) (hChunkAttnIdeal : Cert.ChunkAttnIdeal.Facts) (hChunkRefIdeal : Cert.ChunkRefIdeal.Facts) (hFfnOdd : Cert.FfnOdd.Facts) (hFfnOddIdeal : Cert.FfnOddIdeal.Facts) (hFfnOddRefIdeal : Cert.FfnOddRefIdeal.Facts) (hFfnEven : Cert.FfnEven.Facts) (hFfnEvenIdeal : Cert.FfnEvenIdeal.Facts) (hFfnEvenRefIdeal : Cert.FfnEvenRefIdeal.Facts) (hProjOdd : Cert.ProjOdd.Facts) (hProjOddIdeal : Cert.ProjOddIdeal.Facts) (hProjOddRefIdeal : Cert.ProjOddRefIdeal.Facts) (hProjEven : Cert.ProjEven.Facts) (hProjEvenIdeal : Cert.ProjEvenIdeal.Facts) (hProjEvenRefIdeal : Cert.ProjEvenRefIdeal.Facts) (hMid : Cert.Mid.Facts) (hMidIdeal : Cert.MidIdeal.Facts) (hMidRefIdeal : Cert.MidRefIdeal.Facts) (hOdd : Cert.Odd.Facts) (hOddIdeal : Cert.OddIdeal.Facts) (hOddRefIdeal : Cert.OddRefIdeal.Facts) (hPre_finite_qk : Cert.Pre_finite_qk.Facts) (hPre_finite_chunk : Cert.Pre_finite_chunk.Facts) (hPre_finite_in : Cert.Pre_finite_in.Facts),
    quiescent_SbAttn (hSbAttn := hSbAttn)
    ∧ quiescent_SbAttnIdeal (hSbAttnIdeal := hSbAttnIdeal)
    ∧ quiescent_SbAttnIdeal_pre_finite_qk (hSbAttnIdeal := hSbAttnIdeal) (hPre_finite_qk := hPre_finite_qk)
    ∧ quiescent_SbRefIdeal (hSbRefIdeal := hSbRefIdeal)
    ∧ quiescent_SbRefIdeal_pre_finite_qk (hSbRefIdeal := hSbRefIdeal) (hPre_finite_qk := hPre_finite_qk)
    ∧ quiescent_ChunkAttn (hChunkAttn := hChunkAttn)
    ∧ quiescent_ChunkAttnIdeal (hChunkAttnIdeal := hChunkAttnIdeal)
    ∧ quiescent_ChunkAttnIdeal_pre_finite_chunk (hChunkAttnIdeal := hChunkAttnIdeal) (hPre_finite_chunk := hPre_finite_chunk)
    ∧ quiescent_ChunkRefIdeal (hChunkRefIdeal := hChunkRefIdeal)
    ∧ quiescent_ChunkRefIdeal_pre_finite_chunk (hChunkRefIdeal := hChunkRefIdeal) (hPre_finite_chunk := hPre_finite_chunk)
    ∧ quiescent_FfnOdd (hFfnOdd := hFfnOdd)
    ∧ quiescent_FfnOddIdeal (hFfnOddIdeal := hFfnOddIdeal)
    ∧ quiescent_FfnOddRefIdeal (hFfnOddRefIdeal := hFfnOddRefIdeal)
    ∧ quiescent_FfnEven (hFfnEven := hFfnEven)
    ∧ quiescent_FfnEvenIdeal (hFfnEvenIdeal := hFfnEvenIdeal)
    ∧ quiescent_FfnEvenRefIdeal (hFfnEvenRefIdeal := hFfnEvenRefIdeal)
    ∧ quiescent_ProjOdd (hProjOdd := hProjOdd)
    ∧ quiescent_ProjOddIdeal (hProjOddIdeal := hProjOddIdeal)
    ∧ quiescent_ProjOddRefIdeal (hProjOddRefIdeal := hProjOddRefIdeal)
    ∧ quiescent_ProjEven (hProjEven := hProjEven)
    ∧ quiescent_ProjEvenIdeal (hProjEvenIdeal := hProjEvenIdeal)
    ∧ quiescent_ProjEvenRefIdeal (hProjEvenRefIdeal := hProjEvenRefIdeal)
    ∧ quiescent_Mid (hMid := hMid)
    ∧ quiescent_MidIdeal (hMidIdeal := hMidIdeal)
    ∧ quiescent_MidRefIdeal (hMidRefIdeal := hMidRefIdeal)
    ∧ quiescent_Odd (hOdd := hOdd)
    ∧ quiescent_OddIdeal (hOddIdeal := hOddIdeal)
    ∧ quiescent_OddIdeal_pre_finite_in (hOddIdeal := hOddIdeal) (hPre_finite_in := hPre_finite_in)
    ∧ quiescent_OddRefIdeal (hOddRefIdeal := hOddRefIdeal)
    ∧ quiescent_OddRefIdeal_pre_finite_in (hOddRefIdeal := hOddRefIdeal) (hPre_finite_in := hPre_finite_in)
    ∧ preserves_SbAttn_SbAttnIdeal
    ∧ algebraic_SbAttnIdeal_SbRefIdeal_pre_finite_qk (hSbAttnIdeal := hSbAttnIdeal) (hSbRefIdeal := hSbRefIdeal) (hPre_finite_qk := hPre_finite_qk)
    ∧ preserves_ChunkAttn_ChunkAttnIdeal
    ∧ algebraic_ChunkAttnIdeal_ChunkRefIdeal_pre_finite_chunk (hChunkAttnIdeal := hChunkAttnIdeal) (hChunkRefIdeal := hChunkRefIdeal) (hPre_finite_chunk := hPre_finite_chunk)
    ∧ preserves_FfnOdd_FfnOddIdeal
    ∧ algebraic_FfnOddIdeal_FfnOddRefIdeal (hFfnOddIdeal := hFfnOddIdeal) (hFfnOddRefIdeal := hFfnOddRefIdeal)
    ∧ preserves_FfnEven_FfnEvenIdeal
    ∧ algebraic_FfnEvenIdeal_FfnEvenRefIdeal (hFfnEvenIdeal := hFfnEvenIdeal) (hFfnEvenRefIdeal := hFfnEvenRefIdeal)
    ∧ preserves_ProjOdd_ProjOddIdeal
    ∧ algebraic_ProjOddIdeal_ProjOddRefIdeal (hProjOddIdeal := hProjOddIdeal) (hProjOddRefIdeal := hProjOddRefIdeal)
    ∧ preserves_ProjEven_ProjEvenIdeal
    ∧ algebraic_ProjEvenIdeal_ProjEvenRefIdeal (hProjEvenIdeal := hProjEvenIdeal) (hProjEvenRefIdeal := hProjEvenRefIdeal)
    ∧ preserves_Mid_MidIdeal
    ∧ algebraic_MidIdeal_MidRefIdeal (hMidIdeal := hMidIdeal) (hMidRefIdeal := hMidRefIdeal)
    ∧ preserves_Odd_OddIdeal
    ∧ algebraic_OddIdeal_OddRefIdeal_pre_finite_in (hOddIdeal := hOddIdeal) (hOddRefIdeal := hOddRefIdeal) (hPre_finite_in := hPre_finite_in)
-- ==== Pre_finite_chunk.lean ====
abbrev S4x8192x1536 : Shape := ⟨3, ![4, 8192, 1536]⟩
abbrev S8x257 : Shape := ⟨2, ![8, 257]⟩
abbrev S4x8192x1024 : Shape := ⟨3, ![4, 8192, 1024]⟩
abbrev S_ : Shape := ⟨0, ![]⟩

class Facts : Prop where
  slices_S4x8192x1536_S4x8192x1024_0_0_0 : S4x8192x1536.Slices ![0, 0, 0] S4x8192x1024
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S4x8192x1536 .bf16) (main_arg1 : FVec F S8x257 .f32) : IVec S_ 1 :=
  let main_v0 : FVec F S4x8192x1024 .bf16 := (extractStridedSlice S4x8192x1024 ![0, 0, 0] · slices_S4x8192x1536_S4x8192x1024_0_0_0) main_arg0
  let main_v1 : FVec F S4x8192x1024 .f32 := (extf .f32 · bitsLt_bf16_f32) main_v0
  let main_v2 : FVec F S4x8192x1024 .f32 := Host.absf main_v1
  let main_cst : FVec F S_ .f32 := constant S_ .f32 0x7F800000#32
  let main_v3 : FVec F S4x8192x1024 .f32 := broadcastInDim S4x8192x1024 ![] bcast_S_S4x8192x1024 main_cst
  let main_v4 : IVec S4x8192x1024 1 := cmpf .olt main_v2 main_v3
  let main_c : IVec S_ 1 := constantI S_ 1 1#1
  let main_v5 : IVec S_ 1 := (fun x v => Host.reduce IntOp.andi x v reducesTo_S4x8192x1024_S_d0_1_2 h_S_) main_v4 main_c
  let main_v6 : FVec F S8x257 .f32 := Host.absf main_arg1
  let main_cst_0 : FVec F S_ .f32 := constant S_ .f32 0x7F800000#32
  let main_v7 : FVec F S8x257 .f32 := broadcastInDim S8x257 ![] bcast_S_S8x257 main_cst_0
  let main_v8 : IVec S8x257 1 := cmpf .olt main_v6 main_v7
  let main_c_1 : IVec S_ 1 := constantI S_ 1 1#1
  let main_v9 : IVec S_ 1 := (fun x v => Host.reduce IntOp.andi x v reducesTo_S8x257_S_d0_1 h_S_) main_v8 main_c_1
  let main_v10 : IVec S_ 1 := andi main_v5 main_v9
  main_v10
-- ==== Pre_finite_in.lean ====
abbrev S32768x1024 : Shape := ⟨2, ![32768, 1024]⟩
abbrev S1024x3072 : Shape := ⟨2, ![1024, 3072]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S1024x2048 : Shape := ⟨2, ![1024, 2048]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S1024x3072_S1024x2048_0_0 : S1024x3072.Slices ![0, 0] S1024x2048
  bitsLt_bf16_f32 : FTy.bits .bf16 < FTy.bits .f32
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S32768x1024 .f32) (main_arg1 : FVec F S1024x3072 .bf16) (main_arg2 : FVec F S1024x1024 .bf16) (main_arg3 : FVec F S1x1024 .f32) (main_arg4 : FVec F S1x1024 .f32) (main_arg5 : FVec F S1024x2816 .bf16) (main_arg6 : FVec F S1024x2816 .bf16) (main_arg7 : FVec F S2816x1024 .bf16) (main_arg8 : FVec F S1x1024 .f32) (main_arg9 : FVec F S1x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x2048 .bf16 := (extractStridedSlice S1024x2048 ![0, 0] · slices_S1024x3072_S1024x2048_0_0) main_arg1
  let main_v5 : FVec F S1024x2048 .f32 := (extf .f32 · bitsLt_bf16_f32) main_v4
  let main_v6 : FVec F S1024x2048 .f32 := Host.absf main_v5
  let main_cst_0 : FVec F S_ .f32 := constant S_ .f32 0x7F800000#32
  let main_v7 : FVec F S1024x2048 .f32 := broadcastInDim S1024x2048 ![] bcast_S_S1024x2048 main_cst_0
  let main_v8 : IVec S1024x2048 1 := cmpf .olt main_v6 main_v7
  let main_c_1 : IVec S_ 1 := constantI S_ 1 1#1
  let main_v9 : IVec S_ 1 := (fun x v => Host.reduce IntOp.andi x v reducesTo_S1024x2048_S_d0_1 h_S_) main_v8 main_c_1
  let main_v10 : IVec S_ 1 := andi main_v3 main_v9
  main_v10
-- ==== Pre_finite_qk.lean ====
abbrev S4x8192x3072 : Shape := ⟨3, ![4, 8192, 3072]⟩
abbrev S4x8192x2048 : Shape := ⟨3, ![4, 8192, 2048]⟩
abbrev S_ : Shape := ⟨0, ![]⟩

class Facts : Prop where
  slices_S4x8192x3072_S4x8192x2048_0_0_0 : S4x8192x3072.Slices ![0, 0, 0] S4x8192x2048
  bitsLt_bf16_f32 : FTy.bits .bf16 < FTy.bits .f32
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel

variable [Facts]

def fn {F : FTy → Type} [FloatOps F] (main_arg0 : FVec F S4x8192x3072 .bf16) : IVec S_ 1 :=
  let main_v0 : FVec F S4x8192x2048 .bf16 := (extractStridedSlice S4x8192x2048 ![0, 0, 0] · slices_S4x8192x3072_S4x8192x2048_0_0_0) main_arg0
  let main_v1 : FVec F S4x8192x2048 .f32 := (extf .f32 · bitsLt_bf16_f32) main_v0
  let main_v2 : FVec F S4x8192x2048 .f32 := Host.absf main_v1
  let main_cst : FVec F S_ .f32 := constant S_ .f32 0x7F800000#32
  let main_v3 : FVec F S4x8192x2048 .f32 := broadcastInDim S4x8192x2048 ![] bcast_S_S4x8192x2048 main_cst
  let main_v4 : IVec S4x8192x2048 1 := cmpf .olt main_v2 main_v3
  let main_c : IVec S_ 1 := constantI S_ 1 1#1
  let main_v5 : IVec S_ 1 := (fun x v => Host.reduce IntOp.andi x v reducesTo_S4x8192x2048_S_d0_1_2 h_S_) main_v4 main_c
  main_v5
-- ==== SbAttn.lean ====
abbrev S4x8192x3072 : Shape := ⟨3, ![4, 8192, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x8192x1024 : Shape := ⟨3, ![4, 8192, 1024]⟩
abbrev S1x512x128 : Shape := ⟨3, ![1, 512, 128]⟩
abbrev S1x8192x128 : Shape := ⟨3, ![1, 8192, 128]⟩
abbrev S1024x128 : Shape := ⟨2, ![1024, 128]⟩
abbrev S256x128 : Shape := ⟨2, ![256, 128]⟩
abbrev S1x256x128 : Shape := ⟨3, ![1, 256, 128]⟩
abbrev S512x128 : Shape := ⟨2, ![512, 128]⟩
abbrev S512x256 : Shape := ⟨2, ![512, 256]⟩
abbrev S512x1 : Shape := ⟨2, ![512, 1]⟩
abbrev S1024x256 : Shape := ⟨2, ![1024, 256]⟩
abbrev S1024x1 : Shape := ⟨2, ![1024, 1]⟩
abbrev S1 : Shape := ⟨1, ![1]⟩
abbrev S1x1x1 : Shape := ⟨3, ![1, 1, 1]⟩

abbrev nBuf : Space → Nat
  | .hbm => 25
  | .vmem => 13
  | .smem => 0
  | _ => 0

abbrev bufTy : (tb : Table) → Fin (tcTables nBuf tb) → BufTy
  | .hbm, ⟨0, _⟩ => ⟨S4x8192x3072, .bf16⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S_, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .bf16⟩
  | .hbm, ⟨13, _⟩ => ⟨S1x256, .i32⟩
  | .hbm, ⟨14, _⟩ => ⟨S256x1, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S_, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S4x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S256x256, .f32⟩
  | .local _ .vmem, ⟨8, _⟩ => ⟨S1x512x128, .bf16⟩
  | .local _ .vmem, ⟨9, _⟩ => ⟨S1x512x128, .bf16⟩
  | .local _ .vmem, ⟨10, _⟩ => ⟨S1024x128, .bf16⟩
  | .local _ .vmem, ⟨11, _⟩ => ⟨S1024x128, .f32⟩
  | .local _ .vmem, ⟨12, _⟩ => ⟨S1024x128, .f32⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let c2_i32 : BitVec 32 := 2#32
  let arg2 : BitVec 32 := BitVec.ofNat 32 (i 2).val
  let v43 : BitVec 32 := Scalar.muli c2_i32 arg2
  let c1_i32 : BitVec 32 := 1#32
  let v44 : BitVec 32 := Scalar.addi v43 c1_i32
  let c256_i32 : BitVec 32 := 256#32
  let v45 : BitVec 32 := Scalar.muli v44 c256_i32
  v45
def k0_off1 (i : grid0.Coords) : Fin 3 → Nat :=
  let c0_22 : Index := 0#32
  let c2_i32 : BitVec 32 := 2#32
  let arg2 : BitVec 32 := BitVec.ofNat 32 (i 2).val
  let v43 : BitVec 32 := Scalar.muli c2_i32 arg2
  let c1_i32 : BitVec 32 := 1#32
  let v44 : BitVec 32 := Scalar.addi v43 c1_i32
  let c256_i32 : BitVec 32 := 256#32
  let v45 : BitVec 32 := Scalar.muli v44 c256_i32
  let v46 : BitVec 32 := v45
  let v47 : Index := Scalar.indexCast v46
  let c0_23 : Index := 0#32
  ![0, v47.toNat, 0]
def k0_mult2 (i : grid0.Coords) : BitVec 32 :=
  let c2_i32_53 : BitVec 32 := 2#32
  let arg2 : BitVec 32 := BitVec.ofNat 32 (i 2).val
  let v105 : BitVec 32 := Scalar.muli c2_i32_53 arg2
  let c256_i32_54 : BitVec 32 := 256#32
  let v106 : BitVec 32 := Scalar.muli v105 c256_i32_54
  v106
def k0_off2 (i : grid0.Coords) : Fin 3 → Nat :=
  let c0_55 : Index := 0#32
  let c2_i32_53 : BitVec 32 := 2#32
  let arg2 : BitVec 32 := BitVec.ofNat 32 (i 2).val
  let v105 : BitVec 32 := Scalar.muli c2_i32_53 arg2
  let c256_i32_54 : BitVec 32 := 256#32
  let v106 : BitVec 32 := Scalar.muli v105 c256_i32_54
  let v107 : BitVec 32 := v106
  let v108 : Index := Scalar.indexCast v107
  let c0_56 : Index := 0#32
  ![0, v108.toNat, 0]
def k0_mult3 (i : grid0.Coords) : BitVec 32 :=
  let c2_i32_86 : BitVec 32 := 2#32
  let arg2 : BitVec 32 := BitVec.ofNat 32 (i 2).val
  let v172 : BitVec 32 := Scalar.muli c2_i32_86 arg2
  let c1_i32_87 : BitVec 32 := 1#32
  let v173 : BitVec 32 := Scalar.subi v172 c1_i32_87
  let c0_i32 : BitVec 32 := 0#32
  let v174 : BitVec 32 := Scalar.maxsi v173 c0_i32
  let c256_i32_89 : BitVec 32 := 256#32
  let v178 : BitVec 32 := Scalar.muli v174 c256_i32_89
  v178
def k0_off3 (i : grid0.Coords) : Fin 3 → Nat :=
  let c0_90 : Index := 0#32
  let c2_i32_86 : BitVec 32 := 2#32
  let arg2 : BitVec 32 := BitVec.ofNat 32 (i 2).val
  let v172 : BitVec 32 := Scalar.muli c2_i32_86 arg2
  let c1_i32_87 : BitVec 32 := 1#32
  let v173 : BitVec 32 := Scalar.subi v172 c1_i32_87
  let c0_i32 : BitVec 32 := 0#32
  let v174 : BitVec 32 := Scalar.maxsi v173 c0_i32
  let c256_i32_89 : BitVec 32 := 256#32
  let v178 : BitVec 32 := Scalar.muli v174 c256_i32_89
  let v179 : BitVec 32 := v178
  let v180 : Index := Scalar.indexCast v179
  let c0_91 : Index := 0#32
  ![0, v180.toNat, 0]
def k0_mult4 (i : grid0.Coords) : BitVec 32 :=
  let c2_i32_145 : BitVec 32 := 2#32
  let arg2 : BitVec 32 := BitVec.ofNat 32 (i 2).val
  let v274 : BitVec 32 := Scalar.muli c2_i32_145 arg2
  let c1_i32_146 : BitVec 32 := 1#32
  let v275 : BitVec 32 := Scalar.subi v274 c1_i32_146
  let c256_i32_147 : BitVec 32 := 256#32
  let v276 : BitVec 32 := Scalar.muli v275 c256_i32_147
  v276
def k0_off4 (i : grid0.Coords) : Fin 3 → Nat :=
  let c0_148 : Index := 0#32
  let c2_i32_145 : BitVec 32 := 2#32
  let arg2 : BitVec 32 := BitVec.ofNat 32 (i 2).val
  let v274 : BitVec 32 := Scalar.muli c2_i32_145 arg2
  let c1_i32_146 : BitVec 32 := 1#32
  let v275 : BitVec 32 := Scalar.subi v274 c1_i32_146
  let c256_i32_147 : BitVec 32 := 256#32
  let v276 : BitVec 32 := Scalar.muli v275 c256_i32_147
  let v277 : BitVec 32 := v276
  let v278 : Index := Scalar.indexCast v277
  let c0_149 : Index := 0#32
  ![0, v278.toNat, 0]
def k0_cond1 (i : grid0.Coords) (v236 : BitVec 1) : BitVec 1 :=
  let arg2 : BitVec 32 := BitVec.ofNat 32 (i 2).val
  let c0_i32_113 : BitVec 32 := 0#32
  let v230 : BitVec 1 := Scalar.cmpi .sgt arg2 c0_i32_113
  let v237 : BitVec 1 := Scalar.andi v230 v236
  let v238 : BitVec 32 := Scalar.extui v237
  let c0_i32_118 : BitVec 32 := 0#32
  let v239 : BitVec 1 := Scalar.cmpi .ne v238 c0_i32_118
  v239

def k0_chk1 (i : grid0.Coords) (v236 : BitVec 1) : Prop :=
  (∀ (k0_h1 : k0_cond1 i v236 = 1#1), ∀ a, (k0_off4 i) a + S1x256x128.size a ≤ S1x8192x128.size a)
theorem k0_off4_inb : ∀ (i : grid0.Coords) (v236 : BitVec 1) (k0_hw1 : k0_chk1 i v236), ∀ (k0_h1 : k0_cond1 i v236 = 1#1), ∀ a, (k0_off4 i) a + S1x256x128.size a ≤ S1x8192x128.size a := fun i v236 k0_hw1 k0_h1 => k0_hw1 k0_h1

def k0_mult5 (arg12 : BitVec 32) : BitVec 32 :=
  let c256_i32_145 : BitVec 32 := 256#32
  let v274 : BitVec 32 := Scalar.muli arg12 c256_i32_145
  v274

def k0_off5 (arg12 : BitVec 32) : Fin 3 → Nat :=
  let c0_146 : Index := 0#32
  let c256_i32_145 : BitVec 32 := 256#32
  let v274 : BitVec 32 := Scalar.muli arg12 c256_i32_145
  let v275 : BitVec 32 := v274
  let v276 : Index := Scalar.indexCast v275
  let c0_147 : Index := 0#32
  ![0, v276.toNat, 0]

def k0_chk2 (arg12 : BitVec 32) : Prop :=
  (256 ∣ (k0_mult5 arg12).toNat) ∧
  (∀ a, (k0_off5 arg12) a + S1x256x128.size a ≤ S1x8192x128.size a)
theorem k0_mult5_dvd : ∀ (arg12 : BitVec 32) (k0_hw2 : k0_chk2 arg12), 256 ∣ (k0_mult5 arg12).toNat := fun arg12 k0_hw2 => k0_hw2.1
theorem k0_off5_inb : ∀ (arg12 : BitVec 32) (k0_hw2 : k0_chk2 arg12), ∀ a, (k0_off5 arg12) a + S1x256x128.size a ≤ S1x8192x128.size a := fun arg12 k0_hw2 => k0_hw2.2

def k0_mult6 (arg12 : BitVec 32) : BitVec 32 :=
  let c256_i32_145 : BitVec 32 := 256#32
  let v274 : BitVec 32 := Scalar.muli arg12 c256_i32_145
  v274

def k0_off6 (arg12 : BitVec 32) : Fin 3 → Nat :=
  let c0_146 : Index := 0#32
  let c256_i32_145 : BitVec 32 := 256#32
  let v274 : BitVec 32 := Scalar.muli arg12 c256_i32_145
  let v275 : BitVec 32 := v274
  let v276 : Index := Scalar.indexCast v275
  let c0_147 : Index := 0#32
  ![0, v276.toNat, 0]

def k0_chk3 (arg12 : BitVec 32) : Prop :=
  (256 ∣ (k0_mult6 arg12).toNat) ∧
  (∀ a, (k0_off6 arg12) a + S1x256x128.size a ≤ S1x8192x128.size a)
theorem k0_mult6_dvd : ∀ (arg12 : BitVec 32) (k0_hw3 : k0_chk3 arg12), 256 ∣ (k0_mult6 arg12).toNat := fun arg12 k0_hw3 => k0_hw3.1
theorem k0_off6_inb : ∀ (arg12 : BitVec 32) (k0_hw3 : k0_chk3 arg12), ∀ a, (k0_off6 arg12) a + S1x256x128.size a ≤ S1x8192x128.size a := fun arg12 k0_hw3 => k0_hw3.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SbAttnIdeal.lean ====
variable {F : FTy → Type} [FloatOps F] [Named F]
def κ : String → Option EReal := fun
  | "exp_zero_below" => some ⊥
  | "log2e" => some (((Real.log 2)⁻¹ : ℝ) : EReal)
  | _ => none
-- ==== SbRefIdeal.lean ====
abbrev S4x8192x3072 : Shape := ⟨3, ![4, 8192, 3072]⟩
abbrev S4x8192x1024 : Shape := ⟨3, ![4, 8192, 1024]⟩
abbrev S4x8192x16x64 : Shape := ⟨4, ![4, 8192, 16, 64]⟩
abbrev S4x16x8192x64 : Shape := ⟨4, ![4, 16, 8192, 64]⟩
abbrev S4x16x8192x8192 : Shape := ⟨4, ![4, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x16x8192x8191 : Shape := ⟨4, ![4, 16, 8192, 8191]⟩
abbrev S4x16x8192x1 : Shape := ⟨4, ![4, 16, 8192, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x3072, .bf16⟩
  | .hbm, ⟨1, _⟩ => ⟨S4x8192x3072, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S4x8192x16x64, .f32⟩
  | .hbm, ⟨6, _⟩ => ⟨S4x16x8192x64, .f32⟩
  | .hbm, ⟨7, _⟩ => ⟨S4x8192x16x64, .f32⟩
  | .hbm, ⟨8, _⟩ => ⟨S4x16x8192x64, .f32⟩
  | .hbm, ⟨9, _⟩ => ⟨S4x8192x16x64, .f32⟩
  | .hbm, ⟨10, _⟩ => ⟨S4x16x8192x64, .f32⟩
  | .hbm, ⟨11, _⟩ => ⟨S4x16x8192x8192, .f32⟩
  | .hbm, ⟨12, _⟩ => ⟨S_, .f32⟩
  | .hbm, ⟨13, _⟩ => ⟨S4x16x8192x8192, .f32⟩
  | .hbm, ⟨14, _⟩ => ⟨S4x16x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S4x16x8192x8192, .f32⟩
  | .hbm, ⟨22, _⟩ => ⟨S4x16x8192x8192, .f32⟩
  | .hbm, ⟨23, _⟩ => ⟨S_, .f32⟩
  | .hbm, ⟨24, _⟩ => ⟨S4x16x8192x8192, .f32⟩
  | .hbm, ⟨25, _⟩ => ⟨S4x16x8192x8192, .f32⟩
  | .hbm, ⟨26, _⟩ => ⟨S4x16x8192x8192, .f32⟩
  | .hbm, ⟨27, _⟩ => ⟨S4x16x8192x8192, .f32⟩
  | .hbm, ⟨28, _⟩ => ⟨S4x16x8192x8192, .i1⟩
  | .hbm, ⟨29, _⟩ => ⟨S4x16x8192x8192, .f32⟩
  | .hbm, ⟨30, _⟩ => ⟨S4x16x8192x8192, .f32⟩
  | .hbm, ⟨31, _⟩ => ⟨S4x16x8192x8192, .f32⟩
  | .hbm, ⟨32, _⟩ => ⟨S4x16x8192x8192, .f32⟩
  | .hbm, ⟨33, _⟩ => ⟨S4x16x8192x8192, .f32⟩
  | .hbm, ⟨34, _⟩ => ⟨S4x16x8192x8192, .f32⟩
  | .hbm, ⟨35, _⟩ => ⟨S4x16x8192x8192, .f32⟩
  | .hbm, ⟨36, _⟩ => ⟨S4x16x8192x8192, .f32⟩
  | .hbm, ⟨37, _⟩ => ⟨S4x16x8192x8192, .f32⟩
  | .hbm, ⟨38, _⟩ => ⟨S_, .f32⟩
  | .hbm, ⟨39, _⟩ => ⟨S_, .f32⟩
  | .hbm, ⟨40, _⟩ => ⟨S4x16x8192x8192, .i1⟩
  | .hbm, ⟨41, _⟩ => ⟨S4x16x8192x8192, .f32⟩
  | .hbm, ⟨42, _⟩ => ⟨S4x16x8192x8192, .f32⟩
  | .hbm, ⟨43, _⟩ => ⟨S_, .f32⟩
  | .hbm, ⟨44, _⟩ => ⟨S_, .f32⟩
  | .hbm, ⟨45, _⟩ => ⟨S4x16x8192x8192, .f32⟩
  | .hbm, ⟨46, _⟩ => ⟨S4x16x8192x8191, .f32⟩
  | .hbm, ⟨47, _⟩ => ⟨S4x16x8192x1, .f32⟩
  | .hbm, ⟨48, _⟩ => ⟨S_, .f32⟩
  | .hbm, ⟨49, _⟩ => ⟨S4x16x8192x1, .f32⟩
  | .hbm, ⟨50, _⟩ => ⟨S4x16x8192x8192, .f32⟩
  | .hbm, ⟨51, _⟩ => ⟨S4x16x8192x8192, .f32⟩
  | .hbm, ⟨52, _⟩ => ⟨S_, .f32⟩
  | .hbm, ⟨53, _⟩ => ⟨S4x16x8192x8192, .f32⟩
  | .hbm, ⟨54, _⟩ => ⟨S4x16x8192x8192, .f32⟩
  | .hbm, ⟨55, _⟩ => ⟨S4x16x8192x8192, .f32⟩
  | .hbm, ⟨56, _⟩ => ⟨S4x16x8192x8192, .f32⟩
  | .hbm, ⟨57, _⟩ => ⟨S4x16x8192x8192, .i1⟩
  | .hbm, ⟨58, _⟩ => ⟨S4x16x8192x8192, .f32⟩
  | .hbm, ⟨59, _⟩ => ⟨S4x16x8192x8192, .f32⟩
  | .hbm, ⟨60, _⟩ => ⟨S4x16x8192x8192, .f32⟩
  | .hbm, ⟨61, _⟩ => ⟨S4x16x8192x8192, .f32⟩
  | .hbm, ⟨62, _⟩ => ⟨S4x16x8192x8192, .f32⟩
  | .hbm, ⟨63, _⟩ => ⟨S4x16x8192x8192, .f32⟩
  | .hbm, ⟨64, _⟩ => ⟨S4x16x8192x8192, .f32⟩
  | .hbm, ⟨65, _⟩ => ⟨S4x16x8192x8192, .f32⟩
  | .hbm, ⟨66, _⟩ => ⟨S4x16x8192x8192, .f32⟩
  | .hbm, ⟨67, _⟩ => ⟨S4x16x8192x8192, .f32⟩
  | .hbm, ⟨68, _⟩ => ⟨S4x16x8192x8192, .f32⟩
  | .hbm, ⟨69, _⟩ => ⟨S_, .f32⟩
  | .hbm, ⟨70, _⟩ => ⟨S_, .f32⟩
  | .hbm, ⟨71, _⟩ => ⟨S4x16x8192x8192, .i1⟩
  | .hbm, ⟨72, _⟩ => ⟨S4x16x8192x8192, .f32⟩
  | .hbm, ⟨73, _⟩ => ⟨S4x16x8192x8192, .f32⟩
  | .hbm, ⟨74, _⟩ => ⟨S4x16x8192x64, .f32⟩
  | .hbm, ⟨75, _⟩ => ⟨S4x8192x16x64, .f32⟩
  | .hbm, ⟨76, _⟩ => ⟨S4x8192x1024, .f32⟩
  | .hbm, ⟨77, _⟩ => ⟨S4x8192x1024, .bf16⟩
  | _, _ => ⟨S4x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_2 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩

abbrev nD : Nat := 1
abbrev τ : Topo := Topo.v7x

variable {F : FTy → Type} [FloatOps F]
-- ==== ChunkAttn.lean ====
abbrev S4x8192x1536 : Shape := ⟨3, ![4, 8192, 1536]⟩
abbrev S8x257 : Shape := ⟨2, ![8, 257]⟩
abbrev S256 : Shape := ⟨1, ![256]⟩
abbrev S768 : Shape := ⟨1, ![768]⟩
abbrev S256x1 : Shape := ⟨2, ![256, 1]⟩
abbrev S_ : Shape := ⟨0, ![]⟩
abbrev S1x768 : Shape := ⟨2, ![1, 768]⟩
abbrev S256x768 : Shape := ⟨2, ![256, 768]⟩
abbrev S1x257 : Shape := ⟨2, ![1, 257]⟩
abbrev S1x0x257 : Shape := ⟨3, ![1, 0, 257]⟩
abbrev S0x257 : Shape := ⟨2, ![0, 257]⟩
abbrev S8x1 : Shape := ⟨2, ![8, 1]⟩
abbrev S8x1x127 : Shape := ⟨3, ![8, 1, 127]⟩
abbrev S8x127 : Shape := ⟨2, ![8, 127]⟩
abbrev S8x1x639 : Shape := ⟨3, ![8, 1, 639]⟩
abbrev S8x639 : Shape := ⟨2, ![8, 639]⟩
abbrev S8x1023 : Shape := ⟨2, ![8, 1023]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x256x768 : Shape := ⟨3, ![1, 256, 768]⟩
abbrev S4x8192x512 : Shape := ⟨3, ![4, 8192, 512]⟩
abbrev S1x256x256 : Shape := ⟨3, ![1, 256, 256]⟩
abbrev S4x256x768 : Shape := ⟨3, ![4, 256, 768]⟩
abbrev S256x256 : Shape := ⟨2, ![256, 256]⟩
abbrev S768x256 : Shape := ⟨2, ![768, 256]⟩

abbrev nBuf : Space → Nat
  | .hbm => 87
  | .vmem => 18
  | .smem => 0
  | _ => 0

abbrev bufTy : (tb : Table) → Fin (tcTables nBuf tb) → BufTy
  | .hbm, ⟨0, _⟩ => ⟨S4x8192x1536, .bf16⟩
  | .hbm, ⟨1, _⟩ => ⟨S8x257, .f32⟩
  | .hbm, ⟨2, _⟩ => ⟨S256, .i32⟩
  | .hbm, ⟨3, _⟩ => ⟨S768, .i32⟩
  | .hbm, ⟨4, _⟩ => ⟨S256x1, .i32⟩
  | .hbm, ⟨5, _⟩ => ⟨S_, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i1⟩
  | .hbm, ⟨13, _⟩ => ⟨S256x1, .i32⟩
  | .hbm, ⟨14, _⟩ => ⟨S256x1, .i32⟩
  | .hbm, ⟨15, _⟩ => ⟨S_, .i32⟩
  | .hbm, ⟨16, _⟩ => ⟨S256x1, .i32⟩
  | .hbm, ⟨17, _⟩ => ⟨S256x1, .i1⟩
  | .hbm, ⟨18, _⟩ => ⟨S256x1, .i1⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S1x768, .i32⟩
  | .hbm, ⟨27, _⟩ => ⟨S_, .i32⟩
  | .hbm, ⟨28, _⟩ => ⟨S_, .i32⟩
  | .hbm, ⟨29, _⟩ => ⟨S1x768, .i32⟩
  | .hbm, ⟨30, _⟩ => ⟨S1x768, .i32⟩
  | .hbm, ⟨31, _⟩ => ⟨S1x768, .i32⟩
  | .hbm, ⟨32, _⟩ => ⟨S_, .i32⟩
  | .hbm, ⟨33, _⟩ => ⟨S1x768, .i32⟩
  | .hbm, ⟨34, _⟩ => ⟨S1x768, .i1⟩
  | .hbm, ⟨35, _⟩ => ⟨S1x768, .i32⟩
  | .hbm, ⟨36, _⟩ => ⟨S1x768, .i32⟩
  | .hbm, ⟨37, _⟩ => ⟨S_, .i32⟩
  | .hbm, ⟨38, _⟩ => ⟨S1x768, .i32⟩
  | .hbm, ⟨39, _⟩ => ⟨S1x768, .i1⟩
  | .hbm, ⟨40, _⟩ => ⟨S1x768, .i1⟩
  | .hbm, ⟨41, _⟩ => ⟨S_, .i32⟩
  | .hbm, ⟨42, _⟩ => ⟨S1x768, .i32⟩
  | .hbm, ⟨43, _⟩ => ⟨S1x768, .i32⟩
  | .hbm, ⟨44, _⟩ => ⟨S1x768, .i32⟩
  | .hbm, ⟨45, _⟩ => ⟨S256x768, .i32⟩
  | .hbm, ⟨46, _⟩ => ⟨S256x768, .i32⟩
  | .hbm, ⟨47, _⟩ => ⟨S256x768, .i32⟩
  | .hbm, ⟨48, _⟩ => ⟨S_, .i32⟩
  | .hbm, ⟨49, _⟩ => ⟨S256x768, .i32⟩
  | .hbm, ⟨50, _⟩ => ⟨S256x768, .i1⟩
  | .hbm, ⟨51, _⟩ => ⟨S_, .i32⟩
  | .hbm, ⟨52, _⟩ => ⟨S256x768, .i32⟩
  | .hbm, ⟨53, _⟩ => ⟨S256x768, .i1⟩
  | .hbm, ⟨54, _⟩ => ⟨S256x768, .i1⟩
  | .hbm, ⟨55, _⟩ => ⟨S_, .i32⟩
  | .hbm, ⟨56, _⟩ => ⟨S1x257, .f32⟩
  | .hbm, ⟨57, _⟩ => ⟨S1x0x257, .f32⟩
  | .hbm, ⟨58, _⟩ => ⟨S0x257, .f32⟩
  | .hbm, ⟨59, _⟩ => ⟨S1x257, .f32⟩
  | .hbm, ⟨60, _⟩ => ⟨S1x0x257, .f32⟩
  | .hbm, ⟨61, _⟩ => ⟨S0x257, .f32⟩
  | .hbm, ⟨62, _⟩ => ⟨S8x257, .f32⟩
  | .hbm, ⟨63, _⟩ => ⟨S8x1, .f32⟩
  | .hbm, ⟨64, _⟩ => ⟨S8x1x127, .f32⟩
  | .hbm, ⟨65, _⟩ => ⟨S8x127, .f32⟩
  | .hbm, ⟨66, _⟩ => ⟨S8x1, .f32⟩
  | .hbm, ⟨67, _⟩ => ⟨S8x1x639, .f32⟩
  | .hbm, ⟨68, _⟩ => ⟨S8x639, .f32⟩
  | .hbm, ⟨69, _⟩ => ⟨S8x1023, .f32⟩
  | .hbm, ⟨70, _⟩ => ⟨S8x1023, .f32⟩
  | .hbm, ⟨71, _⟩ => ⟨S_, .i32⟩
  | .hbm, ⟨72, _⟩ => ⟨S_, .f32⟩
  | .hbm, ⟨73, _⟩ => ⟨S8x1024, .f32⟩
  | .hbm, ⟨74, _⟩ => ⟨S1x8x1x1024, .f32⟩
  | .hbm, ⟨75, _⟩ => ⟨S1x8x256x1024, .f32⟩
  | .hbm, ⟨76, _⟩ => ⟨S8x262144, .f32⟩
  | .hbm, ⟨77, _⟩ => ⟨S8x261888, .f32⟩
  | .hbm, ⟨78, _⟩ => ⟨S8x256x1023, .f32⟩
  | .hbm, ⟨79, _⟩ => ⟨S8x256x768, .f32⟩
  | .hbm, ⟨80, _⟩ => ⟨S1x256x768, .i1⟩
  | .hbm, ⟨81, _⟩ => ⟨S_, .f32⟩
  | .hbm, ⟨82, _⟩ => ⟨S_, .f32⟩
  | .hbm, ⟨83, _⟩ => ⟨S8x256x768, .i1⟩
  | .hbm, ⟨84, _⟩ => ⟨S8x256x768, .f32⟩
  | .hbm, ⟨85, _⟩ => ⟨S8x256x768, .f32⟩
  | .hbm, ⟨86, _⟩ => ⟨S4x8192x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S4x256x768, .f32⟩
  | .local _ .vmem, ⟨15, _⟩ => ⟨S4x256x768, .f32⟩
  | .local _ .vmem, ⟨16, _⟩ => ⟨S1x256x256, .bf16⟩
  | .local _ .vmem, ⟨17, _⟩ => ⟨S1x256x256, .bf16⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_c_2 : Ref sig .tc := ⟨.hbm, 48, rfl⟩
abbrev main_v11 : Ref sig .tc := ⟨.hbm, 49, rfl⟩
abbrev main_v12 : Ref sig .tc := ⟨.hbm, 50, rfl⟩
abbrev main_c_3 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_v16 : Ref sig .tc := ⟨.hbm, 69, rfl⟩
abbrev main_v17 : Ref sig .tc := ⟨.hbm, 70, rfl⟩
abbrev main_c_5 : Ref sig .tc := ⟨.hbm, 71, rfl⟩
abbrev main_call3_v0 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_v26 : Ref sig .tc := ⟨.hbm, 85, rfl⟩
abbrev main_v27 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c2_i32_0 : BitVec 32 := 2#32
  let v2 : BitVec 32 := Scalar.addi c2_i32_0 arg1
  let c0_i32_1 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi c2_i32 arg1
  let c0_i32_0 : BitVec 32 := 0#32
  ![arg0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c2_i32 : BitVec 32 := 2#32
  let v2 : BitVec 32 := Scalar.addi c2_i32 arg1
  let c0_i32_1 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  ![arg0.toNat, v1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c4_i32 : BitVec 32 := 4#32
  let v2 : BitVec 32 := Scalar.addi c4_i32 arg1
  let c0_i32_1 : BitVec 32 := 0#32
  ![arg0.toNat, v1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ChunkAttnIdeal.lean ====
variable {F : FTy → Type} [FloatOps F] [Named F]
def κ : String → Option EReal := fun
  | "mask" => some ⊥
  | _ => none
-- ==== ChunkRefIdeal.lean ====
abbrev S4x8192x1536 : Shape := ⟨3, ![4, 8192, 1536]⟩
abbrev S8x257 : Shape := ⟨2, ![8, 257]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S4x8x8192x8192 : Shape := ⟨4, ![4, 8, 8192, 8192]⟩
abbrev S8192x8192x1 : Shape := ⟨3, ![8192, 8192, 1]⟩
abbrev S8x8192x8192 : Shape := ⟨3, ![8, 8192, 8192]⟩
abbrev S1x8x8192x8192 : Shape := ⟨4, ![1, 8, 8192, 8192]⟩
abbrev S4x8x8192 : Shape := ⟨3, ![4, 8, 8192]⟩
abbrev S4x8x8192x1 : Shape := ⟨4, ![4, 8, 8192, 1]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x1536, .bf16⟩
  | .hbm, ⟨1, _⟩ => ⟨S8x257, .f32⟩
  | .hbm, ⟨2, _⟩ => ⟨S4x8192x1536, .f32⟩
  | .hbm, ⟨3, _⟩ => ⟨S4x8192x512, .f32⟩
  | .hbm, ⟨4, _⟩ => ⟨S4x8192x512, .f32⟩
  | .hbm, ⟨5, _⟩ => ⟨S4x8192x512, .f32⟩
  | .hbm, ⟨6, _⟩ => ⟨S4x8192x8x64, .f32⟩
  | .hbm, ⟨7, _⟩ => ⟨S4x8x8192x64, .f32⟩
  | .hbm, ⟨8, _⟩ => ⟨S4x8192x8x64, .f32⟩
  | .hbm, ⟨9, _⟩ => ⟨S4x8x8192x64, .f32⟩
  | .hbm, ⟨10, _⟩ => ⟨S4x8192x8x64, .f32⟩
  | .hbm, ⟨11, _⟩ => ⟨S4x8x8192x64, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S4x8x8192x8192, .f32⟩
  | .hbm, ⟨45, _⟩ => ⟨S_, .f32⟩
  | .hbm, ⟨46, _⟩ => ⟨S4x8x8192x8192, .f32⟩
  | .hbm, ⟨47, _⟩ => ⟨S4x8x8192x8192, .f32⟩
  | .hbm, ⟨48, _⟩ => ⟨S_, .i32⟩
  | .hbm, ⟨49, _⟩ => ⟨S8192x8192, .i32⟩
  | .hbm, ⟨50, _⟩ => ⟨S8192x8192, .i1⟩
  | .hbm, ⟨51, _⟩ => ⟨S_, .i32⟩
  | .hbm, ⟨52, _⟩ => ⟨S8192x8192, .i32⟩
  | .hbm, ⟨53, _⟩ => ⟨S8192x8192, .i32⟩
  | .hbm, ⟨54, _⟩ => ⟨S8192x8192, .i32⟩
  | .hbm, ⟨55, _⟩ => ⟨S8192x8192x1, .i32⟩
  | .hbm, ⟨56, _⟩ => ⟨S8x8192x8192, .f32⟩
  | .hbm, ⟨57, _⟩ => ⟨S1x8x8192x8192, .f32⟩
  | .hbm, ⟨58, _⟩ => ⟨S4x8x8192x8192, .f32⟩
  | .hbm, ⟨59, _⟩ => ⟨S4x8x8192x8192, .f32⟩
  | .hbm, ⟨60, _⟩ => ⟨S_, .f32⟩
  | .hbm, ⟨61, _⟩ => ⟨S_, .f32⟩
  | .hbm, ⟨62, _⟩ => ⟨S4x8x8192x8192, .i1⟩
  | .hbm, ⟨63, _⟩ => ⟨S4x8x8192x8192, .f32⟩
  | .hbm, ⟨64, _⟩ => ⟨S4x8x8192x8192, .f32⟩
  | .hbm, ⟨65, _⟩ => ⟨S_, .f32⟩
  | .hbm, ⟨66, _⟩ => ⟨S4x8x8192, .f32⟩
  | .hbm, ⟨67, _⟩ => ⟨S_, .f32⟩
  | .hbm, ⟨68, _⟩ => ⟨S4x8x8192, .f32⟩
  | .hbm, ⟨69, _⟩ => ⟨S4x8x8192, .f32⟩
  | .hbm, ⟨70, _⟩ => ⟨S4x8x8192x1, .f32⟩
  | .hbm, ⟨71, _⟩ => ⟨S4x8x8192x8192, .f32⟩
  | .hbm, ⟨72, _⟩ => ⟨S4x8x8192x8192, .f32⟩
  | .hbm, ⟨73, _⟩ => ⟨S4x8x8192x8192, .f32⟩
  | .hbm, ⟨74, _⟩ => ⟨S_, .f32⟩
  | .hbm, ⟨75, _⟩ => ⟨S4x8x8192, .f32⟩
  | .hbm, ⟨76, _⟩ => ⟨S4x8x8192x1, .f32⟩
  | .hbm, ⟨77, _⟩ => ⟨S4x8x8192x8192, .f32⟩
  | .hbm, ⟨78, _⟩ => ⟨S4x8x8192x8192, .f32⟩
  | .hbm, ⟨79, _⟩ => ⟨S4x8x8192x64, .f32⟩
  | .hbm, ⟨80, _⟩ => ⟨S4x8192x8x64, .f32⟩
  | .hbm, ⟨81, _⟩ => ⟨S4x8192x512, .f32⟩
  | .hbm, ⟨82, _⟩ => ⟨S4x8192x512, .bf16⟩
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_2 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== FfnOdd.lean ====
abbrev S32768x1024 : Shape := ⟨2, ![32768, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnOddRefIdeal.lean ====
abbrev S32768x1024 : Shape := ⟨2, ![32768, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S1024x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S1024x2816, .f32⟩
  | .hbm, ⟨45, _⟩ => ⟨S1024x2816, .f32⟩
  | .hbm, ⟨46, _⟩ => ⟨S2816x1024, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S_, .f32⟩
  | .hbm, ⟨51, _⟩ => ⟨S32768x2816, .f32⟩
  | .hbm, ⟨52, _⟩ => ⟨S32768x2816, .f32⟩
  | .hbm, ⟨53, _⟩ => ⟨S_, .f32⟩
  | .hbm, ⟨54, _⟩ => ⟨S32768x2816, .f32⟩
  | .hbm, ⟨55, _⟩ => ⟨S32768x2816, .f32⟩
  | .hbm, ⟨56, _⟩ => ⟨S32768x2816, .f32⟩
  | .hbm, ⟨57, _⟩ => ⟨S32768x2816, .f32⟩
  | .hbm, ⟨58, _⟩ => ⟨S32768x2816, .f32⟩
  | .hbm, ⟨59, _⟩ => ⟨S32768x1024, .f32⟩
  | .hbm, ⟨60, _⟩ => ⟨S_, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S32768, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S_, .f32⟩
  | .hbm, ⟨82, _⟩ => ⟨S32768x1, .f32⟩
  | .hbm, ⟨83, _⟩ => ⟨S32768x1, .f32⟩
  | .hbm, ⟨84, _⟩ => ⟨S32768x1, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S32768x1024, .f32⟩
  | .hbm, ⟨90, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== FfnEven.lean ====
abbrev S32768x512 : Shape := ⟨2, ![32768, 512]⟩
abbrev S8192x2048 : Shape := ⟨2, ![8192, 2048]⟩
abbrev S512x1024 : Shape := ⟨2, ![512, 1024]⟩
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S8192x2048, .bf16⟩
  | .hbm, ⟨2, _⟩ => ⟨S512x1024, .bf16⟩
  | .hbm, ⟨3, _⟩ => ⟨S512x1024, .bf16⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnEvenRefIdeal.lean ====
abbrev S32768x512 : Shape := ⟨2, ![32768, 512]⟩
abbrev S8192x2048 : Shape := ⟨2, ![8192, 2048]⟩
abbrev S512x1024 : Shape := ⟨2, ![512, 1024]⟩
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S8192x4x512 : Shape := ⟨3, ![8192, 4, 512]⟩
abbrev S4x8192x512 : Shape := ⟨3, ![4, 8192, 512]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 98
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S8192x2048, .bf16⟩
  | .hbm, ⟨2, _⟩ => ⟨S512x1024, .bf16⟩
  | .hbm, ⟨3, _⟩ => ⟨S512x1024, .bf16⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S8192x4x512, .bf16⟩
  | .hbm, ⟨13, _⟩ => ⟨S4x8192x512, .bf16⟩
  | .hbm, ⟨14, _⟩ => ⟨S32768x512, .bf16⟩
  | .hbm, ⟨15, _⟩ => ⟨S32768x1024, .bf16⟩
  | .hbm, ⟨16, _⟩ => ⟨S32768x1024, .f32⟩
  | .hbm, ⟨17, _⟩ => ⟨S1024x1024, .bf16⟩
  | .hbm, ⟨18, _⟩ => ⟨S1024x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S1024x2816, .f32⟩
  | .hbm, ⟨52, _⟩ => ⟨S1024x2816, .f32⟩
  | .hbm, ⟨53, _⟩ => ⟨S2816x1024, .f32⟩
  | .hbm, ⟨54, _⟩ => ⟨S32768x2816, .f32⟩
  | .hbm, ⟨55, _⟩ => ⟨S32768x2816, .f32⟩
  | .hbm, ⟨56, _⟩ => ⟨S32768x2816, .f32⟩
  | .hbm, ⟨57, _⟩ => ⟨S_, .f32⟩
  | .hbm, ⟨58, _⟩ => ⟨S32768x2816, .f32⟩
  | .hbm, ⟨59, _⟩ => ⟨S32768x2816, .f32⟩
  | .hbm, ⟨60, _⟩ => ⟨S_, .f32⟩
  | .hbm, ⟨61, _⟩ => ⟨S32768x2816, .f32⟩
  | .hbm, ⟨62, _⟩ => ⟨S32768x2816, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S32768x1024, .f32⟩
  | .hbm, ⟨67, _⟩ => ⟨S_, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S_, .f32⟩
  | .hbm, ⟨81, _⟩ => ⟨S32768, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1024, .f32⟩
  | .hbm, ⟨87, _⟩ => ⟨S32768x1024, .f32⟩
  | .hbm, ⟨88, _⟩ => ⟨S_, .f32⟩
  | .hbm, ⟨89, _⟩ => ⟨S32768x1, .f32⟩
  | .hbm, ⟨90, _⟩ => ⟨S32768x1, .f32⟩
  | .hbm, ⟨91, _⟩ => ⟨S32768x1, .f32⟩
  | .hbm, ⟨92, _⟩ => ⟨S32768x1024, .f32⟩
  | .hbm, ⟨93, _⟩ => ⟨S32768x1024, .f32⟩
  | .hbm, ⟨94, _⟩ => ⟨S32768x1024, .f32⟩
  | .hbm, ⟨95, _⟩ => ⟨S32768x1024, .f32⟩
  | .hbm, ⟨96, _⟩ => ⟨S32768x1024, .f32⟩
  | .hbm, ⟨97, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== ProjOdd.lean ====
abbrev S32768x1024 : Shape := ⟨2, ![32768, 1024]⟩
abbrev S1024x3072 : Shape := ⟨2, ![1024, 3072]⟩
abbrev S32768x3072 : Shape := ⟨2, ![32768, 3072]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x3072, .bf16⟩
  | .hbm, ⟨2, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjOddRefIdeal.lean ====
abbrev S32768x1024 : Shape := ⟨2, ![32768, 1024]⟩
abbrev S1024x3072 : Shape := ⟨2, ![1024, 3072]⟩
abbrev S32768x3072 : Shape := ⟨2, ![32768, 3072]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3072, .bf16⟩
  | .hbm, ⟨2, _⟩ => ⟨S1024x3072, .f32⟩
  | .hbm, ⟨3, _⟩ => ⟨S32768x3072, .f32⟩
  | .hbm, ⟨4, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjEven.lean ====
abbrev S32768x1024 : Shape := ⟨2, ![32768, 1024]⟩
abbrev S1024x2048 : Shape := ⟨2, ![1024, 2048]⟩
abbrev S32768x1536 : Shape := ⟨2, ![32768, 1536]⟩
abbrev S8192x2048 : Shape := ⟨2, ![8192, 2048]⟩
abbrev S1024x1024 : Shape := ⟨2, ![1024, 1024]⟩
abbrev S1024x1536 : Shape := ⟨2, ![1024, 1536]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x2048, .bf16⟩
  | .hbm, ⟨2, _⟩ => ⟨S32768x1536, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x1536, .bf16⟩
  | .local _ .vmem, ⟨4, _⟩ => ⟨S1024x1536, .bf16⟩
  | .local _ .vmem, ⟨5, _⟩ => ⟨S1024x512, .f32⟩
  | .local _ .vmem, ⟨6, _⟩ => ⟨S1024x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjEvenRefIdeal.lean ====
abbrev S32768x1024 : Shape := ⟨2, ![32768, 1024]⟩
abbrev S1024x2048 : Shape := ⟨2, ![1024, 2048]⟩
abbrev S32768x2048 : Shape := ⟨2, ![32768, 2048]⟩
abbrev S32768x512 : Shape := ⟨2, ![32768, 512]⟩
abbrev S4x8192x512 : Shape := ⟨3, ![4, 8192, 512]⟩
abbrev S32768x1536 : Shape := ⟨2, ![32768, 1536]⟩
abbrev S8192x4x512 : Shape := ⟨3, ![8192, 4, 512]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2048, .bf16⟩
  | .hbm, ⟨2, _⟩ => ⟨S1024x2048, .f32⟩
  | .hbm, ⟨3, _⟩ => ⟨S32768x2048, .f32⟩
  | .hbm, ⟨4, _⟩ => ⟨S32768x512, .f32⟩
  | .hbm, ⟨5, _⟩ => ⟨S4x8192x512, .f32⟩
  | .hbm, ⟨6, _⟩ => ⟨S32768x1536, .f32⟩
  | .hbm, ⟨7, _⟩ => ⟨S32768x1536, .bf16⟩
  | .hbm, ⟨8, _⟩ => ⟨S8192x4x512, .f32⟩
  | .hbm, ⟨9, _⟩ => ⟨S8192x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Mid.lean ====
abbrev S32768x512 : Shape := ⟨2, ![32768, 512]⟩
abbrev S8192x2048 : Shape := ⟨2, ![8192, 2048]⟩
abbrev S512x1024 : Shape := ⟨2, ![512, 1024]⟩
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S1024x3072 : Shape := ⟨2, ![1024, 3072]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S32768x3072 : Shape := ⟨2, ![32768, 3072]⟩
abbrev S1024x1024 : Shape := ⟨2, ![1024, 1024]⟩
abbrev S1024x512 : Shape := ⟨2, ![1024, 512]⟩

abbrev nBuf : Space → Nat
  | .hbm => 15
  | .vmem => 22
  | .smem => 0
  | _ => 0

abbrev bufTy : (tb : Table) → Fin (tcTables nBuf tb) → BufTy
  | .hbm, ⟨0, _⟩ => ⟨S32768x512, .bf16⟩
  | .hbm, ⟨1, _⟩ => ⟨S8192x2048, .bf16⟩
  | .hbm, ⟨2, _⟩ => ⟨S512x1024, .bf16⟩
  | .hbm, ⟨3, _⟩ => ⟨S512x1024, .bf16⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S1024x3072, .bf16⟩
  | .hbm, ⟨13, _⟩ => ⟨S32768x1024, .f32⟩
  | .hbm, ⟨14, _⟩ => ⟨S32768x3072, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1024x1024, .f32⟩
  | .local _ .vmem, ⟨18, _⟩ => ⟨S1024x1024, .f32⟩
  | .local _ .vmem, ⟨19, _⟩ => ⟨S1024x3072, .bf16⟩
  | .local _ .vmem, ⟨20, _⟩ => ⟨S1024x3072, .bf16⟩
  | .local _ .vmem, ⟨21, _⟩ => ⟨S1024x3072, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== MidRefIdeal.lean ====
abbrev S32768x512 : Shape := ⟨2, ![32768, 512]⟩
abbrev S8192x2048 : Shape := ⟨2, ![8192, 2048]⟩
abbrev S512x1024 : Shape := ⟨2, ![512, 1024]⟩
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S1024x3072 : Shape := ⟨2, ![1024, 3072]⟩
abbrev S8192x4x512 : Shape := ⟨3, ![8192, 4, 512]⟩
abbrev S4x8192x512 : Shape := ⟨3, ![4, 8192, 512]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩
abbrev S32768x3072 : Shape := ⟨2, ![32768, 3072]⟩

abbrev nBuf : Space → Nat
  | .hbm => 102
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S8192x2048, .bf16⟩
  | .hbm, ⟨2, _⟩ => ⟨S512x1024, .bf16⟩
  | .hbm, ⟨3, _⟩ => ⟨S512x1024, .bf16⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S1024x3072, .bf16⟩
  | .hbm, ⟨13, _⟩ => ⟨S8192x4x512, .bf16⟩
  | .hbm, ⟨14, _⟩ => ⟨S4x8192x512, .bf16⟩
  | .hbm, ⟨15, _⟩ => ⟨S32768x512, .bf16⟩
  | .hbm, ⟨16, _⟩ => ⟨S32768x1024, .bf16⟩
  | .hbm, ⟨17, _⟩ => ⟨S32768x1024, .f32⟩
  | .hbm, ⟨18, _⟩ => ⟨S1024x1024, .bf16⟩
  | .hbm, ⟨19, _⟩ => ⟨S1024x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S1024x2816, .f32⟩
  | .hbm, ⟨53, _⟩ => ⟨S1024x2816, .f32⟩
  | .hbm, ⟨54, _⟩ => ⟨S2816x1024, .f32⟩
  | .hbm, ⟨55, _⟩ => ⟨S32768x2816, .f32⟩
  | .hbm, ⟨56, _⟩ => ⟨S32768x2816, .f32⟩
  | .hbm, ⟨57, _⟩ => ⟨S32768x2816, .f32⟩
  | .hbm, ⟨58, _⟩ => ⟨S_, .f32⟩
  | .hbm, ⟨59, _⟩ => ⟨S32768x2816, .f32⟩
  | .hbm, ⟨60, _⟩ => ⟨S32768x2816, .f32⟩
  | .hbm, ⟨61, _⟩ => ⟨S_, .f32⟩
  | .hbm, ⟨62, _⟩ => ⟨S32768x2816, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S32768x2816, .f32⟩
  | .hbm, ⟨67, _⟩ => ⟨S32768x1024, .f32⟩
  | .hbm, ⟨68, _⟩ => ⟨S_, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S_, .f32⟩
  | .hbm, ⟨82, _⟩ => ⟨S32768, .f32⟩
  | .hbm, ⟨83, _⟩ => ⟨S32768x1, .f32⟩
  | .hbm, ⟨84, _⟩ => ⟨S_, .f32⟩
  | .hbm, ⟨85, _⟩ => ⟨S32768x1, .f32⟩
  | .hbm, ⟨86, _⟩ => ⟨S32768x1, .f32⟩
  | .hbm, ⟨87, _⟩ => ⟨S32768x1024, .f32⟩
  | .hbm, ⟨88, _⟩ => ⟨S32768x1024, .f32⟩
  | .hbm, ⟨89, _⟩ => ⟨S_, .f32⟩
  | .hbm, ⟨90, _⟩ => ⟨S32768x1, .f32⟩
  | .hbm, ⟨91, _⟩ => ⟨S32768x1, .f32⟩
  | .hbm, ⟨92, _⟩ => ⟨S32768x1, .f32⟩
  | .hbm, ⟨93, _⟩ => ⟨S32768x1024, .f32⟩
  | .hbm, ⟨94, _⟩ => ⟨S32768x1024, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S32768x1024, .f32⟩
  | .hbm, ⟨99, _⟩ => ⟨S1024x3072, .f32⟩
  | .hbm, ⟨100, _⟩ => ⟨S32768x3072, .f32⟩
  | .hbm, ⟨101, _⟩ => ⟨S32768x3072, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]
-- ==== Odd.lean ====
abbrev S32768x1024 : Shape := ⟨2, ![32768, 1024]⟩
abbrev S1024x3072 : Shape := ⟨2, ![1024, 3072]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S32768x3072 : Shape := ⟨2, ![32768, 3072]⟩
abbrev S1024x512 : Shape := ⟨2, ![1024, 512]⟩
abbrev S4x8192x3072 : Shape := ⟨3, ![4, 8192, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4x8192x1024 : Shape := ⟨3, ![4, 8192, 1024]⟩
abbrev S1x512x128 : Shape := ⟨3, ![1, 512, 128]⟩
abbrev S1x8192x128 : Shape := ⟨3, ![1, 8192, 128]⟩
abbrev S1024x128 : Shape := ⟨2, ![1024, 128]⟩
abbrev S256x128 : Shape := ⟨2, ![256, 128]⟩
abbrev S1x256x128 : Shape := ⟨3, ![1, 256, 128]⟩
abbrev S512x128 : Shape := ⟨2, ![512, 128]⟩
abbrev S512x256 : Shape := ⟨2, ![512, 256]⟩
abbrev S512x1 : Shape := ⟨2, ![512, 1]⟩
abbrev S1024x256 : Shape := ⟨2, ![1024, 256]⟩
abbrev S1024x1 : Shape := ⟨2, ![1024, 1]⟩
abbrev S1 : Shape := ⟨1, ![1]⟩
abbrev S1x1x1 : Shape := ⟨3, ![1, 1, 1]⟩
abbrev S512x1024 : Shape := ⟨2, ![512, 1024]⟩
abbrev S512 : Shape := ⟨1, ![512]⟩
abbrev S256x1024 : Shape := ⟨2, ![256, 1024]⟩

abbrev nBuf : Space → Nat
  | .hbm => 38
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S1024x3072, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x3072, .bf16⟩
  | .hbm, ⟨11, _⟩ => ⟨S4x8192x3072, .bf16⟩
  | .hbm, ⟨12, _⟩ => ⟨S256, .i32⟩
  | .hbm, ⟨13, _⟩ => ⟨S256x1, .i32⟩
  | .hbm, ⟨14, _⟩ => ⟨S1x256, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S_, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S1x256, .i32⟩
  | .hbm, ⟨25, _⟩ => ⟨S256x1, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S4x8192x1024, .bf16⟩
  | .hbm, ⟨36, _⟩ => ⟨S32768x1024, .bf16⟩
  | .hbm, ⟨37, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | .local _ .vmem, ⟨5, _⟩ => ⟨S1x512x128, .bf16⟩
  | .local _ .vmem, ⟨6, _⟩ => ⟨S1x512x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S256x256, .bf16⟩
  | .local _ .vmem, ⟨12, _⟩ => ⟨S256x256, .f32⟩
  | .local _ .vmem, ⟨13, _⟩ => ⟨S1x512x128, .bf16⟩
  | .local _ .vmem, ⟨14, _⟩ => ⟨S1x512x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S1x1024, .f32⟩
  | .local _ .vmem, ⟨25, _⟩ => ⟨S1024x2816, .bf16⟩
  | .local _ .vmem, ⟨26, _⟩ => ⟨S1024x2816, .bf16⟩
  | .local _ .vmem, ⟨27, _⟩ => ⟨S2816x1024, .bf16⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg10_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem10_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 16], ![false, false, false]⟩

def k1_mult1 (i : grid1.Coords) : BitVec 32 :=
  let c2_i32 : BitVec 32 := 2#32
  let arg2 : BitVec 32 := BitVec.ofNat 32 (i 2).val
  let v43 : BitVec 32 := Scalar.muli c2_i32 arg2
  let c1_i32 : BitVec 32 := 1#32
  let v44 : BitVec 32 := Scalar.addi v43 c1_i32
  let c256_i32 : BitVec 32 := 256#32
  let v45 : BitVec 32 := Scalar.muli v44 c256_i32
  v45
def k1_off1 (i : grid1.Coords) : Fin 3 → Nat :=
  let c0_22 : Index := 0#32
  let c2_i32 : BitVec 32 := 2#32
  let arg2 : BitVec 32 := BitVec.ofNat 32 (i 2).val
  let v43 : BitVec 32 := Scalar.muli c2_i32 arg2
  let c1_i32 : BitVec 32 := 1#32
  let v44 : BitVec 32 := Scalar.addi v43 c1_i32
  let c256_i32 : BitVec 32 := 256#32
  let v45 : BitVec 32 := Scalar.muli v44 c256_i32
  let v46 : BitVec 32 := v45
  let v47 : Index := Scalar.indexCast v46
  let c0_23 : Index := 0#32
  ![0, v47.toNat, 0]
def k1_mult2 (i : grid1.Coords) : BitVec 32 :=
  let c2_i32_53 : BitVec 32 := 2#32
  let arg2 : BitVec 32 := BitVec.ofNat 32 (i 2).val
  let v105 : BitVec 32 := Scalar.muli c2_i32_53 arg2
  let c256_i32_54 : BitVec 32 := 256#32
  let v106 : BitVec 32 := Scalar.muli v105 c256_i32_54
  v106
def k1_off2 (i : grid1.Coords) : Fin 3 → Nat :=
  let c0_55 : Index := 0#32
  let c2_i32_53 : BitVec 32 := 2#32
  let arg2 : BitVec 32 := BitVec.ofNat 32 (i 2).val
  let v105 : BitVec 32 := Scalar.muli c2_i32_53 arg2
  let c256_i32_54 : BitVec 32 := 256#32
  let v106 : BitVec 32 := Scalar.muli v105 c256_i32_54
  let v107 : BitVec 32 := v106
  let v108 : Index := Scalar.indexCast v107
  let c0_56 : Index := 0#32
  ![0, v108.toNat, 0]
def k1_mult3 (i : grid1.Coords) : BitVec 32 :=
  let c2_i32_86 : BitVec 32 := 2#32
  let arg2 : BitVec 32 := BitVec.ofNat 32 (i 2).val
  let v172 : BitVec 32 := Scalar.muli c2_i32_86 arg2
  let c1_i32_87 : BitVec 32 := 1#32
  let v173 : BitVec 32 := Scalar.subi v172 c1_i32_87
  let c0_i32 : BitVec 32 := 0#32
  let v174 : BitVec 32 := Scalar.maxsi v173 c0_i32
  let c256_i32_89 : BitVec 32 := 256#32
  let v178 : BitVec 32 := Scalar.muli v174 c256_i32_89
  v178
def k1_off3 (i : grid1.Coords) : Fin 3 → Nat :=
  let c0_90 : Index := 0#32
  let c2_i32_86 : BitVec 32 := 2#32
  let arg2 : BitVec 32 := BitVec.ofNat 32 (i 2).val
  let v172 : BitVec 32 := Scalar.muli c2_i32_86 arg2
  let c1_i32_87 : BitVec 32 := 1#32
  let v173 : BitVec 32 := Scalar.subi v172 c1_i32_87
  let c0_i32 : BitVec 32 := 0#32
  let v174 : BitVec 32 := Scalar.maxsi v173 c0_i32
  let c256_i32_89 : BitVec 32 := 256#32
  let v178 : BitVec 32 := Scalar.muli v174 c256_i32_89
  let v179 : BitVec 32 := v178
  let v180 : Index := Scalar.indexCast v179
  let c0_91 : Index := 0#32
  ![0, v180.toNat, 0]
def k1_mult4 (i : grid1.Coords) : BitVec 32 :=
  let c2_i32_145 : BitVec 32 := 2#32
  let arg2 : BitVec 32 := BitVec.ofNat 32 (i 2).val
  let v274 : BitVec 32 := Scalar.muli c2_i32_145 arg2
  let c1_i32_146 : BitVec 32 := 1#32
  let v275 : BitVec 32 := Scalar.subi v274 c1_i32_146
  let c256_i32_147 : BitVec 32 := 256#32
  let v276 : BitVec 32 := Scalar.muli v275 c256_i32_147
  v276
def k1_off4 (i : grid1.Coords) : Fin 3 → Nat :=
  let c0_148 : Index := 0#32
  let c2_i32_145 : BitVec 32 := 2#32
  let arg2 : BitVec 32 := BitVec.ofNat 32 (i 2).val
  let v274 : BitVec 32 := Scalar.muli c2_i32_145 arg2
  let c1_i32_146 : BitVec 32 := 1#32
  let v275 : BitVec 32 := Scalar.subi v274 c1_i32_146
  let c256_i32_147 : BitVec 32 := 256#32
  let v276 : BitVec 32 := Scalar.muli v275 c256_i32_147
  let v277 : BitVec 32 := v276
  let v278 : Index := Scalar.indexCast v277
  let c0_149 : Index := 0#32
  ![0, v278.toNat, 0]
def k1_cond1 (i : grid1.Coords) (v236 : BitVec 1) : BitVec 1 :=
  let arg2 : BitVec 32 := BitVec.ofNat 32 (i 2).val
  let c0_i32_113 : BitVec 32 := 0#32
  let v230 : BitVec 1 := Scalar.cmpi .sgt arg2 c0_i32_113
  let v237 : BitVec 1 := Scalar.andi v230 v236
  let v238 : BitVec 32 := Scalar.extui v237
  let c0_i32_118 : BitVec 32 := 0#32
  let v239 : BitVec 1 := Scalar.cmpi .ne v238 c0_i32_118
  v239

def k1_chk1 (i : grid1.Coords) (v236 : BitVec 1) : Prop :=
  (∀ (k1_h1 : k1_cond1 i v236 = 1#1), ∀ a, (k1_off4 i) a + S1x256x128.size a ≤ S1x8192x128.size a)
theorem k1_off4_inb : ∀ (i : grid1.Coords) (v236 : BitVec 1) (k1_hw1 : k1_chk1 i v236), ∀ (k1_h1 : k1_cond1 i v236 = 1#1), ∀ a, (k1_off4 i) a + S1x256x128.size a ≤ S1x8192x128.size a := fun i v236 k1_hw1 k1_h1 => k1_hw1 k1_h1

def k1_mult5 (arg12 : BitVec 32) : BitVec 32 :=
  let c256_i32_145 : BitVec 32 := 256#32
  let v274 : BitVec 32 := Scalar.muli arg12 c256_i32_145
  v274

def k1_off5 (arg12 : BitVec 32) : Fin 3 → Nat :=
  let c0_146 : Index := 0#32
  let c256_i32_145 : BitVec 32 := 256#32
  let v274 : BitVec 32 := Scalar.muli arg12 c256_i32_145
  let v275 : BitVec 32 := v274
  let v276 : Index := Scalar.indexCast v275
  let c0_147 : Index := 0#32
  ![0, v276.toNat, 0]

def k1_chk2 (arg12 : BitVec 32) : Prop :=
  (256 ∣ (k1_mult5 arg12).toNat) ∧
  (∀ a, (k1_off5 arg12) a + S1x256x128.size a ≤ S1x8192x128.size a)
theorem k1_mult5_dvd : ∀ (arg12 : BitVec 32) (k1_hw2 : k1_chk2 arg12), 256 ∣ (k1_mult5 arg12).toNat := fun arg12 k1_hw2 => k1_hw2.1
theorem k1_off5_inb : ∀ (arg12 : BitVec 32) (k1_hw2 : k1_chk2 arg12), ∀ a, (k1_off5 arg12) a + S1x256x128.size a ≤ S1x8192x128.size a := fun arg12 k1_hw2 => k1_hw2.2

def k1_mult6 (arg12 : BitVec 32) : BitVec 32 :=
  let c256_i32_145 : BitVec 32 := 256#32
  let v274 : BitVec 32 := Scalar.muli arg12 c256_i32_145
  v274

def k1_off6 (arg12 : BitVec 32) : Fin 3 → Nat :=
  let c0_146 : Index := 0#32
  let c256_i32_145 : BitVec 32 := 256#32
  let v274 : BitVec 32 := Scalar.muli arg12 c256_i32_145
  let v275 : BitVec 32 := v274
  let v276 : Index := Scalar.indexCast v275
  let c0_147 : Index := 0#32
  ![0, v276.toNat, 0]

def k1_chk3 (arg12 : BitVec 32) : Prop :=
  (256 ∣ (k1_mult6 arg12).toNat) ∧
  (∀ a, (k1_off6 arg12) a + S1x256x128.size a ≤ S1x8192x128.size a)
theorem k1_mult6_dvd : ∀ (arg12 : BitVec 32) (k1_hw3 : k1_chk3 arg12), 256 ∣ (k1_mult6 arg12).toNat := fun arg12 k1_hw3 => k1_hw3.1
theorem k1_off6_inb : ∀ (arg12 : BitVec 32) (k1_hw3 : k1_chk3 arg12), ∀ a, (k1_off6 arg12) a + S1x256x128.size a ≤ S1x8192x128.size a := fun arg12 k1_hw3 => k1_hw3.2

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2816 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x2816 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2816x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S512x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== OddIdeal.lean ====
variable {F : FTy → Type} [FloatOps F] [Named F]
def κ : String → Option EReal := fun
  | "exp_zero_below" => some ⊥
  | "log2e" => some (((Real.log 2)⁻¹ : ℝ) : EReal)
  | _ => none
-- ==== OddRefIdeal.lean ====
abbrev S32768x1024 : Shape := ⟨2, ![32768, 1024]⟩
abbrev S1024x3072 : Shape := ⟨2, ![1024, 3072]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S32768x3072 : Shape := ⟨2, ![32768, 3072]⟩
abbrev S4x8192x3072 : Shape := ⟨3, ![4, 8192, 3072]⟩
abbrev S4x8192x1024 : Shape := ⟨3, ![4, 8192, 1024]⟩
abbrev S4x8192x16x64 : Shape := ⟨4, ![4, 8192, 16, 64]⟩
abbrev S4x16x8192x64 : Shape := ⟨4, ![4, 16, 8192, 64]⟩
abbrev S4x16x8192x8192 : Shape := ⟨4, ![4, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x16x8192x8191 : Shape := ⟨4, ![4, 16, 8192, 8191]⟩
abbrev S4x16x8192x1 : Shape := ⟨4, ![4, 16, 8192, 1]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 173
  | .vmem => 0
  | .smem => 0
  | _ => 0

abbrev hbmTy0_0 (i : Nat) : BufTy := match i % 128 with
  | 0 => ⟨S32768x1024, .f32⟩
  | 1 => ⟨S1024x3072, .bf16⟩
  | 2 => ⟨S1024x1024, .bf16⟩
  | 3 => ⟨S1x1024, .f32⟩
  | 4 => ⟨S1x1024, .f32⟩
  | 5 => ⟨S1024x2816, .bf16⟩
  | 6 => ⟨S1024x2816, .bf16⟩
  | 7 => ⟨S2816x1024, .bf16⟩
  | 8 => ⟨S1x1024, .f32⟩
  | 9 => ⟨S1x1024, .f32⟩
  | 10 => ⟨S1024x3072, .f32⟩
  | 11 => ⟨S32768x3072, .f32⟩
  | 12 => ⟨S32768x3072, .bf16⟩
  | 13 => ⟨S4x8192x3072, .bf16⟩
  | 14 => ⟨S4x8192x3072, .f32⟩
  | 15 => ⟨S4x8192x1024, .f32⟩
  | 16 => ⟨S4x8192x1024, .f32⟩
  | 17 => ⟨S4x8192x1024, .f32⟩
  | 18 => ⟨S4x8192x16x64, .f32⟩
  | 19 => ⟨S4x16x8192x64, .f32⟩
  | 20 => ⟨S4x8192x16x64, .f32⟩
  | 21 => ⟨S4x16x8192x64, .f32⟩
  | 22 => ⟨S4x8192x16x64, .f32⟩
  | 23 => ⟨S4x16x8192x64, .f32⟩
  | 24 => ⟨S4x16x8192x8192, .f32⟩
  | 25 => ⟨S_, .f32⟩
  | 26 => ⟨S4x16x8192x8192, .f32⟩
  | 27 => ⟨S4x16x8192x8192, .f32⟩
  | 28 => ⟨S8192, .i32⟩
  | 29 => ⟨S1x8192, .i32⟩
  | 30 => ⟨S8192x1, .i32⟩
  | 31 => ⟨S8192x8192, .i32⟩
  | 32 => ⟨S8192x8192, .i32⟩
  | 33 => ⟨S8192x8192, .i1⟩
  | 34 => ⟨S4x16x8192x8192, .f32⟩
  | 35 => ⟨S4x16x8192x8192, .f32⟩
  | 36 => ⟨S_, .f32⟩
  | 37 => ⟨S4x16x8192x8192, .f32⟩
  | 38 => ⟨S4x16x8192x8192, .f32⟩
  | 39 => ⟨S4x16x8192x8192, .f32⟩
  | 40 => ⟨S4x16x8192x8192, .f32⟩
  | 41 => ⟨S4x16x8192x8192, .i1⟩
  | 42 => ⟨S4x16x8192x8192, .f32⟩
  | 43 => ⟨S4x16x8192x8192, .f32⟩
  | 44 => ⟨S4x16x8192x8192, .f32⟩
  | 45 => ⟨S4x16x8192x8192, .f32⟩
  | 46 => ⟨S4x16x8192x8192, .f32⟩
  | 47 => ⟨S4x16x8192x8192, .f32⟩
  | 48 => ⟨S4x16x8192x8192, .f32⟩
  | 49 => ⟨S4x16x8192x8192, .f32⟩
  | 50 => ⟨S4x16x8192x8192, .f32⟩
  | 51 => ⟨S_, .f32⟩
  | 52 => ⟨S_, .f32⟩
  | 53 => ⟨S4x16x8192x8192, .i1⟩
  | 54 => ⟨S4x16x8192x8192, .f32⟩
  | 55 => ⟨S4x16x8192x8192, .f32⟩
  | 56 => ⟨S_, .f32⟩
  | 57 => ⟨S_, .f32⟩
  | 58 => ⟨S4x16x8192x8192, .f32⟩
  | 59 => ⟨S4x16x8192x8191, .f32⟩
  | 60 => ⟨S4x16x8192x1, .f32⟩
  | 61 => ⟨S_, .f32⟩
  | 62 => ⟨S4x16x8192x1, .f32⟩
  | 63 => ⟨S4x16x8192x8192, .f32⟩
  | 64 => ⟨S4x16x8192x8192, .f32⟩
  | 65 => ⟨S_, .f32⟩
  | 66 => ⟨S4x16x8192x8192, .f32⟩
  | 67 => ⟨S4x16x8192x8192, .f32⟩
  | 68 => ⟨S4x16x8192x8192, .f32⟩
  | 69 => ⟨S4x16x8192x8192, .f32⟩
  | 70 => ⟨S4x16x8192x8192, .i1⟩
  | 71 => ⟨S4x16x8192x8192, .f32⟩
  | 72 => ⟨S4x16x8192x8192, .f32⟩
  | 73 => ⟨S4x16x8192x8192, .f32⟩
  | 74 => ⟨S4x16x8192x8192, .f32⟩
  | 75 => ⟨S4x16x8192x8192, .f32⟩
  | 76 => ⟨S4x16x8192x8192, .f32⟩
  | 77 => ⟨S4x16x8192x8192, .f32⟩
  | 78 => ⟨S4x16x8192x8192, .f32⟩
  | 79 => ⟨S4x16x8192x8192, .f32⟩
  | 80 => ⟨S4x16x8192x8192, .f32⟩
  | 81 => ⟨S4x16x8192x8192, .f32⟩
  | 82 => ⟨S_, .f32⟩
  | 83 => ⟨S_, .f32⟩
  | 84 => ⟨S4x16x8192x8192, .i1⟩
  | 85 => ⟨S4x16x8192x8192, .f32⟩
  | 86 => ⟨S4x16x8192x8192, .f32⟩
  | 87 => ⟨S4x16x8192x64, .f32⟩
  | 88 => ⟨S4x8192x16x64, .f32⟩
  | 89 => ⟨S4x8192x1024, .f32⟩
  | 90 => ⟨S4x8192x1024, .bf16⟩
  | 91 => ⟨S32768x1024, .bf16⟩
  | 92 => ⟨S32768x1024, .f32⟩
  | 93 => ⟨S1024x1024, .f32⟩
  | 94 => ⟨S32768x1024, .f32⟩
  | 95 => ⟨S_, .f32⟩
  | 96 => ⟨S32768x1024, .f32⟩
  | 97 => ⟨S32768x1024, .f32⟩
  | 98 => ⟨S32768x1024, .f32⟩
  | 99 => ⟨S_, .f32⟩
  | 100 => ⟨S32768, .f32⟩
  | 101 => ⟨S32768x1, .f32⟩
  | 102 => ⟨S_, .f32⟩
  | 103 => ⟨S32768x1, .f32⟩
  | 104 => ⟨S32768x1, .f32⟩
  | 105 => ⟨S32768x1024, .f32⟩
  | 106 => ⟨S32768x1024, .f32⟩
  | 107 => ⟨S32768x1024, .f32⟩
  | 108 => ⟨S_, .f32⟩
  | 109 => ⟨S32768, .f32⟩
  | 110 => ⟨S32768x1, .f32⟩
  | 111 => ⟨S_, .f32⟩
  | 112 => ⟨S32768x1, .f32⟩
  | 113 => ⟨S32768x1, .f32⟩
  | 114 => ⟨S32768x1024, .f32⟩
  | 115 => ⟨S32768x1024, .f32⟩
  | 116 => ⟨S_, .f32⟩
  | 117 => ⟨S32768x1, .f32⟩
  | 118 => ⟨S32768x1, .f32⟩
  | 119 => ⟨S32768x1, .f32⟩
  | 120 => ⟨S32768x1024, .f32⟩
  | 121 => ⟨S32768x1024, .f32⟩
  | 122 => ⟨S32768x1024, .f32⟩
  | 123 => ⟨S32768x1024, .f32⟩
  | 124 => ⟨S32768x1024, .f32⟩
  | 125 => ⟨S32768x1024, .f32⟩
  | 126 => ⟨S1024x2816, .f32⟩
  | 127 => ⟨S1024x2816, .f32⟩
  | _ => ⟨S32768x1024, .f32⟩

abbrev hbmTy0_1 (i : Nat) : BufTy := match i % 128 with
  | 0 => ⟨S2816x1024, .f32⟩
  | 1 => ⟨S32768x2816, .f32⟩
  | 2 => ⟨S32768x2816, .f32⟩
  | 3 => ⟨S32768x2816, .f32⟩
  | 4 => ⟨S_, .f32⟩
  | 5 => ⟨S32768x2816, .f32⟩
  | 6 => ⟨S32768x2816, .f32⟩
  | 7 => ⟨S_, .f32⟩
  | 8 => ⟨S32768x2816, .f32⟩
  | 9 => ⟨S32768x2816, .f32⟩
  | 10 => ⟨S32768x2816, .f32⟩
  | 11 => ⟨S32768x2816, .f32⟩
  | 12 => ⟨S32768x2816, .f32⟩
  | 13 => ⟨S32768x1024, .f32⟩
  | 14 => ⟨S_, .f32⟩
  | 15 => ⟨S32768x1024, .f32⟩
  | 16 => ⟨S32768x1024, .f32⟩
  | 17 => ⟨S32768x1024, .f32⟩
  | 18 => ⟨S_, .f32⟩
  | 19 => ⟨S32768, .f32⟩
  | 20 => ⟨S32768x1, .f32⟩
  | 21 => ⟨S_, .f32⟩
  | 22 => ⟨S32768x1, .f32⟩
  | 23 => ⟨S32768x1, .f32⟩
  | 24 => ⟨S32768x1024, .f32⟩
  | 25 => ⟨S32768x1024, .f32⟩
  | 26 => ⟨S32768x1024, .f32⟩
  | 27 => ⟨S_, .f32⟩
  | 28 => ⟨S32768, .f32⟩
  | 29 => ⟨S32768x1, .f32⟩
  | 30 => ⟨S_, .f32⟩
  | 31 => ⟨S32768x1, .f32⟩
  | 32 => ⟨S32768x1, .f32⟩
  | 33 => ⟨S32768x1024, .f32⟩
  | 34 => ⟨S32768x1024, .f32⟩
  | 35 => ⟨S_, .f32⟩
  | 36 => ⟨S32768x1, .f32⟩
  | 37 => ⟨S32768x1, .f32⟩
  | 38 => ⟨S32768x1, .f32⟩
  | 39 => ⟨S32768x1024, .f32⟩
  | 40 => ⟨S32768x1024, .f32⟩
  | 41 => ⟨S32768x1024, .f32⟩
  | 42 => ⟨S32768x1024, .f32⟩
  | 43 => ⟨S32768x1024, .f32⟩
  | 44 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v24 : Ref sig .tc := ⟨.hbm, 50, rfl⟩
abbrev main_cst_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v25 : Ref sig .tc := ⟨.hbm, 55, rfl⟩
abbrev main_call2_cst : Ref sig .tc := ⟨.hbm, 56, rfl⟩
abbrev main_call2_v0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_1 : Ref sig .tc := ⟨.hbm, 61, rfl⟩
abbrev main_v29 : Ref sig .tc := ⟨.hbm, 62, rfl⟩
abbrev main_v30 : Ref sig .tc := ⟨.hbm, 63, rfl⟩
abbrev main_call3_v0 : Ref sig .tc := ⟨.hbm, 64, rfl⟩
abbrev main_call3_call0_cst : Ref sig .tc := ⟨.hbm, 65, rfl⟩
abbrev main_call3_call0_v0 : Ref sig .tc := ⟨.hbm, 66, rfl⟩
abbrev main_call3_call0_v1 : Ref sig .tc := ⟨.hbm, 67, rfl⟩
abbrev main_call3_call0_v2 : Ref sig .tc := ⟨.hbm, 68, rfl⟩
abbrev main_call3_call0_v3 : Ref sig .tc := ⟨.hbm, 69, rfl⟩
abbrev main_call3_call0_v4 : Ref sig .tc := ⟨.hbm, 70, rfl⟩
abbrev main_call3_call0_v5 : Ref sig .tc := ⟨.hbm, 71, rfl⟩
abbrev main_call3_call0_v6 : Ref sig .tc := ⟨.hbm, 72, rfl⟩
abbrev main_call3_call0_v7 : Ref sig .tc := ⟨.hbm, 73, rfl⟩
abbrev main_call3_call0_v8 : Ref sig .tc := ⟨.hbm, 74, rfl⟩
abbrev main_call3_call0_v9 : Ref sig .tc := ⟨.hbm, 75, rfl⟩
abbrev main_call3_call0_v10 : Ref sig .tc := ⟨.hbm, 76, rfl⟩
abbrev main_call3_call0_v11 : Ref sig .tc := ⟨.hbm, 77, rfl⟩
abbrev main_call3_v1 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_cst_2 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_3 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_4 : Ref sig .tc := ⟨.hbm, 99, rfl⟩
abbrev main_v46 : Ref sig .tc := ⟨.hbm, 100, rfl⟩
abbrev main_v47 : Ref sig .tc := ⟨.hbm, 101, rfl⟩
abbrev main_cst_5 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_6 : Ref sig .tc := ⟨.hbm, 108, rfl⟩
abbrev main_v53 : Ref sig .tc := ⟨.hbm, 109, rfl⟩
abbrev main_v54 : Ref sig .tc := ⟨.hbm, 110, rfl⟩
abbrev main_cst_7 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_8 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_call5_v0 : Ref sig .tc := ⟨.hbm, 130, rfl⟩
abbrev main_call5_v1 : Ref sig .tc := ⟨.hbm, 131, rfl⟩
abbrev main_call5_cst : Ref sig .tc := ⟨.hbm, 132, rfl⟩
abbrev main_call5_v2 : Ref sig .tc := ⟨.hbm, 133, rfl⟩
abbrev main_call5_v3 : Ref sig .tc := ⟨.hbm, 134, rfl⟩
abbrev main_call5_cst_0 : Ref sig .tc := ⟨.hbm, 135, rfl⟩
abbrev main_call5_v4 : Ref sig .tc := ⟨.hbm, 136, rfl⟩
abbrev main_call5_v5 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_9 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_10 : Ref sig .tc := ⟨.hbm, 146, rfl⟩
abbrev main_v79 : Ref sig .tc := ⟨.hbm, 147, rfl⟩
abbrev main_v80 : Ref sig .tc := ⟨.hbm, 148, rfl⟩
abbrev main_cst_11 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_cst_12 : Ref sig .tc := ⟨.hbm, 155, rfl⟩
abbrev main_v86 : Ref sig .tc := ⟨.hbm, 156, rfl⟩
abbrev main_v87 : Ref sig .tc := ⟨.hbm, 157, rfl⟩
abbrev main_cst_13 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_cst_14 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩

abbrev nD : Nat := 1
abbrev τ : Topo := Topo.v7x

variable {F : FTy → Type} [FloatOps F]
-- ==== Proof.Own.lean ====
/-
  Loads and stores of a memref that a core owns, stated at what the memref READS: a load through a rectangle
  returns the contents at the rectangle's indices and leaves them, a store leaves the contents with the rectangle's
  part replaced. And what a list of stores that cover the memref leaves: nothing of what it held before.
-/
module

public import Idealize.ShloMosaic.Lib.Pipeline.FrameBody
public import Idealize.ShloMosaic.Lib.Pipeline.TableIdle

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} [∀ e, Nonempty (Val e)] {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- The contents after one write are the earlier contents with the rectangle's part replaced. -/
theorem read_write_eq_overlay {κ : Kind} {sp : Space} (v : View sig κ sp s e) (f : v.ty.Contents Val) (r : Rect s)
    (w : r.shape.Idx → Val e) : v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_apply_of_forall_not_mem v f y _ (fun p hp => by
      rw [List.mem_singleton] at hp; subst hp; exact hy)

/-- A load of an owned memref: the program continues at the contents' part, the memref owned as before. -/
theorem load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X)
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  iapply (wp_load 𝒱 c bd E (m := m) (r := r.toLoadRect) (View.setOn_subset_set _ _)) $$ H
  iintro H
  iapply Hk
  iexists f; isplitr; · ipureintro; rfl
  iexact H

/-- A store to an owned memref: the program continues with the rectangle's part of the contents replaced. -/
theorem store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store_writes₀ 𝒱 c bd E (m := m) (r := r) (w := w) (View.set_slice_subset _ _)) $$ H
  iintro H
  iapply Hk
  iexists _; isplitr; · ipureintro; exact read_write_eq_overlay _ _ _ _
  iexact H

/-- Owned contents may be named otherwise. -/
theorem cast {cs : CoreSpace} {m : Memref sig c.2.kind cs s e} {q : PosShare TreeShare} {X : s.Idx → Val e} (Y : s.Idx → Val e)
    (h : X = Y) {P : sProp (MT nD τ sig Ix Val Name U Lvl)} :
    (owns c m q X) ⊢ iprop((owns c m q Y -∗ P) -∗ P) := by
  subst h
  iintro H Hk
  iapply Hk; iexact H

/-- A branch at the head of a program whose condition holds, or does not. -/
theorem branch_pos {β : Type} {C : Prop} [Decidable C] {A : C → Prog (TpuEff nD τ sig Val Λ c.2) β}
    {B : ¬ C → Prog (TpuEff nD τ sig Val Λ c.2) β} {k : β → Prog (TpuEff nD τ sig Val Λ c.2) α} (h : C) :
    wp frame (wpE defs 𝒱 c bd) E (A h >>= k) Q ⊢ wp frame (wpE defs 𝒱 c bd) E ((if h : C then A h else B h) >>= k) Q := by
  rw [dif_pos h]

theorem branch_neg {β : Type} {C : Prop} [Decidable C] {A : C → Prog (TpuEff nD τ sig Val Λ c.2) β}
    {B : ¬ C → Prog (TpuEff nD τ sig Val Λ c.2) β} {k : β → Prog (TpuEff nD τ sig Val Λ c.2) α} (h : ¬ C) :
    wp frame (wpE defs 𝒱 c bd) E (B h >>= k) Q ⊢ wp frame (wpE defs 𝒱 c bd) E ((if h : C then A h else B h) >>= k) Q := by
  rw [dif_neg h]

/-- The contents after a list of stores, last first, over contents `X`. -/
def ovl (X : s.Idx → Val e) : List (View.Piece Val s e) → s.Idx → Val e
  | [] => X
  | p :: L => p.1.overlay (ovl X L) p.2

/-- Where the stores cover, what was there before is gone. -/
theorem ovl_eq_canon (X : s.Idx → Val e) (L : List (View.Piece Val s e)) (h : ∀ y, ∃ p ∈ L, y ∈ p.1.set) :
    ovl X L = View.canon L := by
  funext y
  have key : ∀ L : List (View.Piece Val s e), (∃ p ∈ L, y ∈ p.1.set) → ovl X L y = View.canon L y := by
    intro L
    induction L with
    | nil => rintro ⟨_, hm, _⟩; exact absurd hm List.not_mem_nil
    | cons p L ih =>
      intro h
      obtain ⟨r, w⟩ := p
      by_cases hy : y ∈ r.set
      · obtain ⟨x, rfl⟩ : ∃ x, r.emb x = y := r.exists_idx_of_mem hy
        rw [View.canon_cons_emb]; exact r.overlay_emb _ _ x
      · rw [View.canon_cons_of_not_mem _ _ hy]
        refine (r.overlay_of_not_mem _ _ hy).trans (ih ?_)
        obtain ⟨p', hm, hy'⟩ := h
        rcases List.mem_cons.mp hm with rfl | hm
        · exact absurd hy' hy
        · exact ⟨p', hm, hy'⟩
  exact key L (h y)

end Cert.Own

end
-- ==== Proof.OdI.First.lean ====
/-
  The first call of the layer, the projection: what its body leaves in each window, and the obligation of its body at
  every grid point, from any contents of the buffers.
-/
module

public import proofs.«01_k».proof.Proof.Gen.OddIdeal.Launch
public import proofs.«01_k».proof.Proof.Gen.OddIdeal.Skeleton
public import proofs.«01_k».proof.Proof.Gen.OddIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

set_option maxRecDepth 16384

noncomputable section

namespace Cert.OddIdeal.First

open Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/- What the buffers hold where the region begins. -/
variable (V : (c : Dev nD) → (b : Ref sig .tc) → Buf (Elt F) ((c : Thread nD τ).loc b))

def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V c (Pipeline.arrRef spec0 w))

abbrev r0_0 : Rect S1024x1024 := Rect.unit (s := S1024x1024) ![0, 0] S1024x1024.size inb_S1024x1024_S1024x1024_0_0
abbrev r0_1 : Rect S1024x3072 := Rect.unit (s := S1024x3072) ![0, 0] S1024x512.size inb_S1024x3072_S1024x512_0_0
abbrev r0_2 : Rect S1024x3072 := Rect.unit (s := S1024x3072) ![0, 512] S1024x512.size inb_S1024x3072_S1024x512_0_512
abbrev r0_3 : Rect S1024x3072 := Rect.unit (s := S1024x3072) ![0, 1024] S1024x512.size inb_S1024x3072_S1024x512_0_1024
abbrev r0_4 : Rect S1024x3072 := Rect.unit (s := S1024x3072) ![0, 1536] S1024x512.size inb_S1024x3072_S1024x512_0_1536
abbrev r0_5 : Rect S1024x3072 := Rect.unit (s := S1024x3072) ![0, 2048] S1024x512.size inb_S1024x3072_S1024x512_0_2048
abbrev r0_6 : Rect S1024x3072 := Rect.unit (s := S1024x3072) ![0, 2560] S1024x512.size inb_S1024x3072_S1024x512_0_2560

def out0_2 (x0 : Vec F S1024x1024 .f32) (x1 : Vec F S1024x3072 .bf16) : Vec F S1024x3072 .bf16 :=
  View.canon [⟨r0_6, k0_pay1 (k0_pay8 (View.ld x0 r0_0) (View.ld x1 r0_6))⟩,
    ⟨r0_5, k0_pay7 (View.ld x0 r0_0) (View.ld x1 r0_5)⟩,
    ⟨r0_4, k0_pay6 (View.ld x0 r0_0) (View.ld x1 r0_4)⟩,
    ⟨r0_3, k0_pay5 (View.ld x0 r0_0) (View.ld x1 r0_3)⟩,
    ⟨r0_2, k0_pay4 (View.ld x0 r0_0) (View.ld x1 r0_2)⟩,
    ⟨r0_1, k0_pay3 (View.ld x0 r0_0) (View.ld x1 r0_1)⟩]

theorem cover0_2 (p0 : Vec F S1024x512 .bf16) (p1 : Vec F S1024x512 .bf16) (p2 : Vec F S1024x512 .bf16) (p3 : Vec F S1024x512 .bf16) (p4 : Vec F S1024x512 .bf16) (p5 : Vec F S1024x512 .bf16) (y : S1024x3072.Idx) :
    ∃ pc ∈ ([⟨r0_6, p0⟩, ⟨r0_5, p1⟩, ⟨r0_4, p2⟩, ⟨r0_3, p3⟩, ⟨r0_2, p4⟩, ⟨r0_1, p5⟩] : List (View.Piece (Elt F) S1024x3072 .bf16)), y ∈ pc.1.set :=
  View.cover_of_tiled [⟨r0_6, p0⟩, ⟨r0_5, p1⟩, ⟨r0_4, p2⟩, ⟨r0_3, p3⟩, ⟨r0_2, p4⟩, ⟨r0_1, p5⟩] S1024x512.size (by rfl) y

set_option maxHeartbeats 1000000 in
theorem sound_kernel (c : Dev nD) (E : Set ℕ) (i : grid0.Coords) (arg1 : Memref sig .tc .vmem S1024x1024 .f32) (harg1 : arg1.IsWhole) (arg2 : Memref sig .tc .vmem S1024x3072 .bf16) (harg2 : arg2.IsWhole) (arg3 : Memref sig .tc .vmem S1024x3072 .bf16) (harg3 : arg3.IsWhole)
    (x0 : Vec F S1024x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.nat c none) E (cc0_proj_matmul i arg1 harg1 arg2 harg2 arg3 harg3) K := by
  simp only [cc0_proj_matmul_eq_skeleton]; unfold cc0_proj_matmul_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _)

def dat (c : Dev nD) : Dat τ (Elt F) Unit ℕ (UR sig nD τ) ℕ (cfg0 (F := F)) c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
  Φ _ := Pipeline.ΦA spec0 c
  q _ := fullShare
  owed _ := 0

theorem A_eq (c : Dev nD) (w : Fin (cfg0 (F := F)).W) : (dat V c).A w = V c (Pipeline.arrRef spec0 w) := by
  dsimp only [dat]

theorem after0_0 (c : Dev nD) (t : Fin (cfg0 (F := F)).N) : (dat V c).after 0 t = iblk V c 0 t := by unfold dat; rfl
theorem after0_1 (c : Dev nD) (t : Fin (cfg0 (F := F)).N) : (dat V c).after 1 t = iblk V c 1 t := by unfold dat; rfl
attribute [local irreducible] out0_2 in
theorem after0_2 (c : Dev nD) (t : Fin (cfg0 (F := F)).N) : (dat V c).after 2 t = out0_2 (iblk V c 0 t) (iblk V c 1 t) := by unfold dat; rfl

/-- A point finds in an operand's buffer what it leaves there. -/
theorem kept (c : Dev nD) (w : Fin (cfg0 (F := F)).W) (hw : w.val < 2) (t : Fin (cfg0 (F := F)).N) (d) : (dat V c).before w t d = (dat V c).after w t := by
  obtain ⟨n, hn⟩ := w
  change n < 2 at hw
  interval_cases n <;>
    exact ((dat V c).before_in_eq_fetched _ rfl (fun _ => rfl) (fun _ _ _ => rfl) (fun t => by unfold Dat.blockOf dat iblk; rfl) t d).trans
      (by unfold Dat.fetched Dat.blockOf dat iblk; rfl)

def bodyPre (c : Dev nD) (t : Fin (cfg0 (F := F)).N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin (cfg0 (F := F)).N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin (cfg0 (F := F)).N) :
    bodyPre V c t ⊢ wp frame (wpE (defs₀ (F := F)) Variants.nat c none) Set.univ (bodyAt0 t) (fun _ => bodyPost V c t) := by
  unfold bodyPre bodyPost bodyAt0
  have hk := fun (w : Fin (cfg0 (F := F)).W) (hw : w.val < 2) => kept V c w hw t
  simp only [hk 0 (by show 0 < 2; decide), hk 1 (by show 1 < 2; decide)]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dat (F := F) V c) (defs₀ (F := F)) Variants.nat () Set.univ := fun t => by
  rw [bigSep_W0, bigSep_W0, defs₀_row]
  exact triple_restated (sound_body V c t) rfl .rfl fun _ => .rfl

end Cert.OddIdeal.First

end
-- ==== Proof.OdI.State.lean ====
/-
  What one grid point of the stick-breaking attention computes, as pure functions of the five blocks it reads: the
  query block `q`, the keys `K` and the values `V` of the two heads, the strictly lower triangle `tri` of −1 and the
  strict mask `lt`. A state is the pair of the two running arrays, `acc` and `carry`; a step takes one block of 256
  keys into account on a part of the 1024 rows.
-/
module

public import proofs.«01_k».proof.Proof.Gen.OddIdeal.Skeleton
public import proofs.«01_k».proof.Proof.Own

@[expose] public section

noncomputable section

namespace Cert.OddIdeal.Att

open Idealize.ShloMosaic Idealize.ShloMosaic.TcCoe
open Cert.OddIdeal.Gen

variable {F : FTy → Type} [FloatOps F] [Named F]

/-- All 1024 rows. -/
abbrev rA : Rect S1024x128 := Rect.unit (s := S1024x128) ![0, 0] S1024x128.size inb_S1024x128_S1024x128_0_0
/-- The rows of the first 256 queries, both heads. -/
abbrev rT : Rect S1024x128 := Rect.unit (s := S1024x128) ![0, 0] S512x128.size inb_S1024x128_S512x128_0_0
/-- The rows of the last 256 queries, both heads. -/
abbrev rB : Rect S1024x128 := Rect.unit (s := S1024x128) ![512, 0] S512x128.size inb_S1024x128_S512x128_512_0
/-- One head's 256 rows, and the three others. -/
abbrev r0 : Rect S1024x128 := Rect.unit (s := S1024x128) ![0, 0] S256x128.size inb_S1024x128_S256x128_0_0
abbrev r1 : Rect S1024x128 := Rect.unit (s := S1024x128) ![256, 0] S256x128.size inb_S1024x128_S256x128_256_0
abbrev r2 : Rect S1024x128 := Rect.unit (s := S1024x128) ![512, 0] S256x128.size inb_S1024x128_S256x128_512_0
abbrev r3 : Rect S1024x128 := Rect.unit (s := S1024x128) ![768, 0] S256x128.size inb_S1024x128_S256x128_768_0
/-- The two halves of the query block, and of the result's block. -/
abbrev h0 : Rect S1x512x128 := Rect.unit (s := S1x512x128) ![0, 0, 0] S1x256x128.size inb_S1x512x128_S1x256x128_0_0_0
abbrev h1 : Rect S1x512x128 := Rect.unit (s := S1x512x128) ![0, 256, 0] S1x256x128.size inb_S1x512x128_S1x256x128_0_256_0
/-- A 256 by 256 mask whole. -/
abbrev rM : Rect S256x256 := Rect.unit (s := S256x256) ![0, 0] S256x256.size inb_S256x256_S256x256_0_0
/-- The key blocks of the grid point `i`, and those of the sweeps. -/
abbrev k1 (i : grid1.Coords) : Rect S1x8192x128 := Rect.unit (s := S1x8192x128) (k1_off1 i) S1x256x128.size (k1_off1_inb i)
abbrev k2 (i : grid1.Coords) : Rect S1x8192x128 := Rect.unit (s := S1x8192x128) (k1_off2 i) S1x256x128.size (k1_off2_inb i)
abbrev k3 (i : grid1.Coords) : Rect S1x8192x128 := Rect.unit (s := S1x8192x128) (k1_off3 i) S1x256x128.size (k1_off3_inb i)
abbrev k4 (i : grid1.Coords) (a : BitVec 1) (h : k1_chk1 i a) (hc : k1_cond1 i a = 1#1) : Rect S1x8192x128 :=
  Rect.unit (s := S1x8192x128) (k1_off4 i) S1x256x128.size (k1_off4_inb i a h hc)
abbrev k5 (j : BitVec 32) (h : k1_chk2 j) : Rect S1x8192x128 :=
  Rect.unit (s := S1x8192x128) (k1_off5 j) S1x256x128.size (k1_off5_inb j h)
abbrev k6 (j : BitVec 32) (h : k1_chk3 j) : Rect S1x8192x128 :=
  Rect.unit (s := S1x8192x128) (k1_off6 j) S1x256x128.size (k1_off6_inb j h)

/-- The block the first guarded branch reads lies inside the keys. -/
theorem chk1_all : ∀ (i : grid1.Coords) (a : BitVec 1), k1_chk1 i a := by
  have key : ∀ (y : Fin 16) (a : Fin 2),
      Scalar.cmpi .ne (Scalar.extui (Scalar.andi (Scalar.cmpi .sgt (BitVec.ofNat 32 y.val) 0#32) (BitVec.ofNat 1 a.val)) : BitVec 32) 0#32 = 1#1 →
      ∀ b, (![0, (Scalar.indexCast (Scalar.muli (Scalar.subi (Scalar.muli 2#32 (BitVec.ofNat 32 y.val)) 1#32) 256#32)).toNat, 0] : Fin 3 → ℕ) b
        + S1x256x128.size b ≤ S1x8192x128.size b := by decide
  intro i a h
  have ha : a = BitVec.ofNat 1 a.toFin.val := by simp
  rw [ha] at h
  exact key (i 2) a.toFin h

/-- A sweep's block index between 0 and 31 names a block inside the keys. -/
theorem chk2_of (j : BitVec 32) (h0 : 0 ≤ j.toInt) (h1 : j.toInt < 32) : k1_chk2 j := by
  have : ∀ n : Fin 32, k1_chk2 (BitVec.ofNat 32 n.val) := by
    unfold k1_chk2 k1_mult5 k1_off5; decide
  obtain ⟨n, hn⟩ : ∃ n : ℕ, j.toInt = n := ⟨j.toInt.toNat, by omega⟩
  have e : j = BitVec.ofNat 32 n := by
    apply BitVec.eq_of_toInt_eq; rw [hn]; rw [BitVec.toInt_ofNat']; simp [Int.bmod]; omega
  rw [e]; exact this ⟨n, by omega⟩

/-- The same for the second sweep. -/
theorem chk3_of (j : BitVec 32) (h0 : 0 ≤ j.toInt) (h1 : j.toInt < 32) : k1_chk3 j := chk2_of j h0 h1

/-- The running pair: the accumulated values and the carried sums. -/
abbrev St (F : FTy → Type) [FloatOps F] [Named F] : Type :=
  (S1024x128.Idx → Elt F .f32) × (S1024x128.Idx → Elt F .f32)

variable (i : grid1.Coords) (q : S1x512x128.Idx → Elt F .bf16) (K V : S1x8192x128.Idx → Elt F .bf16)
  (tri : S256x256.Idx → Elt F .bf16) (lt : S256x256.Idx → Elt F .f32)

/-- The scaled queries, each head's 64 columns alone: rows 0–255 the first 256 queries of the first head, 256–511 of
    the second, then the last 256 queries likewise. -/
def qs : S1024x128.Idx → Elt F .bf16 :=
  View.canon [⟨r3, k1_pay22 (k1_pay21 (View.ld q h1))⟩, ⟨r2, k1_pay20 (View.ld q h1)⟩,
    ⟨r1, k1_pay17 (View.ld q h0)⟩, ⟨r0, k1_pay16 (View.ld q h0)⟩]

/-- Nothing accumulated, nothing carried. -/
def st0 : St F := (View.canon [⟨rA, k1_pay23 (F := F)⟩], View.canon [⟨rA, k1_pay24 (F := F)⟩])

variable (Q : S1024x128.Idx → Elt F .bf16)

/-- The last 256 queries against their own block of keys. -/
def step1 (s : St F) : St F :=
  (rB.overlay s.1 (k1_pay31 (k1_pay25 (View.ld V (k1 i))) (k1_pay27 (View.ld K (k1 i)) (View.ld Q rB))
      (k1_pay28 (View.ld K (k1 i)) (View.ld Q rB)) (View.ld lt rM) (View.ld lt rM) (View.ld tri rM) (View.ld lt rM) (View.ld lt rM)
      (View.ld s.2 rB) (View.ld s.1 rB)),
   rB.overlay s.2 (k1_pay32 (k1_pay27 (View.ld K (k1 i)) (View.ld Q rB)) (View.ld lt rM) (View.ld lt rM) (View.ld tri rM)
      (View.ld s.2 rB)))

/-- All 512 queries against the block of the first 256. -/
def step2 (s : St F) : St F :=
  (rA.overlay s.1 (k1_pay39 (k1_pay33 (View.ld V (k2 i)))
      (k1_pay38 (View.ld K (k2 i)) (View.ld Q rA) (View.ld lt rM) (View.ld lt rM) (View.ld tri rM))
      (View.ld lt rM) (View.ld lt rM) (View.ld s.2 rA) (View.ld s.1 rA)),
   rA.overlay s.2 (k1_pay40 (k1_pay36 (View.ld K (k2 i)) (View.ld Q rA) (View.ld lt rM) (View.ld lt rM))
      (k1_pay37 (View.ld K (k2 i)) (View.ld Q rA) (View.ld lt rM) (View.ld lt rM) (View.ld tri rM)) (View.ld s.2 rA)))

/-- The grid point's number along the queries, as a word. -/
abbrev arg2 : BitVec 32 := BitVec.ofNat 32 (i 2).val

/-- The first 256 queries against the block before. -/
def step3 (s : St F) : St F :=
  (rT.overlay s.1 (k1_pay47 (k1_pay41 (F := F) (arg2 i)) (k1_pay42 (View.ld K (k3 i))) (View.ld V (k3 i)) (View.ld Q rT)
      (View.ld tri rM) (View.ld s.2 rT) (View.ld s.1 rT)),
   rT.overlay s.2 (k1_pay48 (k1_pay46 (k1_pay41 (F := F) (arg2 i)) (k1_pay42 (View.ld K (k3 i))) (View.ld Q rT) (View.ld tri rM))
      (View.ld s.2 rT)))

/-- The least sum of log probabilities at which a weight is not zero. -/
abbrev zb : F .f32 := Named.named κ "exp_zero_below" 0xC2D00000#32

/-- Whether a key further left can still count for the last 256 queries: before the first guarded branch, before the
    first sweep, inside it; and for the first 256 queries, before the second sweep and inside it. -/
def alive1 (s : St F) : BitVec 1 := Scalar.cmpf .oge (k1_pay49 (View.ld s.2 rB)) zb
def alive2 (s : St F) : BitVec 1 := Scalar.cmpf .oge (k1_pay52 (View.ld s.2 rB)) zb
def alive3 (s : St F) : BitVec 1 := Scalar.cmpf .oge (k1_pay53 (View.ld s.2 rT)) zb
def alive5 (s : St F) : BitVec 1 := Scalar.cmpf .oge (k1_pay5 (View.ld s.2 rB)) zb
def alive6 (s : St F) : BitVec 1 := Scalar.cmpf .oge (k1_pay8 (View.ld s.2 rT)) zb

/-- The last 256 queries against the block before, when there is one and it can count. -/
def step4 (a : BitVec 1) (s : St F) : St F :=
  if h : k1_cond1 i a = 1#1 then
    (rB.overlay s.1 (k1_pay50 (k1_pay12 (View.ld K (k4 i a (chk1_all i a) h)) (View.ld V (k4 i a (chk1_all i a) h)) (View.ld Q rB) (View.ld tri rM))
        (View.ld s.2 rB) (View.ld s.1 rB)),
     rB.overlay s.2 (k1_pay51 (k1_pay13 (View.ld K (k4 i a (chk1_all i a) h)) (View.ld Q rB) (View.ld tri rM)) (View.ld s.2 rB)))
  else s

/-- All 512 queries against block `j`. -/
def step5 (j : BitVec 32) (h : k1_chk2 j) (s : St F) : St F :=
  (rA.overlay s.1 (k1_pay3 (k1_pay58 (View.ld K (k5 j h)) (View.ld V (k5 j h)) (View.ld Q rA) (View.ld tri rM))
      (View.ld s.1 rA) (k1_pay60 (View.ld s.2 rA))),
   rA.overlay s.2 (k1_pay4 (k1_pay59 (View.ld K (k5 j h)) (View.ld Q rA) (View.ld tri rM)) (View.ld s.2 rA)))

/-- The first 256 queries against block `j`. -/
def step6 (j : BitVec 32) (h : k1_chk3 j) (s : St F) : St F :=
  (rT.overlay s.1 (k1_pay6 (k1_pay64 (View.ld K (k6 j h)) (View.ld V (k6 j h)) (View.ld Q rT) (View.ld tri rM))
      (View.ld s.1 rT) (k1_pay66 (View.ld s.2 rT))),
   rT.overlay s.2 (k1_pay7 (k1_pay65 (View.ld K (k6 j h)) (View.ld Q rT) (View.ld tri rM)) (View.ld s.2 rT)))

/-- Whether a sweep goes on: there is a block left and it can count. -/
abbrev goes (j : BitVec 32) (b : BitVec 1) : BitVec 1 := Scalar.andi (Scalar.cmpi .sge j 0#32) b

/-- The first sweep, leftwards from block `j`, of at most `n` trips: where it ends, and the pair then. -/
def w1 : ℕ → BitVec 32 → BitVec 1 → St F → (BitVec 32 × BitVec 1) × St F
  | 0, j, b, s => ((j, b), s)
  | n + 1, j, b, s =>
    if goes j b = 1#1 then
      if h : k1_chk2 j then
        w1 n (Scalar.subi j 1#32) (alive5 (step5 K V tri Q j h s)) (step5 K V tri Q j h s)
      else ((j, b), s)
    else ((j, b), s)

/-- The second sweep likewise. -/
def w2 : ℕ → BitVec 32 → BitVec 1 → St F → (BitVec 32 × BitVec 1) × St F
  | 0, j, b, s => ((j, b), s)
  | n + 1, j, b, s =>
    if goes j b = 1#1 then
      if h : k1_chk3 j then
        w2 n (Scalar.subi j 1#32) (alive6 (step6 K V tri Q j h s)) (step6 K V tri Q j h s)
      else ((j, b), s)
    else ((j, b), s)

/-- The block the first sweep begins at. -/
abbrev j0 : BitVec 32 := Scalar.subi (Scalar.muli 2#32 (arg2 i)) 2#32

/-- The pair after the blocks in straight line. -/
def sA : St F := step3 i K V tri Q (step2 i K V tri lt Q (step1 i K V tri lt Q st0))
def sB : St F := step4 i K V tri Q (alive1 (sA i K V tri lt Q)) (sA i K V tri lt Q)
/-- After the first sweep. -/
def sC : (BitVec 32 × BitVec 1) × St F := w1 K V tri Q 32 (j0 i) (alive2 (sB i K V tri lt Q)) (sB i K V tri lt Q)
/-- After the second. -/
def sD : (BitVec 32 × BitVec 1) × St F :=
  w2 K V tri Q 32 (sC i K V tri lt Q).1.1 (alive3 (sC i K V tri lt Q).2) (sC i K V tri lt Q).2

/-- The column number, along the 128 lanes. -/
abbrev lane : IVec S256x128 32 := iota .tc S256x128 32 [1] iota_S256x128_d1_w32

/-- The result's block of the point: per query the first 64 columns from the first head's rows, the last 64 from the
    second's. -/
def out : S1x512x128.Idx → Elt F .bf16 :=
  View.canon
    [⟨h1, k1_pay2 lane (View.ld (sD i K V tri lt (qs q)).2.1 r2) (View.ld (sD i K V tri lt (qs q)).2.1 r3)⟩,
     ⟨h0, k1_pay1 lane (View.ld (sD i K V tri lt (qs q)).2.1 r0) (View.ld (sD i K V tri lt (qs q)).2.1 r1) k1_pay54⟩]

end Cert.OddIdeal.Att

end
-- ==== Proof.OdI.Loops.lean ====
/-
  The two sweeps of the stick-breaking attention: each label, called with at least as many trips allowed as there are
  blocks left, returns where the sweep of `State.lean` ends and leaves the pair it leaves.
-/
module

public import proofs.«01_k».proof.Proof.OdI.State
public import Idealize.ShloMosaic.Lib.Tactic.WordOmega

@[expose] public section

noncomputable section

namespace Cert.OddIdeal.Att

open Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The variants calls are answered at: the naturals. -/
abbrev 𝒱₀ : Variants := Variants.nat

/-- The five buffers a sweep works on: keys, values, queries, the triangle, and the pair. -/
def held (c : Dev nD) (arg4 arg5 : Memref sig .tc .vmem S1x8192x128 .bf16) (arg9 : Memref sig .tc .vmem S1024x128 .bf16)
    (arg6 : Memref sig .tc .vmem S256x256 .bf16) (arg11 arg10 : Memref sig .tc .vmem S1024x128 .f32)
    (K V : S1x8192x128.Idx → Elt F .bf16) (Q : S1024x128.Idx → Elt F .bf16) (tri : S256x256.Idx → Elt F .bf16)
    (s : St F) : sProp 𝕄 :=
  iprop(owns (c : Thread nD τ) arg4 fullShare K ∗ owns (c : Thread nD τ) arg5 fullShare V
    ∗ owns (c : Thread nD τ) arg9 fullShare Q ∗ owns (c : Thread nD τ) arg6 fullShare tri
    ∗ owns (c : Thread nD τ) arg11 fullShare s.2 ∗ owns (c : Thread nD τ) arg10 fullShare s.1)

theorem sge_of (j : BitVec 32) (b : BitVec 1) (h : goes j b = 1#1) : 0 ≤ j.toInt := by
  have hb : b = 0#1 ∨ b = 1#1 := by
    have := b.isLt
    rcases (by omega : b.toNat = 0 ∨ b.toNat = 1) with e | e
    · exact .inl (BitVec.eq_of_toNat_eq e)
    · exact .inr (BitVec.eq_of_toNat_eq e)
  have hs : BitVec.sle 0#32 j = true := by
    by_contra hc
    rw [Bool.not_eq_true] at hc
    have h' : BitVec.ofBool (BitVec.sle 0#32 j) &&& b = 1#1 := h
    rw [hc] at h'
    rcases hb with rfl | rfl <;> exact absurd h' (by decide)
  simpa [BitVec.sle] using hs

theorem pred_toInt (j : BitVec 32) (n : ℕ) (h0 : 0 ≤ j.toInt) (h1 : j.toInt < (n + 1 : ℕ)) (hn : n ≤ 31) :
    -2 ≤ (Scalar.subi j 1#32).toInt ∧ (Scalar.subi j 1#32).toInt < n := by
  have e : (Scalar.subi j 1#32).toInt = j.toInt - 1 := by
    show (j - 1#32).toInt = _
    rw [BitVec.toInt_sub]
    have : (1#32).toInt = 1 := by decide
    rw [this]
    simp [Int.bmod]; omega
  rw [e]; omega

variable (i : grid1.Coords) (a : BitVec 1) (hw : k1_chk1 i a)
  (arg4 : Memref sig .tc .vmem S1x8192x128 .bf16) (harg4 : arg4.IsWhole)
  (arg5 : Memref sig .tc .vmem S1x8192x128 .bf16) (harg5 : arg5.IsWhole)
  (arg9 : Memref sig .tc .vmem S1024x128 .bf16) (harg9 : arg9.IsWhole)
  (arg6 : Memref sig .tc .vmem S256x256 .bf16) (harg6 : arg6.IsWhole)
  (arg11 : Memref sig .tc .vmem S1024x128 .f32) (harg11 : arg11.IsWhole)
  (arg10 : Memref sig .tc .vmem S1024x128 .f32) (harg10 : arg10.IsWhole)
  (K V : S1x8192x128.Idx → Elt F .bf16) (Q : S1024x128.Idx → Elt F .bf16) (tri : S256x256.Idx → Elt F .bf16)

/-- The first sweep. -/
theorem sweep1 (c : Dev nD) (E : Set ℕ) :
    ∀ n, n ≤ 32 → ∀ (j : BitVec 32) (b : BitVec 1) (s : St F), -2 ≤ j.toInt → j.toInt < (n : ℕ) →
      ∀ Φ : BitVec 32 × BitVec 1 → sProp 𝕄,
      iprop(held c arg4 arg5 arg9 arg6 arg11 arg10 K V Q tri s
        ∗ (held c arg4 arg5 arg9 arg6 arg11 arg10 K V Q tri (w1 K V tri Q n j b s).2 -∗ Φ (w1 K V tri Q n j b s).1))
      ⊢ wp frame (wpE (defs₀ (F := F)) 𝒱₀ (c : Thread nD τ) (some n)) E
          (defs₀ (F := F) .tc 3 ⟨i, a, hw, arg4, harg4, arg5, harg5, arg9, harg9, arg6, harg6, arg11, harg11, arg10, harg10, j, b⟩) Φ := by
  intro n
  induction n with
  | zero =>
    intro hn j b s h0 h1 Φ
    show _ ⊢ wp frame (wpE (defs₀ (F := F)) 𝒱₀ (c : Thread nD τ) (some 0)) E
      (cc1_while1 i a hw arg4 harg4 arg5 harg5 arg9 harg9 arg6 harg6 arg11 harg11 arg10 harg10 j b) Φ
    simp only [cc1_while1_eq_skeleton]; unfold cc1_while1_skel
    rw [if_neg (show ¬ _ from fun hg => absurd (sge_of j b hg) (by simpa using h1))]
    simp only [Prog.pure_eq_ret]
    iintro ⟨H, Hk⟩
    rw [wp_ret]; imodintro
    simp only [w1]
    iapply Hk; iexact H
  | succ n ih =>
    intro hn j b s h0 h1 Φ
    show _ ⊢ wp frame (wpE (defs₀ (F := F)) 𝒱₀ (c : Thread nD τ) (some (n + 1))) E
      (cc1_while1 i a hw arg4 harg4 arg5 harg5 arg9 harg9 arg6 harg6 arg11 harg11 arg10 harg10 j b) Φ
    simp only [cc1_while1_eq_skeleton]; unfold cc1_while1_skel
    by_cases hg : goes j b = 1#1
    · have hj := sge_of j b hg
      have hc : k1_chk2 j := chk2_of j hj (by omega)
      obtain ⟨hp0, hp1⟩ := pred_toInt j n hj h1 (by omega)
      rw [if_pos hg]
      simp only [k1_part9_eq_skeleton]; unfold k1_part9_skel
      simp only [Prog.lift, Prog.bind_op, Prog.bind_ret, Prog.pure_eq_ret]
      have hw1 : w1 K V tri Q (n + 1) j b s = w1 K V tri Q n (Scalar.subi j 1#32) (alive5 (step5 K V tri Q j hc s)) (step5 K V tri Q j hc s) := by
        rw [w1, if_pos hg, dif_pos hc]
      rw [hw1]
      unfold held
      iintro ⟨⟨H4, H5, H9, H6, H11, H10⟩, Hk⟩
      iapply (wp_assume 𝒱₀ (c : Thread nD τ) (some (n + 1)) E hc)
      iapply (Own.load 𝒱₀ (c : Thread nD τ) (some (n + 1)) E) $$ H4; iintro H4
      iapply (Own.load 𝒱₀ (c : Thread nD τ) (some (n + 1)) E) $$ H5; iintro H5
      iapply (Own.load 𝒱₀ (c : Thread nD τ) (some (n + 1)) E) $$ H9; iintro H9
      iapply (Own.load 𝒱₀ (c : Thread nD τ) (some (n + 1)) E) $$ H6; iintro H6
      iapply (Own.load 𝒱₀ (c : Thread nD τ) (some (n + 1)) E) $$ H11; iintro H11
      iapply (Own.load 𝒱₀ (c : Thread nD τ) (some (n + 1)) E) $$ H10; iintro H10
      iapply (Own.load 𝒱₀ (c : Thread nD τ) (some (n + 1)) E) $$ H10; iintro H10
      iapply (Own.store 𝒱₀ (c : Thread nD τ) (some (n + 1)) E) $$ H10; iintro H10
      iapply (Own.load 𝒱₀ (c : Thread nD τ) (some (n + 1)) E) $$ H11; iintro H11
      iapply (Own.store 𝒱₀ (c : Thread nD τ) (some (n + 1)) E) $$ H11; iintro H11
      iapply (Own.load 𝒱₀ (c : Thread nD τ) (some (n + 1)) E) $$ H11; iintro H11
      iapply (wp_call 𝒱₀ (c : Thread nD τ) (some (n + 1)) E n (fun u hu => by cases hu; exact Nat.lt_succ_self n))
      iapply (ih (by omega) (Scalar.subi j 1#32) (alive5 (step5 K V tri Q j hc s)) (step5 K V tri Q j hc s) hp0 hp1 _)
      unfold held
      isplitl [H4 H5 H9 H6 H10 H11]
      · isplitl [H4]; · iexact H4
        isplitl [H5]; · iexact H5
        isplitl [H9]; · iexact H9
        isplitl [H6]; · iexact H6
        isplitl [H11]; · iexact H11
        iexact H10
      iintro H
      rw [wp_ret]; imodintro
      iapply Hk; iexact H
    · rw [if_neg hg]
      have hw1 : w1 K V tri Q (n + 1) j b s = ((j, b), s) := by rw [w1, if_neg hg]
      rw [hw1]
      simp only [Prog.pure_eq_ret]
      iintro ⟨H, Hk⟩
      rw [wp_ret]; imodintro
      iapply Hk; iexact H

/-- The second sweep. -/
theorem sweep2 (c : Dev nD) (E : Set ℕ) :
    ∀ n, n ≤ 32 → ∀ (j : BitVec 32) (b : BitVec 1) (s : St F), -2 ≤ j.toInt → j.toInt < (n : ℕ) →
      ∀ Φ : BitVec 32 × BitVec 1 → sProp 𝕄,
      iprop(held c arg4 arg5 arg9 arg6 arg11 arg10 K V Q tri s
        ∗ (held c arg4 arg5 arg9 arg6 arg11 arg10 K V Q tri (w2 K V tri Q n j b s).2 -∗ Φ (w2 K V tri Q n j b s).1))
      ⊢ wp frame (wpE (defs₀ (F := F)) 𝒱₀ (c : Thread nD τ) (some n)) E
          (defs₀ (F := F) .tc 4 ⟨i, a, hw, arg4, harg4, arg5, harg5, arg9, harg9, arg6, harg6, arg11, harg11, arg10, harg10, j, b⟩) Φ := by
  intro n
  induction n with
  | zero =>
    intro hn j b s h0 h1 Φ
    show _ ⊢ wp frame (wpE (defs₀ (F := F)) 𝒱₀ (c : Thread nD τ) (some 0)) E
      (cc1_while2 i a hw arg4 harg4 arg5 harg5 arg9 harg9 arg6 harg6 arg11 harg11 arg10 harg10 j b) Φ
    simp only [cc1_while2_eq_skeleton]; unfold cc1_while2_skel
    rw [if_neg (show ¬ _ from fun hg => absurd (sge_of j b hg) (by simpa using h1))]
    simp only [Prog.pure_eq_ret]
    iintro ⟨H, Hk⟩
    rw [wp_ret]; imodintro
    simp only [w2]
    iapply Hk; iexact H
  | succ n ih =>
    intro hn j b s h0 h1 Φ
    show _ ⊢ wp frame (wpE (defs₀ (F := F)) 𝒱₀ (c : Thread nD τ) (some (n + 1))) E
      (cc1_while2 i a hw arg4 harg4 arg5 harg5 arg9 harg9 arg6 harg6 arg11 harg11 arg10 harg10 j b) Φ
    simp only [cc1_while2_eq_skeleton]; unfold cc1_while2_skel
    by_cases hg : goes j b = 1#1
    · have hj := sge_of j b hg
      have hc : k1_chk3 j := chk3_of j hj (by omega)
      obtain ⟨hp0, hp1⟩ := pred_toInt j n hj h1 (by omega)
      rw [if_pos hg]
      simp only [k1_part10_eq_skeleton]; unfold k1_part10_skel
      simp only [Prog.lift, Prog.bind_op, Prog.bind_ret, Prog.pure_eq_ret]
      have hw1 : w2 K V tri Q (n + 1) j b s = w2 K V tri Q n (Scalar.subi j 1#32) (alive6 (step6 K V tri Q j hc s)) (step6 K V tri Q j hc s) := by
        rw [w2, if_pos hg, dif_pos hc]
      rw [hw1]
      unfold held
      iintro ⟨⟨H4, H5, H9, H6, H11, H10⟩, Hk⟩
      iapply (wp_assume 𝒱₀ (c : Thread nD τ) (some (n + 1)) E hc)
      iapply (Own.load 𝒱₀ (c : Thread nD τ) (some (n + 1)) E) $$ H4; iintro H4
      iapply (Own.load 𝒱₀ (c : Thread nD τ) (some (n + 1)) E) $$ H5; iintro H5
      iapply (Own.load 𝒱₀ (c : Thread nD τ) (some (n + 1)) E) $$ H9; iintro H9
      iapply (Own.load 𝒱₀ (c : Thread nD τ) (some (n + 1)) E) $$ H6; iintro H6
      iapply (Own.load 𝒱₀ (c : Thread nD τ) (some (n + 1)) E) $$ H11; iintro H11
      iapply (Own.load 𝒱₀ (c : Thread nD τ) (some (n + 1)) E) $$ H10; iintro H10
      iapply (Own.load 𝒱₀ (c : Thread nD τ) (some (n + 1)) E) $$ H10; iintro H10
      iapply (Own.store 𝒱₀ (c : Thread nD τ) (some (n + 1)) E) $$ H10; iintro H10
      iapply (Own.load 𝒱₀ (c : Thread nD τ) (some (n + 1)) E) $$ H11; iintro H11
      iapply (Own.store 𝒱₀ (c : Thread nD τ) (some (n + 1)) E) $$ H11; iintro H11
      iapply (Own.load 𝒱₀ (c : Thread nD τ) (some (n + 1)) E) $$ H11; iintro H11
      iapply (wp_call 𝒱₀ (c : Thread nD τ) (some (n + 1)) E n (fun u hu => by cases hu; exact Nat.lt_succ_self n))
      iapply (ih (by omega) (Scalar.subi j 1#32) (alive6 (step6 K V tri Q j hc s)) (step6 K V tri Q j hc s) hp0 hp1 _)
      unfold held
      isplitl [H4 H5 H9 H6 H10 H11]
      · isplitl [H4]; · iexact H4
        isplitl [H5]; · iexact H5
        isplitl [H9]; · iexact H9
        isplitl [H6]; · iexact H6
        isplitl [H11]; · iexact H11
        iexact H10
      iintro H
      rw [wp_ret]; imodintro
      iapply Hk; iexact H
    · rw [if_neg hg]
      have hw1 : w2 K V tri Q (n + 1) j b s = ((j, b), s) := by rw [w2, if_neg hg]
      rw [hw1]
      simp only [Prog.pure_eq_ret]
      iintro ⟨H, Hk⟩
      rw [wp_ret]; imodintro
      iapply Hk; iexact H

end Cert.OddIdeal.Att

end
-- ==== Proof.OdI.Kernel.lean ====
/-
  The kernel of the stick-breaking attention at one grid point: owning the five blocks it reads, the result's block and
  the three scratch arrays, it ends with the five blocks as they were and the result's block at `out` of them.
-/
module

public import proofs.«01_k».proof.Proof.OdI.Loops

@[expose] public section

noncomputable section

namespace Cert.OddIdeal.Att

open Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first sweep ends at a block index the second may start from. -/
theorem w1_bounds (K V : S1x8192x128.Idx → Elt F .bf16) (Q : S1024x128.Idx → Elt F .bf16) (tri : S256x256.Idx → Elt F .bf16) :
    ∀ n, n ≤ 32 → ∀ (j : BitVec 32) (b : BitVec 1) (s : St F), -2 ≤ j.toInt → j.toInt < 32 →
      -2 ≤ (w1 K V tri Q n j b s).1.1.toInt ∧ (w1 K V tri Q n j b s).1.1.toInt < 32 := by
  intro n
  induction n with
  | zero => intro _ j b s h0 h1; exact ⟨h0, h1⟩
  | succ n ih =>
    intro hn j b s h0 h1
    rw [w1]
    split
    · rename_i hg
      have hj := sge_of j b hg
      obtain ⟨hp0, hp1⟩ := pred_toInt j 31 hj (by omega) le_rfl
      rw [dif_pos (chk2_of j hj h1)]
      exact ih (by omega) _ _ _ hp0 (by omega)
    · exact ⟨h0, h1⟩

/-- The first sweep starts below block 31. -/
theorem j0_bounds (i : grid1.Coords) : -2 ≤ (j0 i).toInt ∧ (j0 i).toInt < 32 := by
  have : ∀ y : Fin 16, -2 ≤ (Scalar.subi (Scalar.muli 2#32 (BitVec.ofNat 32 y.val)) 2#32).toInt
      ∧ (Scalar.subi (Scalar.muli 2#32 (BitVec.ofNat 32 y.val)) 2#32).toInt < 32 := by decide
  exact this (i 2)

theorem sC_bounds (i : grid1.Coords) (K V : S1x8192x128.Idx → Elt F .bf16) (tri : S256x256.Idx → Elt F .bf16)
    (lt : S256x256.Idx → Elt F .f32) (Q : S1024x128.Idx → Elt F .bf16) :
    -2 ≤ (sC i K V tri lt Q).1.1.toInt ∧ (sC i K V tri lt Q).1.1.toInt < 32 :=
  w1_bounds K V Q tri 32 le_rfl _ _ _ (j0_bounds i).1 (j0_bounds i).2

/-- The four stores of the scaled queries cover their array, whatever it held. -/
theorem qs_of (q : S1x512x128.Idx → Elt F .bf16) (x : S1024x128.Idx → Elt F .bf16) :
    Own.ovl x [⟨r3, k1_pay22 (k1_pay21 (View.ld q h1))⟩, ⟨r2, k1_pay20 (View.ld q h1)⟩,
      ⟨r1, k1_pay17 (View.ld q h0)⟩, ⟨r0, k1_pay16 (View.ld q h0)⟩] = qs q :=
  Own.ovl_eq_canon x _ (View.cover_of_tiled _ S256x128.size (by rfl))

theorem mem_rA (y : S1024x128.Idx) : y ∈ rA.set :=
  Rect.mem_set_unit.mpr fun a => by
    have h := (y a).isLt
    fin_cases a
    · exact ⟨Nat.zero_le _, by simpa using h⟩
    · exact ⟨Nat.zero_le _, by simpa using h⟩

/-- The stores of zero likewise. -/
theorem ovl_rA (x : S1024x128.Idx → Elt F .f32) (w : rA.shape.Idx → Elt F .f32) :
    Own.ovl x [⟨rA, w⟩] = View.canon [⟨rA, w⟩] := by
  refine Own.ovl_eq_canon x [⟨rA, w⟩] ?_
  intro y
  refine ⟨⟨rA, w⟩, List.mem_singleton_self _, ?_⟩
  exact mem_rA y
theorem acc_of (x : S1024x128.Idx → Elt F .f32) : Own.ovl x [⟨rA, k1_pay23 (F := F)⟩] = (st0 (F := F)).1 := by
  unfold st0
  dsimp only
  apply ovl_rA
theorem car_of (x : S1024x128.Idx → Elt F .f32) : Own.ovl x [⟨rA, k1_pay24 (F := F)⟩] = (st0 (F := F)).2 := by
  unfold st0
  dsimp only
  rw [ovl_rA]

/-- The two stores of the result cover its block. -/
theorem out_of (i : grid1.Coords) (q : S1x512x128.Idx → Elt F .bf16) (K V : S1x8192x128.Idx → Elt F .bf16)
    (tri : S256x256.Idx → Elt F .bf16) (lt : S256x256.Idx → Elt F .f32) (x : S1x512x128.Idx → Elt F .bf16) :
    Own.ovl x [⟨h1, k1_pay2 lane (View.ld (sD i K V tri lt (qs q)).2.1 r2) (View.ld (sD i K V tri lt (qs q)).2.1 r3)⟩,
     ⟨h0, k1_pay1 lane (View.ld (sD i K V tri lt (qs q)).2.1 r0) (View.ld (sD i K V tri lt (qs q)).2.1 r1) k1_pay54⟩]
      = out i q K V tri lt :=
  Own.ovl_eq_canon x _ (View.cover_of_tiled _ S1x256x128.size (by rfl))

set_option maxRecDepth 16384
set_option maxHeartbeats 4000000

theorem sound_kernel (c : Dev nD) (i : grid1.Coords)
    (arg3 : Memref sig .tc .vmem S1x512x128 .bf16) (harg3 : arg3.IsWhole)
    (arg4 : Memref sig .tc .vmem S1x8192x128 .bf16) (harg4 : arg4.IsWhole)
    (arg5 : Memref sig .tc .vmem S1x8192x128 .bf16) (harg5 : arg5.IsWhole)
    (arg6 : Memref sig .tc .vmem S256x256 .bf16) (harg6 : arg6.IsWhole)
    (arg7 : Memref sig .tc .vmem S256x256 .f32) (harg7 : arg7.IsWhole)
    (arg8 : Memref sig .tc .vmem S1x512x128 .bf16) (harg8 : arg8.IsWhole)
    (arg9 : Memref sig .tc .vmem S1024x128 .bf16) (harg9 : arg9.IsWhole)
    (arg10 : Memref sig .tc .vmem S1024x128 .f32) (harg10 : arg10.IsWhole)
    (arg11 : Memref sig .tc .vmem S1024x128 .f32) (harg11 : arg11.IsWhole)
    (q : S1x512x128.Idx → Elt F .bf16) (K V : S1x8192x128.Idx → Elt F .bf16)
    (tri : S256x256.Idx → Elt F .bf16) (lt : S256x256.Idx → Elt F .f32)
    (x8 : S1x512x128.Idx → Elt F .bf16) (x9 : S1024x128.Idx → Elt F .bf16) (x10 x11 : S1024x128.Idx → Elt F .f32)
    (Φ : PUnit → sProp 𝕄) :
    iprop(owns (c : Thread nD τ) arg3 fullShare q ∗ owns (c : Thread nD τ) arg4 fullShare K
      ∗ owns (c : Thread nD τ) arg5 fullShare V ∗ owns (c : Thread nD τ) arg6 fullShare tri
      ∗ owns (c : Thread nD τ) arg7 fullShare lt ∗ owns (c : Thread nD τ) arg8 fullShare x8
      ∗ owns (c : Thread nD τ) arg9 fullShare x9 ∗ owns (c : Thread nD τ) arg10 fullShare x10
      ∗ owns (c : Thread nD τ) arg11 fullShare x11
      ∗ (owns (c : Thread nD τ) arg3 fullShare q -∗ owns (c : Thread nD τ) arg4 fullShare K
      -∗ owns (c : Thread nD τ) arg5 fullShare V -∗ owns (c : Thread nD τ) arg6 fullShare tri
      -∗ owns (c : Thread nD τ) arg7 fullShare lt -∗ owns (c : Thread nD τ) arg8 fullShare (out i q K V tri lt)
      -∗ owns (c : Thread nD τ) arg9 fullShare (qs q) -∗ owns (c : Thread nD τ) arg10 fullShare (sD i K V tri lt (qs q)).2.1
      -∗ owns (c : Thread nD τ) arg11 fullShare (sD i K V tri lt (qs q)).2.2 -∗ Φ ⟨⟩))
      ⊢ wp frame (wpE (defs₀ (F := F)) 𝒱₀ (c : Thread nD τ) none) Set.univ
          (cc1_sb_attn i arg3 harg3 arg4 harg4 arg5 harg5 arg6 harg6 arg7 harg7 arg8 harg8 arg9 harg9 arg10 harg10 arg11 harg11) Φ := by
  simp only [cc1_sb_attn_eq_skeleton]; unfold cc1_sb_attn_skel
  simp only [k1_part2_eq_skeleton, k1_part3_eq_skeleton, k1_part4_eq_skeleton, k1_part5_eq_skeleton, k1_part6_eq_skeleton,
    k1_part7_eq_skeleton, k1_part8_eq_skeleton]
  unfold k1_part2_skel
  simp only [Prog.lift, Prog.bind_op, Prog.bind_ret, Prog.pure_eq_ret]
  iintro ⟨H3, H4, H5, H6, H7, H8, H9, H10, H11, Hk⟩
  iapply (Own.load 𝒱₀ (c : Thread nD τ) none Set.univ) $$ H3; iintro H3
  iapply (Own.load 𝒱₀ (c : Thread nD τ) none Set.univ) $$ H9; iintro H9
  iapply (Own.store 𝒱₀ (c : Thread nD τ) none Set.univ) $$ H9; iintro H9
  iapply (Own.load 𝒱₀ (c : Thread nD τ) none Set.univ) $$ H9; iintro H9
  iapply (Own.store 𝒱₀ (c : Thread nD τ) none Set.univ) $$ H9; iintro H9
  iapply (Own.load 𝒱₀ (c : Thread nD τ) none Set.univ) $$ H3; iintro H3
  iapply (Own.load 𝒱₀ (c : Thread nD τ) none Set.univ) $$ H9; iintro H9
  iapply (Own.store 𝒱₀ (c : Thread nD τ) none Set.univ) $$ H9; iintro H9
  unfold k1_part3_skel
  simp only [Prog.lift, Prog.bind_op, Prog.bind_ret, Prog.pure_eq_ret]
  iapply (Own.load 𝒱₀ (c : Thread nD τ) none Set.univ) $$ H9; iintro H9
  iapply (Own.store 𝒱₀ (c : Thread nD τ) none Set.univ) $$ H9; iintro H9
  iapply (Own.load 𝒱₀ (c : Thread nD τ) none Set.univ) $$ H10; iintro H10
  iapply (Own.store 𝒱₀ (c : Thread nD τ) none Set.univ) $$ H10; iintro H10
  iapply (Own.load 𝒱₀ (c : Thread nD τ) none Set.univ) $$ H11; iintro H11
  iapply (Own.store 𝒱₀ (c : Thread nD τ) none Set.univ) $$ H11; iintro H11
  iapply (Own.cast (c : Thread nD τ) (qs q) (by exact qs_of q x9)) $$ H9; iintro H9
  iapply (Own.cast (c : Thread nD τ) ((st0 (F := F)).1) (by exact acc_of x10)) $$ H10; iintro H10
  iapply (Own.cast (c : Thread nD τ) ((st0 (F := F)).2) (by exact car_of x11)) $$ H11; iintro H11
  iapply (Own.load 𝒱₀ (c : Thread nD τ) none Set.univ) $$ H4; iintro H4
  iapply (Own.load 𝒱₀ (c : Thread nD τ) none Set.univ) $$ H5; iintro H5
  iapply (Own.load 𝒱₀ (c : Thread nD τ) none Set.univ) $$ H9; iintro H9
  unfold k1_part4_skel
  simp only [Prog.lift, Prog.bind_op, Prog.bind_ret, Prog.pure_eq_ret]
  iapply (Own.load 𝒱₀ (c : Thread nD τ) none Set.univ) $$ H7; iintro H7
  iapply (Own.load 𝒱₀ (c : Thread nD τ) none Set.univ) $$ H7; iintro H7
  iapply (Own.load 𝒱₀ (c : Thread nD τ) none Set.univ) $$ H6; iintro H6
  iapply (Own.load 𝒱₀ (c : Thread nD τ) none Set.univ) $$ H7; iintro H7
  iapply (Own.load 𝒱₀ (c : Thread nD τ) none Set.univ) $$ H7; iintro H7
  iapply (Own.load 𝒱₀ (c : Thread nD τ) none Set.univ) $$ H11; iintro H11
  iapply (Own.load 𝒱₀ (c : Thread nD τ) none Set.univ) $$ H10; iintro H10
  iapply (Own.load 𝒱₀ (c : Thread nD τ) none Set.univ) $$ H10; iintro H10
  iapply (Own.store 𝒱₀ (c : Thread nD τ) none Set.univ) $$ H10; iintro H10
  iapply (Own.load 𝒱₀ (c : Thread nD τ) none Set.univ) $$ H11; iintro H11
  iapply (Own.store 𝒱₀ (c : Thread nD τ) none Set.univ) $$ H11; iintro H11
  iapply (Own.cast (c : Thread nD τ) ((step1 i K V tri lt (qs q) st0).1) (by exact rfl)) $$ H10; iintro H10
  iapply (Own.cast (c : Thread nD τ) ((step1 i K V tri lt (qs q) st0).2) (by exact rfl)) $$ H11; iintro H11
  unfold k1_part5_skel
  simp only [Prog.lift, Prog.bind_op, Prog.bind_ret, Prog.pure_eq_ret]
  iapply (Own.load 𝒱₀ (c : Thread nD τ) none Set.univ) $$ H4; iintro H4
  iapply (Own.load 𝒱₀ (c : Thread nD τ) none Set.univ) $$ H5; iintro H5
  iapply (Own.load 𝒱₀ (c : Thread nD τ) none Set.univ) $$ H9; iintro H9
  iapply (Own.load 𝒱₀ (c : Thread nD τ) none Set.univ) $$ H7; iintro H7
  iapply (Own.load 𝒱₀ (c : Thread nD τ) none Set.univ) $$ H7; iintro H7
  iapply (Own.load 𝒱₀ (c : Thread nD τ) none Set.univ) $$ H6; iintro H6
  iapply (Own.load 𝒱₀ (c : Thread nD τ) none Set.univ) $$ H7; iintro H7
  unfold k1_part6_skel
  simp only [Prog.lift, Prog.bind_op, Prog.bind_ret, Prog.pure_eq_ret]
  iapply (Own.load 𝒱₀ (c : Thread nD τ) none Set.univ) $$ H7; iintro H7
  iapply (Own.load 𝒱₀ (c : Thread nD τ) none Set.univ) $$ H11; iintro H11
  iapply (Own.load 𝒱₀ (c : Thread nD τ) none Set.univ) $$ H10; iintro H10
  iapply (Own.load 𝒱₀ (c : Thread nD τ) none Set.univ) $$ H10; iintro H10
  iapply (Own.store 𝒱₀ (c : Thread nD τ) none Set.univ) $$ H10; iintro H10
  iapply (Own.load 𝒱₀ (c : Thread nD τ) none Set.univ) $$ H11; iintro H11
  iapply (Own.store 𝒱₀ (c : Thread nD τ) none Set.univ) $$ H11; iintro H11
  iapply (Own.cast (c : Thread nD τ) ((step2 i K V tri lt (qs q) (step1 i K V tri lt (qs q) st0)).1) (by exact rfl)) $$ H10; iintro H10
  iapply (Own.cast (c : Thread nD τ) ((step2 i K V tri lt (qs q) (step1 i K V tri lt (qs q) st0)).2) (by exact rfl)) $$ H11; iintro H11
  iapply (Own.load 𝒱₀ (c : Thread nD τ) none Set.univ) $$ H4; iintro H4
  unfold k1_part7_skel
  simp only [Prog.lift, Prog.bind_op, Prog.bind_ret, Prog.pure_eq_ret]
  iapply (Own.load 𝒱₀ (c : Thread nD τ) none Set.univ) $$ H5; iintro H5
  iapply (Own.load 𝒱₀ (c : Thread nD τ) none Set.univ) $$ H9; iintro H9
  iapply (Own.load 𝒱₀ (c : Thread nD τ) none Set.univ) $$ H6; iintro H6
  iapply (Own.load 𝒱₀ (c : Thread nD τ) none Set.univ) $$ H11; iintro H11
  iapply (Own.load 𝒱₀ (c : Thread nD τ) none Set.univ) $$ H10; iintro H10
  iapply (Own.load 𝒱₀ (c : Thread nD τ) none Set.univ) $$ H10; iintro H10
  unfold k1_part8_skel
  simp only [Prog.lift, Prog.bind_op, Prog.bind_ret, Prog.pure_eq_ret]
  iapply (Own.store 𝒱₀ (c : Thread nD τ) none Set.univ) $$ H10; iintro H10
  iapply (Own.load 𝒱₀ (c : Thread nD τ) none Set.univ) $$ H11; iintro H11
  iapply (Own.store 𝒱₀ (c : Thread nD τ) none Set.univ) $$ H11; iintro H11
  iapply (Own.cast (c : Thread nD τ) ((sA i K V tri lt (qs q)).1) (by exact rfl)) $$ H10; iintro H10
  iapply (Own.cast (c : Thread nD τ) ((sA i K V tri lt (qs q)).2) (by exact rfl)) $$ H11; iintro H11
  iapply (Own.load 𝒱₀ (c : Thread nD τ) none Set.univ) $$ H11; iintro H11
  iapply (wp_assume 𝒱₀ (c : Thread nD τ) none Set.univ (chk1_all i _))
  by_cases hc : k1_cond1 i (alive1 (sA i K V tri lt (qs q))) = 1#1
  on_goal 1 =>
    have e4 : (sB i K V tri lt (qs q)) = _ := (show (sB i K V tri lt (qs q)) = step4 i K V tri (qs q) (alive1 (sA i K V tri lt (qs q))) (sA i K V tri lt (qs q)) from rfl).trans (dif_pos hc)
    iapply (Own.branch_pos 𝒱₀ (c : Thread nD τ) none Set.univ (by exact hc))
    simp only [k1_part1_eq_skeleton]; unfold k1_part1_skel
    simp only [Prog.lift, Prog.bind_op, Prog.bind_ret, Prog.pure_eq_ret]
    iapply (Own.load 𝒱₀ (c : Thread nD τ) none Set.univ) $$ H4; iintro H4
    iapply (Own.load 𝒱₀ (c : Thread nD τ) none Set.univ) $$ H5; iintro H5
    iapply (Own.load 𝒱₀ (c : Thread nD τ) none Set.univ) $$ H9; iintro H9
    iapply (Own.load 𝒱₀ (c : Thread nD τ) none Set.univ) $$ H6; iintro H6
    iapply (Own.load 𝒱₀ (c : Thread nD τ) none Set.univ) $$ H11; iintro H11
    iapply (Own.load 𝒱₀ (c : Thread nD τ) none Set.univ) $$ H10; iintro H10
    iapply (Own.load 𝒱₀ (c : Thread nD τ) none Set.univ) $$ H10; iintro H10
    iapply (Own.store 𝒱₀ (c : Thread nD τ) none Set.univ) $$ H10; iintro H10
    iapply (Own.load 𝒱₀ (c : Thread nD τ) none Set.univ) $$ H11; iintro H11
    iapply (Own.store 𝒱₀ (c : Thread nD τ) none Set.univ) $$ H11; iintro H11
    iapply (Own.cast (c : Thread nD τ) ((sB i K V tri lt (qs q)).1) (by exact (congrArg Prod.fst e4).symm)) $$ H10; iintro H10
    iapply (Own.cast (c : Thread nD τ) ((sB i K V tri lt (qs q)).2) (by exact (congrArg Prod.snd e4).symm)) $$ H11; iintro H11
  on_goal 2 =>
    have e4 : (sB i K V tri lt (qs q)) = _ := (show (sB i K V tri lt (qs q)) = step4 i K V tri (qs q) (alive1 (sA i K V tri lt (qs q))) (sA i K V tri lt (qs q)) from rfl).trans (dif_neg hc)
    iapply (Own.branch_neg 𝒱₀ (c : Thread nD τ) none Set.univ (by exact hc))
    simp only [Prog.lift, Prog.bind_op, Prog.bind_ret, Prog.pure_eq_ret]
    iapply (Own.cast (c : Thread nD τ) ((sB i K V tri lt (qs q)).1) (by exact (congrArg Prod.fst e4).symm)) $$ H10; iintro H10
    iapply (Own.cast (c : Thread nD τ) ((sB i K V tri lt (qs q)).2) (by exact (congrArg Prod.snd e4).symm)) $$ H11; iintro H11
  all_goals
    iapply (Own.load 𝒱₀ (c : Thread nD τ) none Set.univ) $$ H11; iintro H11
    iapply (wp_call 𝒱₀ (c : Thread nD τ) none Set.univ 32 (fun u hu => nomatch hu))
    iapply (sweep1 i _ _ arg4 harg4 arg5 harg5 arg9 harg9 arg6 harg6 arg11 harg11 arg10 harg10 K V (qs q) tri c Set.univ 32 le_rfl (j0 i) (alive2 (sB i K V tri lt (qs q))) (sB i K V tri lt (qs q)) (j0_bounds i).1 (j0_bounds i).2 _)
    isplitl [H4 H5 H9 H6 H10 H11]
    · unfold held
      isplitl [H4]; · iexact H4
      isplitl [H5]; · iexact H5
      isplitl [H9]; · iexact H9
      isplitl [H6]; · iexact H6
      isplitl [H11]; · iexact H11
      iexact H10
    iintro H
    unfold held
    icases H with ⟨H4, H5, H9, H6, H11, H10⟩
    iapply (Own.load 𝒱₀ (c : Thread nD τ) none Set.univ) $$ H11; iintro H11
    iapply (wp_call 𝒱₀ (c : Thread nD τ) none Set.univ 32 (fun u hu => nomatch hu))
    iapply (sweep2 i _ _ arg4 harg4 arg5 harg5 arg9 harg9 arg6 harg6 arg11 harg11 arg10 harg10 K V (qs q) tri c Set.univ 32 le_rfl (sC i K V tri lt (qs q)).1.1 (alive3 (sC i K V tri lt (qs q)).2) (sC i K V tri lt (qs q)).2 (sC_bounds i K V tri lt (qs q)).1 (sC_bounds i K V tri lt (qs q)).2 _)
    isplitl [H4 H5 H9 H6 H10 H11]
    · unfold held
      isplitl [H4]; · iexact H4
      isplitl [H5]; · iexact H5
      isplitl [H9]; · iexact H9
      isplitl [H6]; · iexact H6
      isplitl [H11]; · iexact H11
      iexact H10
    iintro H
    unfold held
    icases H with ⟨H4, H5, H9, H6, H11, H10⟩
    iapply (Own.load 𝒱₀ (c : Thread nD τ) none Set.univ) $$ H10; iintro H10
    iapply (Own.load 𝒱₀ (c : Thread nD τ) none Set.univ) $$ H10; iintro H10
    simp only [Prog.bind_op, Prog.bind_ret]
    iapply (Own.load 𝒱₀ (c : Thread nD τ) none Set.univ) $$ H8; iintro H8
    iapply (Own.store 𝒱₀ (c : Thread nD τ) none Set.univ) $$ H8; iintro H8
    iapply (Own.load 𝒱₀ (c : Thread nD τ) none Set.univ) $$ H10; iintro H10
    iapply (Own.load 𝒱₀ (c : Thread nD τ) none Set.univ) $$ H10; iintro H10
    iapply (Own.load 𝒱₀ (c : Thread nD τ) none Set.univ) $$ H8; iintro H8
    iapply (Own.store 𝒱₀ (c : Thread nD τ) none Set.univ) $$ H8; iintro H8
    iapply (Own.cast (c : Thread nD τ) (out i q K V tri lt) (by exact out_of i q K V tri lt x8)) $$ H8; iintro H8
    iapply (Own.cast (c : Thread nD τ) (sD i K V tri lt (qs q)).2.1 (by exact rfl)) $$ H10; iintro H10
    iapply (Own.cast (c : Thread nD τ) (sD i K V tri lt (qs q)).2.2 (by exact rfl)) $$ H11; iintro H11
    rw [wp_ret]; imodintro
    iapply Hk $$ H3 H4 H5 H6 H7 H8 H9 H10 H11

end Cert.OddIdeal.Att

end
-- ==== Proof.OdI.Second.lean ====
/-
  The run of the stick-breaking attention: what its arrays hold where its region begins, what every window's block
  holds before and after the body at each grid point, the body's obligation, and the frame.
-/
module

public import proofs.«01_k».proof.Proof.OdI.Kernel
public import proofs.«01_k».proof.Proof.Gen.OddIdeal.Launch
public import proofs.«01_k».proof.Proof.Gen.OddIdeal.Points
public import Idealize.ShloMosaic.Lib.Claim
public import Idealize.ShloMosaic.Lib.StableHlo.Run

@[expose] public section

set_option maxRecDepth 16384

noncomputable section

namespace Cert.OddIdeal.Att

open Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- A window's block at a grid point, read from its array as the region found it. -/
def iblk (c : Dev nD) (w : Fin (cfg1 (F := F)).W) (t : Fin (cfg1 (F := F)).N) :
    ((cfg1.win w).xblock (cfg1.grid.coords t)).Idx → Elt F (cfg1.win w).elt :=
  ((cfg1.win w).blk t).view.read (Elt F) (V c (Pipeline.arrRef spec1 w))

/-- The blocks at every point: an input's as it was, the result's at `out` of the inputs'. -/
def dat (c : Dev nD) : Dat τ (Elt F) Unit ℕ (UR sig nD τ) ℕ (cfg1 (F := F)) c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (grid1.coords t) (iblk V c 0 t) (iblk V c 1 t) (iblk V c 2 t) (iblk V c 3 t) (iblk V c 4 t)
  Φ _ := Pipeline.ΦA spec1 c
  q w := Pipeline.shareOf spec1 w
  owed _ := 0

theorem A_eq (c : Dev nD) (w : Fin (cfg1 (F := F)).W) : (dat V c).A w = V c (Pipeline.arrRef spec1 w) := rfl

theorem after1_0 (c : Dev nD) (t : Fin (cfg1 (F := F)).N) : (dat V c).after 0 t = iblk V c 0 t := by unfold dat; rfl
theorem after1_1 (c : Dev nD) (t : Fin (cfg1 (F := F)).N) : (dat V c).after 1 t = iblk V c 1 t := by unfold dat; rfl
theorem after1_2 (c : Dev nD) (t : Fin (cfg1 (F := F)).N) : (dat V c).after 2 t = iblk V c 2 t := by unfold dat; rfl
theorem after1_3 (c : Dev nD) (t : Fin (cfg1 (F := F)).N) : (dat V c).after 3 t = iblk V c 3 t := by unfold dat; rfl
theorem after1_4 (c : Dev nD) (t : Fin (cfg1 (F := F)).N) : (dat V c).after 4 t = iblk V c 4 t := by unfold dat; rfl
/-- The result's block after the body. -/
theorem after1_5 (c : Dev nD) (t : Fin (cfg1 (F := F)).N) : (dat V c).after 5 t
    = out (grid1.coords t) (iblk V c 0 t) (iblk V c 1 t) (iblk V c 2 t) (iblk V c 3 t) (iblk V c 4 t) := by
  unfold dat; rfl

/-- A point finds in an operand's buffer what it leaves there. -/
theorem kept (c : Dev nD) (w : Fin (cfg1 (F := F)).W) (hw : w.val < 5) (t : Fin (cfg1 (F := F)).N) (d) : (dat V c).before w t d = (dat V c).after w t := by
  obtain ⟨n, hn⟩ := w
  change n < 5 at hw
  interval_cases n <;>
    exact ((dat V c).before_in_eq_fetched _ rfl (fun _ => rfl) (fun _ _ _ => rfl) (fun t => by unfold Dat.blockOf; rw [A_eq]; unfold dat iblk; rfl) t d).trans
      (by unfold Dat.fetched Dat.blockOf; rw [A_eq]; unfold dat iblk; rfl)

/-- What the body is called with at a point, window by window, -/
def bodyPre (c : Dev nD) (t : Fin (cfg1 (F := F)).N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin (cfg1 (F := F)).N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at a point: the inputs' blocks stay, the result's block is `out` of them, the scratch is the core's own. -/
theorem sound_body (c : Dev nD) (t : Fin (cfg1 (F := F)).N) :
    bodyPre V c t ⊢ wp frame (wpE (defs₀ (F := F)) 𝒱₀ c none) Set.univ (bodyAt1 t) (fun _ => bodyPost V c t) := by
  unfold bodyPre bodyPost bodyAt1
  have hk := fun (w : Fin (cfg1 (F := F)).W) (hw : w.val < 5) => kept V c w hw t
  simp only [hk 0 (by show 0 < 5; decide), hk 1 (by show 1 < 5; decide), hk 2 (by show 2 < 5; decide), hk 3 (by show 3 < 5; decide), hk 4 (by show 4 < 5; decide)]
  rw [show (dat V c).Φ t.succ = Pipeline.ΦA spec1 c from rfl, show (dat V c).Φ t.castSucc = Pipeline.ΦA spec1 c from rfl,
    show (dat V c).owesAt () t.succ = (dat V c).owesAt () t.castSucc from rfl,
    after1_0, after1_1, after1_2, after1_3, after1_4, after1_5]
  unfold Pipeline.ΦA
  rw [scopedRest1_eq]
  iintro ⟨⟨⟨A1, A2, A3, A4, A5, ⟨%f0, S0⟩, ⟨%f1, S1⟩, ⟨%f2, S2⟩, B⟩, Hr⟩, Ho, ⟨%d0, H0⟩, ⟨%d1, H1⟩, ⟨%d2, H2⟩, ⟨%d3, H3⟩, ⟨%d4, H4⟩, ⟨%d5, H5⟩⟩
  iapply (sound_kernel c (grid1.coords t) _ _ _ _ _ _ _ _ _ _ _ _ _ _ _ _ _ _ (iblk V c 0 t) (iblk V c 1 t) (iblk V c 2 t)
    (iblk V c 3 t) (iblk V c 4 t) _ f0 f1 f2)
  isplitl [H0]; · iexact H0
  isplitl [H1]; · iexact H1
  isplitl [H2]; · iexact H2
  isplitl [H3]; · iexact H3
  isplitl [H4]; · iexact H4
  isplitl [H5]; · iexact H5
  isplitl [S0]; · rw [owns_whole]; iexact S0
  isplitl [S1]; · rw [owns_whole]; iexact S1
  isplitl [S2]; · rw [owns_whole]; iexact S2
  rw [owns_whole, owns_whole, owns_whole]
  iintro H0 H1 H2 H3 H4 H5 S0 S1 S2
  isplitl [A1 A2 A3 A4 A5 S0 S1 S2 B Hr]
  · isplitr [Hr]
    · isplitl [A1]; · iexact A1
      isplitl [A2]; · iexact A2
      isplitl [A3]; · iexact A3
      isplitl [A4]; · iexact A4
      isplitl [A5]; · iexact A5
      isplitl [S0]; · iexists _; iexact S0
      isplitl [S1]; · iexists _; iexact S1
      isplitl [S2]; · iexists _; iexact S2
      iexact B
    · iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body. -/
theorem defs₀_row (t : Fin (cfg1 (F := F)).N) :
    defs₀ (F := F) .tc cfg1.body (cfg1.bodyArgs t (cfg1.slots t)) = bodyAt1 t := by
  unfold defs₀; rw [Defs.onTc_tc]

/-- The body's obligation at every point. -/
theorem body_obligation (c : Dev nD) : BodyObligation (dat (F := F) V c) (defs₀ (F := F)) 𝒱₀ () Set.univ := fun t => by
  rw [bigSep_W1, bigSep_W1, defs₀_row]
  exact triple_restated (sound_body V c t) rfl .rfl fun _ => .rfl

end Cert.OddIdeal.Att

end
-- ==== Proof.OdI.Third.lean ====
/-
  The third call of the layer, the mixing and the feed-forward: what its body leaves in each window, and the obligation
  of its body at every grid point, from any contents of the buffers.
-/
module

public import proofs.«01_k».proof.Proof.Gen.OddIdeal.Launch
public import proofs.«01_k».proof.Proof.Gen.OddIdeal.Skeleton
public import proofs.«01_k».proof.Proof.Gen.OddIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

set_option maxRecDepth 16384

noncomputable section

namespace Cert.OddIdeal.Third

open Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/- What the buffers hold where the region begins. -/
variable (V : (c : Dev nD) → (b : Ref sig .tc) → Buf (Elt F) ((c : Thread nD τ).loc b))

def iblk (c : Dev nD) (w : Fin (cfg2 (F := F)).W) (t : Fin (cfg2 (F := F)).N) : (((cfg2 (F := F)).win w).xblock ((cfg2 (F := F)).grid.coords t)).Idx → Elt F ((cfg2 (F := F)).win w).elt :=
  (((cfg2 (F := F)).win w).blk t).view.read (Elt F) (V c (Pipeline.arrRef spec2 w))

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x2816 := Rect.unit (s := S1024x2816) ![0, 0] S1024x256.size inb_S1024x2816_S1024x256_0_0
abbrev r2_4 : Rect S2816x1024 := Rect.unit (s := S2816x1024) ![0, 0] S256x1024.size inb_S2816x1024_S256x1024_0_0
abbrev r2_5 : Rect S1024x2816 := Rect.unit (s := S1024x2816) ![0, 256] S1024x256.size inb_S1024x2816_S1024x256_0_256
abbrev r2_6 : Rect S2816x1024 := Rect.unit (s := S2816x1024) ![256, 0] S256x1024.size inb_S2816x1024_S256x1024_256_0
abbrev r2_7 : Rect S1024x2816 := Rect.unit (s := S1024x2816) ![0, 512] S1024x256.size inb_S1024x2816_S1024x256_0_512
abbrev r2_8 : Rect S2816x1024 := Rect.unit (s := S2816x1024) ![512, 0] S256x1024.size inb_S2816x1024_S256x1024_512_0
abbrev r2_9 : Rect S1024x2816 := Rect.unit (s := S1024x2816) ![0, 768] S1024x256.size inb_S1024x2816_S1024x256_0_768
abbrev r2_10 : Rect S2816x1024 := Rect.unit (s := S2816x1024) ![768, 0] S256x1024.size inb_S2816x1024_S256x1024_768_0
abbrev r2_11 : Rect S1024x2816 := Rect.unit (s := S1024x2816) ![0, 1024] S1024x256.size inb_S1024x2816_S1024x256_0_1024
abbrev r2_12 : Rect S2816x1024 := Rect.unit (s := S2816x1024) ![1024, 0] S256x1024.size inb_S2816x1024_S256x1024_1024_0
abbrev r2_13 : Rect S1024x2816 := Rect.unit (s := S1024x2816) ![0, 1280] S1024x256.size inb_S1024x2816_S1024x256_0_1280
abbrev r2_14 : Rect S2816x1024 := Rect.unit (s := S2816x1024) ![1280, 0] S256x1024.size inb_S2816x1024_S256x1024_1280_0
abbrev r2_15 : Rect S1024x2816 := Rect.unit (s := S1024x2816) ![0, 1536] S1024x256.size inb_S1024x2816_S1024x256_0_1536
abbrev r2_16 : Rect S2816x1024 := Rect.unit (s := S2816x1024) ![1536, 0] S256x1024.size inb_S2816x1024_S256x1024_1536_0
abbrev r2_17 : Rect S1024x2816 := Rect.unit (s := S1024x2816) ![0, 1792] S1024x256.size inb_S1024x2816_S1024x256_0_1792
abbrev r2_18 : Rect S2816x1024 := Rect.unit (s := S2816x1024) ![1792, 0] S256x1024.size inb_S2816x1024_S256x1024_1792_0
abbrev r2_19 : Rect S1024x2816 := Rect.unit (s := S1024x2816) ![0, 2048] S1024x256.size inb_S1024x2816_S1024x256_0_2048
abbrev r2_20 : Rect S2816x1024 := Rect.unit (s := S2816x1024) ![2048, 0] S256x1024.size inb_S2816x1024_S256x1024_2048_0
abbrev r2_21 : Rect S1024x2816 := Rect.unit (s := S1024x2816) ![0, 2304] S1024x256.size inb_S1024x2816_S1024x256_0_2304
abbrev r2_22 : Rect S2816x1024 := Rect.unit (s := S2816x1024) ![2304, 0] S256x1024.size inb_S2816x1024_S256x1024_2304_0
abbrev r2_23 : Rect S1024x2816 := Rect.unit (s := S1024x2816) ![0, 2560] S1024x256.size inb_S1024x2816_S1024x256_0_2560
abbrev r2_24 : Rect S2816x1024 := Rect.unit (s := S2816x1024) ![2560, 0] S256x1024.size inb_S2816x1024_S256x1024_2560_0

def nrm (x0 : Vec F S512x1024 .bf16) (x1 : Vec F S1024x1024 .bf16) (x2 : Vec F S512x1024 .f32) (x3 x4 : Vec F S1x1024 .f32) : FVec F S512x1024 .bf16 :=
  k2_pay3 (View.ld x0 r2_0) (View.ld x1 r2_1) (View.ld x2 r2_0) (View.ld x3 r2_2) (View.ld x4 r2_2)

def out2_10 (x0 : Vec F S512x1024 .bf16) (x1 : Vec F S1024x1024 .bf16) (x2 : Vec F S512x1024 .f32) (x3 x4 : Vec F S1x1024 .f32) (x5 x6 : Vec F S1024x2816 .bf16) (x7 : Vec F S2816x1024 .bf16) (x8 x9 : Vec F S1x1024 .f32) : Vec F S512x1024 .f32 :=
  View.canon [⟨r2_0, k2_pay1 (View.ld x9 r2_2) (k2_pay12 (nrm x0 x1 x2 x3 x4) (k2_pay10 (nrm x0 x1 x2 x3 x4) (k2_pay8 (nrm x0 x1 x2 x3 x4) (k2_pay6 (nrm x0 x1 x2 x3 x4) (k2_pay4 (View.ld x0 r2_0) (View.ld x1 r2_1) (View.ld x2 r2_0) (View.ld x3 r2_2) (View.ld x4 r2_2)) (k2_pay5 (View.ld x0 r2_0) (View.ld x1 r2_1) (View.ld x2 r2_0) (View.ld x3 r2_2) (View.ld x4 r2_2) (View.ld x5 r2_3)) (View.ld x6 r2_3) (View.ld x7 r2_4) (View.ld x5 r2_5) (View.ld x6 r2_5) (View.ld x7 r2_6) (View.ld x5 r2_7) (View.ld x6 r2_7) (View.ld x7 r2_8)) (k2_pay7 (nrm x0 x1 x2 x3 x4) (View.ld x5 r2_9)) (View.ld x6 r2_9) (View.ld x7 r2_10) (View.ld x5 r2_11) (View.ld x6 r2_11) (View.ld x7 r2_12) (View.ld x5 r2_13) (View.ld x6 r2_13) (View.ld x7 r2_14)) (k2_pay9 (nrm x0 x1 x2 x3 x4) (View.ld x5 r2_15)) (View.ld x6 r2_15) (View.ld x7 r2_16) (View.ld x5 r2_17) (View.ld x6 r2_17) (View.ld x7 r2_18) (View.ld x5 r2_19) (View.ld x6 r2_19) (View.ld x7 r2_20)) (k2_pay11 (nrm x0 x1 x2 x3 x4) (View.ld x5 r2_21)) (View.ld x6 r2_21) (View.ld x7 r2_22) (View.ld x5 r2_23) (View.ld x6 r2_23) (View.ld x7 r2_24) ) (k2_pay13 (View.ld x8 r2_2))⟩]

theorem cover2_10 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

set_option maxHeartbeats 1000000 in
theorem sound_kernel (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole)
    (x0 : Vec F S512x1024 .bf16) (x1 : Vec F S1024x1024 .bf16) (x2 : Vec F S512x1024 .f32) (x3 x4 : Vec F S1x1024 .f32) (x5 x6 : Vec F S1024x2816 .bf16) (x7 : Vec F S2816x1024 .bf16) (x8 x9 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.nat c none) E (cc2_mix_ffn i arg1 harg1 arg2 harg2 arg3 harg3 arg4 harg4 arg5 harg5 arg6 harg6 arg7 harg7 arg8 harg8 arg9 harg9 arg10 harg10 arg11 harg11) K := by
  simp only [cc2_mix_ffn_eq_skeleton]; unfold cc2_mix_ffn_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover2_10 _)).trans ?_
  rfl

def dat (c : Dev nD) : Dat τ (Elt F) Unit ℕ (UR sig nD τ) ℕ (cfg2 (F := F)) c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out2_10 (iblk V c 0 t) (iblk V c 1 t) (iblk V c 2 t) (iblk V c 3 t) (iblk V c 4 t) (iblk V c 5 t) (iblk V c 6 t) (iblk V c 7 t) (iblk V c 8 t) (iblk V c 9 t)
  Φ _ := Pipeline.ΦA spec2 c
  q _ := fullShare
  owed _ := 0

theorem A_eq (c : Dev nD) (w : Fin (cfg2 (F := F)).W) : (dat V c).A w = V c (Pipeline.arrRef spec2 w) := by
  dsimp only [dat]

theorem after2_0 (c : Dev nD) (t : Fin (cfg2 (F := F)).N) : (dat V c).after 0 t = iblk V c 0 t := by unfold dat; rfl
theorem after2_1 (c : Dev nD) (t : Fin (cfg2 (F := F)).N) : (dat V c).after 1 t = iblk V c 1 t := by unfold dat; rfl
theorem after2_2 (c : Dev nD) (t : Fin (cfg2 (F := F)).N) : (dat V c).after 2 t = iblk V c 2 t := by unfold dat; rfl
theorem after2_3 (c : Dev nD) (t : Fin (cfg2 (F := F)).N) : (dat V c).after 3 t = iblk V c 3 t := by unfold dat; rfl
theorem after2_4 (c : Dev nD) (t : Fin (cfg2 (F := F)).N) : (dat V c).after 4 t = iblk V c 4 t := by unfold dat; rfl
theorem after2_5 (c : Dev nD) (t : Fin (cfg2 (F := F)).N) : (dat V c).after 5 t = iblk V c 5 t := by unfold dat; rfl
theorem after2_6 (c : Dev nD) (t : Fin (cfg2 (F := F)).N) : (dat V c).after 6 t = iblk V c 6 t := by unfold dat; rfl
theorem after2_7 (c : Dev nD) (t : Fin (cfg2 (F := F)).N) : (dat V c).after 7 t = iblk V c 7 t := by unfold dat; rfl
theorem after2_8 (c : Dev nD) (t : Fin (cfg2 (F := F)).N) : (dat V c).after 8 t = iblk V c 8 t := by unfold dat; rfl
theorem after2_9 (c : Dev nD) (t : Fin (cfg2 (F := F)).N) : (dat V c).after 9 t = iblk V c 9 t := by unfold dat; rfl
attribute [local irreducible] out2_10 in
theorem after2_10 (c : Dev nD) (t : Fin (cfg2 (F := F)).N) : (dat V c).after 10 t = out2_10 (iblk V c 0 t) (iblk V c 1 t) (iblk V c 2 t) (iblk V c 3 t) (iblk V c 4 t) (iblk V c 5 t) (iblk V c 6 t) (iblk V c 7 t) (iblk V c 8 t) (iblk V c 9 t) := by unfold dat; rfl

/-- A point finds in an operand's buffer what it leaves there. -/
theorem kept (c : Dev nD) (w : Fin (cfg2 (F := F)).W) (hw : w.val < 10) (t : Fin (cfg2 (F := F)).N) (d) : (dat V c).before w t d = (dat V c).after w t := by
  obtain ⟨n, hn⟩ := w
  change n < 10 at hw
  interval_cases n <;>
    exact ((dat V c).before_in_eq_fetched _ rfl (fun _ => rfl) (fun _ _ _ => rfl) (fun t => by unfold Dat.blockOf dat iblk; rfl) t d).trans
      (by unfold Dat.fetched Dat.blockOf dat iblk; rfl)

def bodyPre (c : Dev nD) (t : Fin (cfg2 (F := F)).N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d)))

def bodyPost (c : Dev nD) (t : Fin (cfg2 (F := F)).N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t))

theorem sound_body (c : Dev nD) (t : Fin (cfg2 (F := F)).N) :
    bodyPre V c t ⊢ wp frame (wpE (defs₀ (F := F)) Variants.nat c none) Set.univ (bodyAt2 t) (fun _ => bodyPost V c t) := by
  unfold bodyPre bodyPost bodyAt2
  have hk := fun (w : Fin (cfg2 (F := F)).W) (hw : w.val < 10) => kept V c w hw t
  simp only [hk 0 (by show 0 < 10; decide), hk 1 (by show 1 < 10; decide), hk 2 (by show 2 < 10; decide), hk 3 (by show 3 < 10; decide), hk 4 (by show 4 < 10; decide), hk 5 (by show 5 < 10; decide), hk 6 (by show 6 < 10; decide), hk 7 (by show 7 < 10; decide), hk 8 (by show 8 < 10; decide), hk 9 (by show 9 < 10; decide)]
  rw [show (dat V c).Φ t.succ = (dat V c).Φ t.castSucc from rfl,
    show (dat V c).owesAt () t.succ = (dat V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid2.coords t) _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin (cfg2 (F := F)).N) :
    defs₀ (F := F) .tc (cfg2 (F := F)).body ((cfg2 (F := F)).bodyArgs t ((cfg2 (F := F)).slots t)) = bodyAt2 t := by
  unfold defs₀; rw [Defs.onTc_tc]

theorem body_obligation (c : Dev nD) : BodyObligation (dat (F := F) V c) (defs₀ (F := F)) Variants.nat () Set.univ := fun t => by
  rw [bigSep_W2, bigSep_W2, defs₀_row]
  exact triple_restated (sound_body V c t) rfl .rfl fun _ => .rfl

end Cert.OddIdeal.Third

end
-- ==== Proof.OdI.Whole.lean ====
/-
  The whole layer: the three calls and the host operations between them in order, what every buffer holds at each boundary,
  and from the launch the frame and the contents of the result.
-/
module

public import proofs.«01_k».proof.Proof.OdI.First
public import proofs.«01_k».proof.Proof.OdI.Second
public import proofs.«01_k».proof.Proof.OdI.Third
public import proofs.«01_k».proof.Proof.Gen.OddIdeal.Regions

@[expose] public section

set_option maxRecDepth 16384

noncomputable section

namespace Cert.OddIdeal.Whole

open Cert.OddIdeal.Gen hiding V0 V1 V2 V3 V4 V5 V6 V7 V8 V9 adm segs seg1 seg2 seg3 seg4 seg5 seg7
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of a core, read at the references of its thread. -/
abbrev at' (W : Dev nD → Valuation τ sig (Elt F)) : (c : Dev nD) → (b : Ref sig .tc) → Buf (Elt F) ((c : Thread nD τ).loc b) :=
  fun c b => W c b

/-- What the buffers hold at the launch, -/
abbrev W0 (c : Dev nD) : Valuation τ sig (Elt F) := fun b => m (c, b)
/-- after the projection, -/
def W1 (c : Dev nD) : Valuation τ sig (Elt F) :=
  Pipeline.withArrays spec0 c (W0 m c) fun w => (First.dat (at' (W0 m)) c).arrAt w (cfg0 (F := F)).N
/-- after each of the host stretches before the attention, -/
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)
abbrev W5 (c : Dev nD) : Valuation τ sig (Elt F) := StableHlo.after hostOps1_3 (W4 m c)
def W6 (c : Dev nD) : Valuation τ sig (Elt F) := StableHlo.after hostOps1_4 (W5 m c)
/-- after the attention, -/
def W7 (c : Dev nD) : Valuation τ sig (Elt F) :=
  Pipeline.withArrays spec1 c (W6 m c) fun w => (Att.dat (at' (W6 m)) c).arrAt w (cfg1 (F := F)).N
/-- after the reshape, -/
def W8 (c : Dev nD) : Valuation τ sig (Elt F) := StableHlo.after hostOps2 (W7 m c)
/-- and after the feed-forward. -/
def W9 (c : Dev nD) : Valuation τ sig (Elt F) :=
  Pipeline.withArrays spec2 c (W8 m c) fun w => (Third.dat (at' (W8 m)) c).arrAt w (cfg2 (F := F)).N

theorem W1_arr (c : Dev nD) (w : Fin (cfg0 (F := F)).W) :
    W1 m c (Proc.devRef .tc (Pipeline.arrRef spec0 w)) = (First.dat (at' (W0 m)) c).arrAt w (cfg0 (F := F)).N := by
  unfold W1; exact Pipeline.withArrays_arr spec0 winFacts0.arr_inj c _ _ w
theorem W7_arr (c : Dev nD) (w : Fin (cfg1 (F := F)).W) :
    W7 m c (Proc.devRef .tc (Pipeline.arrRef spec1 w)) = (Att.dat (at' (W6 m)) c).arrAt w (cfg1 (F := F)).N := by
  unfold W7; exact (Att.dat (at' (W6 m)) c).withArrays_arrAt sharedIn1 (W6 m c) (Att.A_eq (at' (W6 m)) c) w
theorem W9_arr (c : Dev nD) (w : Fin (cfg2 (F := F)).W) :
    W9 m c (Proc.devRef .tc (Pipeline.arrRef spec2 w)) = (Third.dat (at' (W8 m)) c).arrAt w (cfg2 (F := F)).N := by
  unfold W9; exact Pipeline.withArrays_arr spec2 winFacts2.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A buffer that is no output array of the call is left as it was. -/
theorem W1_of (c : Dev nD) (r : Ref sig .tc) (h : ∀ w : Fin (cfg0 (F := F)).W, Pipeline.arrRef spec0 w = r → ((cfg0 (F := F)).win w).isOut = false) :
    W1 m c (Proc.devRef .tc r) = W0 m c (Proc.devRef .tc r) := by
  by_cases hw : ∃ w : Fin (cfg0 (F := F)).W, Pipeline.arrRef spec0 w = r
  · obtain ⟨w, rfl⟩ := hw
    exact (W1_arr m c w).trans (((First.dat (at' (W0 m)) c).arrAt_in w (h w rfl) _).trans (First.A_eq (at' (W0 m)) c w))
  · exact W1_of_ne m c r fun w e => hw ⟨w, e⟩
theorem hF0 (c : Dev nD) (w : Fin (cfg0 (F := F)).W) :
    (First.dat (at' (W0 m)) c).arrAt w (cfg0 (F := F)).N = at' (W1 m) c (Pipeline.arrRef spec0 w) := (W1_arr m c w).symm
theorem hrest0 (c : Dev nD) : ∀ b, b ∉ Finset.univ.image (Pipeline.arrRef spec0) → at' (W1 m) c b = at' (W0 m) c b :=
  fun b hb => W1_of_ne m c b fun w e => hb (Finset.mem_image.mpr ⟨w, Finset.mem_univ _, e⟩)
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- A buffer that is no output array of the call is left as it was. -/
theorem W7_of (c : Dev nD) (r : Ref sig .tc) (h : ∀ w : Fin (cfg1 (F := F)).W, Pipeline.arrRef spec1 w = r → ((cfg1 (F := F)).win w).isOut = false) :
    W7 m c (Proc.devRef .tc r) = W6 m c (Proc.devRef .tc r) := by
  by_cases hw : ∃ w : Fin (cfg1 (F := F)).W, Pipeline.arrRef spec1 w = r
  · obtain ⟨w, rfl⟩ := hw
    exact (W7_arr m c w).trans (((Att.dat (at' (W6 m)) c).arrAt_in w (h w rfl) _).trans (Att.A_eq (at' (W6 m)) c w))
  · exact W7_of_ne m c r fun w e => hw ⟨w, e⟩
theorem hF1 (c : Dev nD) (w : Fin (cfg1 (F := F)).W) :
    (Att.dat (at' (W6 m)) c).arrAt w (cfg1 (F := F)).N = at' (W7 m) c (Pipeline.arrRef spec1 w) := (W7_arr m c w).symm
theorem hrest1 (c : Dev nD) : ∀ b, b ∉ Finset.univ.image (Pipeline.arrRef spec1) → at' (W7 m) c b = at' (W6 m) c b :=
  fun b hb => W7_of_ne m c b fun w e => hb (Finset.mem_image.mpr ⟨w, Finset.mem_univ _, e⟩)
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- A buffer that is no output array of the call is left as it was. -/
theorem W9_of (c : Dev nD) (r : Ref sig .tc) (h : ∀ w : Fin (cfg2 (F := F)).W, Pipeline.arrRef spec2 w = r → ((cfg2 (F := F)).win w).isOut = false) :
    W9 m c (Proc.devRef .tc r) = W8 m c (Proc.devRef .tc r) := by
  by_cases hw : ∃ w : Fin (cfg2 (F := F)).W, Pipeline.arrRef spec2 w = r
  · obtain ⟨w, rfl⟩ := hw
    exact (W9_arr m c w).trans (((Third.dat (at' (W8 m)) c).arrAt_in w (h w rfl) _).trans (Third.A_eq (at' (W8 m)) c w))
  · exact W9_of_ne m c r fun w e => hw ⟨w, e⟩
theorem hF2 (c : Dev nD) (w : Fin (cfg2 (F := F)).W) :
    (Third.dat (at' (W8 m)) c).arrAt w (cfg2 (F := F)).N = at' (W9 m) c (Pipeline.arrRef spec2 w) := (W9_arr m c w).symm
theorem hrest2 (c : Dev nD) : ∀ b, b ∉ Finset.univ.image (Pipeline.arrRef spec2) → at' (W9 m) c b = at' (W8 m) c b :=
  fun b hb => W9_of_ne m c b fun w e => hb (Finset.mem_image.mpr ⟨w, Finset.mem_univ _, e⟩)
/-- The arguments, -/
abbrev argRefs : List (Ref sig .tc) :=
  [main_arg0, main_arg1, main_arg2, main_arg3, main_arg4, main_arg5, main_arg6, main_arg7, main_arg8, main_arg9]
/-- none of which is the result of a call or of a host operation. -/
theorem argsIn0 : ∀ a ∈ argRefs, ∀ w : Fin 3, Pipeline.arrRef spec0 w = a → (spec0 w).isOut = false :=
  ListAll.forall_mem_of_all_decide (by decide +kernel)
theorem argsIn1 : ∀ a ∈ argRefs, ∀ w : Fin 6, Pipeline.arrRef spec1 w = a → (spec1 w).isOut = false :=
  ListAll.forall_mem_of_all_decide (by decide +kernel)
theorem argsIn2 : ∀ a ∈ argRefs, ∀ w : Fin 11, Pipeline.arrRef spec2 w = a → (spec2 w).isOut = false :=
  ListAll.forall_mem_of_all_decide (by decide +kernel)
theorem argsHost : ∀ a ∈ argRefs, a ∉ hostOps1_W ++ hostOps1_1_W ++ hostOps1_2_W ++ hostOps1_3_W ++ hostOps1_4_W ++ hostOps2_W :=
  ListAll.forall_mem_of_all_decide (by decide +kernel)

/-- A buffer the host stretches before the attention do not write. -/
theorem W6_of (c : Dev nD) (r : Ref sig .tc)
    (h : r ∉ hostOps1_W ++ hostOps1_1_W ++ hostOps1_2_W ++ hostOps1_3_W ++ hostOps1_4_W ++ hostOps2_W) :
    W6 m c (Proc.devRef .tc r) = W1 m c (Proc.devRef .tc r) := by
  simp only [List.mem_append, not_or] at h
  obtain ⟨⟨⟨⟨⟨h1, h2⟩, h3⟩, h4⟩, h5⟩, h6⟩ := h
  unfold W6
  exact (StableHlo.after_of_writes_sub hostOps1_4 _ hostOps1_4_writes h5).trans <|
    (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    StableHlo.after_of_writes_sub hostOps1 _ hostOps1_writes h1
theorem W8_of (c : Dev nD) (r : Ref sig .tc) (h : r ∉ hostOps2_W) :
    W8 m c (Proc.devRef .tc r) = W7 m c (Proc.devRef .tc r) := by
  unfold W8; exact StableHlo.after_of_writes_sub hostOps2 _ hostOps2_writes h

/-- What an argument holds before the last call, -/
theorem W8_args (c : Dev nD) (a : Ref sig .tc) (ha : a ∈ argRefs) : W8 m c (Proc.devRef .tc a) = m ((c : Thread nD τ).loc a) :=
  (W8_of m c a fun h => argsHost a ha (List.mem_append_right _ h)).trans <| (W7_of m c a (argsIn1 a ha)).trans <|
    (W6_of m c a (argsHost a ha)).trans (W1_of m c a (argsIn0 a ha))
/-- and at the end. -/
theorem W9_args (c : Dev nD) (a : Ref sig .tc) (ha : a ∈ argRefs) : W9 m c (Proc.devRef .tc a) = m ((c : Thread nD τ).loc a) :=
  (W9_of m c a (argsIn2 a ha)).trans (W8_args m c a ha)

abbrev adm : (p : Fin 3) → (pcfgs (F := F) p).Adm := fun p => ((cfgs (F := F)) p).toPCfg_adm
def pdats : (p : Fin 3) → (c : Dev nD) → Dat τ (Elt F) Unit ℕ (UR sig nD τ) ℕ (Pipeline.pin (pcfgs (F := F)) adm p) c
  | ⟨0, _⟩ => fun c => First.dat (at' (W0 m)) c
  | ⟨1, _⟩ => fun c => Att.dat (at' (W6 m)) c
  | ⟨2, _⟩ => fun c => Third.dat (at' (W8 m)) c
abbrev 𝒱₀ : Variants := Variants.nat
abbrev L : GSem nD τ sig → Finset Unit := fun _ => ∅
abbrev lv : GSem nD τ sig → Unit → ℕ := fun _ _ => 0
/-- What stays beside the buffers at each boundary. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-- Entering a call: the buffers split into the call's arrays and the rest. -/
theorem enter {A B Z G O O' E K T : sProp 𝕄} (h : B ⊢ iprop(A ∗ Z)) (ht : (BI.emp : sProp 𝕄) ⊢ T) (ho : O ⊢ O') :
    iprop((B ∗ G ∗ O) ∗ E ∗ K) ⊢ |={Set.univ}=> iprop(A ∗ T ∗ O' ∗ G ∗ Z) := by
  iintro ⟨⟨Hb, Hg, HO⟩, -, -⟩
  ihave H := h $$ Hb
  icases H with ⟨Ha, Hz⟩
  imodintro
  isplitl [Ha]; · iexact Ha
  isplitr; · iapply ht; iempintro
  isplitl [HO]; · iapply ho; iexact HO
  isplitl [Hg]; · iexact Hg
  iexact Hz
/-- Leaving it: the arrays and the rest join again. -/
theorem leave {A B Z G O O' X : sProp 𝕄} (h : iprop(A ∗ Z) ⊢ B) (ho : O' ⊢ O) (hx : iprop(B ∗ G ∗ O) ⊢ X) :
    iprop(A ∗ O' ∗ G ∗ Z) ⊢ |={Set.univ}=> X := by
  iintro ⟨Ha, HO, Hg, Hz⟩
  imodintro
  iapply hx
  isplitl [Ha Hz]
  · iapply h; isplitl [Ha] <;> iassumption
  isplitl [Hg]; · iexact Hg
  iapply ho; iexact HO
theorem assoc {A B C : sProp 𝕄} : iprop(A ∗ B ∗ C) ⊢ iprop((A ∗ B) ∗ C) := by
  iintro ⟨Ha, Hb, Hc⟩
  isplitl [Ha Hb]; · isplitl [Ha] <;> iassumption
  iexact Hc
theorem swap_in {A B C : sProp 𝕄} : iprop(A ∗ B ∗ C) ⊢ iprop(C ∗ A) := by
  iintro ⟨Ha, -, Hc⟩; isplitl [Hc] <;> iassumption
theorem swap_out {A C : sProp 𝕄} : iprop(C ∗ A) ⊢ iprop(A ∗ emp ∗ C) := by
  iintro ⟨Hc, Ha⟩
  isplitl [Ha]; · iexact Ha
  isplitr; · iempintro
  iexact Hc
theorem owes_in (c : Dev nD) {B : Set (SemLoc sig × Unit)} (hB : ∀ x, x ∈ B) :
    iprop(∃ W, owes (c : Thread nD τ) (0 : CellTallies nD τ sig Unit) W) ⊢ (Pipeline.owesWithin c 0 B : sProp 𝕄) := by
  iintro ⟨%W, HO⟩; iexists W; isplitr; · ipureintro; exact fun x _ => hB x
  iexact HO
theorem owes_out (c : Dev nD) {B : Set (SemLoc sig × Unit)} :
    (Pipeline.owesWithin c 0 B : sProp 𝕄) ⊢ iprop(∃ W, owes (c : Thread nD τ) (0 : CellTallies nD τ sig Unit) W) := by
  iintro ⟨%W, -, HO⟩; iexists W; iexact HO
theorem no_tables {f : Fin 0 → sProp 𝕄} : (BI.emp : sProp 𝕄) ⊢ bigSep Finset.univ f := by
  rw [show (Finset.univ : Finset (Fin 0)) = ∅ from rfl, BI.bigSep_empty]

set_option backward.isDefEq.respectTransparency.types false in
/-- The projection between its boundaries. -/
def reg0 : Pipeline.RegionSeg (pcfgs (F := F)) adm (pdats m) () defs₀ 𝒱₀ L lv 0 where
  win := winFacts0.to₀
  block_pos := block_pos0
  stage_whole := stage_whole0
  K := PEmpty
  osem k := k.elim
  ho := Pipeline.OwnSemFacts.none _
  hbody c := (First.body_obligation (at' (W0 m)) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (at' (W0 m) c)
  hentry c := by
    rw [Pipeline.ownSems0_none]
    have hsplit := Pipeline.arrays_of_unscopedBufs (p := 0) (pcfgs (F := F)) adm (pdats m) winFacts0 arr_whole0 c
      ((pdats m 0 c).share_full fun _ => rfl) (at' (W0 m) c) (First.A_eq (at' (W0 m)) c)
    rw [Pipeline.unscopedBufs_held] at hsplit
    exact enter hsplit no_tables (owes_in c fun _ => Or.inl trivial)
  hin c := swap_in
  hout c := by rw [Pipeline.ownSems0_none]; exact swap_out
  hexit c := by
    have hjoin := Pipeline.unscopedBufs_of_arrays (p := 0) (pcfgs (F := F)) adm (Ix := Unit) (Name := ℕ) (U := UR sig nD τ) (Lvl := ℕ)
      winFacts0 arr_whole0 c (pdats m) ((pdats m 0 c).share_full fun _ => rfl)
      (at' (W0 m) c) (at' (W1 m) c) ((pdats m 0 c).arrAt · (cfg0 (F := F)).N) (hF0 m c) (hrest0 m c)
    rw [Pipeline.unscopedBufs_held] at hjoin
    exact leave hjoin (owes_out c) .rfl

set_option backward.isDefEq.respectTransparency.types false in
/-- The attention between its boundaries. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Att.body_obligation (at' (W6 m)) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (at' (W6 m) c)
  hentry c := by
    rw [Pipeline.ownSems0_none]
    have hsplit := Pipeline.arrays_of_unscopedBufs_shared (p := 1) (pcfgs (F := F)) adm (pdats m) winFacts₀1 sharedIn1 arr_whole1 c
      (fun _ _ => rfl) (at' (W6 m) c) (Att.A_eq (at' (W6 m)) c)
    rw [Pipeline.unscopedBufs_held] at hsplit
    exact enter hsplit no_tables (owes_in c fun _ => Or.inl trivial)
  hin c := swap_in
  hout c := by rw [Pipeline.ownSems0_none]; exact swap_out
  hexit c := by
    have hjoin := Pipeline.unscopedBufs_of_arrays_shared (p := 1) (pcfgs (F := F)) adm (Ix := Unit) (Name := ℕ) (U := UR sig nD τ) (Lvl := ℕ)
      winFacts₀1 sharedIn1 arr_whole1 c (pdats m) (fun _ _ => rfl)
      (at' (W6 m) c) (at' (W7 m) c) ((pdats m 1 c).arrAt · (cfg1 (F := F)).N) (hF1 m c) (hrest1 m c)
    rw [Pipeline.unscopedBufs_held] at hjoin
    exact leave hjoin (owes_out c) .rfl

set_option backward.isDefEq.respectTransparency.types false in
/-- The mixing and the feed-forward between its boundaries. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (Third.body_obligation (at' (W8 m)) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (at' (W8 m) c)
  hentry c := by
    rw [Pipeline.ownSems0_none]
    have hsplit := Pipeline.arrays_of_unscopedBufs (p := 2) (pcfgs (F := F)) adm (pdats m) winFacts2 arr_whole2 c
      ((pdats m 2 c).share_full fun _ => rfl) (at' (W8 m) c) (Third.A_eq (at' (W8 m)) c)
    rw [Pipeline.unscopedBufs_held] at hsplit
    exact enter hsplit no_tables (owes_in c fun _ => Or.inl trivial)
  hin c := swap_in
  hout c := by rw [Pipeline.ownSems0_none]; exact swap_out
  hexit c := by
    have hjoin := Pipeline.unscopedBufs_of_arrays (p := 2) (pcfgs (F := F)) adm (Ix := Unit) (Name := ℕ) (U := UR sig nD τ) (Lvl := ℕ)
      winFacts2 arr_whole2 c (pdats m) ((pdats m 2 c).share_full fun _ => rfl)
      (at' (W8 m) c) (at' (W9 m) c) ((pdats m 2 c).arrAt · (cfg2 (F := F)).N) (hF2 m c) (hrest2 m c)
    rw [Pipeline.unscopedBufs_held] at hjoin
    exact leave hjoin (owes_out c) assoc

/-- The calls and the host stretches in order. -/
abbrev segs : List (Pipeline.Seg (pcfgs (F := F)) adm (pdats m) () defs₀ 𝒱₀ L lv) :=
  [ .region (reg0 m), .host (hseg hostOps1 hostOps1_sub hostOps1_fresh (W1 m)),
    .host (hseg hostOps1_1 hostOps1_1_sub hostOps1_1_fresh (W2 m)), .host (hseg hostOps1_2 hostOps1_2_sub hostOps1_2_fresh (W3 m)),
    .host (hseg hostOps1_3 hostOps1_3_sub hostOps1_3_fresh (W4 m)), .host (hseg hostOps1_4 hostOps1_4_sub hostOps1_4_fresh (W5 m)),
    .region (reg1 m), .host (hseg hostOps2 hostOps2_sub hostOps2_fresh (W7 m)), .region (reg2 m) ]
theorem main_run (c : Dev nD) : main (F := F) c = Pipeline.Seg.run (segs m) := (main_chain c).trans (by chain_rfl)

set_option backward.isDefEq.respectTransparency.types false in
/-- From any memory with zero counters every execution ends, with every buffer as at the last boundary and every counter at
    zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W9 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (cfgs (F := F)) cellOf_inj) (Pipeline.launchToks (cfgs (F := F)) cellOf_inj))
    (hu₀ := by
      iintro Hu; imodintro
      isplitl [Hu]
      · iapply (show (ownU (initOf (Pipeline.cells (cfgs (F := F)) cellOf_inj) (Pipeline.launchToks (cfgs (F := F)) cellOf_inj)) : sProp 𝕄)
            ⊢ BI.own (emb₁ (initOf (Pipeline.cells (cfgs (F := F)) cellOf_inj) (Pipeline.launchToks (cfgs (F := F)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h hz => ⟨h, funext fun g => hz g (.inr (regions_no_unscoped g.2))⟩)

/-- An argument read at the end. -/
theorem arg_end (c : Dev nD) (s : (ℓ : Loc nD τ sig) → Buf (Elt F) ℓ) (h : ∀ b ∈ Pipeline.ucRefs τ sig, s (((c : Thread nD τ)).1, b) = W9 m c b)
    (a : Ref sig .tc) (ha : a ∈ argRefs) (hs : ¬ (Proc.devRef .tc a : DevRef τ sig).isScoped) :
    s ((c.tc : Thread nD τ).loc a) = m ((c.tc : Thread nD τ).loc a) := (h _ (mem_uc a hs)).trans (W9_args m c a ha)

/-- The arguments read at the end. -/
theorem args_end (c : Dev nD) (s : (ℓ : Loc nD τ sig) → Buf (Elt F) ℓ) (h : ∀ b ∈ Pipeline.ucRefs τ sig, s (((c : Thread nD τ)).1, b) = W9 m c b) :
      s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9) :=
  ⟨arg_end m c s h main_arg0 (by decide) (by decide),
   arg_end m c s h main_arg1 (by decide) (by decide),
   arg_end m c s h main_arg2 (by decide) (by decide),
   arg_end m c s h main_arg3 (by decide) (by decide),
   arg_end m c s h main_arg4 (by decide) (by decide),
   arg_end m c s h main_arg5 (by decide) (by decide),
   arg_end m c s h main_arg6 (by decide) (by decide),
   arg_end m c s h main_arg7 (by decide) (by decide),
   arg_end m c s h main_arg8 (by decide) (by decide),
   arg_end m c s h main_arg9 (by decide) (by decide)⟩

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => args_end m c r.2.mem (h.1 c), h.2⟩) (run m ρ)

/-- The result's array at the end, and the arguments as they were. -/
theorem run_out : θ_run defs (onTc (τ := τ) (main (F := F))) ⟨m, fun _ => 0, ρ⟩ (fun r => ∀ c : Dev nD,
      r.2.mem ((c.tc : Thread nD τ).loc main_v19) = (Third.dat (at' (W8 m)) c).arrAt 10 (cfg2 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h.1 c _ (mem_uc main_v19 (by decide))).trans (W9_arr m c 10), args_end m c r.2.mem (h.1 c)⟩) (run m ρ)

end Cert.OddIdeal.Whole

end
-- ==== Proof.OdV.Ffn.lean ====
/-
  The body of the odd layer's last call and that of the mixing and feed-forward block alone: the same function of the
  blocks.
-/
module

public import proofs.«01_k».proof.Proof.OdI.Third
public import proofs.«01_k».proof.Proof.Gen.FfnOddIdeal.Frame
public import Idealize.ShloMosaic.Lib.Pipeline.ValueKit

@[expose] public section

set_option maxRecDepth 16384

noncomputable section

open Idealize.ShloMosaic

namespace Cert.OddIdeal.Third

open Cert.OddIdeal Cert.OddIdeal.Gen

variable {F : FTy → Type} [FloatOps F] [Named F]
variable (a : Vec F S512x1024 .bf16) (b : Vec F S1024x1024 .bf16) (c : Vec F S512x1024 .f32) (d e : Vec F S1x1024 .f32)
  (u u' u'' v v' v'' : Vec F S1024x256 .bf16) (z z' z'' : Vec F S256x1024 .bf16) (n : FVec F S512x1024 .bf16) (y : FVec F S512x1024 .f32)
  (p : FVec F S512x256 .f32)

theorem pay2_eq : k2_pay2 a b c d e = Cert.FfnOddIdeal.Gen.k0_pay2 a b c d e := by
  unfold k2_pay2; simp only [shapeCast_self]; rfl
theorem pay3_eq : k2_pay3 a b c d e = Cert.FfnOddIdeal.Gen.k0_pay3 a b c d e := by
  unfold k2_pay3; rw [pay2_eq]; rfl
theorem pay4_eq : k2_pay4 a b c d e = Cert.FfnOddIdeal.Gen.k0_pay4 a b c d e := by
  unfold k2_pay4; rw [pay2_eq]; rfl
theorem pay5_eq : k2_pay5 a b c d e u = Cert.FfnOddIdeal.Gen.k0_pay5 a b c d e u := by
  unfold k2_pay5; rw [pay3_eq]; rfl
theorem pay6_eq : k2_pay6 n y p u z u' v z' u'' v' z'' = Cert.FfnOddIdeal.Gen.k0_pay6 n y p u (constant S512x256 .f32 0x00000000#32) z u' v z' u'' v' z'' := rfl
theorem pay7_eq : k2_pay7 n u = Cert.FfnOddIdeal.Gen.k0_pay7 n u := rfl
theorem pay8_eq : k2_pay8 n y p u z u' v z' u'' v' z'' = Cert.FfnOddIdeal.Gen.k0_pay8 n y p u (constant S512x256 .f32 0x00000000#32) z u' v z' u'' v' z'' := rfl
theorem pay9_eq : k2_pay9 n u = Cert.FfnOddIdeal.Gen.k0_pay9 n u := rfl
theorem pay10_eq : k2_pay10 n y p u z u' v z' u'' v' z'' = Cert.FfnOddIdeal.Gen.k0_pay10 n y p u (constant S512x256 .f32 0x00000000#32) z u' v z' u'' v' z'' := rfl
theorem pay11_eq : k2_pay11 n u = Cert.FfnOddIdeal.Gen.k0_pay11 n u := rfl
theorem pay12_eq : k2_pay1 e (k2_pay12 n y p u z u' v z') (k2_pay13 d)
    = Cert.FfnOddIdeal.Gen.k0_pay1 e (Cert.FfnOddIdeal.Gen.k0_pay12 n y p u (constant S512x256 .f32 0x00000000#32) z u' v z' d) := rfl

/-- The body leaves what the block's own call leaves. -/
theorem out_eq (x0 : Vec F S512x1024 .bf16) (x1 : Vec F S1024x1024 .bf16) (x2 : Vec F S512x1024 .f32) (x3 x4 : Vec F S1x1024 .f32)
    (x5 x6 : Vec F S1024x2816 .bf16) (x7 : Vec F S2816x1024 .bf16) (x8 x9 : Vec F S1x1024 .f32) :
    out2_10 x0 x1 x2 x3 x4 x5 x6 x7 x8 x9 = Cert.FfnOddIdeal.Gen.out0_10 x0 x1 x2 x3 x4 x5 x6 x7 x8 x9 := by
  unfold out2_10 nrm Cert.FfnOddIdeal.Gen.out0_10 Cert.FfnOddIdeal.Gen.k0_pay13
  simp only [pay3_eq, pay4_eq, pay5_eq, pay6_eq, pay7_eq, pay8_eq, pay9_eq, pay10_eq, pay11_eq, pay12_eq]

end Cert.OddIdeal.Third

end
-- ==== Proof.SbI.State.lean ====
/-
  What one grid point of the stick-breaking attention computes, as pure functions of the five blocks it reads: the
  query block `q`, the keys `K` and the values `V` of the two heads, the strictly lower triangle `tri` of −1 and the
  strict mask `lt`. A state is the pair of the two running arrays, `acc` and `carry`; a step takes one block of 256
  keys into account on a part of the 1024 rows.
-/
module

public import proofs.«01_k».proof.Proof.Gen.SbAttnIdeal.Skeleton
public import proofs.«01_k».proof.Proof.Own

@[expose] public section

noncomputable section

namespace Cert.SbAttnIdeal.Pure

open Idealize.ShloMosaic Idealize.ShloMosaic.TcCoe
open Cert.SbAttnIdeal.Gen

variable {F : FTy → Type} [FloatOps F] [Named F]

/-- All 1024 rows. -/
abbrev rA : Rect S1024x128 := Rect.unit (s := S1024x128) ![0, 0] S1024x128.size inb_S1024x128_S1024x128_0_0
/-- The rows of the first 256 queries, both heads. -/
abbrev rT : Rect S1024x128 := Rect.unit (s := S1024x128) ![0, 0] S512x128.size inb_S1024x128_S512x128_0_0
/-- The rows of the last 256 queries, both heads. -/
abbrev rB : Rect S1024x128 := Rect.unit (s := S1024x128) ![512, 0] S512x128.size inb_S1024x128_S512x128_512_0
/-- One head's 256 rows, and the three others. -/
abbrev r0 : Rect S1024x128 := Rect.unit (s := S1024x128) ![0, 0] S256x128.size inb_S1024x128_S256x128_0_0
abbrev r1 : Rect S1024x128 := Rect.unit (s := S1024x128) ![256, 0] S256x128.size inb_S1024x128_S256x128_256_0
abbrev r2 : Rect S1024x128 := Rect.unit (s := S1024x128) ![512, 0] S256x128.size inb_S1024x128_S256x128_512_0
abbrev r3 : Rect S1024x128 := Rect.unit (s := S1024x128) ![768, 0] S256x128.size inb_S1024x128_S256x128_768_0
/-- The two halves of the query block, and of the result's block. -/
abbrev h0 : Rect S1x512x128 := Rect.unit (s := S1x512x128) ![0, 0, 0] S1x256x128.size inb_S1x512x128_S1x256x128_0_0_0
abbrev h1 : Rect S1x512x128 := Rect.unit (s := S1x512x128) ![0, 256, 0] S1x256x128.size inb_S1x512x128_S1x256x128_0_256_0
/-- A 256 by 256 mask whole. -/
abbrev rM : Rect S256x256 := Rect.unit (s := S256x256) ![0, 0] S256x256.size inb_S256x256_S256x256_0_0
/-- The key blocks of the grid point `i`, and those of the sweeps. -/
abbrev k1 (i : grid0.Coords) : Rect S1x8192x128 := Rect.unit (s := S1x8192x128) (k0_off1 i) S1x256x128.size (k0_off1_inb i)
abbrev k2 (i : grid0.Coords) : Rect S1x8192x128 := Rect.unit (s := S1x8192x128) (k0_off2 i) S1x256x128.size (k0_off2_inb i)
abbrev k3 (i : grid0.Coords) : Rect S1x8192x128 := Rect.unit (s := S1x8192x128) (k0_off3 i) S1x256x128.size (k0_off3_inb i)
abbrev k4 (i : grid0.Coords) (a : BitVec 1) (h : k0_chk1 i a) (hc : k0_cond1 i a = 1#1) : Rect S1x8192x128 :=
  Rect.unit (s := S1x8192x128) (k0_off4 i) S1x256x128.size (k0_off4_inb i a h hc)
abbrev k5 (j : BitVec 32) (h : k0_chk2 j) : Rect S1x8192x128 :=
  Rect.unit (s := S1x8192x128) (k0_off5 j) S1x256x128.size (k0_off5_inb j h)
abbrev k6 (j : BitVec 32) (h : k0_chk3 j) : Rect S1x8192x128 :=
  Rect.unit (s := S1x8192x128) (k0_off6 j) S1x256x128.size (k0_off6_inb j h)

/-- The block the first guarded branch reads lies inside the keys. -/
theorem chk1_all : ∀ (i : grid0.Coords) (a : BitVec 1), k0_chk1 i a := by
  have key : ∀ (y : Fin 16) (a : Fin 2),
      Scalar.cmpi .ne (Scalar.extui (Scalar.andi (Scalar.cmpi .sgt (BitVec.ofNat 32 y.val) 0#32) (BitVec.ofNat 1 a.val)) : BitVec 32) 0#32 = 1#1 →
      ∀ b, (![0, (Scalar.indexCast (Scalar.muli (Scalar.subi (Scalar.muli 2#32 (BitVec.ofNat 32 y.val)) 1#32) 256#32)).toNat, 0] : Fin 3 → ℕ) b
        + S1x256x128.size b ≤ S1x8192x128.size b := by decide
  intro i a h
  have ha : a = BitVec.ofNat 1 a.toFin.val := by simp
  rw [ha] at h
  exact key (i 2) a.toFin h

/-- A sweep's block index between 0 and 31 names a block inside the keys. -/
theorem chk2_of (j : BitVec 32) (h0 : 0 ≤ j.toInt) (h1 : j.toInt < 32) : k0_chk2 j := by
  have : ∀ n : Fin 32, k0_chk2 (BitVec.ofNat 32 n.val) := by
    unfold k0_chk2 k0_mult5 k0_off5; decide
  obtain ⟨n, hn⟩ : ∃ n : ℕ, j.toInt = n := ⟨j.toInt.toNat, by omega⟩
  have e : j = BitVec.ofNat 32 n := by
    apply BitVec.eq_of_toInt_eq; rw [hn]; rw [BitVec.toInt_ofNat']; simp [Int.bmod]; omega
  rw [e]; exact this ⟨n, by omega⟩

/-- The same for the second sweep. -/
theorem chk3_of (j : BitVec 32) (h0 : 0 ≤ j.toInt) (h1 : j.toInt < 32) : k0_chk3 j := chk2_of j h0 h1

/-- The running pair: the accumulated values and the carried sums. -/
abbrev St (F : FTy → Type) [FloatOps F] [Named F] : Type :=
  (S1024x128.Idx → Elt F .f32) × (S1024x128.Idx → Elt F .f32)

variable (i : grid0.Coords) (q : S1x512x128.Idx → Elt F .bf16) (K V : S1x8192x128.Idx → Elt F .bf16)
  (tri : S256x256.Idx → Elt F .bf16) (lt : S256x256.Idx → Elt F .f32)

/-- The scaled queries, each head's 64 columns alone: rows 0–255 the first 256 queries of the first head, 256–511 of
    the second, then the last 256 queries likewise. -/
def qs : S1024x128.Idx → Elt F .bf16 :=
  View.canon [⟨r3, k0_pay22 (k0_pay21 (View.ld q h1))⟩, ⟨r2, k0_pay20 (View.ld q h1)⟩,
    ⟨r1, k0_pay17 (View.ld q h0)⟩, ⟨r0, k0_pay16 (View.ld q h0)⟩]

/-- Nothing accumulated, nothing carried. -/
def st0 : St F := (View.canon [⟨rA, k0_pay23 (F := F)⟩], View.canon [⟨rA, k0_pay24 (F := F)⟩])

variable (Q : S1024x128.Idx → Elt F .bf16)

/-- The last 256 queries against their own block of keys. -/
def step1 (s : St F) : St F :=
  (rB.overlay s.1 (k0_pay31 (k0_pay25 (View.ld V (k1 i))) (k0_pay27 (View.ld K (k1 i)) (View.ld Q rB))
      (k0_pay28 (View.ld K (k1 i)) (View.ld Q rB)) (View.ld lt rM) (View.ld lt rM) (View.ld tri rM) (View.ld lt rM) (View.ld lt rM)
      (View.ld s.2 rB) (View.ld s.1 rB)),
   rB.overlay s.2 (k0_pay32 (k0_pay27 (View.ld K (k1 i)) (View.ld Q rB)) (View.ld lt rM) (View.ld lt rM) (View.ld tri rM)
      (View.ld s.2 rB)))

/-- All 512 queries against the block of the first 256. -/
def step2 (s : St F) : St F :=
  (rA.overlay s.1 (k0_pay39 (k0_pay33 (View.ld V (k2 i)))
      (k0_pay38 (View.ld K (k2 i)) (View.ld Q rA) (View.ld lt rM) (View.ld lt rM) (View.ld tri rM))
      (View.ld lt rM) (View.ld lt rM) (View.ld s.2 rA) (View.ld s.1 rA)),
   rA.overlay s.2 (k0_pay40 (k0_pay36 (View.ld K (k2 i)) (View.ld Q rA) (View.ld lt rM) (View.ld lt rM))
      (k0_pay37 (View.ld K (k2 i)) (View.ld Q rA) (View.ld lt rM) (View.ld lt rM) (View.ld tri rM)) (View.ld s.2 rA)))

/-- The grid point's number along the queries, as a word. -/
abbrev arg2 : BitVec 32 := BitVec.ofNat 32 (i 2).val

/-- The first 256 queries against the block before. -/
def step3 (s : St F) : St F :=
  (rT.overlay s.1 (k0_pay47 (k0_pay41 (F := F) (arg2 i)) (k0_pay42 (View.ld K (k3 i))) (View.ld V (k3 i)) (View.ld Q rT)
      (View.ld tri rM) (View.ld s.2 rT) (View.ld s.1 rT)),
   rT.overlay s.2 (k0_pay48 (k0_pay46 (k0_pay41 (F := F) (arg2 i)) (k0_pay42 (View.ld K (k3 i))) (View.ld Q rT) (View.ld tri rM))
      (View.ld s.2 rT)))

/-- The least sum of log probabilities at which a weight is not zero. -/
abbrev zb : F .f32 := Named.named κ "exp_zero_below" 0xC2D00000#32

/-- Whether a key further left can still count for the last 256 queries: before the first guarded branch, before the
    first sweep, inside it; and for the first 256 queries, before the second sweep and inside it. -/
def alive1 (s : St F) : BitVec 1 := Scalar.cmpf .oge (k0_pay49 (View.ld s.2 rB)) zb
def alive2 (s : St F) : BitVec 1 := Scalar.cmpf .oge (k0_pay52 (View.ld s.2 rB)) zb
def alive3 (s : St F) : BitVec 1 := Scalar.cmpf .oge (k0_pay53 (View.ld s.2 rT)) zb
def alive5 (s : St F) : BitVec 1 := Scalar.cmpf .oge (k0_pay5 (View.ld s.2 rB)) zb
def alive6 (s : St F) : BitVec 1 := Scalar.cmpf .oge (k0_pay8 (View.ld s.2 rT)) zb

/-- The last 256 queries against the block before, when there is one and it can count. -/
def step4 (a : BitVec 1) (s : St F) : St F :=
  if h : k0_cond1 i a = 1#1 then
    (rB.overlay s.1 (k0_pay50 (k0_pay12 (View.ld K (k4 i a (chk1_all i a) h)) (View.ld V (k4 i a (chk1_all i a) h)) (View.ld Q rB) (View.ld tri rM))
        (View.ld s.2 rB) (View.ld s.1 rB)),
     rB.overlay s.2 (k0_pay51 (k0_pay13 (View.ld K (k4 i a (chk1_all i a) h)) (View.ld Q rB) (View.ld tri rM)) (View.ld s.2 rB)))
  else s

/-- All 512 queries against block `j`. -/
def step5 (j : BitVec 32) (h : k0_chk2 j) (s : St F) : St F :=
  (rA.overlay s.1 (k0_pay3 (k0_pay58 (View.ld K (k5 j h)) (View.ld V (k5 j h)) (View.ld Q rA) (View.ld tri rM))
      (View.ld s.1 rA) (k0_pay60 (View.ld s.2 rA))),
   rA.overlay s.2 (k0_pay4 (k0_pay59 (View.ld K (k5 j h)) (View.ld Q rA) (View.ld tri rM)) (View.ld s.2 rA)))

/-- The first 256 queries against block `j`. -/
def step6 (j : BitVec 32) (h : k0_chk3 j) (s : St F) : St F :=
  (rT.overlay s.1 (k0_pay6 (k0_pay64 (View.ld K (k6 j h)) (View.ld V (k6 j h)) (View.ld Q rT) (View.ld tri rM))
      (View.ld s.1 rT) (k0_pay66 (View.ld s.2 rT))),
   rT.overlay s.2 (k0_pay7 (k0_pay65 (View.ld K (k6 j h)) (View.ld Q rT) (View.ld tri rM)) (View.ld s.2 rT)))

/-- Whether a sweep goes on: there is a block left and it can count. -/
abbrev goes (j : BitVec 32) (b : BitVec 1) : BitVec 1 := Scalar.andi (Scalar.cmpi .sge j 0#32) b

/-- The first sweep, leftwards from block `j`, of at most `n` trips: where it ends, and the pair then. -/
def w1 : ℕ → BitVec 32 → BitVec 1 → St F → (BitVec 32 × BitVec 1) × St F
  | 0, j, b, s => ((j, b), s)
  | n + 1, j, b, s =>
    if goes j b = 1#1 then
      if h : k0_chk2 j then
        w1 n (Scalar.subi j 1#32) (alive5 (step5 K V tri Q j h s)) (step5 K V tri Q j h s)
      else ((j, b), s)
    else ((j, b), s)

/-- The second sweep likewise. -/
def w2 : ℕ → BitVec 32 → BitVec 1 → St F → (BitVec 32 × BitVec 1) × St F
  | 0, j, b, s => ((j, b), s)
  | n + 1, j, b, s =>
    if goes j b = 1#1 then
      if h : k0_chk3 j then
        w2 n (Scalar.subi j 1#32) (alive6 (step6 K V tri Q j h s)) (step6 K V tri Q j h s)
      else ((j, b), s)
    else ((j, b), s)

/-- The block the first sweep begins at. -/
abbrev j0 : BitVec 32 := Scalar.subi (Scalar.muli 2#32 (arg2 i)) 2#32

/-- The pair after the blocks in straight line. -/
def sA : St F := step3 i K V tri Q (step2 i K V tri lt Q (step1 i K V tri lt Q st0))
def sB : St F := step4 i K V tri Q (alive1 (sA i K V tri lt Q)) (sA i K V tri lt Q)
/-- After the first sweep. -/
def sC : (BitVec 32 × BitVec 1) × St F := w1 K V tri Q 32 (j0 i) (alive2 (sB i K V tri lt Q)) (sB i K V tri lt Q)
/-- After the second. -/
def sD : (BitVec 32 × BitVec 1) × St F :=
  w2 K V tri Q 32 (sC i K V tri lt Q).1.1 (alive3 (sC i K V tri lt Q).2) (sC i K V tri lt Q).2

/-- The column number, along the 128 lanes. -/
abbrev lane : IVec S256x128 32 := iota .tc S256x128 32 [1] iota_S256x128_d1_w32

/-- The result's block of the point: per query the first 64 columns from the first head's rows, the last 64 from the
    second's. -/
def out : S1x512x128.Idx → Elt F .bf16 :=
  View.canon
    [⟨h1, k0_pay2 lane (View.ld (sD i K V tri lt (qs q)).2.1 r2) (View.ld (sD i K V tri lt (qs q)).2.1 r3)⟩,
     ⟨h0, k0_pay1 lane (View.ld (sD i K V tri lt (qs q)).2.1 r0) (View.ld (sD i K V tri lt (qs q)).2.1 r1) k0_pay54⟩]

end Cert.SbAttnIdeal.Pure

end
-- ==== Proof.OdV.Same.lean ====
/-
  The attention's body in the odd layer's program and in its own: the same functions of the blocks.
-/
module

public import proofs.«01_k».proof.Proof.OdI.State
public import proofs.«01_k».proof.Proof.SbI.State

@[expose] public section

set_option maxRecDepth 16384

noncomputable section

open Idealize.ShloMosaic

namespace Cert.OddIdeal.Att

open Cert.OddIdeal.Gen
open Cert.SbAttnIdeal

variable {F : FTy → Type} [FloatOps F] [Named F]
variable (i : grid1.Coords) (q : S1x512x128.Idx → Elt F .bf16) (K V : S1x8192x128.Idx → Elt F .bf16)
  (tri : S256x256.Idx → Elt F .bf16) (lt : S256x256.Idx → Elt F .f32) (Q : S1024x128.Idx → Elt F .bf16) (s : St F)

theorem qs_eq : qs q = Pure.qs q := rfl
theorem st0_eq : st0 (F := F) = Pure.st0 := rfl
theorem step1_eq : step1 i K V tri lt Q s = Pure.step1 i K V tri lt Q s := rfl
theorem step2_eq : step2 i K V tri lt Q s = Pure.step2 i K V tri lt Q s := rfl
theorem step3_eq : step3 i K V tri Q s = Pure.step3 i K V tri Q s := rfl
theorem alive1_eq : alive1 s = Pure.alive1 s := rfl
theorem alive2_eq : alive2 s = Pure.alive2 s := rfl
theorem alive3_eq : alive3 s = Pure.alive3 s := rfl
theorem alive5_eq : alive5 s = Pure.alive5 s := rfl
theorem alive6_eq : alive6 s = Pure.alive6 s := rfl
theorem step4_eq (a : BitVec 1) : step4 i K V tri Q a s = Pure.step4 i K V tri Q a s := rfl
theorem step5_eq (j : BitVec 32) (h : k1_chk2 j) : step5 K V tri Q j h s = Pure.step5 K V tri Q j h s := rfl
theorem step6_eq (j : BitVec 32) (h : k1_chk3 j) : step6 K V tri Q j h s = Pure.step6 K V tri Q j h s := rfl

theorem w1_eq (n : ℕ) : ∀ (j : BitVec 32) (b : BitVec 1) (s : St F), w1 K V tri Q n j b s = Pure.w1 K V tri Q n j b s := by
  induction n with
  | zero => exact fun j b s => rfl
  | succ n ih =>
    intro j b s
    unfold w1 Pure.w1
    by_cases hb : goes j b = 1#1
    · by_cases h : k1_chk2 j
      · rw [if_pos hb, if_pos hb, dif_pos h, dif_pos (show Cert.SbAttnIdeal.k0_chk2 j from h), ih, step5_eq, alive5_eq]
      · rw [if_pos hb, if_pos hb, dif_neg h, dif_neg (show ¬ Cert.SbAttnIdeal.k0_chk2 j from h)]
    · rw [if_neg hb, if_neg hb]

theorem w2_eq (n : ℕ) : ∀ (j : BitVec 32) (b : BitVec 1) (s : St F), w2 K V tri Q n j b s = Pure.w2 K V tri Q n j b s := by
  induction n with
  | zero => exact fun j b s => rfl
  | succ n ih =>
    intro j b s
    unfold w2 Pure.w2
    by_cases hb : goes j b = 1#1
    · by_cases h : k1_chk3 j
      · rw [if_pos hb, if_pos hb, dif_pos h, dif_pos (show Cert.SbAttnIdeal.k0_chk3 j from h), ih, step6_eq, alive6_eq]
      · rw [if_pos hb, if_pos hb, dif_neg h, dif_neg (show ¬ Cert.SbAttnIdeal.k0_chk3 j from h)]
    · rw [if_neg hb, if_neg hb]

theorem sA_eq : sA i K V tri lt Q = Pure.sA i K V tri lt Q := by
  unfold sA Pure.sA; rw [step3_eq, step2_eq, step1_eq, st0_eq]
theorem sB_eq : sB i K V tri lt Q = Pure.sB i K V tri lt Q := by
  unfold sB Pure.sB; rw [step4_eq, alive1_eq, sA_eq]
theorem sC_eq : sC i K V tri lt Q = Pure.sC i K V tri lt Q := by
  unfold sC Pure.sC; rw [w1_eq, alive2_eq, sB_eq]
theorem sD_eq : sD i K V tri lt Q = Pure.sD i K V tri lt Q := by
  unfold sD Pure.sD; rw [w2_eq, alive3_eq, sC_eq]

/-- The attention's body leaves what the attention's own call leaves. -/
theorem out_eq : out i q K V tri lt = Pure.out i q K V tri lt := by
  unfold out Pure.out; rw [sD_eq, qs_eq]; rfl

end Cert.OddIdeal.Att

end
-- ==== Proof.Lin.Math.lean ====
/-
  One row of a mixing and feed-forward block over the extended reals: the normalization of a row, the gate of one hidden
  unit, the sum over the hidden units tile by tile, and the whole row.
-/
module

public import Idealize.ShloMosaic.Lib.Pipeline.ValueKit

@[expose] public section

noncomputable section

open Idealize.ShloMosaic

namespace Cert.Lin

/-- The sum of a row over the number its entries are divided by. -/
def mean (v : Fin 1024 → EReal) : EReal := Ideal.div (∑ k, v k) (Ideal.ofBits .f32 0x44800000#32)

/-- One over the root of the mean square of a row around its mean, with the small number added. -/
def spread (v : Fin 1024 → EReal) : EReal :=
  Ideal.rsqrt (mean (fun k => (v k - mean v) * (v k - mean v)) + Ideal.ofBits .f32 0x3727C5AC#32)

/-- A normalized row before its offset. -/
def scaled (v g : Fin 1024 → EReal) (j : Fin 1024) : EReal := (v j - mean v) * spread v * g j

/-- A normalized row. -/
def normed (v g b : Fin 1024 → EReal) (j : Fin 1024) : EReal := scaled v g j + b j

/-- The gated value of one hidden unit, from a row and the unit's two columns of weights. -/
def gate (x w1 w3 : Fin 1024 → EReal) : EReal :=
  (∑ k, x k * w1 k) * Ideal.logistic (∑ k, x k * w1 k) * ∑ k, x k * w3 k

/-- What 256 hidden units add to one entry. -/
def tile (x : Fin 1024 → EReal) (w1 w3 : Fin 1024 → Fin 256 → EReal) (w2 : Fin 256 → EReal) : EReal :=
  ∑ f, gate x (fun k => w1 k f) (fun k => w3 k f) * w2 f

/-- A row of the feed-forward step with its residual, before the last normalization. -/
def mid (x : Fin 1024 → EReal) (w1 w3 : Fin 1024 → Fin 2816 → EReal) (w2 : Fin 2816 → Fin 1024 → EReal) (n : Fin 1024) :
    EReal :=
  Ideal.ofBits .f32 0x3FB504F3#32 * x n + ∑ f, gate x (fun k => w1 k f) (fun k => w3 k f) * w2 f n

/-- A row of the block: `a` is the row of the mixing step, `h` the row of the residual. -/
def layer (a h g1 b1 : Fin 1024 → EReal) (w1 w3 : Fin 1024 → Fin 2816 → EReal) (w2 : Fin 2816 → Fin 1024 → EReal)
    (g2 b2 : Fin 1024 → EReal) (j : Fin 1024) : EReal :=
  normed (mid (normed (fun n => Ideal.ofBits .f32 0x3FB504F3#32 * h n + a n) g1 b1) w1 w3 w2) g2 b2 j

/-- The number 256 `q` + `f` of a hidden unit. -/
def unit (q : Fin 11) (f : Fin 256) : Fin 2816 := ⟨q.val * 256 + f.val, by omega⟩

/-- What the `q`-th 256 hidden units add to one entry. -/
def part (x : Fin 1024 → EReal) (w1 w3 : Fin 1024 → Fin 2816 → EReal) (w2 : Fin 2816 → Fin 1024 → EReal) (n : Fin 1024)
    (q : Fin 11) : EReal :=
  tile x (fun k f => w1 k (unit q f)) (fun k f => w3 k (unit q f)) (fun f => w2 (unit q f) n)

/-- The residual and then the eleven parts, added one after another, are the row before the last normalization. -/
theorem mid_eq (x : Fin 1024 → EReal) (w1 w3 : Fin 1024 → Fin 2816 → EReal) (w2 : Fin 2816 → Fin 1024 → EReal)
    (n : Fin 1024) : mid x w1 w3 w2 n
      = Ideal.ofBits .f32 0x3FB504F3#32 * x n + part x w1 w3 w2 n 0 + part x w1 w3 w2 n 1 + part x w1 w3 w2 n 2
        + part x w1 w3 w2 n 3 + part x w1 w3 w2 n 4 + part x w1 w3 w2 n 5 + part x w1 w3 w2 n 6 + part x w1 w3 w2 n 7
        + part x w1 w3 w2 n 8 + part x w1 w3 w2 n 9 + part x w1 w3 w2 n 10 := by
  have e : (∑ f, gate x (fun k => w1 k f) (fun k => w3 k f) * w2 f n) = ∑ q, part x w1 w3 w2 n q :=
    Fin.sum_univ_tiles 11 256 rfl _
  rw [mid, e, Fin.sum_univ_castSucc, Fin.sum_univ_castSucc, Fin.sum_univ_castSucc, Fin.sum_univ_eight]
  simp only [add_assoc]
  rfl

/-- The first hidden units are those of tile 0. -/
theorem unit_0 (f : Fin 256) (h : f.val < 2816) : (⟨f.val, h⟩ : Fin 2816) = unit 0 f :=
  Fin.ext (Nat.zero_add f.val).symm

/-- The hidden units from number 256 on are those of tile 1. -/
theorem unit_1 (f : Fin 256) (h : 256 + f.val < 2816) : (⟨256 + f.val, h⟩ : Fin 2816) = unit 1 f :=
  Fin.ext rfl

/-- The hidden units from number 512 on are those of tile 2. -/
theorem unit_2 (f : Fin 256) (h : 512 + f.val < 2816) : (⟨512 + f.val, h⟩ : Fin 2816) = unit 2 f :=
  Fin.ext rfl

/-- The hidden units from number 768 on are those of tile 3. -/
theorem unit_3 (f : Fin 256) (h : 768 + f.val < 2816) : (⟨768 + f.val, h⟩ : Fin 2816) = unit 3 f :=
  Fin.ext rfl

/-- The hidden units from number 1024 on are those of tile 4. -/
theorem unit_4 (f : Fin 256) (h : 1024 + f.val < 2816) : (⟨1024 + f.val, h⟩ : Fin 2816) = unit 4 f :=
  Fin.ext rfl

/-- The hidden units from number 1280 on are those of tile 5. -/
theorem unit_5 (f : Fin 256) (h : 1280 + f.val < 2816) : (⟨1280 + f.val, h⟩ : Fin 2816) = unit 5 f :=
  Fin.ext rfl

/-- The hidden units from number 1536 on are those of tile 6. -/
theorem unit_6 (f : Fin 256) (h : 1536 + f.val < 2816) : (⟨1536 + f.val, h⟩ : Fin 2816) = unit 6 f :=
  Fin.ext rfl

/-- The hidden units from number 1792 on are those of tile 7. -/
theorem unit_7 (f : Fin 256) (h : 1792 + f.val < 2816) : (⟨1792 + f.val, h⟩ : Fin 2816) = unit 7 f :=
  Fin.ext rfl

/-- The hidden units from number 2048 on are those of tile 8. -/
theorem unit_8 (f : Fin 256) (h : 2048 + f.val < 2816) : (⟨2048 + f.val, h⟩ : Fin 2816) = unit 8 f :=
  Fin.ext rfl

/-- The hidden units from number 2304 on are those of tile 9. -/
theorem unit_9 (f : Fin 256) (h : 2304 + f.val < 2816) : (⟨2304 + f.val, h⟩ : Fin 2816) = unit 9 f :=
  Fin.ext rfl

/-- The hidden units from number 2560 on are those of tile 10. -/
theorem unit_10 (f : Fin 256) (h : 2560 + f.val < 2816) : (⟨2560 + f.val, h⟩ : Fin 2816) = unit 10 f :=
  Fin.ext rfl

end Cert.Lin

end
-- ==== Proof.Lin.FfnOdd.lean ====
/-
  The mixing and feed-forward block of the odd layer, row by row: what the body leaves of one block of rows.
-/
module

public import proofs.«01_k».proof.Proof.Gen.FfnOddIdeal.Frame
public import proofs.«01_k».proof.Proof.Lin.Math

@[expose] public section

set_option maxRecDepth 16384

noncomputable section

open Idealize.ShloMosaic Idealize.ShloMosaic.TcCoe Idealize.SL.Sem
open Idealize.ShloMosaic.Pipeline (Dat)

namespace Cert.FfnOddIdeal.Lin

open Cert.FfnOddIdeal Cert.FfnOddIdeal.Gen Cert.Lin

/-- The row after the mixing step and the first normalization. -/
theorem pay2_at (v0 : FVec Ideal S512x1024 .bf16) (v1 : FVec Ideal S1024x1024 .bf16) (v3 : FVec Ideal S512x1024 .f32)
    (v7 v8 : FVec Ideal S1x1024 .f32) (r : Fin 512) (j : Fin 1024) :
    k0_pay2 (F := Ideal) v0 v1 v3 v7 v8 (ix2 r j)
      = normed (fun n => Ideal.ofBits .f32 0x3FB504F3#32 * v3 (ix2 r n) + ∑ k : Fin 1024, v0 (ix2 r k) * v1 (ix2 k n))
          (fun n => v7 (ix2 0 n)) (fun n => v8 (ix2 0 n)) j := by
  pointwise [k0_pay2]
  rfl

/-- Three tiles of hidden units, added one after another. -/
theorem pay6_at (x : FVec Ideal S512x1024 .bf16) (acc : FVec Ideal S512x1024 .f32)
    (a1 a3 b1 b3 c1 c3 : FVec Ideal S1024x256 .bf16) (a2 b2 c2 : FVec Ideal S256x1024 .bf16) (r : Fin 512) (j : Fin 1024) :
    k0_pay6 x acc (k0_pay7 x a1) a3 (constant S512x256 .f32 0x00000000#32) a2 b1 b3 b2 c1 c3 c2 (ix2 r j)
      = acc (ix2 r j)
        + tile (fun k => x (ix2 r k)) (fun k f => a1 (ix2 k f)) (fun k f => a3 (ix2 k f)) (fun f => a2 (ix2 f j))
        + tile (fun k => x (ix2 r k)) (fun k f => b1 (ix2 k f)) (fun k f => b3 (ix2 k f)) (fun f => b2 (ix2 f j))
        + tile (fun k => x (ix2 r k)) (fun k f => c1 (ix2 k f)) (fun k f => c3 (ix2 k f)) (fun f => c2 (ix2 f j)) := by
  pointwise [k0_pay6, k0_pay7]
  rfl

/-- The last two tiles of hidden units and the last normalization but for its offset. -/
theorem pay12_at (x : FVec Ideal S512x1024 .bf16) (acc : FVec Ideal S512x1024 .f32)
    (a1 a3 b1 b3 : FVec Ideal S1024x256 .bf16) (a2 b2 : FVec Ideal S256x1024 .bf16) (g : FVec Ideal S1x1024 .f32)
    (r : Fin 512) (j : Fin 1024) :
    k0_pay12 x acc (k0_pay7 x a1) a3 (constant S512x256 .f32 0x00000000#32) a2 b1 b3 b2 g (ix2 r j)
      = scaled (fun n => acc (ix2 r n)
          + tile (fun k => x (ix2 r k)) (fun k f => a1 (ix2 k f)) (fun k f => a3 (ix2 k f)) (fun f => a2 (ix2 f n))
          + tile (fun k => x (ix2 r k)) (fun k f => b1 (ix2 k f)) (fun k f => b3 (ix2 k f)) (fun f => b2 (ix2 f n)))
          (fun n => g (ix2 0 n)) j := by
  pointwise [k0_pay12, k0_pay7]
  rfl

/-- The offset of the last normalization. -/
theorem pay1_at (b : FVec Ideal S1x1024 .f32) (v : FVec Ideal S512x1024 .f32) (r : Fin 512) (j : Fin 1024) :
    k0_pay1 b v (ix2 r j) = v (ix2 r j) + b (ix2 0 j) := by
  pointwise [k0_pay1]

/-- The scaled row that the hidden units are added to. -/
theorem pay4_at (v0 : FVec Ideal S512x1024 .bf16) (v1 : FVec Ideal S1024x1024 .bf16) (v3 : FVec Ideal S512x1024 .f32)
    (v7 v8 : FVec Ideal S1x1024 .f32) (r : Fin 512) (j : Fin 1024) :
    k0_pay4 (F := Ideal) v0 v1 v3 v7 v8 (ix2 r j)
      = Ideal.ofBits .f32 0x3FB504F3#32 * k0_pay2 (F := Ideal) v0 v1 v3 v7 v8 (ix2 r j) := by
  pointwise [k0_pay4]

/-- The row the hidden units read. -/
theorem pay3_at (v0 : FVec Ideal S512x1024 .bf16) (v1 : FVec Ideal S1024x1024 .bf16) (v3 : FVec Ideal S512x1024 .f32)
    (v7 v8 : FVec Ideal S1x1024 .f32) (r : Fin 512) (j : Fin 1024) :
    k0_pay3 (F := Ideal) v0 v1 v3 v7 v8 (ix2 r j) = k0_pay2 (F := Ideal) v0 v1 v3 v7 v8 (ix2 r j) := by
  pointwise [k0_pay3]

theorem pay5_eq : @k0_pay5 Ideal _ = fun v0 v1 v3 v7 v8 w => k0_pay7 (k0_pay3 v0 v1 v3 v7 v8) w := rfl
theorem pay8_eq : @k0_pay8 Ideal _ = k0_pay6 := rfl
theorem pay9_eq : @k0_pay9 Ideal _ = k0_pay7 := rfl
theorem pay10_eq : @k0_pay10 Ideal _ = k0_pay6 := rfl
theorem pay11_eq : @k0_pay11 Ideal _ = k0_pay7 := rfl

/-- What the body leaves at a row and a column of its block is that entry of the block's row. -/
theorem out_at (x0 : FVec Ideal S512x1024 .bf16) (x1 : FVec Ideal S1024x1024 .bf16) (x2 : FVec Ideal S512x1024 .f32)
    (x3 x4 : FVec Ideal S1x1024 .f32) (x5 x6 : FVec Ideal S1024x2816 .bf16) (x7 : FVec Ideal S2816x1024 .bf16)
    (x8 x9 : FVec Ideal S1x1024 .f32) (r : Fin 512) (j : Fin 1024) :
    out0_10 (F := Ideal) x0 x1 x2 x3 x4 x5 x6 x7 x8 x9 (ix2 r j)
      = layer (fun n => ∑ k : Fin 1024, x0 (ix2 r k) * x1 (ix2 k n)) (fun n => x2 (ix2 r n)) (fun n => x3 (ix2 0 n))
          (fun n => x4 (ix2 0 n)) (fun k f => x5 (ix2 k f)) (fun k f => x6 (ix2 k f)) (fun f n => x7 (ix2 f n))
          (fun n => x8 (ix2 0 n)) (fun n => x9 (ix2 0 n)) j := by
  unfold out0_10 k0_pay13
  canon_tiles x h
  obtain rfl : x = ix2 r j := by
    funext a
    fin_cases a
    · exact Fin.ext h0.symm
    · exact Fin.ext h1.symm
  simp only [pay5_eq, pay8_eq, pay9_eq, pay10_eq, pay11_eq]
  simp only [pay1_at, pay12_at, pay6_at, pay4_at, pay3_at, pay2_at]
  pointwise
  simp only [layer, normed, funext (mid_eq _ _ _ _), part]
  simp only [unit_0, unit_1, unit_2, unit_3, unit_4, unit_5, unit_6, unit_7, unit_8, unit_9, unit_10]
  rfl

end Cert.FfnOddIdeal.Lin

end
-- ==== Proof.Lin.Host.lean ====
/-
  The mixing and feed-forward block as the references write it, over whole arrays, read row by row.
-/
module

public import proofs.«01_k».proof.Proof.Gen.FfnOddRefIdeal
public import proofs.«01_k».proof.Proof.Lin.Math

@[expose] public section

set_option maxRecDepth 16384

noncomputable section

open Idealize.ShloMosaic Idealize.ShloMosaic.TcCoe Idealize.SL.Sem

namespace Cert.Lin

open Cert.FfnOddRefIdeal Cert.FfnOddRefIdeal.Gen

/-- The mean of every row. -/
def hMean (v : FVec Ideal S32768x1024 .f32) : FVec Ideal S32768x1 .f32 :=
  Host.divf (broadcastInDim S32768x1 ![0] bcast_S32768_S32768x1_0
    (Host.reduceAdd v (constant S_ .f32 0x00000000#32) reducesTo_S32768x1024_S32768_d1 h_S_))
    (broadcastInDim S32768x1 ![] bcast_S_S32768x1 (constant S_ .f32 0x44800000#32))

/-- Every row around its mean. -/
def hCentred (v : FVec Ideal S32768x1024 .f32) : FVec Ideal S32768x1024 .f32 :=
  subf v (broadcastInDim S32768x1024 ![0, 1] bcast_S32768x1_S32768x1024_0_1 (hMean v))

/-- Every row normalized. -/
def hNormed (v : FVec Ideal S32768x1024 .f32) (g b : FVec Ideal S1x1024 .f32) : FVec Ideal S32768x1024 .f32 :=
  addf (mulf (mulf (hCentred v) (broadcastInDim S32768x1024 ![0, 1] bcast_S32768x1_S32768x1024_0_1
    (Host.rsqrt (addf (hMean (mulf (hCentred v) (hCentred v)))
      (broadcastInDim S32768x1 ![] bcast_S_S32768x1 (constant S_ .f32 0x3727C5AC#32))))))
    (broadcastInDim S32768x1024 ![0, 1] bcast_S1x1024_S32768x1024_0_1 g))
    (broadcastInDim S32768x1024 ![0, 1] bcast_S1x1024_S32768x1024_0_1 b)

/-- The scaled residual with a step added to it. -/
def hResidual (h a : FVec Ideal S32768x1024 .f32) : FVec Ideal S32768x1024 .f32 :=
  addf (mulf (broadcastInDim S32768x1024 ![] bcast_S_S32768x1024 (constant S_ .f32 0x3FB504F3#32)) h) a

/-- An array times the logistic function of it. -/
def hSilu (z : FVec Ideal S32768x2816 .f32) : FVec Ideal S32768x2816 .f32 :=
  mulf z (Host.divf (broadcastInDim S32768x2816 ![] bcast_S_S32768x2816 (constant S_ .f32 0x3F800000#32))
    (addf (broadcastInDim S32768x2816 ![] bcast_S_S32768x2816 (constant S_ .f32 0x3F800000#32)) (Host.exp (Host.negf z))))

/-- The feed-forward step. -/
def hSwiglu (x : FVec Ideal S32768x1024 .f32) (w1 w3 : FVec Ideal S1024x2816 .bf16) (w2 : FVec Ideal S2816x1024 .bf16) :
    FVec Ideal S32768x1024 .f32 :=
  Host.dotGeneral dot_S32768x2816_S2816x1024_S32768x1024_1_0_0_1_n_n none
    (mulf (hSilu (Host.dotGeneral dot_S32768x1024_S1024x2816_S32768x2816_1_0_0_1_n_n none x (extf .f32 w1 bitsLt_bf16_f32)))
      (Host.dotGeneral dot_S32768x1024_S1024x2816_S32768x2816_1_0_0_1_n_n none x (extf .f32 w3 bitsLt_bf16_f32)))
    (extf .f32 w2 bitsLt_bf16_f32)

/-- The rows after the mixing step and the first normalization. -/
def hFirst (a h : FVec Ideal S32768x1024 .f32) (g1 b1 : FVec Ideal S1x1024 .f32) : FVec Ideal S32768x1024 .f32 :=
  hNormed (hResidual h a) g1 b1

/-- The block: `a` is the mixing step, `h` the residual. -/
def hBlock (a h : FVec Ideal S32768x1024 .f32) (g1 b1 : FVec Ideal S1x1024 .f32) (w1 w3 : FVec Ideal S1024x2816 .bf16)
    (w2 : FVec Ideal S2816x1024 .bf16) (g2 b2 : FVec Ideal S1x1024 .f32) : FVec Ideal S32768x1024 .f32 :=
  hNormed (hResidual (hFirst a h g1 b1) (hSwiglu (hFirst a h g1 b1) w1 w3 w2)) g2 b2

/-- A row of the normalized array is the row normalized. -/
theorem hNormed_at (v : FVec Ideal S32768x1024 .f32) (g b : FVec Ideal S1x1024 .f32) (r : Fin 32768) (j : Fin 1024) :
    hNormed v g b (ix2 r j) = normed (fun n => v (ix2 r n)) (fun n => g (ix2 0 n)) (fun n => b (ix2 0 n)) j := by
  pointwise [hNormed, hCentred, hMean]
  rfl

/-- A row of the scaled residual with a step added. -/
theorem hResidual_at (h a : FVec Ideal S32768x1024 .f32) (r : Fin 32768) (j : Fin 1024) :
    hResidual h a (ix2 r j) = Ideal.ofBits .f32 0x3FB504F3#32 * h (ix2 r j) + a (ix2 r j) := by
  pointwise [hResidual]

/-- A row of the feed-forward step is the sum over the hidden units. -/
theorem hSwiglu_at (x : FVec Ideal S32768x1024 .f32) (w1 w3 : FVec Ideal S1024x2816 .bf16)
    (w2 : FVec Ideal S2816x1024 .bf16) (r : Fin 32768) (j : Fin 1024) :
    hSwiglu x w1 w3 w2 (ix2 r j)
      = ∑ f : Fin 2816, gate (fun k => x (ix2 r k)) (fun k => w1 (ix2 k f)) (fun k => w3 (ix2 k f)) * w2 (ix2 f j) := by
  pointwise [hSwiglu, hSilu]
  rfl

/-- A row of the block. -/
theorem hBlock_at (a h : FVec Ideal S32768x1024 .f32) (g1 b1 : FVec Ideal S1x1024 .f32)
    (w1 w3 : FVec Ideal S1024x2816 .bf16) (w2 : FVec Ideal S2816x1024 .bf16) (g2 b2 : FVec Ideal S1x1024 .f32)
    (r : Fin 32768) (j : Fin 1024) :
    hBlock a h g1 b1 w1 w3 w2 g2 b2 (ix2 r j)
      = layer (fun n => a (ix2 r n)) (fun n => h (ix2 r n)) (fun n => g1 (ix2 0 n)) (fun n => b1 (ix2 0 n))
          (fun k f => w1 (ix2 k f)) (fun k f => w3 (ix2 k f)) (fun f n => w2 (ix2 f n))
          (fun n => g2 (ix2 0 n)) (fun n => b2 (ix2 0 n)) j := by
  rw [hBlock, hNormed_at]
  simp only [hResidual_at, hSwiglu_at, hFirst, hNormed_at]
  rfl

end Cert.Lin

end
-- ==== Proof.Lin.FfnOddFinal.lean ====
/-
  The mixing and feed-forward block of the odd layer: the array the kernel leaves is the reference's result.
-/
module

public import proofs.«01_k».proof.Proof.Gen.FfnOddIdeal.Value
public import proofs.«01_k».proof.Proof.Gen.FfnOddRefIdeal.Run
public import proofs.«01_k».proof.Proof.Lin.FfnOdd
public import proofs.«01_k».proof.Proof.Lin.Host

@[expose] public section

set_option maxRecDepth 16384

noncomputable section

open Idealize.ShloMosaic Idealize.ShloMosaic.TcCoe Idealize.SL.Sem
open Idealize.ShloMosaic.Pipeline (Dat)

namespace Cert.FfnOddIdeal.Lin

open Cert.FfnOddIdeal Cert.FfnOddIdeal.Gen Cert.Lin

/-- The mixing step of the odd layer as the reference writes it. -/
def mix (a : FVec Ideal S32768x1024 .bf16) (w : FVec Ideal S1024x1024 .bf16) : FVec Ideal S32768x1024 .f32 :=
  Host.dotGeneral Cert.FfnOddRefIdeal.dot_S32768x1024_S1024x1024_S32768x1024_1_0_0_1_n_n none
    (extf .f32 a Cert.FfnOddRefIdeal.Gen.bitsLt_bf16_f32) (extf .f32 w Cert.FfnOddRefIdeal.Gen.bitsLt_bf16_f32)

/-- An entry of the mixing step. -/
theorem mix_at (a : FVec Ideal S32768x1024 .bf16) (w : FVec Ideal S1024x1024 .bf16) (r : Fin 32768) (n : Fin 1024) :
    mix a w (ix2 r n) = ∑ k : Fin 1024, a (ix2 r k) * w (ix2 k n) := by
  pointwise [mix]

/-- The reference's result is the block over whole arrays. -/
theorem res_eq (m : (ℓ : Loc Cert.FfnOddRefIdeal.nD Cert.FfnOddRefIdeal.τ Cert.FfnOddRefIdeal.sig) → Buf (Elt Ideal) ℓ)
    (c : Dev Cert.FfnOddRefIdeal.nD) :
    Cert.FfnOddRefIdeal.Value.res_main_v60 (F := Ideal) m c
      = hBlock (mix (m ((c.tc : Thread Cert.FfnOddRefIdeal.nD Cert.FfnOddRefIdeal.τ).loc Cert.FfnOddRefIdeal.main_arg0))
          (m ((c.tc : Thread Cert.FfnOddRefIdeal.nD Cert.FfnOddRefIdeal.τ).loc Cert.FfnOddRefIdeal.main_arg1)))
          (m ((c.tc : Thread Cert.FfnOddRefIdeal.nD Cert.FfnOddRefIdeal.τ).loc Cert.FfnOddRefIdeal.main_arg2))
          (m ((c.tc : Thread Cert.FfnOddRefIdeal.nD Cert.FfnOddRefIdeal.τ).loc Cert.FfnOddRefIdeal.main_arg3))
          (m ((c.tc : Thread Cert.FfnOddRefIdeal.nD Cert.FfnOddRefIdeal.τ).loc Cert.FfnOddRefIdeal.main_arg4))
          (m ((c.tc : Thread Cert.FfnOddRefIdeal.nD Cert.FfnOddRefIdeal.τ).loc Cert.FfnOddRefIdeal.main_arg5))
          (m ((c.tc : Thread Cert.FfnOddRefIdeal.nD Cert.FfnOddRefIdeal.τ).loc Cert.FfnOddRefIdeal.main_arg6))
          (m ((c.tc : Thread Cert.FfnOddRefIdeal.nD Cert.FfnOddRefIdeal.τ).loc Cert.FfnOddRefIdeal.main_arg7))
          (m ((c.tc : Thread Cert.FfnOddRefIdeal.nD Cert.FfnOddRefIdeal.τ).loc Cert.FfnOddRefIdeal.main_arg8))
          (m ((c.tc : Thread Cert.FfnOddRefIdeal.nD Cert.FfnOddRefIdeal.τ).loc Cert.FfnOddRefIdeal.main_arg9)) := by
  unfold Cert.FfnOddRefIdeal.Value.res_main_v60
  rfl

variable (m : (ℓ : Loc nD τ sig) → Buf (Elt Ideal) ℓ)

/-- The reference's result over the kernel's argument arrays. -/
def ref (c : Dev nD) : FVec Ideal S32768x1024 .f32 :=
  hBlock (mix (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- Which block each window stages at a grid point. -/
theorem places : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

theorem blk1 (c : Dev nD) (t) : iblk m c 1 t = m ((c : Thread nD τ).loc main_arg1) := by blk_ext! [iblk, V, places t]
theorem blk3 (c : Dev nD) (t) : iblk m c 3 t = m ((c : Thread nD τ).loc main_arg3) := by blk_ext! [iblk, V, places t]
theorem blk4 (c : Dev nD) (t) : iblk m c 4 t = m ((c : Thread nD τ).loc main_arg4) := by blk_ext! [iblk, V, places t]
theorem blk5 (c : Dev nD) (t) : iblk m c 5 t = m ((c : Thread nD τ).loc main_arg5) := by blk_ext! [iblk, V, places t]
theorem blk6 (c : Dev nD) (t) : iblk m c 6 t = m ((c : Thread nD τ).loc main_arg6) := by blk_ext! [iblk, V, places t]
theorem blk7 (c : Dev nD) (t) : iblk m c 7 t = m ((c : Thread nD τ).loc main_arg7) := by blk_ext! [iblk, V, places t]
theorem blk8 (c : Dev nD) (t) : iblk m c 8 t = m ((c : Thread nD τ).loc main_arg8) := by blk_ext! [iblk, V, places t]
theorem blk9 (c : Dev nD) (t) : iblk m c 9 t = m ((c : Thread nD τ).loc main_arg9) := by blk_ext! [iblk, V, places t]

/-- The row of the first window at a grid point is a row of its array. -/
theorem blk0 (c : Dev nD) (t : Fin cfg0.N) (r : Fin 512) (k : Fin 1024) (R : Fin 32768) (hR : R.val = t.val * 512 + r.val) :
    (show FVec Ideal S512x1024 .bf16 from iblk m c 0 t) (ix2 r k)
      = (show FVec Ideal S32768x1024 .bf16 from m ((c : Thread nD τ).loc main_arg0)) (ix2 R k) := by
  blk_ext [iblk, V, places t]

/-- The row of the third window at a grid point is a row of its array. -/
theorem blk2 (c : Dev nD) (t : Fin cfg0.N) (r : Fin 512) (k : Fin 1024) (R : Fin 32768) (hR : R.val = t.val * 512 + r.val) :
    (show FVec Ideal S512x1024 .f32 from iblk m c 2 t) (ix2 r k)
      = (show FVec Ideal S32768x1024 .f32 from m ((c : Thread nD τ).loc main_arg2)) (ix2 R k) := by
  blk_ext [iblk, V, places t]

/-- What the body leaves at a row and a column of a grid point's block is the reference's entry in that row of the array. -/
theorem point (c : Dev nD) (t : Fin cfg0.N) (r : Fin 512) (j : Fin 1024) (R : Fin 32768) (hR : R.val = t.val * 512 + r.val) :
    out0_10 (iblk m c 0 t) (iblk m c 1 t) (iblk m c 2 t) (iblk m c 3 t) (iblk m c 4 t) (iblk m c 5 t) (iblk m c 6 t)
      (iblk m c 7 t) (iblk m c 8 t) (iblk m c 9 t) (ix2 r j) = ref m c (ix2 R j) := by
  rw [blk1, blk3, blk4, blk5, blk6, blk7, blk8, blk9]
  refine (out_at _ _ _ _ _ _ _ _ _ _ r j).trans (Eq.trans ?_ (hBlock_at _ _ _ _ _ _ _ _ _ R j).symm)
  have e0 := fun k => blk0 m c t r k R hR
  have e2 := fun k => blk2 m c t r k R hR
  rw [show (fun n => mix (m ((c : Thread nD τ).loc main_arg0)) (m ((c : Thread nD τ).loc main_arg1)) (ix2 R n)) = _ from
    funext fun n => mix_at _ _ R n]
  rw [← funext e2]
  simp only [← e0]

/-- The array the kernel leaves is the reference's result. -/
theorem final (c : Dev nD) : (dats m 0 c).arrAt 10 (cfgs 0).N = ref m c := by
  refine (dats m 0 c).arrAt_eq_of_covers 10 _ (by decide +kernel) fun t _ y => ?_
  have ht : t.val < 64 := lt_of_lt_of_eq t.isLt N_0
  have hy0 : (y 0).val < 512 := (y 0).isLt
  have key : ((cfg0.win 10).blk t).view.emb y
      = (ix2 ⟨t.val * 512 + (y 0).val, by omega⟩ ⟨(y 1).val, (y 1).isLt⟩ : S32768x1024.Idx) := by
    blk_ext [places t]
  blk_simp
  rw [after0_10]
  rw [key]
  have hy : y = (ix2 ⟨(y 0).val, hy0⟩ ⟨(y 1).val, (y 1).isLt⟩ : S512x1024.Idx) := eq_ix2 y
  refine (congrArg _ hy).trans ?_
  exact point m c t _ _ _ rfl

end Cert.FfnOddIdeal.Lin

end
-- ==== Proof.Lin.ProjOdd.lean ====
/-
  The projection of the odd layer: each row of its result is the row of the activations times the weights, as the
  reference computes it.
-/
module

public import proofs.«01_k».proof.Proof.Gen.ProjOddIdeal.Value
public import proofs.«01_k».proof.Proof.Gen.ProjOddRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjOddIdeal.Lin

open Cert.ProjOddIdeal Cert.ProjOddIdeal.Gen

variable (m : (ℓ : Loc nD τ sig) → Buf (Elt Ideal) ℓ)

/-- The reference's result, as a function of the activations and the weights. -/
def ref (X : FVec Ideal S32768x1024 .f32) (W : FVec Ideal S1024x3072 .bf16) : FVec Ideal S32768x3072 .bf16 :=
  truncf .bf16 (Host.dotGeneral Cert.ProjOddRefIdeal.dot_S32768x1024_S1024x3072_S32768x3072_1_0_0_1_n_n none X
    (extf .f32 W Cert.ProjOddRefIdeal.Gen.bitsLt_bf16_f32)) Cert.ProjOddRefIdeal.Gen.bitsLt_bf16_f32

/-- Which block each window stages at a grid point. -/
theorem places : ∀ t : Fin cfg0.N, win0_0.index t = ![t.val, 0] ∧ win0_1.index t = ![0, 0] ∧ win0_2.index t = ![t.val, 0] :=
  (by decide +kernel : ∀ t : Fin grid0.N, _)

/-- What the body leaves at an entry of the block of one grid point is the reference's result at the entry's place in the
    array. -/
theorem point (c : Dev nD) (t : Fin cfg0.N) (y) :
    out0_2 (iblk m c 0 t) (iblk m c 1 t) y
      = ref (m ((c : Thread nD τ).loc main_arg0)) (m ((c : Thread nD τ).loc main_arg1)) (((cfg0.win 2).blk t).view.emb y) := by
  unfold out0_2
  canon_tiles x h
  all_goals (pointwise [k0_pay1, k0_pay2, k0_pay3, k0_pay4, k0_pay5, k0_pay6, k0_pay7, k0_pay8, ref]; blk_point [iblk, V, places t])

/-- The array the kernel leaves is the reference's result. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.ProjOddIdeal.Lin

end
-- ==== Proof.SbI.Loops.lean ====
/-
  The two sweeps of the stick-breaking attention: each label, called with at least as many trips allowed as there are
  blocks left, returns where the sweep of `State.lean` ends and leaves the pair it leaves.
-/
module

public import proofs.«01_k».proof.Proof.SbI.State
public import Idealize.ShloMosaic.Lib.Tactic.WordOmega

@[expose] public section

noncomputable section

namespace Cert.SbAttnIdeal.Pure

open Cert.SbAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The variants calls are answered at: the naturals. -/
abbrev 𝒱₀ : Variants := Variants.nat

/-- The five buffers a sweep works on: keys, values, queries, the triangle, and the pair. -/
def held (c : Dev nD) (arg4 arg5 : Memref sig .tc .vmem S1x8192x128 .bf16) (arg9 : Memref sig .tc .vmem S1024x128 .bf16)
    (arg6 : Memref sig .tc .vmem S256x256 .bf16) (arg11 arg10 : Memref sig .tc .vmem S1024x128 .f32)
    (K V : S1x8192x128.Idx → Elt F .bf16) (Q : S1024x128.Idx → Elt F .bf16) (tri : S256x256.Idx → Elt F .bf16)
    (s : St F) : sProp 𝕄 :=
  iprop(owns (c : Thread nD τ) arg4 fullShare K ∗ owns (c : Thread nD τ) arg5 fullShare V
    ∗ owns (c : Thread nD τ) arg9 fullShare Q ∗ owns (c : Thread nD τ) arg6 fullShare tri
    ∗ owns (c : Thread nD τ) arg11 fullShare s.2 ∗ owns (c : Thread nD τ) arg10 fullShare s.1)

theorem sge_of (j : BitVec 32) (b : BitVec 1) (h : goes j b = 1#1) : 0 ≤ j.toInt := by
  have hb : b = 0#1 ∨ b = 1#1 := by
    have := b.isLt
    rcases (by omega : b.toNat = 0 ∨ b.toNat = 1) with e | e
    · exact .inl (BitVec.eq_of_toNat_eq e)
    · exact .inr (BitVec.eq_of_toNat_eq e)
  have hs : BitVec.sle 0#32 j = true := by
    by_contra hc
    rw [Bool.not_eq_true] at hc
    have h' : BitVec.ofBool (BitVec.sle 0#32 j) &&& b = 1#1 := h
    rw [hc] at h'
    rcases hb with rfl | rfl <;> exact absurd h' (by decide)
  simpa [BitVec.sle] using hs

theorem pred_toInt (j : BitVec 32) (n : ℕ) (h0 : 0 ≤ j.toInt) (h1 : j.toInt < (n + 1 : ℕ)) (hn : n ≤ 31) :
    -2 ≤ (Scalar.subi j 1#32).toInt ∧ (Scalar.subi j 1#32).toInt < n := by
  have e : (Scalar.subi j 1#32).toInt = j.toInt - 1 := by
    show (j - 1#32).toInt = _
    rw [BitVec.toInt_sub]
    have : (1#32).toInt = 1 := by decide
    rw [this]
    simp [Int.bmod]; omega
  rw [e]; omega

variable (i : grid0.Coords) (a : BitVec 1) (hw : k0_chk1 i a)
  (arg4 : Memref sig .tc .vmem S1x8192x128 .bf16) (harg4 : arg4.IsWhole)
  (arg5 : Memref sig .tc .vmem S1x8192x128 .bf16) (harg5 : arg5.IsWhole)
  (arg9 : Memref sig .tc .vmem S1024x128 .bf16) (harg9 : arg9.IsWhole)
  (arg6 : Memref sig .tc .vmem S256x256 .bf16) (harg6 : arg6.IsWhole)
  (arg11 : Memref sig .tc .vmem S1024x128 .f32) (harg11 : arg11.IsWhole)
  (arg10 : Memref sig .tc .vmem S1024x128 .f32) (harg10 : arg10.IsWhole)
  (K V : S1x8192x128.Idx → Elt F .bf16) (Q : S1024x128.Idx → Elt F .bf16) (tri : S256x256.Idx → Elt F .bf16)

/-- The first sweep. -/
theorem sweep1 (c : Dev nD) (E : Set ℕ) :
    ∀ n, n ≤ 32 → ∀ (j : BitVec 32) (b : BitVec 1) (s : St F), -2 ≤ j.toInt → j.toInt < (n : ℕ) →
      ∀ Φ : BitVec 32 × BitVec 1 → sProp 𝕄,
      iprop(held c arg4 arg5 arg9 arg6 arg11 arg10 K V Q tri s
        ∗ (held c arg4 arg5 arg9 arg6 arg11 arg10 K V Q tri (w1 K V tri Q n j b s).2 -∗ Φ (w1 K V tri Q n j b s).1))
      ⊢ wp frame (wpE (defs₀ (F := F)) 𝒱₀ (c : Thread nD τ) (some n)) E
          (defs₀ (F := F) .tc 1 ⟨i, a, hw, arg4, harg4, arg5, harg5, arg9, harg9, arg6, harg6, arg11, harg11, arg10, harg10, j, b⟩) Φ := by
  intro n
  induction n with
  | zero =>
    intro hn j b s h0 h1 Φ
    show _ ⊢ wp frame (wpE (defs₀ (F := F)) 𝒱₀ (c : Thread nD τ) (some 0)) E
      (cc0_while1 i a hw arg4 harg4 arg5 harg5 arg9 harg9 arg6 harg6 arg11 harg11 arg10 harg10 j b) Φ
    simp only [cc0_while1_eq_skeleton]; unfold cc0_while1_skel
    rw [if_neg (show ¬ _ from fun hg => absurd (sge_of j b hg) (by simpa using h1))]
    simp only [Prog.pure_eq_ret]
    iintro ⟨H, Hk⟩
    rw [wp_ret]; imodintro
    simp only [w1]
    iapply Hk; iexact H
  | succ n ih =>
    intro hn j b s h0 h1 Φ
    show _ ⊢ wp frame (wpE (defs₀ (F := F)) 𝒱₀ (c : Thread nD τ) (some (n + 1))) E
      (cc0_while1 i a hw arg4 harg4 arg5 harg5 arg9 harg9 arg6 harg6 arg11 harg11 arg10 harg10 j b) Φ
    simp only [cc0_while1_eq_skeleton]; unfold cc0_while1_skel
    by_cases hg : goes j b = 1#1
    · have hj := sge_of j b hg
      have hc : k0_chk2 j := chk2_of j hj (by omega)
      obtain ⟨hp0, hp1⟩ := pred_toInt j n hj h1 (by omega)
      rw [if_pos hg]
      simp only [k0_part9_eq_skeleton]; unfold k0_part9_skel
      simp only [Prog.lift, Prog.bind_op, Prog.bind_ret, Prog.pure_eq_ret]
      have hw1 : w1 K V tri Q (n + 1) j b s = w1 K V tri Q n (Scalar.subi j 1#32) (alive5 (step5 K V tri Q j hc s)) (step5 K V tri Q j hc s) := by
        rw [w1, if_pos hg, dif_pos hc]
      rw [hw1]
      unfold held
      iintro ⟨⟨H4, H5, H9, H6, H11, H10⟩, Hk⟩
      iapply (wp_assume 𝒱₀ (c : Thread nD τ) (some (n + 1)) E hc)
      iapply (Own.load 𝒱₀ (c : Thread nD τ) (some (n + 1)) E) $$ H4; iintro H4
      iapply (Own.load 𝒱₀ (c : Thread nD τ) (some (n + 1)) E) $$ H5; iintro H5
      iapply (Own.load 𝒱₀ (c : Thread nD τ) (some (n + 1)) E) $$ H9; iintro H9
      iapply (Own.load 𝒱₀ (c : Thread nD τ) (some (n + 1)) E) $$ H6; iintro H6
      iapply (Own.load 𝒱₀ (c : Thread nD τ) (some (n + 1)) E) $$ H11; iintro H11
      iapply (Own.load 𝒱₀ (c : Thread nD τ) (some (n + 1)) E) $$ H10; iintro H10
      iapply (Own.load 𝒱₀ (c : Thread nD τ) (some (n + 1)) E) $$ H10; iintro H10
      iapply (Own.store 𝒱₀ (c : Thread nD τ) (some (n + 1)) E) $$ H10; iintro H10
      iapply (Own.load 𝒱₀ (c : Thread nD τ) (some (n + 1)) E) $$ H11; iintro H11
      iapply (Own.store 𝒱₀ (c : Thread nD τ) (some (n + 1)) E) $$ H11; iintro H11
      iapply (Own.load 𝒱₀ (c : Thread nD τ) (some (n + 1)) E) $$ H11; iintro H11
      iapply (wp_call 𝒱₀ (c : Thread nD τ) (some (n + 1)) E n (fun u hu => by cases hu; exact Nat.lt_succ_self n))
      iapply (ih (by omega) (Scalar.subi j 1#32) (alive5 (step5 K V tri Q j hc s)) (step5 K V tri Q j hc s) hp0 hp1 _)
      unfold held
      isplitl [H4 H5 H9 H6 H10 H11]
      · isplitl [H4]; · iexact H4
        isplitl [H5]; · iexact H5
        isplitl [H9]; · iexact H9
        isplitl [H6]; · iexact H6
        isplitl [H11]; · iexact H11
        iexact H10
      iintro H
      rw [wp_ret]; imodintro
      iapply Hk; iexact H
    · rw [if_neg hg]
      have hw1 : w1 K V tri Q (n + 1) j b s = ((j, b), s) := by rw [w1, if_neg hg]
      rw [hw1]
      simp only [Prog.pure_eq_ret]
      iintro ⟨H, Hk⟩
      rw [wp_ret]; imodintro
      iapply Hk; iexact H

/-- The second sweep. -/
theorem sweep2 (c : Dev nD) (E : Set ℕ) :
    ∀ n, n ≤ 32 → ∀ (j : BitVec 32) (b : BitVec 1) (s : St F), -2 ≤ j.toInt → j.toInt < (n : ℕ) →
      ∀ Φ : BitVec 32 × BitVec 1 → sProp 𝕄,
      iprop(held c arg4 arg5 arg9 arg6 arg11 arg10 K V Q tri s
        ∗ (held c arg4 arg5 arg9 arg6 arg11 arg10 K V Q tri (w2 K V tri Q n j b s).2 -∗ Φ (w2 K V tri Q n j b s).1))
      ⊢ wp frame (wpE (defs₀ (F := F)) 𝒱₀ (c : Thread nD τ) (some n)) E
          (defs₀ (F := F) .tc 2 ⟨i, a, hw, arg4, harg4, arg5, harg5, arg9, harg9, arg6, harg6, arg11, harg11, arg10, harg10, j, b⟩) Φ := by
  intro n
  induction n with
  | zero =>
    intro hn j b s h0 h1 Φ
    show _ ⊢ wp frame (wpE (defs₀ (F := F)) 𝒱₀ (c : Thread nD τ) (some 0)) E
      (cc0_while2 i a hw arg4 harg4 arg5 harg5 arg9 harg9 arg6 harg6 arg11 harg11 arg10 harg10 j b) Φ
    simp only [cc0_while2_eq_skeleton]; unfold cc0_while2_skel
    rw [if_neg (show ¬ _ from fun hg => absurd (sge_of j b hg) (by simpa using h1))]
    simp only [Prog.pure_eq_ret]
    iintro ⟨H, Hk⟩
    rw [wp_ret]; imodintro
    simp only [w2]
    iapply Hk; iexact H
  | succ n ih =>
    intro hn j b s h0 h1 Φ
    show _ ⊢ wp frame (wpE (defs₀ (F := F)) 𝒱₀ (c : Thread nD τ) (some (n + 1))) E
      (cc0_while2 i a hw arg4 harg4 arg5 harg5 arg9 harg9 arg6 harg6 arg11 harg11 arg10 harg10 j b) Φ
    simp only [cc0_while2_eq_skeleton]; unfold cc0_while2_skel
    by_cases hg : goes j b = 1#1
    · have hj := sge_of j b hg
      have hc : k0_chk3 j := chk3_of j hj (by omega)
      obtain ⟨hp0, hp1⟩ := pred_toInt j n hj h1 (by omega)
      rw [if_pos hg]
      simp only [k0_part10_eq_skeleton]; unfold k0_part10_skel
      simp only [Prog.lift, Prog.bind_op, Prog.bind_ret, Prog.pure_eq_ret]
      have hw1 : w2 K V tri Q (n + 1) j b s = w2 K V tri Q n (Scalar.subi j 1#32) (alive6 (step6 K V tri Q j hc s)) (step6 K V tri Q j hc s) := by
        rw [w2, if_pos hg, dif_pos hc]
      rw [hw1]
      unfold held
      iintro ⟨⟨H4, H5, H9, H6, H11, H10⟩, Hk⟩
      iapply (wp_assume 𝒱₀ (c : Thread nD τ) (some (n + 1)) E hc)
      iapply (Own.load 𝒱₀ (c : Thread nD τ) (some (n + 1)) E) $$ H4; iintro H4
      iapply (Own.load 𝒱₀ (c : Thread nD τ) (some (n + 1)) E) $$ H5; iintro H5
      iapply (Own.load 𝒱₀ (c : Thread nD τ) (some (n + 1)) E) $$ H9; iintro H9
      iapply (Own.load 𝒱₀ (c : Thread nD τ) (some (n + 1)) E) $$ H6; iintro H6
      iapply (Own.load 𝒱₀ (c : Thread nD τ) (some (n + 1)) E) $$ H11; iintro H11
      iapply (Own.load 𝒱₀ (c : Thread nD τ) (some (n + 1)) E) $$ H10; iintro H10
      iapply (Own.load 𝒱₀ (c : Thread nD τ) (some (n + 1)) E) $$ H10; iintro H10
      iapply (Own.store 𝒱₀ (c : Thread nD τ) (some (n + 1)) E) $$ H10; iintro H10
      iapply (Own.load 𝒱₀ (c : Thread nD τ) (some (n + 1)) E) $$ H11; iintro H11
      iapply (Own.store 𝒱₀ (c : Thread nD τ) (some (n + 1)) E) $$ H11; iintro H11
      iapply (Own.load 𝒱₀ (c : Thread nD τ) (some (n + 1)) E) $$ H11; iintro H11
      iapply (wp_call 𝒱₀ (c : Thread nD τ) (some (n + 1)) E n (fun u hu => by cases hu; exact Nat.lt_succ_self n))
      iapply (ih (by omega) (Scalar.subi j 1#32) (alive6 (step6 K V tri Q j hc s)) (step6 K V tri Q j hc s) hp0 hp1 _)
      unfold held
      isplitl [H4 H5 H9 H6 H10 H11]
      · isplitl [H4]; · iexact H4
        isplitl [H5]; · iexact H5
        isplitl [H9]; · iexact H9
        isplitl [H6]; · iexact H6
        isplitl [H11]; · iexact H11
        iexact H10
      iintro H
      rw [wp_ret]; imodintro
      iapply Hk; iexact H
    · rw [if_neg hg]
      have hw1 : w2 K V tri Q (n + 1) j b s = ((j, b), s) := by rw [w2, if_neg hg]
      rw [hw1]
      simp only [Prog.pure_eq_ret]
      iintro ⟨H, Hk⟩
      rw [wp_ret]; imodintro
      iapply Hk; iexact H

end Cert.SbAttnIdeal.Pure

end
-- ==== Proof.SbI.Kernel.lean ====
/-
  The kernel of the stick-breaking attention at one grid point: owning the five blocks it reads, the result's block and
  the three scratch arrays, it ends with the five blocks as they were and the result's block at `out` of them.
-/
module

public import proofs.«01_k».proof.Proof.SbI.Loops

@[expose] public section

noncomputable section

namespace Cert.SbAttnIdeal.Pure

open Cert.SbAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first sweep ends at a block index the second may start from. -/
theorem w1_bounds (K V : S1x8192x128.Idx → Elt F .bf16) (Q : S1024x128.Idx → Elt F .bf16) (tri : S256x256.Idx → Elt F .bf16) :
    ∀ n, n ≤ 32 → ∀ (j : BitVec 32) (b : BitVec 1) (s : St F), -2 ≤ j.toInt → j.toInt < 32 →
      -2 ≤ (w1 K V tri Q n j b s).1.1.toInt ∧ (w1 K V tri Q n j b s).1.1.toInt < 32 := by
  intro n
  induction n with
  | zero => intro _ j b s h0 h1; exact ⟨h0, h1⟩
  | succ n ih =>
    intro hn j b s h0 h1
    rw [w1]
    split
    · rename_i hg
      have hj := sge_of j b hg
      obtain ⟨hp0, hp1⟩ := pred_toInt j 31 hj (by omega) le_rfl
      rw [dif_pos (chk2_of j hj h1)]
      exact ih (by omega) _ _ _ hp0 (by omega)
    · exact ⟨h0, h1⟩

/-- The first sweep starts below block 31. -/
theorem j0_bounds (i : grid0.Coords) : -2 ≤ (j0 i).toInt ∧ (j0 i).toInt < 32 := by
  have : ∀ y : Fin 16, -2 ≤ (Scalar.subi (Scalar.muli 2#32 (BitVec.ofNat 32 y.val)) 2#32).toInt
      ∧ (Scalar.subi (Scalar.muli 2#32 (BitVec.ofNat 32 y.val)) 2#32).toInt < 32 := by decide
  exact this (i 2)

theorem sC_bounds (i : grid0.Coords) (K V : S1x8192x128.Idx → Elt F .bf16) (tri : S256x256.Idx → Elt F .bf16)
    (lt : S256x256.Idx → Elt F .f32) (Q : S1024x128.Idx → Elt F .bf16) :
    -2 ≤ (sC i K V tri lt Q).1.1.toInt ∧ (sC i K V tri lt Q).1.1.toInt < 32 :=
  w1_bounds K V Q tri 32 le_rfl _ _ _ (j0_bounds i).1 (j0_bounds i).2

/-- The four stores of the scaled queries cover their array, whatever it held. -/
theorem qs_of (q : S1x512x128.Idx → Elt F .bf16) (x : S1024x128.Idx → Elt F .bf16) :
    Own.ovl x [⟨r3, k0_pay22 (k0_pay21 (View.ld q h1))⟩, ⟨r2, k0_pay20 (View.ld q h1)⟩,
      ⟨r1, k0_pay17 (View.ld q h0)⟩, ⟨r0, k0_pay16 (View.ld q h0)⟩] = qs q :=
  Own.ovl_eq_canon x _ (View.cover_of_tiled _ S256x128.size (by rfl))

theorem mem_rA (y : S1024x128.Idx) : y ∈ rA.set :=
  Rect.mem_set_unit.mpr fun a => by
    have h := (y a).isLt
    fin_cases a
    · exact ⟨Nat.zero_le _, by simpa using h⟩
    · exact ⟨Nat.zero_le _, by simpa using h⟩

/-- The stores of zero likewise. -/
theorem ovl_rA (x : S1024x128.Idx → Elt F .f32) (w : rA.shape.Idx → Elt F .f32) :
    Own.ovl x [⟨rA, w⟩] = View.canon [⟨rA, w⟩] := by
  refine Own.ovl_eq_canon x [⟨rA, w⟩] ?_
  intro y
  refine ⟨⟨rA, w⟩, List.mem_singleton_self _, ?_⟩
  exact mem_rA y
theorem acc_of (x : S1024x128.Idx → Elt F .f32) : Own.ovl x [⟨rA, k0_pay23 (F := F)⟩] = (st0 (F := F)).1 := by
  unfold st0
  dsimp only
  apply ovl_rA
theorem car_of (x : S1024x128.Idx → Elt F .f32) : Own.ovl x [⟨rA, k0_pay24 (F := F)⟩] = (st0 (F := F)).2 := by
  unfold st0
  dsimp only
  rw [ovl_rA]

/-- The two stores of the result cover its block. -/
theorem out_of (i : grid0.Coords) (q : S1x512x128.Idx → Elt F .bf16) (K V : S1x8192x128.Idx → Elt F .bf16)
    (tri : S256x256.Idx → Elt F .bf16) (lt : S256x256.Idx → Elt F .f32) (x : S1x512x128.Idx → Elt F .bf16) :
    Own.ovl x [⟨h1, k0_pay2 lane (View.ld (sD i K V tri lt (qs q)).2.1 r2) (View.ld (sD i K V tri lt (qs q)).2.1 r3)⟩,
     ⟨h0, k0_pay1 lane (View.ld (sD i K V tri lt (qs q)).2.1 r0) (View.ld (sD i K V tri lt (qs q)).2.1 r1) k0_pay54⟩]
      = out i q K V tri lt :=
  Own.ovl_eq_canon x _ (View.cover_of_tiled _ S1x256x128.size (by rfl))

set_option maxRecDepth 16384
set_option maxHeartbeats 4000000

theorem sound_kernel (c : Dev nD) (i : grid0.Coords)
    (arg3 : Memref sig .tc .vmem S1x512x128 .bf16) (harg3 : arg3.IsWhole)
    (arg4 : Memref sig .tc .vmem S1x8192x128 .bf16) (harg4 : arg4.IsWhole)
    (arg5 : Memref sig .tc .vmem S1x8192x128 .bf16) (harg5 : arg5.IsWhole)
    (arg6 : Memref sig .tc .vmem S256x256 .bf16) (harg6 : arg6.IsWhole)
    (arg7 : Memref sig .tc .vmem S256x256 .f32) (harg7 : arg7.IsWhole)
    (arg8 : Memref sig .tc .vmem S1x512x128 .bf16) (harg8 : arg8.IsWhole)
    (arg9 : Memref sig .tc .vmem S1024x128 .bf16) (harg9 : arg9.IsWhole)
    (arg10 : Memref sig .tc .vmem S1024x128 .f32) (harg10 : arg10.IsWhole)
    (arg11 : Memref sig .tc .vmem S1024x128 .f32) (harg11 : arg11.IsWhole)
    (q : S1x512x128.Idx → Elt F .bf16) (K V : S1x8192x128.Idx → Elt F .bf16)
    (tri : S256x256.Idx → Elt F .bf16) (lt : S256x256.Idx → Elt F .f32)
    (x8 : S1x512x128.Idx → Elt F .bf16) (x9 : S1024x128.Idx → Elt F .bf16) (x10 x11 : S1024x128.Idx → Elt F .f32)
    (Φ : PUnit → sProp 𝕄) :
    iprop(owns (c : Thread nD τ) arg3 fullShare q ∗ owns (c : Thread nD τ) arg4 fullShare K
      ∗ owns (c : Thread nD τ) arg5 fullShare V ∗ owns (c : Thread nD τ) arg6 fullShare tri
      ∗ owns (c : Thread nD τ) arg7 fullShare lt ∗ owns (c : Thread nD τ) arg8 fullShare x8
      ∗ owns (c : Thread nD τ) arg9 fullShare x9 ∗ owns (c : Thread nD τ) arg10 fullShare x10
      ∗ owns (c : Thread nD τ) arg11 fullShare x11
      ∗ (owns (c : Thread nD τ) arg3 fullShare q -∗ owns (c : Thread nD τ) arg4 fullShare K
      -∗ owns (c : Thread nD τ) arg5 fullShare V -∗ owns (c : Thread nD τ) arg6 fullShare tri
      -∗ owns (c : Thread nD τ) arg7 fullShare lt -∗ owns (c : Thread nD τ) arg8 fullShare (out i q K V tri lt)
      -∗ owns (c : Thread nD τ) arg9 fullShare (qs q) -∗ owns (c : Thread nD τ) arg10 fullShare (sD i K V tri lt (qs q)).2.1
      -∗ owns (c : Thread nD τ) arg11 fullShare (sD i K V tri lt (qs q)).2.2 -∗ Φ ⟨⟩))
      ⊢ wp frame (wpE (defs₀ (F := F)) 𝒱₀ (c : Thread nD τ) none) Set.univ
          (cc0_sb_attn i arg3 harg3 arg4 harg4 arg5 harg5 arg6 harg6 arg7 harg7 arg8 harg8 arg9 harg9 arg10 harg10 arg11 harg11) Φ := by
  simp only [cc0_sb_attn_eq_skeleton]; unfold cc0_sb_attn_skel
  simp only [k0_part2_eq_skeleton, k0_part3_eq_skeleton, k0_part4_eq_skeleton, k0_part5_eq_skeleton, k0_part6_eq_skeleton,
    k0_part7_eq_skeleton, k0_part8_eq_skeleton]
  unfold k0_part2_skel
  simp only [Prog.lift, Prog.bind_op, Prog.bind_ret, Prog.pure_eq_ret]
  iintro ⟨H3, H4, H5, H6, H7, H8, H9, H10, H11, Hk⟩
  iapply (Own.load 𝒱₀ (c : Thread nD τ) none Set.univ) $$ H3; iintro H3
  iapply (Own.load 𝒱₀ (c : Thread nD τ) none Set.univ) $$ H9; iintro H9
  iapply (Own.store 𝒱₀ (c : Thread nD τ) none Set.univ) $$ H9; iintro H9
  iapply (Own.load 𝒱₀ (c : Thread nD τ) none Set.univ) $$ H9; iintro H9
  iapply (Own.store 𝒱₀ (c : Thread nD τ) none Set.univ) $$ H9; iintro H9
  iapply (Own.load 𝒱₀ (c : Thread nD τ) none Set.univ) $$ H3; iintro H3
  iapply (Own.load 𝒱₀ (c : Thread nD τ) none Set.univ) $$ H9; iintro H9
  iapply (Own.store 𝒱₀ (c : Thread nD τ) none Set.univ) $$ H9; iintro H9
  unfold k0_part3_skel
  simp only [Prog.lift, Prog.bind_op, Prog.bind_ret, Prog.pure_eq_ret]
  iapply (Own.load 𝒱₀ (c : Thread nD τ) none Set.univ) $$ H9; iintro H9
  iapply (Own.store 𝒱₀ (c : Thread nD τ) none Set.univ) $$ H9; iintro H9
  iapply (Own.load 𝒱₀ (c : Thread nD τ) none Set.univ) $$ H10; iintro H10
  iapply (Own.store 𝒱₀ (c : Thread nD τ) none Set.univ) $$ H10; iintro H10
  iapply (Own.load 𝒱₀ (c : Thread nD τ) none Set.univ) $$ H11; iintro H11
  iapply (Own.store 𝒱₀ (c : Thread nD τ) none Set.univ) $$ H11; iintro H11
  iapply (Own.cast (c : Thread nD τ) (qs q) (by exact qs_of q x9)) $$ H9; iintro H9
  iapply (Own.cast (c : Thread nD τ) ((st0 (F := F)).1) (by exact acc_of x10)) $$ H10; iintro H10
  iapply (Own.cast (c : Thread nD τ) ((st0 (F := F)).2) (by exact car_of x11)) $$ H11; iintro H11
  iapply (Own.load 𝒱₀ (c : Thread nD τ) none Set.univ) $$ H4; iintro H4
  iapply (Own.load 𝒱₀ (c : Thread nD τ) none Set.univ) $$ H5; iintro H5
  iapply (Own.load 𝒱₀ (c : Thread nD τ) none Set.univ) $$ H9; iintro H9
  unfold k0_part4_skel
  simp only [Prog.lift, Prog.bind_op, Prog.bind_ret, Prog.pure_eq_ret]
  iapply (Own.load 𝒱₀ (c : Thread nD τ) none Set.univ) $$ H7; iintro H7
  iapply (Own.load 𝒱₀ (c : Thread nD τ) none Set.univ) $$ H7; iintro H7
  iapply (Own.load 𝒱₀ (c : Thread nD τ) none Set.univ) $$ H6; iintro H6
  iapply (Own.load 𝒱₀ (c : Thread nD τ) none Set.univ) $$ H7; iintro H7
  iapply (Own.load 𝒱₀ (c : Thread nD τ) none Set.univ) $$ H7; iintro H7
  iapply (Own.load 𝒱₀ (c : Thread nD τ) none Set.univ) $$ H11; iintro H11
  iapply (Own.load 𝒱₀ (c : Thread nD τ) none Set.univ) $$ H10; iintro H10
  iapply (Own.load 𝒱₀ (c : Thread nD τ) none Set.univ) $$ H10; iintro H10
  iapply (Own.store 𝒱₀ (c : Thread nD τ) none Set.univ) $$ H10; iintro H10
  iapply (Own.load 𝒱₀ (c : Thread nD τ) none Set.univ) $$ H11; iintro H11
  iapply (Own.store 𝒱₀ (c : Thread nD τ) none Set.univ) $$ H11; iintro H11
  iapply (Own.cast (c : Thread nD τ) ((step1 i K V tri lt (qs q) st0).1) (by exact rfl)) $$ H10; iintro H10
  iapply (Own.cast (c : Thread nD τ) ((step1 i K V tri lt (qs q) st0).2) (by exact rfl)) $$ H11; iintro H11
  unfold k0_part5_skel
  simp only [Prog.lift, Prog.bind_op, Prog.bind_ret, Prog.pure_eq_ret]
  iapply (Own.load 𝒱₀ (c : Thread nD τ) none Set.univ) $$ H4; iintro H4
  iapply (Own.load 𝒱₀ (c : Thread nD τ) none Set.univ) $$ H5; iintro H5
  iapply (Own.load 𝒱₀ (c : Thread nD τ) none Set.univ) $$ H9; iintro H9
  iapply (Own.load 𝒱₀ (c : Thread nD τ) none Set.univ) $$ H7; iintro H7
  iapply (Own.load 𝒱₀ (c : Thread nD τ) none Set.univ) $$ H7; iintro H7
  iapply (Own.load 𝒱₀ (c : Thread nD τ) none Set.univ) $$ H6; iintro H6
  iapply (Own.load 𝒱₀ (c : Thread nD τ) none Set.univ) $$ H7; iintro H7
  unfold k0_part6_skel
  simp only [Prog.lift, Prog.bind_op, Prog.bind_ret, Prog.pure_eq_ret]
  iapply (Own.load 𝒱₀ (c : Thread nD τ) none Set.univ) $$ H7; iintro H7
  iapply (Own.load 𝒱₀ (c : Thread nD τ) none Set.univ) $$ H11; iintro H11
  iapply (Own.load 𝒱₀ (c : Thread nD τ) none Set.univ) $$ H10; iintro H10
  iapply (Own.load 𝒱₀ (c : Thread nD τ) none Set.univ) $$ H10; iintro H10
  iapply (Own.store 𝒱₀ (c : Thread nD τ) none Set.univ) $$ H10; iintro H10
  iapply (Own.load 𝒱₀ (c : Thread nD τ) none Set.univ) $$ H11; iintro H11
  iapply (Own.store 𝒱₀ (c : Thread nD τ) none Set.univ) $$ H11; iintro H11
  iapply (Own.cast (c : Thread nD τ) ((step2 i K V tri lt (qs q) (step1 i K V tri lt (qs q) st0)).1) (by exact rfl)) $$ H10; iintro H10
  iapply (Own.cast (c : Thread nD τ) ((step2 i K V tri lt (qs q) (step1 i K V tri lt (qs q) st0)).2) (by exact rfl)) $$ H11; iintro H11
  iapply (Own.load 𝒱₀ (c : Thread nD τ) none Set.univ) $$ H4; iintro H4
  unfold k0_part7_skel
  simp only [Prog.lift, Prog.bind_op, Prog.bind_ret, Prog.pure_eq_ret]
  iapply (Own.load 𝒱₀ (c : Thread nD τ) none Set.univ) $$ H5; iintro H5
  iapply (Own.load 𝒱₀ (c : Thread nD τ) none Set.univ) $$ H9; iintro H9
  iapply (Own.load 𝒱₀ (c : Thread nD τ) none Set.univ) $$ H6; iintro H6
  iapply (Own.load 𝒱₀ (c : Thread nD τ) none Set.univ) $$ H11; iintro H11
  iapply (Own.load 𝒱₀ (c : Thread nD τ) none Set.univ) $$ H10; iintro H10
  iapply (Own.load 𝒱₀ (c : Thread nD τ) none Set.univ) $$ H10; iintro H10
  unfold k0_part8_skel
  simp only [Prog.lift, Prog.bind_op, Prog.bind_ret, Prog.pure_eq_ret]
  iapply (Own.store 𝒱₀ (c : Thread nD τ) none Set.univ) $$ H10; iintro H10
  iapply (Own.load 𝒱₀ (c : Thread nD τ) none Set.univ) $$ H11; iintro H11
  iapply (Own.store 𝒱₀ (c : Thread nD τ) none Set.univ) $$ H11; iintro H11
  iapply (Own.cast (c : Thread nD τ) ((sA i K V tri lt (qs q)).1) (by exact rfl)) $$ H10; iintro H10
  iapply (Own.cast (c : Thread nD τ) ((sA i K V tri lt (qs q)).2) (by exact rfl)) $$ H11; iintro H11
  iapply (Own.load 𝒱₀ (c : Thread nD τ) none Set.univ) $$ H11; iintro H11
  iapply (wp_assume 𝒱₀ (c : Thread nD τ) none Set.univ (chk1_all i _))
  by_cases hc : k0_cond1 i (alive1 (sA i K V tri lt (qs q))) = 1#1
  on_goal 1 =>
    have e4 : (sB i K V tri lt (qs q)) = _ := (show (sB i K V tri lt (qs q)) = step4 i K V tri (qs q) (alive1 (sA i K V tri lt (qs q))) (sA i K V tri lt (qs q)) from rfl).trans (dif_pos hc)
    iapply (Own.branch_pos 𝒱₀ (c : Thread nD τ) none Set.univ (by exact hc))
    simp only [k0_part1_eq_skeleton]; unfold k0_part1_skel
    simp only [Prog.lift, Prog.bind_op, Prog.bind_ret, Prog.pure_eq_ret]
    iapply (Own.load 𝒱₀ (c : Thread nD τ) none Set.univ) $$ H4; iintro H4
    iapply (Own.load 𝒱₀ (c : Thread nD τ) none Set.univ) $$ H5; iintro H5
    iapply (Own.load 𝒱₀ (c : Thread nD τ) none Set.univ) $$ H9; iintro H9
    iapply (Own.load 𝒱₀ (c : Thread nD τ) none Set.univ) $$ H6; iintro H6
    iapply (Own.load 𝒱₀ (c : Thread nD τ) none Set.univ) $$ H11; iintro H11
    iapply (Own.load 𝒱₀ (c : Thread nD τ) none Set.univ) $$ H10; iintro H10
    iapply (Own.load 𝒱₀ (c : Thread nD τ) none Set.univ) $$ H10; iintro H10
    iapply (Own.store 𝒱₀ (c : Thread nD τ) none Set.univ) $$ H10; iintro H10
    iapply (Own.load 𝒱₀ (c : Thread nD τ) none Set.univ) $$ H11; iintro H11
    iapply (Own.store 𝒱₀ (c : Thread nD τ) none Set.univ) $$ H11; iintro H11
    iapply (Own.cast (c : Thread nD τ) ((sB i K V tri lt (qs q)).1) (by exact (congrArg Prod.fst e4).symm)) $$ H10; iintro H10
    iapply (Own.cast (c : Thread nD τ) ((sB i K V tri lt (qs q)).2) (by exact (congrArg Prod.snd e4).symm)) $$ H11; iintro H11
  on_goal 2 =>
    have e4 : (sB i K V tri lt (qs q)) = _ := (show (sB i K V tri lt (qs q)) = step4 i K V tri (qs q) (alive1 (sA i K V tri lt (qs q))) (sA i K V tri lt (qs q)) from rfl).trans (dif_neg hc)
    iapply (Own.branch_neg 𝒱₀ (c : Thread nD τ) none Set.univ (by exact hc))
    simp only [Prog.lift, Prog.bind_op, Prog.bind_ret, Prog.pure_eq_ret]
    iapply (Own.cast (c : Thread nD τ) ((sB i K V tri lt (qs q)).1) (by exact (congrArg Prod.fst e4).symm)) $$ H10; iintro H10
    iapply (Own.cast (c : Thread nD τ) ((sB i K V tri lt (qs q)).2) (by exact (congrArg Prod.snd e4).symm)) $$ H11; iintro H11
  all_goals
    iapply (Own.load 𝒱₀ (c : Thread nD τ) none Set.univ) $$ H11; iintro H11
    iapply (wp_call 𝒱₀ (c : Thread nD τ) none Set.univ 32 (fun u hu => nomatch hu))
    iapply (sweep1 i _ _ arg4 harg4 arg5 harg5 arg9 harg9 arg6 harg6 arg11 harg11 arg10 harg10 K V (qs q) tri c Set.univ 32 le_rfl (j0 i) (alive2 (sB i K V tri lt (qs q))) (sB i K V tri lt (qs q)) (j0_bounds i).1 (j0_bounds i).2 _)
    isplitl [H4 H5 H9 H6 H10 H11]
    · unfold held
      isplitl [H4]; · iexact H4
      isplitl [H5]; · iexact H5
      isplitl [H9]; · iexact H9
      isplitl [H6]; · iexact H6
      isplitl [H11]; · iexact H11
      iexact H10
    iintro H
    unfold held
    icases H with ⟨H4, H5, H9, H6, H11, H10⟩
    iapply (Own.load 𝒱₀ (c : Thread nD τ) none Set.univ) $$ H11; iintro H11
    iapply (wp_call 𝒱₀ (c : Thread nD τ) none Set.univ 32 (fun u hu => nomatch hu))
    iapply (sweep2 i _ _ arg4 harg4 arg5 harg5 arg9 harg9 arg6 harg6 arg11 harg11 arg10 harg10 K V (qs q) tri c Set.univ 32 le_rfl (sC i K V tri lt (qs q)).1.1 (alive3 (sC i K V tri lt (qs q)).2) (sC i K V tri lt (qs q)).2 (sC_bounds i K V tri lt (qs q)).1 (sC_bounds i K V tri lt (qs q)).2 _)
    isplitl [H4 H5 H9 H6 H10 H11]
    · unfold held
      isplitl [H4]; · iexact H4
      isplitl [H5]; · iexact H5
      isplitl [H9]; · iexact H9
      isplitl [H6]; · iexact H6
      isplitl [H11]; · iexact H11
      iexact H10
    iintro H
    unfold held
    icases H with ⟨H4, H5, H9, H6, H11, H10⟩
    iapply (Own.load 𝒱₀ (c : Thread nD τ) none Set.univ) $$ H10; iintro H10
    iapply (Own.load 𝒱₀ (c : Thread nD τ) none Set.univ) $$ H10; iintro H10
    simp only [Prog.bind_op, Prog.bind_ret]
    iapply (Own.load 𝒱₀ (c : Thread nD τ) none Set.univ) $$ H8; iintro H8
    iapply (Own.store 𝒱₀ (c : Thread nD τ) none Set.univ) $$ H8; iintro H8
    iapply (Own.load 𝒱₀ (c : Thread nD τ) none Set.univ) $$ H10; iintro H10
    iapply (Own.load 𝒱₀ (c : Thread nD τ) none Set.univ) $$ H10; iintro H10
    iapply (Own.load 𝒱₀ (c : Thread nD τ) none Set.univ) $$ H8; iintro H8
    iapply (Own.store 𝒱₀ (c : Thread nD τ) none Set.univ) $$ H8; iintro H8
    iapply (Own.cast (c : Thread nD τ) (out i q K V tri lt) (by exact out_of i q K V tri lt x8)) $$ H8; iintro H8
    iapply (Own.cast (c : Thread nD τ) (sD i K V tri lt (qs q)).2.1 (by exact rfl)) $$ H10; iintro H10
    iapply (Own.cast (c : Thread nD τ) (sD i K V tri lt (qs q)).2.2 (by exact rfl)) $$ H11; iintro H11
    rw [wp_ret]; imodintro
    iapply Hk $$ H3 H4 H5 H6 H7 H8 H9 H10 H11

end Cert.SbAttnIdeal.Pure

end
-- ==== Proof.SbI.Run.lean ====
/-
  The run of the stick-breaking attention: what its arrays hold where its region begins, what every window's block
  holds before and after the body at each grid point, the body's obligation, and the frame.
-/
module

public import proofs.«01_k».proof.Proof.SbI.Kernel
public import proofs.«01_k».proof.Proof.Gen.SbAttnIdeal.Launch
public import proofs.«01_k».proof.Proof.Gen.SbAttnIdeal.Points
public import Idealize.ShloMosaic.Lib.Claim
public import Idealize.ShloMosaic.Lib.StableHlo.Run

@[expose] public section

set_option maxRecDepth 16384

noncomputable section

namespace Cert.SbAttnIdeal.Pure

open Cert.SbAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stretches of host operations before the region, in order. -/
abbrev hosts : List (List (HloOp τ sig (Elt F))) := [hostOps0, hostOps0_1, hostOps0_2, hostOps0_3, hostOps0_4]

/-- What a buffer of the core holds where the region begins. -/
def V (c : Dev nD) (b : Ref sig .tc) : Buf (Elt F) ((c : Thread nD τ).loc b) :=
  StableHlo.after (hosts (F := F)).flatten (fun b => m (c, b)) b

/-- The program runs the host operations and then its region. -/
theorem hmain (𝒱 : Variants) :
    Pipeline.HMain (Ix := Unit) (Name := ℕ) (U := UR sig nD τ) (Lvl := ℕ) cfgs 0 defs₀ 𝒱 m (main (F := F)) (V m) :=
  Pipeline.hmain_prefixes cfgs 0 defs₀ 𝒱 m main hosts
    ⟨hostOps0_sub, hostOps0_1_sub, hostOps0_2_sub, hostOps0_3_sub, hostOps0_4_sub⟩
    ⟨StableHlo.forall_fresh_of_map rfl, StableHlo.forall_fresh_of_map rfl, StableHlo.forall_fresh_of_map rfl,
      StableHlo.forall_fresh_of_map rfl, StableHlo.forall_fresh_of_map rfl⟩
    fun c => (main_chain c).trans rfl

/-- No host operation writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hosts, List.flatten_cons, List.flatten_nil, List.cons_append, List.nil_append, List.append_nil, List.Forall]
    repeat' apply And.intro
    all_goals exact fun hm => StableHlo.devRef_ne_of_ne (fun h => by cases h) (Finset.mem_singleton.mp hm)))

/-- A window's block at a grid point, read from its array as the region found it. -/
def iblk (c : Dev nD) (w : Fin (cfg0 (F := F)).W) (t : Fin (cfg0 (F := F)).N) :
    ((cfg0.win w).xblock (cfg0.grid.coords t)).Idx → Elt F (cfg0.win w).elt :=
  ((cfg0.win w).blk t).view.read (Elt F) (V m c (Pipeline.arrRef spec0 w))

/-- The blocks at every point: an input's as it was, the result's at `out` of the inputs'. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (grid0.coords t) (iblk m c 0 t) (iblk m c 1 t) (iblk m c 2 t) (iblk m c 3 t) (iblk m c 4 t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := rfl

theorem after0_0 (c : Dev nD) (t : Fin (cfg0 (F := F)).N) : (dats m 0 c).after 0 t = iblk m c 0 t := by unfold dats; rfl
theorem after0_1 (c : Dev nD) (t : Fin (cfg0 (F := F)).N) : (dats m 0 c).after 1 t = iblk m c 1 t := by unfold dats; rfl
theorem after0_2 (c : Dev nD) (t : Fin (cfg0 (F := F)).N) : (dats m 0 c).after 2 t = iblk m c 2 t := by unfold dats; rfl
theorem after0_3 (c : Dev nD) (t : Fin (cfg0 (F := F)).N) : (dats m 0 c).after 3 t = iblk m c 3 t := by unfold dats; rfl
theorem after0_4 (c : Dev nD) (t : Fin (cfg0 (F := F)).N) : (dats m 0 c).after 4 t = iblk m c 4 t := by unfold dats; rfl
/-- The result's block after the body. -/
theorem after0_5 (c : Dev nD) (t : Fin (cfg0 (F := F)).N) : (dats m 0 c).after 5 t
    = out (grid0.coords t) (iblk m c 0 t) (iblk m c 1 t) (iblk m c 2 t) (iblk m c 3 t) (iblk m c 4 t) := by
  unfold dats; rfl

attribute [local irreducible] V in
/-- A point finds in an operand's buffer what it leaves there. -/
theorem kept (c : Dev nD) (w : Fin (cfg0 (F := F)).W) (hw : w.val < 5) (t : Fin (cfg0 (F := F)).N) (d) : (dats m 0 c).before w t d = (dats m 0 c).after w t := by
  obtain ⟨n, hn⟩ := w
  change n < 5 at hw
  interval_cases n <;>
    exact ((dats m 0 c).before_in_eq_fetched _ rfl (fun _ => rfl) (fun _ _ _ => rfl) (fun t => by unfold Dat.blockOf; rw [A_eq]; unfold dats iblk; rfl) t d).trans
      (by unfold Dat.fetched Dat.blockOf; rw [A_eq]; unfold dats iblk; rfl)

/-- What the body is called with at a point, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point: the inputs' blocks stay, the result's block is `out` of them, the scratch is the core's own. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  have hk := fun (w : Fin (cfg0 (F := F)).W) (hw : w.val < 5) => kept m c w hw t
  simp only [hk 0 (by show 0 < 5; decide), hk 1 (by show 1 < 5; decide), hk 2 (by show 2 < 5; decide), hk 3 (by show 3 < 5; decide), hk 4 (by show 4 < 5; decide)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%f0, S0⟩, ⟨%f1, S1⟩, ⟨%f2, S2⟩⟩, Hr⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ (iblk m c 0 t) (iblk m c 1 t) (iblk m c 2 t)
    (iblk m c 3 t) (iblk m c 4 t) _ f0 f1 f2)
  isplitl [H0]; · iexact H0
  isplitl [H1]; · iexact H1
  isplitl [H2]; · iexact H2
  isplitl [H3]; · iexact H3
  isplitl [H4]; · iexact H4
  isplitl [H5]; · iexact H5
  isplitl [S0]; · rw [owns_whole]; iexact S0
  isplitl [S1]; · rw [owns_whole]; iexact S1
  isplitl [S2]; · rw [owns_whole]; iexact S2
  rw [owns_whole, owns_whole, owns_whole]
  iintro H0 H1 H2 H3 H4 H5 S0 S1 S2
  isplitl [S0 S1 S2 Hr]
  · isplitr [Hr]
    · isplitl [S0]; · iexists _; iexact S0
      isplitl [S1]; · iexists _; iexact S1
      iexists _; iexact S2
    · iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body. -/
theorem defs₀_row (t : Fin (cfg0 (F := F)).N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- The run: every array ends at what the blocks at every point make of it, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The result's array after the run, and the argument's as it was. -/
theorem run_out : θ_run defs (onTc (τ := τ) (main (F := F))) (s₀ m ρ)
    (fun r => ∀ c : Dev nD, r.2.mem ((c.tc : Thread nD τ).loc main_v15) = (dats m 0 c).arrAt 5 (cfg0 (F := F)).N
      ∧ r.2.mem ((c.tc : Thread nD τ).loc main_arg0) = m ((c.tc : Thread nD τ).loc main_arg0)) :=
  (θ_run defs _ _).mono (fun _ h c => ⟨(h.1 c).1 5, ((h.1 c).1 0).trans (((dats m 0 c).arrAt_in 0 rfl _).trans (V_main_arg0 m c))⟩)
    (run_quiescent m ρ)

/-- The frame: from any memory with zero counters every execution ends, the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).1 0).trans (((dats m 0 c).arrAt_in 0 rfl _).trans (V_main_arg0 m c)), h.2⟩)
    (run_quiescent m ρ)

end Cert.SbAttnIdeal.Pure

end
-- ==== Proof.SbV.Math.lean ====
/-
  The stick-breaking weights over the extended reals: how one row's sum over all keys is built up from blocks of 256
  keys, the last block first, and that the two spellings of the softplus agree at a real score.
-/
module

public import Idealize.ShloMosaic.PureOps.Ideal
public import Mathlib.Analysis.SpecialFunctions.Log.Basic
public import Mathlib.Data.EReal.Operations

@[expose] public section

noncomputable section

namespace Cert.SbAttnIdeal.Val

open Idealize.ShloMosaic

/-- 1 / ln 2. -/
abbrev L2 : EReal := (((Real.log 2)⁻¹ : ℝ) : EReal)

/-- The softplus as the kernel spells it. -/
def sp (z : EReal) : EReal := max z 0 + Ideal.log (1 + Ideal.exp2 (0 - max (z * L2) (-(z * L2))))

/-- A row's score against each of 256 keys. -/
def zz (Q : Fin 128 → EReal) (K : Fin 256 → Fin 128 → EReal) (j : Fin 256) : EReal := ∑ l, Q l * K j l

/-- What a block adds: the values of its keys, weighted inside the block. -/
def pv (z μ : Fin 256 → EReal) (T : Fin 256 → Fin 256 → EReal) (v : Fin 256 → EReal) : EReal :=
  ∑ j, Ideal.exp (z j - sp (z j) + ∑ k, sp (z k) * μ k * T k j) * μ j * v j

/-- And the whole sum of the block. -/
def tot (z μ : Fin 256 → EReal) (T : Fin 256 → Fin 256 → EReal) : EReal :=
  (∑ k, sp (z k) * μ k * T k 0) - sp (z 0) * μ 0

/-- The larger of two reals, among the extended reals. -/
theorem coe_max' (a b : ℝ) : ((max a b : ℝ) : EReal) = max (a : EReal) (b : EReal) :=
  EReal.coe_strictMono.monotone.map_max

/-- The softplus of a real number. -/
def spR (x : ℝ) : ℝ := max x 0 + Real.log (1 + Real.exp (-|x|))

theorem one_add_exp (x : ℝ) : (1 : EReal) + ((Real.exp x : ℝ) : EReal) = ((1 + Real.exp x : ℝ) : EReal) := by
  rw [EReal.coe_add]; rfl

/-- At a real score the kernel's softplus is the real one. -/
theorem sp_coe (x : ℝ) : sp (x : EReal) = ((spR x : ℝ) : EReal) := by
  have h1 : (x : EReal) * L2 = ((x * (Real.log 2)⁻¹ : ℝ) : EReal) := (EReal.coe_mul _ _).symm
  have h2 : max ((x * (Real.log 2)⁻¹ : ℝ) : EReal) (-((x * (Real.log 2)⁻¹ : ℝ) : EReal)) = ((|x * (Real.log 2)⁻¹| : ℝ) : EReal) := by
    rw [← EReal.coe_neg, ← coe_max']; rfl
  have h3 : (0 : EReal) - ((|x * (Real.log 2)⁻¹| : ℝ) : EReal) = ((-|x * (Real.log 2)⁻¹| : ℝ) : EReal) := by
    rw [EReal.coe_neg, zero_sub]
  have hl : 0 < Real.log 2 := Real.log_pos (by norm_num)
  have h4 : Ideal.exp2 ((-|x * (Real.log 2)⁻¹| : ℝ) : EReal) = ((Real.exp (-|x|) : ℝ) : EReal) := by
    show ((Real.rpow 2 (-|x * (Real.log 2)⁻¹|) : ℝ) : EReal) = _
    congr 1
    show (2 : ℝ) ^ (-|x * (Real.log 2)⁻¹|) = _
    rw [Real.rpow_def_of_pos (by norm_num), abs_mul, abs_of_pos (inv_pos.mpr hl)]
    congr 1
    field_simp
  have h5 : Ideal.log ((1 + Real.exp (-|x|) : ℝ) : EReal) = ((Real.log (1 + Real.exp (-|x|)) : ℝ) : EReal) := by
    show (if (1 + Real.exp (-|x|)) ≤ 0 then (⊥ : EReal) else _) = _
    rw [if_neg (by have := Real.exp_pos (-|x|); linarith)]
  unfold sp
  rw [h1, h2, h3, h4, one_add_exp, h5]
  unfold spR
  rw [EReal.coe_add, coe_max']
  rfl

variable (x : ℕ → ℝ) (t : ℕ) (v : ℕ → EReal)

/-- What key `s` takes from the keys left of it, for the query at `t`. -/
def sg (s : ℕ) : ℝ := if s < t then spR (x s) else 0

/-- The sum of log probabilities, from key `J` on. -/
def AA (J : ℕ) : ℝ := -∑ s ∈ Finset.Ico J 8192, sg x t s

/-- The weight of key `s`. -/
def wt (s : ℕ) : ℝ := if s < t then Real.exp (x s - spR (x s) + AA x t (s + 1)) else 0

/-- The running pair of one row and lane once the keys from `J` on are in it. -/
def Inv (J : ℕ) (a c : EReal) : Prop :=
  c = ((AA x t J : ℝ) : EReal) ∧ a = ∑ s ∈ Finset.Ico J 8192, ((wt x t s : ℝ) : EReal) * v s

/-- No key left of the query yet: nothing accumulated or carried. -/
theorem inv_start (J : ℕ) (h : t ≤ J) : Inv x t v J 0 0 := by
  constructor
  · unfold AA
    rw [Finset.sum_eq_zero]
    · simp
    · intro s hs
      rw [Finset.mem_Ico] at hs
      unfold sg; rw [if_neg (by omega)]
  · rw [Finset.sum_eq_zero]
    intro s hs
    rw [Finset.mem_Ico] at hs
    unfold wt; rw [if_neg (by omega)]; simp

/-- A nonnegative real times a sum. -/
theorem coe_mul_sum {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top _), ih]

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The part of a block's sum right of the key `j`. -/
theorem block_sum (f : ℕ → ℝ) (B : ℕ) (j : ℕ) (hj : j < 256) :
    ∑ k : Fin 256, f (B + k.val) * (if j < k.val then (-1 : ℝ) else 0) = -∑ s ∈ Finset.Ico (B + j + 1) (B + 256), f s := by
  rw [Fin.sum_univ_eq_sum_range (fun k => f (B + k) * (if j < k then (-1 : ℝ) else 0)) 256,
    ← Finset.sum_range_add_sum_Ico _ (show j + 1 ≤ 256 by omega), Finset.sum_eq_zero, zero_add]
  · rw [show B + j + 1 = (j + 1) + B by omega, show B + 256 = 256 + B by omega, ← Finset.sum_Ico_add f (j + 1) 256 B, ← Finset.sum_neg_distrib]
    refine Finset.sum_congr rfl fun k hk => ?_
    rw [Finset.mem_Ico] at hk
    rw [if_pos (by omega)]; ring
  · intro k hk
    rw [Finset.mem_range] at hk
    rw [if_neg (by omega)]; ring

theorem AA_split (J J' : ℕ) (h : J ≤ J') (h' : J' ≤ 8192) :
    AA x t J = AA x t J' - ∑ s ∈ Finset.Ico J J', sg x t s := by
  unfold AA
  rw [← Finset.sum_Ico_consecutive _ h h']; ring

section

variable (B : ℕ) (hB : B + 256 ≤ 8192) (z μ : Fin 256 → EReal) (T : Fin 256 → Fin 256 → EReal)
  (hz : ∀ j, z j = ((x (B + j.val) : ℝ) : EReal)) (hμ : ∀ j, μ j = if B + j.val < t then 1 else 0)
  (hT : ∀ k j, T k j = if j.val < k.val then -1 else 0)

include hz hμ in
theorem sp_mul (k : Fin 256) : sp (z k) * μ k = ((sg x t (B + k.val) : ℝ) : EReal) := by
  rw [hz, hμ, sp_coe]; unfold sg
  split <;> simp

include hz hμ hT in
theorem in_block (j : Fin 256) : ∑ k, sp (z k) * μ k * T k j
    = ((-∑ s ∈ Finset.Ico (B + j.val + 1) (B + 256), sg x t s : ℝ) : EReal) := by
  rw [← block_sum _ _ _ j.isLt, coe_sum]
  refine Finset.sum_congr rfl fun k _ => ?_
  rw [sp_mul x t B z μ hz hμ, hT, EReal.coe_mul]
  congr 1
  split <;> simp

include hB hz hμ hT in
/-- One more block to the left: the running pair with it in. -/
theorem inv_step (a c : EReal) (vv : Fin 256 → EReal) (hv : ∀ j, vv j = v (B + j.val)) (h : Inv x t v (B + 256) a c) :
    Inv x t v B (a + Ideal.exp c * pv z μ T vv) (c + tot z μ T) := by
  obtain ⟨hc, ha⟩ := h
  constructor
  · unfold tot
    rw [in_block x t B z μ T hz hμ hT, sp_mul x t B z μ hz hμ, hc, ← EReal.coe_sub, ← EReal.coe_add, AA_split x t B (B + 256) (by omega) hB]
    congr 1
    rw [← Finset.sum_Ico_consecutive (sg x t) (show B ≤ B + 1 by omega) (show B + 1 ≤ B + 256 by omega)]
    have : ∑ s ∈ Finset.Ico B (B + 1), sg x t s = sg x t B := by simp
    rw [this]
    simp only [Fin.val_zero, add_zero]
    ring
  · have he : ∀ r : ℝ, Ideal.exp (r : EReal) = ((Real.exp r : ℝ) : EReal) := fun _ => rfl
    rw [← Finset.sum_Ico_consecutive _ (show B ≤ B + 256 by omega) hB, ← ha, add_comm]
    congr 1
    unfold pv
    rw [hc, he, coe_mul_sum _ _ (Real.exp_pos _).le, Finset.sum_Ico_eq_sum_range (fun s => ((wt x t s : ℝ) : EReal) * v s) B (B + 256),
      show B + 256 - B = 256 by omega, ← Fin.sum_univ_eq_sum_range (fun k => ((wt x t (B + k) : ℝ) : EReal) * v (B + k)) 256]
    refine Finset.sum_congr rfl fun j _ => ?_
    rw [in_block x t B z μ T hz hμ hT, hz, hμ, hv, sp_coe, ← EReal.coe_sub, ← EReal.coe_add, he, ← mul_assoc]
    congr 1
    unfold wt
    split
    · rw [mul_one, ← EReal.coe_mul, ← Real.exp_add, AA_split x t (B + j.val + 1) (B + 256) (by have := j.isLt; omega) hB]
      congr 2; ring
    · simp

end

end Cert.SbAttnIdeal.Val

end
-- ==== Proof.SbV.Pay.lean ====
/-
  The kernel's payloads read at one row and lane, at the extended reals: what a block of 256 keys adds to the
  accumulated values and to the carried sum.
-/
module

public import proofs.«01_k».proof.Proof.SbI.State
public import proofs.«01_k».proof.Proof.SbV.Math
public import Idealize.ShloMosaic.Lib.Pointwise

@[expose] public section

set_option maxRecDepth 16384

noncomputable section

namespace Cert.SbAttnIdeal.Val

open Cert.SbAttnIdeal Cert.SbAttnIdeal.Gen Cert.SbAttnIdeal.Pure
open Idealize.ShloMosaic Idealize.ShloMosaic.TcCoe

/-- The named 1 / ln 2. -/
theorem log2e_eq : (Named.named (F := Ideal) κ "log2e" (0x3FB8AA3B#32 : BitVec 32) : Ideal .f32) = L2 :=
  IdealRules.named_const.ideal_named_scalar _ _ _ _ (by simp [κ])

/-- The named bound below which a weight is zero: none. -/
theorem zb_eq : (zb (F := Ideal)) = (⊥ : EReal) :=
  IdealRules.named_const.ideal_named_scalar _ _ _ _ (by simp [κ])

theorem exp2_eq (x : Ideal .f32) : FloatOps.exp2 x = Ideal.exp2 x := rfl
theorem absf_eq (x : Ideal .f32) : FloatOps.absf x = max x (-x) := rfl

theorem pay3_at (K V : FVec Ideal S1x256x128 .bf16) (Q : FVec Ideal S1024x128 .bf16) (T : FVec Ideal S256x256 .bf16)
    (a s : FVec Ideal S1024x128 .f32) (r : Fin 1024) (l : Fin 128) :
    k0_pay3 (F := Ideal) (k0_pay58 K V Q T) a (k0_pay60 s) (ix2 r l)
      = a (ix2 r l) + Ideal.exp (s (ix2 r l)) * pv (zz (fun l => Q (ix2 r l)) fun j l => K (ix3 0 j l)) (fun _ => 1) (fun k j => T (ix2 k j)) (fun j => V (ix3 0 j l)) := by
  unfold pv zz sp
  pointwise [k0_pay3, k0_pay58, k0_pay60, k0_pay55, k0_pay56, k0_pay57]
  have h := log2e_eq
  simp only [exp2_eq, absf_eq, h]

theorem pay4_at (K V : FVec Ideal S1x256x128 .bf16) (Q : FVec Ideal S1024x128 .bf16) (T : FVec Ideal S256x256 .bf16)
    (a s : FVec Ideal S1024x128 .f32) (r : Fin 1024) (l : Fin 128) :
    k0_pay4 (F := Ideal) (k0_pay59 K Q T) s (ix2 r l)
      = s (ix2 r l) + tot (zz (fun l => Q (ix2 r l)) fun j l => K (ix3 0 j l)) (fun _ => 1) (fun k j => T (ix2 k j)) := by
  unfold tot zz sp
  pointwise [k0_pay4, k0_pay59, k0_pay55, k0_pay56, k0_pay57]
  have h := log2e_eq
  simp only [exp2_eq, absf_eq, h]

theorem pay50_at (K V : FVec Ideal S1x256x128 .bf16) (Q : FVec Ideal S512x128 .bf16) (T : FVec Ideal S256x256 .bf16)
    (a s : FVec Ideal S512x128 .f32) (r : Fin 512) (l : Fin 128) :
    k0_pay50 (F := Ideal) (k0_pay12 K V Q T) s a (ix2 r l)
      = a (ix2 r l) + Ideal.exp (s (ix2 r l)) * pv (zz (fun l => Q (ix2 r l)) fun j l => K (ix3 0 j l)) (fun _ => 1) (fun k j => T (ix2 k j)) (fun j => V (ix3 0 j l)) := by
  unfold pv zz sp
  pointwise [k0_pay50, k0_pay12, k0_pay9, k0_pay10, k0_pay11]
  have h := log2e_eq
  simp only [exp2_eq, absf_eq, h]

theorem pay51_at (K V : FVec Ideal S1x256x128 .bf16) (Q : FVec Ideal S512x128 .bf16) (T : FVec Ideal S256x256 .bf16)
    (a s : FVec Ideal S512x128 .f32) (r : Fin 512) (l : Fin 128) :
    k0_pay51 (F := Ideal) (k0_pay13 K Q T) s (ix2 r l)
      = s (ix2 r l) + tot (zz (fun l => Q (ix2 r l)) fun j l => K (ix3 0 j l)) (fun _ => 1) (fun k j => T (ix2 k j)) := by
  unfold tot zz sp
  pointwise [k0_pay51, k0_pay13, k0_pay9, k0_pay10, k0_pay11]
  have h := log2e_eq
  simp only [exp2_eq, absf_eq, h]

theorem pay47_at (G : EReal) (K V : FVec Ideal S1x256x128 .bf16) (Q : FVec Ideal S512x128 .bf16) (T : FVec Ideal S256x256 .bf16)
    (a s : FVec Ideal S512x128 .f32) (r : Fin 512) (l : Fin 128) :
    k0_pay47 (F := Ideal) G (k0_pay42 K) V Q T s a (ix2 r l)
      = a (ix2 r l) + Ideal.exp (s (ix2 r l)) * (pv (zz (fun l => Q (ix2 r l)) fun j l => K (ix3 0 j l)) (fun _ => 1) (fun k j => T (ix2 k j)) (fun j => V (ix3 0 j l)) * G) := by
  unfold pv zz sp
  pointwise [k0_pay47, k0_pay42, k0_pay43, k0_pay44, k0_pay45]
  have h := log2e_eq
  simp only [exp2_eq, absf_eq, h]

theorem pay48_at (G : EReal) (K V : FVec Ideal S1x256x128 .bf16) (Q : FVec Ideal S512x128 .bf16) (T : FVec Ideal S256x256 .bf16)
    (a s : FVec Ideal S512x128 .f32) (r : Fin 512) (l : Fin 128) :
    k0_pay48 (F := Ideal) (k0_pay46 G (k0_pay42 K) Q T) s (ix2 r l)
      = s (ix2 r l) + tot (zz (fun l => Q (ix2 r l)) fun j l => K (ix3 0 j l)) (fun _ => 1) (fun k j => T (ix2 k j)) * G := by
  unfold tot zz sp
  pointwise [k0_pay48, k0_pay46, k0_pay42, k0_pay43, k0_pay44, k0_pay45]
  have h := log2e_eq
  simp only [exp2_eq, absf_eq, h]

/-- The row of a 256-row mask that a row of two or four stacked copies reads. -/
abbrev fold (r : ℕ) : Fin 256 := ⟨r % 256, Nat.mod_lt _ (by decide)⟩

/-- Two stacked copies of the mask, read. -/
theorem stack_at (W : FVec Ideal S256x256 .f32) (r : Fin 512) (j : Fin 256) :
    (if h : r.val < 256 then W (ix2 ⟨r.val, h⟩ j) else W (ix2 ⟨r.val - 256, by omega⟩ j)) = W (ix2 (fold r.val) j) := by
  split
  · congr 2; apply Fin.ext; simp only [fold]; omega
  · congr 2; apply Fin.ext; simp only [fold]; omega

theorem pay26_at (K : FVec Ideal S1x256x128 .bf16) (Q : FVec Ideal S512x128 .bf16) (r : Fin 512) (j : Fin 256) :
    k0_pay26 (F := Ideal) K Q (ix2 r j) = (zz (fun l => Q (ix2 r l)) fun j l => K (ix3 0 j l)) j := by
  unfold zz
  pointwise [k0_pay26]

theorem pay27_at (K : FVec Ideal S1x256x128 .bf16) (Q : FVec Ideal S512x128 .bf16) (r : Fin 512) (j : Fin 256) :
    k0_pay27 (F := Ideal) K Q (ix2 r j) = sp ((zz (fun l => Q (ix2 r l)) fun j l => K (ix3 0 j l)) j) := by
  unfold sp zz
  pointwise [k0_pay27, k0_pay26]
  have h := log2e_eq
  simp only [exp2_eq, absf_eq, h]

theorem pay29_at (K : FVec Ideal S1x256x128 .bf16) (Q : FVec Ideal S512x128 .bf16) (W : FVec Ideal S256x256 .f32) (r : Fin 512) (j : Fin 256) :
    k0_pay29 (F := Ideal) (k0_pay27 K Q) W W (ix2 r j) = sp ((zz (fun l => Q (ix2 r l)) fun j l => K (ix3 0 j l)) j) * W (ix2 (fold r.val) j) := by
  pointwise [k0_pay29]
  exact congrArg₂ _ (pay27_at K Q r j) (stack_at W r j)

theorem pay30_at (K : FVec Ideal S1x256x128 .bf16) (Q : FVec Ideal S512x128 .bf16) (W : FVec Ideal S256x256 .f32) (T : FVec Ideal S256x256 .bf16)
    (r : Fin 512) (j : Fin 256) :
    k0_pay30 (F := Ideal) (k0_pay27 K Q) W W T (ix2 r j) = ∑ k, sp ((zz (fun l => Q (ix2 r l)) fun j l => K (ix3 0 j l)) k) * W (ix2 (fold r.val) k) * T (ix2 k j) := by
  pointwise [k0_pay30]
  simp only [pay29_at]

theorem pay31_at (K V : FVec Ideal S1x256x128 .bf16) (Q : FVec Ideal S512x128 .bf16) (T : FVec Ideal S256x256 .bf16)
    (a s : FVec Ideal S512x128 .f32) (W : FVec Ideal S256x256 .f32) (r : Fin 512) (l : Fin 128) :
    k0_pay31 (F := Ideal) (k0_pay25 V) (k0_pay27 K Q) (k0_pay28 K Q) W W T W W s a (ix2 r l)
      = a (ix2 r l) + Ideal.exp (s (ix2 r l)) * pv (zz (fun l => Q (ix2 r l)) fun j l => K (ix3 0 j l)) (fun j => W (ix2 (fold r.val) j)) (fun k j => T (ix2 k j)) (fun j => V (ix3 0 j l)) := by
  unfold pv
  pointwise [k0_pay31, k0_pay25, k0_pay28]
  simp only [pay30_at, pay26_at, pay27_at, stack_at]

theorem pay32_at (K V : FVec Ideal S1x256x128 .bf16) (Q : FVec Ideal S512x128 .bf16) (T : FVec Ideal S256x256 .bf16)
    (a s : FVec Ideal S512x128 .f32) (W : FVec Ideal S256x256 .f32) (r : Fin 512) (l : Fin 128) :
    k0_pay32 (F := Ideal) (k0_pay27 K Q) W W T s (ix2 r l)
      = s (ix2 r l) + tot (zz (fun l => Q (ix2 r l)) fun j l => K (ix3 0 j l)) (fun j => W (ix2 (fold r.val) j)) (fun k j => T (ix2 k j)) := by
  unfold tot
  pointwise [k0_pay32]
  simp only [pay30_at, pay29_at]

theorem pay34_at (K : FVec Ideal S1x256x128 .bf16) (Q : FVec Ideal S1024x128 .bf16) (r : Fin 1024) (j : Fin 256) :
    k0_pay34 (F := Ideal) K Q (ix2 r j) = (zz (fun l => Q (ix2 r l)) fun j l => K (ix3 0 j l)) j := by
  unfold zz
  pointwise [k0_pay34]

theorem pay35_at (K : FVec Ideal S1x256x128 .bf16) (Q : FVec Ideal S1024x128 .bf16) (r : Fin 1024) (j : Fin 256) :
    k0_pay35 (F := Ideal) K Q (ix2 r j) = sp ((zz (fun l => Q (ix2 r l)) fun j l => K (ix3 0 j l)) j) := by
  unfold sp zz
  pointwise [k0_pay35, k0_pay34]
  have h := log2e_eq
  simp only [exp2_eq, absf_eq, h]

theorem pay36_at (K : FVec Ideal S1x256x128 .bf16) (Q : FVec Ideal S1024x128 .bf16) (W : FVec Ideal S256x256 .f32) (r : Fin 1024) (j : Fin 256) :
    k0_pay36 (F := Ideal) K Q W W (ix2 r j) = sp ((zz (fun l => Q (ix2 r l)) fun j l => K (ix3 0 j l)) j) * (if r.val < 512 then W (ix2 (fold r.val) j) else 1) := by
  pointwise [k0_pay36]
  split
  · rename_i h
    exact congrArg₂ _ (pay35_at K Q ⟨r.val, r.isLt⟩ j) (stack_at W ⟨r.val, h⟩ j)
  · rename_i h
    rw [mul_one]
    have e : (⟨512 + (r.val - 512), by omega⟩ : Fin 1024) = r := Fin.ext (by simp; omega)
    rw [e, pay35_at]

theorem pay37_at (K : FVec Ideal S1x256x128 .bf16) (Q : FVec Ideal S1024x128 .bf16) (W : FVec Ideal S256x256 .f32) (T : FVec Ideal S256x256 .bf16)
    (r : Fin 1024) (j : Fin 256) :
    k0_pay37 (F := Ideal) K Q W W T (ix2 r j) = ∑ k, sp ((zz (fun l => Q (ix2 r l)) fun j l => K (ix3 0 j l)) k) * (if r.val < 512 then W (ix2 (fold r.val) k) else 1) * T (ix2 k j) := by
  pointwise [k0_pay37]
  simp only [pay36_at]

theorem pay38_at (K : FVec Ideal S1x256x128 .bf16) (Q : FVec Ideal S1024x128 .bf16) (W : FVec Ideal S256x256 .f32) (T : FVec Ideal S256x256 .bf16)
    (r : Fin 1024) (j : Fin 256) :
    k0_pay38 (F := Ideal) K Q W W T (ix2 r j) = Ideal.exp ((zz (fun l => Q (ix2 r l)) fun j l => K (ix3 0 j l)) j - sp ((zz (fun l => Q (ix2 r l)) fun j l => K (ix3 0 j l)) j)
      + ∑ k, sp ((zz (fun l => Q (ix2 r l)) fun j l => K (ix3 0 j l)) k) * (if r.val < 512 then W (ix2 (fold r.val) k) else 1) * T (ix2 k j)) := by
  pointwise [k0_pay38]
  simp only [pay34_at, pay35_at, pay37_at]

theorem pay39_at (K V : FVec Ideal S1x256x128 .bf16) (Q : FVec Ideal S1024x128 .bf16) (T : FVec Ideal S256x256 .bf16)
    (a s : FVec Ideal S1024x128 .f32) (W : FVec Ideal S256x256 .f32) (r : Fin 1024) (l : Fin 128) :
    k0_pay39 (F := Ideal) (k0_pay33 V) (k0_pay38 K Q W W T) W W s a (ix2 r l)
      = a (ix2 r l) + Ideal.exp (s (ix2 r l)) * pv (zz (fun l => Q (ix2 r l)) fun j l => K (ix3 0 j l)) (fun j => if r.val < 512 then W (ix2 (fold r.val) j) else 1) (fun k j => T (ix2 k j)) (fun j => V (ix3 0 j l)) := by
  unfold pv
  pointwise [k0_pay39, k0_pay33]
  refine congrArg _ (congrArg _ (Finset.sum_congr rfl fun j _ => congrArg (· * _) ?_))
  split
  · rename_i h
    refine congrArg₂ _ ((pay38_at K Q W T ⟨r.val, r.isLt⟩ j).trans ?_) (stack_at W ⟨r.val, h⟩ j)
    simp only [if_pos h]
  · rename_i h
    rw [mul_one]
    have e : (⟨512 + (r.val - 512), by omega⟩ : Fin 1024) = r := Fin.ext (by simp; omega)
    rw [e, pay38_at]
    simp only [if_neg h, mul_one]

theorem pay40_at (K V : FVec Ideal S1x256x128 .bf16) (Q : FVec Ideal S1024x128 .bf16) (T : FVec Ideal S256x256 .bf16)
    (a s : FVec Ideal S1024x128 .f32) (W : FVec Ideal S256x256 .f32) (r : Fin 1024) (l : Fin 128) :
    k0_pay40 (F := Ideal) (k0_pay36 K Q W W) (k0_pay37 K Q W W T) s (ix2 r l)
      = s (ix2 r l) + tot (zz (fun l => Q (ix2 r l)) fun j l => K (ix3 0 j l)) (fun j => if r.val < 512 then W (ix2 (fold r.val) j) else 1) (fun k j => T (ix2 k j)) := by
  unfold tot
  pointwise [k0_pay40]
  simp only [pay36_at, pay37_at]

end Cert.SbAttnIdeal.Val

end
-- ==== Proof.SbV.Row.lean ====
/-
  One row and lane through the kernel's steps: each step puts one more block of 256 keys into the running pair of
  every row it touches, until all keys left of the query are in.
-/
module

public import proofs.«01_k».proof.Proof.SbV.Pay

@[expose] public section

set_option maxRecDepth 16384

noncomputable section

namespace Cert.SbAttnIdeal.Val

open Cert.SbAttnIdeal Cert.SbAttnIdeal.Gen Cert.SbAttnIdeal.Pure
open Idealize.ShloMosaic Idealize.ShloMosaic.TcCoe

/-- Rows `o … o + n` of the 1024, laid over an array: read inside. -/
theorem over_in {α : Type} (o n : ℕ) (inb) (X : S1024x128.Idx → α) (r : Fin 1024) (l : Fin 128) (p : Fin n)
    (hp : r.val = o + p.val)
    (G : (Rect.unit (s := S1024x128) ![o, 0] ![n, 128] inb).shape.Idx → α) :
    (Rect.unit (s := S1024x128) ![o, 0] ![n, 128] inb).overlay X G (ix2 r l) = G (ix2 p l) := by
  have e : (ix2 r l : S1024x128.Idx) = (Rect.unit (s := S1024x128) ![o, 0] ![n, 128] inb).emb (ix2 p l) := by
    funext a
    refine Fin.cases ?_ (fun a => Fin.cases ?_ (fun a => a.elim0) a) a <;> apply Fin.ext <;> simp [Rect.emb_apply, hp]
  rw [e, Rect.overlay_emb]

/-- And outside. -/
theorem over_out {α : Type} (o n : ℕ) (inb) (X : S1024x128.Idx → α) (r : Fin 1024) (l : Fin 128)
    (hp : r.val < o ∨ o + n ≤ r.val)
    (G : (Rect.unit (s := S1024x128) ![o, 0] ![n, 128] inb).shape.Idx → α) :
    (Rect.unit (s := S1024x128) ![o, 0] ![n, 128] inb).overlay X G (ix2 r l) = X (ix2 r l) := by
  refine Rect.overlay_of_not_mem _ _ _ fun h => ?_
  have h := Rect.mem_set_unit.mp h 0
  have h1 : o ≤ r.val := h.1
  have h2 : r.val < o + n := h.2
  omega

/-- The rows from `o` on, read. -/
theorem ld_rows {e : EltTy} (X : S1024x128.Idx → Elt Ideal e) (o n : ℕ) (inb) (p : Fin n) (l : Fin 128) (r : Fin 1024)
    (hp : r.val = o + p.val) :
    View.ld X (Rect.unit (s := S1024x128) ![o, 0] ![n, 128] inb) (ix2 p l) = X (ix2 r l) := by
  show X _ = _
  congr 1
  funext a
  refine Fin.cases ?_ (fun a => Fin.cases ?_ (fun a => a.elim0) a) a <;> apply Fin.ext <;> simp [LoadRect.idx, hp]

/-- A block of 256 keys from key `B` on, read. -/
theorem ld_keys (X : S1x8192x128.Idx → Elt Ideal .bf16) (off : Fin 3 → ℕ) (B : ℕ) (ho : off = ![0, B, 0]) (hB : B + 256 ≤ 8192) (inb) (j : Fin 256)
    (l : Fin 128) :
    View.ld X (Rect.unit (s := S1x8192x128) off S1x256x128.size inb) (ix3 0 j l) = X (ix3 0 ⟨B + j.val, by omega⟩ l) := by
  subst ho
  show X _ = _
  congr 1
  funext a
  refine Fin.cases ?_ (fun a => Fin.cases ?_ (fun a => Fin.cases ?_ (fun a => a.elim0) a) a) a <;> apply Fin.ext <;> simp [LoadRect.idx]

/-- The whole square, read. -/
theorem ld_sq {e : EltTy} (X : S256x256.Idx → Elt Ideal e) (k j : Fin 256) : View.ld X rM (ix2 k j) = X (ix2 k j) := by
  show X _ = _
  congr 1
  funext a
  refine Fin.cases ?_ (fun a => Fin.cases ?_ (fun a => a.elim0) a) a <;> apply Fin.ext <;> simp [LoadRect.idx]

/-- What is known of the blocks a grid point reads: the scores are real numbers `x`, the values are `v`, the two
    masks are what the host computed, and row `r` is the query at `t r`. -/
structure Ctx (i : grid0.Coords) (x : Fin 1024 → ℕ → ℝ) (t : Fin 1024 → ℕ) (v : Fin 128 → ℕ → EReal)
    (K V : S1x8192x128.Idx → Elt Ideal .bf16) (tri : S256x256.Idx → Elt Ideal .bf16) (lt : S256x256.Idx → Elt Ideal .f32)
    (Q : S1024x128.Idx → Elt Ideal .bf16) : Prop where
  hx : ∀ (r : Fin 1024) (s : Fin 8192), zz (fun l => Q (ix2 r l)) (fun _ l => K (ix3 0 s l)) 0 = ((x r s.val : ℝ) : EReal)
  hv : ∀ (s : Fin 8192) (l : Fin 128), V (ix3 0 s l) = v l s.val
  hT : ∀ k j : Fin 256, tri (ix2 k j) = (if j.val < k.val then -1 else 0 : EReal)
  hL : ∀ a j : Fin 256, lt (ix2 a j) = (if j.val < a.val then 1 else 0 : EReal)
  ht : ∀ r : Fin 1024, t r = 512 * (i 2).val + 256 * (r.val / 512) + r.val % 256

variable {i : grid0.Coords} {x : Fin 1024 → ℕ → ℝ} {t : Fin 1024 → ℕ} {v : Fin 128 → ℕ → EReal}
    {K V : S1x8192x128.Idx → Elt Ideal .bf16} {tri : S256x256.Idx → Elt Ideal .bf16} {lt : S256x256.Idx → Elt Ideal .f32}
    {Q : S1024x128.Idx → Elt Ideal .bf16}

/-- The running pair has the keys from `J r` on in it, at every row. -/
def Good (x : Fin 1024 → ℕ → ℝ) (t : Fin 1024 → ℕ) (v : Fin 128 → ℕ → EReal) (J : Fin 1024 → ℕ) (s : St Ideal) : Prop :=
  ∀ r l, Inv (x r) (t r) (v l) (J r) (s.1 (ix2 r l)) (s.2 (ix2 r l))

section
variable (C : Ctx i x t v K V tri lt Q) (o n : ℕ) (inb) (off : Fin 3 → ℕ) (B : ℕ) (ho : off = ![0, B, 0]) (hB : B + 256 ≤ 8192) (inb')
  (r : Fin 1024) (p : Fin n) (hp : r.val = o + p.val)

include C ho hB hp in
/-- The scores of a row against a block of keys. -/
theorem score (j : Fin 256) :
    zz (fun l => View.ld Q (Rect.unit (s := S1024x128) ![o, 0] ![n, 128] inb) (ix2 p l))
      (fun j l => View.ld K (Rect.unit (s := S1x8192x128) off S1x256x128.size inb') (ix3 0 j l)) j = ((x r (B + j.val) : ℝ) : EReal) := by
  rw [← C.hx r ⟨B + j.val, by have := j.isLt; omega⟩]
  unfold zz
  refine Finset.sum_congr rfl fun l _ => congrArg₂ (fun a b : EReal => a * b) (ld_rows Q o n inb p l r hp) (ld_keys K off B ho hB inb' j l)

include C ho hB in
theorem vals (l : Fin 128) (j : Fin 256) :
    View.ld V (Rect.unit (s := S1x8192x128) off S1x256x128.size inb') (ix3 0 j l) = v l (B + j.val) :=
  (ld_keys V off B ho hB inb' j l).trans (C.hv _ l)

include C in
theorem tris (k j : Fin 256) : View.ld tri rM (ix2 k j) = (if j.val < k.val then -1 else 0 : EReal) :=
  (ld_sq tri k j).trans (C.hT k j)

include C in
theorem lts (k j : Fin 256) : View.ld lt rM (ix2 k j) = (if j.val < k.val then 1 else 0 : EReal) :=
  (ld_sq lt k j).trans (C.hL k j)

end

variable (C : Ctx i x t v K V tri lt Q)

/-- The start. -/
theorem good0 (J : Fin 1024 → ℕ) (h : ∀ r, t r ≤ J r) : Good x t v J (st0 (F := Ideal)) := by
  intro r l
  have h0 : (k0_pay23 (F := Ideal)) (ix2 r l) = (0 : EReal) := by
    pointwise [k0_pay23]
  have h1 : (k0_pay24 (F := Ideal)) (ix2 r l) = (0 : EReal) := by
    pointwise [k0_pay24]
  have e0 : (st0 (F := Ideal)).1 (ix2 r l) = (0 : EReal) :=
    (over_in 0 1024 inb_S1024x128_S1024x128_0_0 _ r l r (by omega) _).trans h0
  have e1 : (st0 (F := Ideal)).2 (ix2 r l) = (0 : EReal) :=
    (over_in 0 1024 inb_S1024x128_S1024x128_0_0 _ r l r (by omega) _).trans h1
  rw [e0, e1]
  exact inv_start _ _ _ _ (h r)

include C in
/-- A block for all rows. -/
theorem good5 (j : BitVec 32) (h : k0_chk2 j) (B : ℕ) (ho : k0_off5 j = ![0, B, 0]) (hB : B + 256 ≤ 8192)
    (ht : ∀ r, B + 256 ≤ t r) (s : St Ideal) (g : Good x t v (fun _ => B + 256) s) :
    Good x t v (fun _ => B) (step5 K V tri Q j h s) := by
  intro r l
  have e0 : (step5 K V tri Q j h s).1 (ix2 r l) = _ :=
    (over_in 0 1024 inb_S1024x128_S1024x128_0_0 _ r l r (by omega) _).trans (pay3_at _ _ _ _ _ _ r l)
  have e1 : (step5 K V tri Q j h s).2 (ix2 r l) = _ :=
    (over_in 0 1024 inb_S1024x128_S1024x128_0_0 _ r l r (by omega) _).trans (pay4_at _ (fun _ => (0 : EReal)) _ _ (fun _ => (0 : EReal)) _ r l)
  rw [e0, e1]
  have r1 := ld_rows (e := .f32) s.1 0 1024 inb_S1024x128_S1024x128_0_0 r l r (by omega)
  have r2 := ld_rows (e := .f32) s.2 0 1024 inb_S1024x128_S1024x128_0_0 r l r (by omega)
  refine inv_step (x r) (t r) (v l) B hB _ _ _ (fun j' => score C 0 1024 inb_S1024x128_S1024x128_0_0 _ B ho hB _ r r (by omega) j')
    (fun j' => (if_pos (by have := ht r; have := j'.isLt; omega)).symm) (fun k j' => tris C k j') _ _ _ (fun j' => vals C _ B ho hB _ l j') ?_
  have := g r l
  rw [← r1, ← r2] at this
  exact this

theorem off1_eq (i : grid0.Coords) : k0_off1 i = ![0, 256 * (2 * (i 2).val + 1), 0] := by
  have : ∀ y : Fin 16, (![0, (Scalar.indexCast (Scalar.muli (Scalar.addi (Scalar.muli 2#32 (BitVec.ofNat 32 y.val)) 1#32) 256#32)).toNat, 0] : Fin 3 → ℕ)
      = ![0, 256 * (2 * y.val + 1), 0] := by decide
  exact this (i 2)

theorem off2_eq (i : grid0.Coords) : k0_off2 i = ![0, 256 * (2 * (i 2).val), 0] := by
  have : ∀ y : Fin 16, (![0, (Scalar.indexCast (Scalar.muli (Scalar.muli 2#32 (BitVec.ofNat 32 y.val)) 256#32)).toNat, 0] : Fin 3 → ℕ)
      = ![0, 256 * (2 * y.val), 0] := by decide
  exact this (i 2)

theorem off3_eq (i : grid0.Coords) : k0_off3 i = ![0, 256 * (2 * (i 2).val - 1), 0] := by
  have : ∀ y : Fin 16, (![0, (Scalar.indexCast (Scalar.muli (Scalar.maxsi (Scalar.subi (Scalar.muli 2#32 (BitVec.ofNat 32 y.val)) 1#32) 0#32) 256#32)).toNat, 0] : Fin 3 → ℕ)
      = ![0, 256 * (2 * y.val - 1), 0] := by decide
  exact this (i 2)

theorem off4_eq (i : grid0.Coords) (hi : 0 < (i 2).val) : k0_off4 i = ![0, 256 * (2 * (i 2).val - 1), 0] := by
  have : ∀ y : Fin 16, 0 < y.val → (![0, (Scalar.indexCast (Scalar.muli (Scalar.subi (Scalar.muli 2#32 (BitVec.ofNat 32 y.val)) 1#32) 256#32)).toNat, 0] : Fin 3 → ℕ)
      = ![0, 256 * (2 * y.val - 1), 0] := by decide
  exact this (i 2) hi

theorem off5_eq (b : Fin 32) : k0_off5 (BitVec.ofNat 32 b.val) = ![0, 256 * b.val, 0] := by
  have : ∀ b : Fin 32, (![0, (Scalar.indexCast (Scalar.muli (BitVec.ofNat 32 b.val) 256#32)).toNat, 0] : Fin 3 → ℕ) = ![0, 256 * b.val, 0] := by
    decide
  exact this b

include C in
/-- The last 256 queries against their own block. -/
theorem good1 (s : St Ideal)
    (g : Good x t v (fun r => if r.val < 512 then 256 * (2 * (i 2).val + 1) else 256 * (2 * (i 2).val + 1) + 256) s) :
    Good x t v (fun _ => 256 * (2 * (i 2).val + 1)) (step1 i K V tri lt Q s) := by
  intro r l
  have hi := (i 2).isLt
  have hi : (i 2).val < 16 := hi
  have g := g r l
  by_cases hr : r.val < 512
  · have e0 : (step1 i K V tri lt Q s).1 (ix2 r l) = s.1 (ix2 r l) :=
      over_out 512 512 inb_S1024x128_S512x128_512_0 _ r l (by omega) _
    have e1 : (step1 i K V tri lt Q s).2 (ix2 r l) = s.2 (ix2 r l) :=
      over_out 512 512 inb_S1024x128_S512x128_512_0 _ r l (by omega) _
    rw [e0, e1]
    simpa only [if_pos hr] using g
  · have hp : r.val = 512 + (⟨r.val - 512, by omega⟩ : Fin 512).val := by simp only; omega
    have e0 : (step1 i K V tri lt Q s).1 (ix2 r l) = _ :=
      (over_in 512 512 inb_S1024x128_S512x128_512_0 _ r l _ hp _).trans (pay31_at _ _ _ _ _ _ _ _ l)
    have e1 : (step1 i K V tri lt Q s).2 (ix2 r l) = _ :=
      (over_in 512 512 inb_S1024x128_S512x128_512_0 _ r l _ hp _).trans (pay32_at _ (fun _ => (0 : EReal)) _ _ (fun _ => (0 : EReal)) _ _ _ l)
    rw [e0, e1]
    have r1 := ld_rows (e := .f32) s.1 512 512 inb_S1024x128_S512x128_512_0 _ l r hp
    have r2 := ld_rows (e := .f32) s.2 512 512 inb_S1024x128_S512x128_512_0 _ l r hp
    refine inv_step (x r) (t r) (v l) _ (by omega) _ _ _ (fun j' => score C 512 512 inb_S1024x128_S512x128_512_0 _ _ (off1_eq i) (by omega) _ r _ hp j')
      (fun j' => (lts C _ j').trans ?_) (fun k j' => tris C k j') _ _ _ (fun j' => vals C _ _ (off1_eq i) (by omega) _ l j') ?_
    · have := C.ht r
      have hj := j'.isLt
      simp only [fold]
      congr 1
      rw [C.ht r]
      exact propext (by omega)
    · rw [← r1, ← r2] at g
      simp only [if_neg hr] at g
      exact g

include C in
/-- All queries against the block of the first 256. -/
theorem good2 (s : St Ideal) (g : Good x t v (fun _ => 256 * (2 * (i 2).val) + 256) s) :
    Good x t v (fun _ => 256 * (2 * (i 2).val)) (step2 i K V tri lt Q s) := by
  intro r l
  have hi := (i 2).isLt
  have hi : (i 2).val < 16 := hi
  have g := g r l
  have e0 : (step2 i K V tri lt Q s).1 (ix2 r l) = _ :=
    (over_in 0 1024 inb_S1024x128_S1024x128_0_0 _ r l r (by omega) _).trans (pay39_at _ _ _ _ _ _ _ r l)
  have e1 : (step2 i K V tri lt Q s).2 (ix2 r l) = _ :=
    (over_in 0 1024 inb_S1024x128_S1024x128_0_0 _ r l r (by omega) _).trans (pay40_at _ (fun _ => (0 : EReal)) _ _ (fun _ => (0 : EReal)) _ _ r l)
  rw [e0, e1]
  have r1 := ld_rows (e := .f32) s.1 0 1024 inb_S1024x128_S1024x128_0_0 r l r (by omega)
  have r2 := ld_rows (e := .f32) s.2 0 1024 inb_S1024x128_S1024x128_0_0 r l r (by omega)
  refine inv_step (x r) (t r) (v l) _ (by omega) _ _ _ (fun j' => score C 0 1024 inb_S1024x128_S1024x128_0_0 _ _ (off2_eq i) (by omega) _ r r (by omega) j')
    (fun j' => ?_) (fun k j' => tris C k j') _ _ _ (fun j' => vals C _ _ (off2_eq i) (by omega) _ l j') ?_
  · have hj := j'.isLt
    have ht := C.ht r
    by_cases hr : r.val < 512
    · rw [if_pos hr]
      refine (lts C _ j').trans ?_
      simp only [fold]
      congr 1
      rw [ht]
      exact propext (by omega)
    · rw [if_neg hr, if_pos (by omega)]
  · rw [← r1, ← r2] at g
    exact g

theorem gate_pos (i : grid0.Coords) (h : 0 < (i 2).val) : (k0_pay41 (F := Ideal) (arg2 i)) = (1 : EReal) := by
  have : ∀ y : Fin 16, 0 < y.val → (Scalar.extui (Scalar.cmpi .sgt (BitVec.ofNat 32 y.val) 0#32) : BitVec 32).toInt = 1 := by decide
  show (((Scalar.extui (Scalar.cmpi .sgt (BitVec.ofNat 32 (i 2).val) 0#32) : BitVec 32).toInt : ℝ) : EReal) = 1
  rw [this (i 2) h]; simp

theorem gate_zero (i : grid0.Coords) (h : (i 2).val = 0) : (k0_pay41 (F := Ideal) (arg2 i)) = (0 : EReal) := by
  show (((Scalar.extui (Scalar.cmpi .sgt (BitVec.ofNat 32 (i 2).val) 0#32) : BitVec 32).toInt : ℝ) : EReal) = 0
  rw [h];
  have : (Scalar.extui (Scalar.cmpi .sgt (BitVec.ofNat 32 0) 0#32) : BitVec 32).toInt = 0 := by decide
  rw [this]; simp

include C in
/-- The first 256 queries against the block before theirs. -/
theorem good3 (s : St Ideal) (g : Good x t v (fun _ => 256 * (2 * (i 2).val)) s) :
    Good x t v (fun r => if r.val < 512 then 256 * (2 * (i 2).val - 1) else 256 * (2 * (i 2).val)) (step3 i K V tri Q s) := by
  intro r l
  have hi := (i 2).isLt
  have hi : (i 2).val < 16 := hi
  have g := g r l
  by_cases hr : r.val < 512
  · simp only [if_pos hr]
    have hp : r.val = 0 + (⟨r.val, hr⟩ : Fin 512).val := by simp
    have e0 : (step3 i K V tri Q s).1 (ix2 r l) = _ :=
      (over_in 0 512 inb_S1024x128_S512x128_0_0 _ r l _ hp _).trans (pay47_at _ _ _ _ _ _ _ _ l)
    have e1 : (step3 i K V tri Q s).2 (ix2 r l) = _ :=
      (over_in 0 512 inb_S1024x128_S512x128_0_0 _ r l _ hp _).trans (pay48_at _ _ (fun _ => (0 : EReal)) _ _ (fun _ => (0 : EReal)) _ _ l)
    rw [e0, e1]
    have r1 := ld_rows (e := .f32) s.1 0 512 inb_S1024x128_S512x128_0_0 _ l r hp
    have r2 := ld_rows (e := .f32) s.2 0 512 inb_S1024x128_S512x128_0_0 _ l r hp
    by_cases hz : 0 < (i 2).val
    · rw [gate_pos i hz, mul_one, mul_one]
      refine inv_step (x r) (t r) (v l) _ (by omega) _ _ _ (fun j' => score C 0 512 inb_S1024x128_S512x128_0_0 _ _ (off3_eq i) (by omega) _ r _ hp j')
        (fun j' => (if_pos ?_).symm) (fun k j' => tris C k j') _ _ _ (fun j' => vals C _ _ (off3_eq i) (by omega) _ l j') ?_
      · have := C.ht r
        have hj := j'.isLt
        omega
      · rw [← r1, ← r2] at g
        rw [show 256 * (2 * (i 2).val - 1) + 256 = 256 * (2 * (i 2).val) by omega]
        exact g
    · rw [gate_zero i (by omega), mul_zero, mul_zero, mul_zero, add_zero, add_zero, show 2 * (i 2).val - 1 = 2 * (i 2).val by omega]
      rw [← r1, ← r2] at g
      exact g
  · have e0 : (step3 i K V tri Q s).1 (ix2 r l) = s.1 (ix2 r l) :=
      over_out 0 512 inb_S1024x128_S512x128_0_0 _ r l (by omega) _
    have e1 : (step3 i K V tri Q s).2 (ix2 r l) = s.2 (ix2 r l) :=
      over_out 0 512 inb_S1024x128_S512x128_0_0 _ r l (by omega) _
    rw [e0, e1]
    simpa only [if_neg hr] using g

theorem cond1_pos (i : grid0.Coords) (h : 0 < (i 2).val) : k0_cond1 i 1#1 = 1#1 := by
  have : ∀ y : Fin 16, 0 < y.val → Scalar.cmpi .ne (Scalar.extui (Scalar.andi (Scalar.cmpi .sgt (BitVec.ofNat 32 y.val) 0#32) 1#1) : BitVec 32) 0#32 = 1#1 := by
    decide
  exact this (i 2) h

theorem cond1_zero (i : grid0.Coords) (h : (i 2).val = 0) : ¬ k0_cond1 i 1#1 = 1#1 := by
  show ¬ Scalar.cmpi .ne (Scalar.extui (Scalar.andi (Scalar.cmpi .sgt (BitVec.ofNat 32 (i 2).val) 0#32) 1#1) : BitVec 32) 0#32 = 1#1
  rw [h]; decide

include C in
/-- The last 256 queries against the block before, if there is one. -/
theorem good4 (s : St Ideal)
    (g : Good x t v (fun r => if r.val < 512 then 256 * (2 * (i 2).val - 1) else 256 * (2 * (i 2).val)) s) :
    Good x t v (fun _ => 256 * (2 * (i 2).val - 1)) (step4 i K V tri Q 1#1 s) := by
  have hi := (i 2).isLt
  have hi : (i 2).val < 16 := hi
  by_cases hz : 0 < (i 2).val
  · intro r l
    have g := g r l
    unfold step4
    rw [dif_pos (cond1_pos i hz)]
    by_cases hr : r.val < 512
    · refine (congrArg₂ (Inv _ _ _ _) (over_out 512 512 inb_S1024x128_S512x128_512_0 s.1 r l (by omega) _)
        (over_out 512 512 inb_S1024x128_S512x128_512_0 s.2 r l (by omega) _)).mpr ?_
      simpa only [if_pos hr] using g
    · simp only [if_neg hr] at g
      have hp : r.val = 512 + (⟨r.val - 512, by omega⟩ : Fin 512).val := by simp only; omega
      have r1 := ld_rows (e := .f32) s.1 512 512 inb_S1024x128_S512x128_512_0 _ l r hp
      have r2 := ld_rows (e := .f32) s.2 512 512 inb_S1024x128_S512x128_512_0 _ l r hp
      refine (congrArg₂ (Inv _ _ _ _) ((over_in 512 512 inb_S1024x128_S512x128_512_0 s.1 r l _ hp _).trans (pay50_at _ _ _ _ _ _ _ l))
        ((over_in 512 512 inb_S1024x128_S512x128_512_0 s.2 r l _ hp _).trans (pay51_at _ (fun _ => (0 : EReal)) _ _ (fun _ => (0 : EReal)) _ _ l))).mpr ?_
      refine inv_step (x r) (t r) (v l) _ (by omega) _ _ _ (fun j' => score C 512 512 inb_S1024x128_S512x128_512_0 _ _ (off4_eq i hz) (by omega) _ r _ hp j')
        (fun j' => (if_pos ?_).symm) (fun k j' => tris C k j') _ _ _ (fun j' => vals C _ _ (off4_eq i hz) (by omega) _ l j') ?_
      · have := C.ht r
        have hj := j'.isLt
        omega
      · rw [← r1, ← r2] at g
        rw [show 256 * (2 * (i 2).val - 1) + 256 = 256 * (2 * (i 2).val) by omega]
        exact g
  · have e : step4 i K V tri Q 1#1 s = s := dif_neg (cond1_zero i (by omega))
    rw [e]
    intro r l
    have := g r l
    rw [show 2 * (i 2).val - 1 = 2 * (i 2).val by omega] at this ⊢
    simpa using this

/-- No key is ever too far left to count. -/
theorem oge_zb (y : Ideal .f32) : Scalar.cmpf .oge y (zb (F := Ideal)) = 1#1 := by
  rw [zb_eq]
  show BitVec.ofBool (decide ((⊥ : EReal) ≤ y)) = 1#1
  simp

include C in
/-- The first sweep takes all blocks down to the first. -/
theorem good_w1 (b : ℕ) : ∀ (n : ℕ) (hb : b < 32) (hn : b < n) (ht : ∀ r, 256 * b + 256 ≤ t r) (s : St Ideal)
    (g : Good x t v (fun _ => 256 * b + 256) s),
    (w1 K V tri Q n (BitVec.ofNat 32 b) 1#1 s).1.1 = Scalar.subi 0#32 1#32
      ∧ Good x t v (fun _ => 0) (w1 K V tri Q n (BitVec.ofNat 32 b) 1#1 s).2 := by
  induction b with
  | zero =>
    intro n hb hn ht s g
    obtain ⟨n, rfl⟩ : ∃ m, n = m + 1 := ⟨n - 1, by omega⟩
    have h : k0_chk2 (BitVec.ofNat 32 0) := chk2_of _ (by decide) (by decide)
    have e1 : goes (BitVec.ofNat 32 0) 1#1 = 1#1 := by decide
    have e : w1 K V tri Q (n + 1) (BitVec.ofNat 32 0) 1#1 s
        = w1 K V tri Q n (Scalar.subi (BitVec.ofNat 32 0) 1#32) (alive5 (step5 K V tri Q _ h s)) (step5 K V tri Q _ h s) := by
      conv_lhs => unfold w1
      rw [if_pos e1, dif_pos h]
    have e2 : ∀ (b : BitVec 1) (s : St Ideal), w1 K V tri Q n (Scalar.subi (BitVec.ofNat 32 0) 1#32) b s = ((Scalar.subi (BitVec.ofNat 32 0) 1#32, b), s) := by
      intro b s
      cases n with
      | zero => rfl
      | succ n =>
        conv_lhs => unfold w1
        rw [if_neg]
        have : ∀ b : Fin 2, ¬ goes (Scalar.subi (BitVec.ofNat 32 0) 1#32) (BitVec.ofNat 1 b.val) = 1#1 := by decide
        have hb : b = BitVec.ofNat 1 b.toFin.val := by simp
        rw [hb]; exact this _
    rw [e, e2]
    exact ⟨rfl, good5 C _ h 0 (off5_eq 0) (by omega) ht s g⟩
  | succ b ih =>
    intro n hb hn ht s g
    obtain ⟨n, rfl⟩ : ∃ m, n = m + 1 := ⟨n - 1, by omega⟩
    have hh : ∀ b : Fin 32, 0 ≤ (BitVec.ofNat 32 b.val).toInt ∧ (BitVec.ofNat 32 b.val).toInt < 32
        ∧ goes (BitVec.ofNat 32 b.val) 1#1 = 1#1 := by decide
    have hs : ∀ b : Fin 31, Scalar.subi (BitVec.ofNat 32 (b.val + 1)) 1#32 = BitVec.ofNat 32 b.val := by decide
    obtain ⟨c1, c2, e1⟩ := hh ⟨b + 1, hb⟩
    have h : k0_chk2 (BitVec.ofNat 32 (b + 1)) := chk2_of _ c1 c2
    have e : w1 K V tri Q (n + 1) (BitVec.ofNat 32 (b + 1)) 1#1 s
        = w1 K V tri Q n (BitVec.ofNat 32 b) 1#1 (step5 K V tri Q _ h s) := by
      conv_lhs => unfold w1
      rw [if_pos e1, dif_pos h, show alive5 (step5 K V tri Q _ h s) = 1#1 from oge_zb _, hs ⟨b, by omega⟩]
    rw [e]
    refine ih n (by omega) (by omega) (fun r => by have := ht r; omega) _ ?_
    have := good5 C _ h (256 * (b + 1)) (off5_eq ⟨b + 1, hb⟩) (by omega) ht s g
    exact this

include C in
/-- After the kernel's steps every row has all its keys in. -/
theorem good_end : Good x t v (fun _ => 0) (sD i K V tri lt Q).2 := by
  have hi := (i 2).isLt
  have hi : (i 2).val < 16 := hi
  have gB : Good x t v (fun _ => 256 * (2 * (i 2).val - 1)) (sB i K V tri lt Q) := by
    unfold sB
    rw [show alive1 (sA i K V tri lt Q) = 1#1 from oge_zb _]
    refine good4 C _ (good3 C _ (good2 C _ (good1 C _ (good0 _ fun r => ?_))))
    have := C.ht r
    split <;> omega
  have stop : ∀ (j : BitVec 32) (b : BitVec 1) (s : St Ideal), (∀ b : Fin 2, ¬ goes j (BitVec.ofNat 1 b.val) = 1#1) →
      w2 K V tri Q 32 j b s = ((j, b), s) := by
    intro j b s h
    conv_lhs => unfold w2
    rw [if_neg]
    have hb : b = BitVec.ofNat 1 b.toFin.val := by simp
    rw [hb]; exact h _
  by_cases hz : 0 < (i 2).val
  · have hj : ∀ y : Fin 16, 0 < y.val → Scalar.subi (Scalar.muli 2#32 (BitVec.ofNat 32 y.val)) 2#32 = BitVec.ofNat 32 (2 * y.val - 2) := by
      decide
    have hC : sC i K V tri lt Q = w1 K V tri Q 32 (BitVec.ofNat 32 (2 * (i 2).val - 2)) 1#1 (sB i K V tri lt Q) := by
      unfold sC
      rw [show alive2 (sB i K V tri lt Q) = 1#1 from oge_zb _, show j0 i = _ from hj (i 2) hz]
    have gw := good_w1 C (2 * (i 2).val - 2) 32 (by omega) (by omega) (fun r => by have := C.ht r; omega) (sB i K V tri lt Q)
      (by
        have e : 256 * (2 * (i 2).val - 2) + 256 = 256 * (2 * (i 2).val - 1) := by omega
        rw [e]; exact gB)
    rw [← hC] at gw
    unfold sD
    rw [gw.1, stop _ _ _ (by decide)]
    exact gw.2
  · have h0 : (i 2).val = 0 := by omega
    have hj0 : j0 i = Scalar.subi (Scalar.muli 2#32 (BitVec.ofNat 32 0)) 2#32 := by
      show Scalar.subi (Scalar.muli 2#32 (BitVec.ofNat 32 (i 2).val)) 2#32 = _
      rw [h0]
    have hC : sC i K V tri lt Q = ((j0 i, alive2 (sB i K V tri lt Q)), sB i K V tri lt Q) := by
      unfold sC
      conv_lhs => unfold w1
      rw [if_neg]
      have : ∀ b : Fin 2, ¬ goes (Scalar.subi (Scalar.muli 2#32 (BitVec.ofNat 32 0)) 2#32) (BitVec.ofNat 1 b.val) = 1#1 := by decide
      rw [hj0]
      have hb : alive2 (sB i K V tri lt Q) = BitVec.ofNat 1 (alive2 (sB i K V tri lt Q)).toFin.val := by simp
      rw [hb]; exact this _
    unfold sD
    have hd : ∀ b : Fin 2, ¬ goes (Scalar.subi (Scalar.muli 2#32 (BitVec.ofNat 32 0)) 2#32) (BitVec.ofNat 1 b.val) = 1#1 := by decide
    rw [hC, hj0, stop _ _ _ hd]
    have := gB
    rw [h0] at this
    exact this

end Cert.SbAttnIdeal.Val

end
-- ==== Proof.SbV.Point.lean ====
/-
  What a grid point of the stick-breaking attention writes, read at one query and column: the sum over all keys of
  the key's stick-breaking weight times its value, where the score is the scaled product over the head's 64 columns.
-/
module

public import proofs.«01_k».proof.Proof.SbV.Row

@[expose] public section

set_option maxRecDepth 16384

noncomputable section

namespace Cert.SbAttnIdeal.Val

open Cert.SbAttnIdeal Cert.SbAttnIdeal.Gen Cert.SbAttnIdeal.Pure
open Idealize.ShloMosaic Idealize.ShloMosaic.TcCoe

/-- Half of the 512 queries, laid over a block: read inside. -/
theorem half_in {α : Type} (o : ℕ) (inb) (X : S1x512x128.Idx → α) (r : Fin 512) (l : Fin 128) (p : Fin 256)
    (hp : r.val = o + p.val)
    (G : (Rect.unit (s := S1x512x128) ![0, o, 0] S1x256x128.size inb).shape.Idx → α) :
    (Rect.unit (s := S1x512x128) ![0, o, 0] S1x256x128.size inb).overlay X G (ix3 0 r l) = G (ix3 0 p l) := by
  have e : (ix3 0 r l : S1x512x128.Idx) = (Rect.unit (s := S1x512x128) ![0, o, 0] S1x256x128.size inb).emb (ix3 0 p l) := by
    funext a
    refine Fin.cases ?_ (fun a => Fin.cases ?_ (fun a => Fin.cases ?_ (fun a => a.elim0) a) a) a <;> apply Fin.ext <;> simp [Rect.emb_apply, hp]
  rw [e, Rect.overlay_emb]

/-- And outside. -/
theorem half_out {α : Type} (o : ℕ) (inb) (X : S1x512x128.Idx → α) (r : Fin 512) (l : Fin 128)
    (hp : r.val < o ∨ o + 256 ≤ r.val)
    (G : (Rect.unit (s := S1x512x128) ![0, o, 0] S1x256x128.size inb).shape.Idx → α) :
    (Rect.unit (s := S1x512x128) ![0, o, 0] S1x256x128.size inb).overlay X G (ix3 0 r l) = X (ix3 0 r l) := by
  refine Rect.overlay_of_not_mem _ _ _ fun h => ?_
  have h := Rect.mem_set_unit.mp h 1
  have h1 : o ≤ r.val := h.1
  have h2 : r.val < o + 256 := h.2
  omega

/-- Half of the 512 queries, read. -/
theorem ld_half {e : EltTy} (X : S1x512x128.Idx → Elt Ideal e) (o : ℕ) (inb) (p : Fin 256) (l : Fin 128) (r : Fin 512)
    (hp : r.val = o + p.val) :
    View.ld X (Rect.unit (s := S1x512x128) ![0, o, 0] S1x256x128.size inb) (ix3 0 p l) = X (ix3 0 r l) := by
  show X _ = _
  congr 1
  funext a
  refine Fin.cases ?_ (fun a => Fin.cases ?_ (fun a => Fin.cases ?_ (fun a => a.elim0) a) a) a <;> apply Fin.ext <;> simp [LoadRect.idx, hp]

theorem eighth : Ideal.ofBits .bf16 0x3E00#16 = ((0.125 : ℝ) : EReal) := by
  simp [Ideal.ofBits, Ideal.ieee, -EReal.coe_mul]; norm_num

theorem slt64 (l : Fin 128) : IntOp.cmpi .slt (BitVec.ofNat 32 l.val) 64#32 = if l.val < 64 then 1#1 else 0#1 :=
  (by decide : ∀ l : Fin 128, IntOp.cmpi .slt (BitVec.ofNat 32 l.val) 64#32 = if l.val < 64 then 1#1 else 0#1) l
theorem sge64 (l : Fin 128) : IntOp.cmpi .sge (BitVec.ofNat 32 l.val) 64#32 = if l.val < 64 then 0#1 else 1#1 :=
  (by decide : ∀ l : Fin 128, IntOp.cmpi .sge (BitVec.ofNat 32 l.val) 64#32 = if l.val < 64 then 0#1 else 1#1) l

theorem sel1 {α : Type} (l : Fin 128) (a b : α) :
    Scalar.select (IntOp.cmpi .slt (BitVec.ofNat 32 l.val) 64#32) a b = if l.val < 64 then a else b := by
  rw [slt64]; by_cases h : l.val < 64 <;> simp only [h, if_true, if_false] <;> rfl
theorem sel2 {α : Type} (l : Fin 128) (a b : α) :
    Scalar.select (IntOp.cmpi .sge (BitVec.ofNat 32 l.val) 64#32) a b = if l.val < 64 then b else a := by
  rw [sge64]; by_cases h : l.val < 64 <;> simp only [h, if_true, if_false] <;> rfl

theorem pay16_at (y : FVec Ideal S1x256x128 .bf16) (p : Fin 256) (l : Fin 128) :
    k0_pay16 (F := Ideal) y (ix2 p l) = if l.val < 64 then y (ix3 0 p l) * ((0.125 : ℝ) : EReal) else 0 := by
  pointwise [k0_pay16, k0_pay14, k0_pay15]
  rw [eighth]; exact sel1 _ _ _

theorem pay17_at (y : FVec Ideal S1x256x128 .bf16) (p : Fin 256) (l : Fin 128) :
    k0_pay17 (F := Ideal) y (ix2 p l) = if l.val < 64 then 0 else y (ix3 0 p l) * ((0.125 : ℝ) : EReal) := by
  pointwise [k0_pay17, k0_pay14, k0_pay15]
  rw [eighth]; exact sel2 _ _ _

theorem pay20_at (y : FVec Ideal S1x256x128 .bf16) (p : Fin 256) (l : Fin 128) :
    k0_pay20 (F := Ideal) y (ix2 p l) = if l.val < 64 then y (ix3 0 p l) * ((0.125 : ℝ) : EReal) else 0 := by
  pointwise [k0_pay20, k0_pay18, k0_pay19]
  rw [eighth]; exact sel1 _ _ _

theorem pay22_at (y : FVec Ideal S1x256x128 .bf16) (p : Fin 256) (l : Fin 128) :
    k0_pay22 (F := Ideal) (k0_pay21 y) (ix2 p l) = if l.val < 64 then 0 else y (ix3 0 p l) * ((0.125 : ℝ) : EReal) := by
  pointwise [k0_pay22, k0_pay21, k0_pay18, k0_pay19]
  rw [eighth]; exact sel2 _ _ _

theorem pay1_at (a b : FVec Ideal S256x128 .f32) (p : Fin 256) (l : Fin 128) :
    k0_pay1 (F := Ideal) lane a b k0_pay54 (ix3 0 p l) = if l.val < 64 then a (ix2 p l) else b (ix2 p l) := by
  pointwise [k0_pay1, lane, k0_pay54]
  exact sel1 _ _ _

theorem pay2_at (a b : FVec Ideal S256x128 .f32) (p : Fin 256) (l : Fin 128) :
    k0_pay2 (F := Ideal) lane a b (ix3 0 p l) = if l.val < 64 then a (ix2 p l) else b (ix2 p l) := by
  pointwise [k0_pay2, lane]
  exact sel1 _ _ _

/-- The query a row holds, inside its block of 512. -/
abbrev prow (r : Fin 1024) : Fin 512 := ⟨256 * (r.val / 512) + r.val % 256, by omega⟩

/-- The scaled queries: a row has its own head's 64 columns alone. -/
theorem qs_at (q : S1x512x128.Idx → Elt Ideal .bf16) (r : Fin 1024) (l : Fin 128) :
    qs q (ix2 r l) = if l.val / 64 = r.val / 256 % 2 then q (ix3 0 (prow r) l) * ((0.125 : ℝ) : EReal) else 0 := by
  have hr := r.isLt
  have hl := l.isLt
  unfold qs
  simp only [View.canon_cons]
  by_cases h3 : 768 ≤ r.val
  · refine (over_in 768 256 _ _ r l ⟨r.val - 768, by omega⟩ (by simp; omega) _).trans ((pay22_at _ _ _).trans ?_)
    rw [ld_half q 256 _ ⟨r.val - 768, by omega⟩ l (prow r) (by show 256 * (r.val / 512) + r.val % 256 = 256 + (r.val - 768); omega)]
    by_cases h : l.val < 64
    · rw [if_pos h, if_neg (by omega)]
    · rw [if_neg h, if_pos (by omega)]
  refine (over_out 768 256 _ _ r l (by omega) _).trans ?_
  by_cases h2 : 512 ≤ r.val
  · refine (over_in 512 256 _ _ r l ⟨r.val - 512, by omega⟩ (by simp; omega) _).trans ((pay20_at _ _ _).trans ?_)
    rw [ld_half q 256 _ ⟨r.val - 512, by omega⟩ l (prow r) (by show 256 * (r.val / 512) + r.val % 256 = 256 + (r.val - 512); omega)]
    by_cases h : l.val < 64
    · rw [if_pos h, if_pos (by omega)]
    · rw [if_neg h, if_neg (by omega)]
  refine (over_out 512 256 _ _ r l (by omega) _).trans ?_
  by_cases h1 : 256 ≤ r.val
  · refine (over_in 256 256 _ _ r l ⟨r.val - 256, by omega⟩ (by simp; omega) _).trans ((pay17_at _ _ _).trans ?_)
    rw [ld_half q 0 _ ⟨r.val - 256, by omega⟩ l (prow r) (by show 256 * (r.val / 512) + r.val % 256 = 0 + (r.val - 256); omega)]
    by_cases h : l.val < 64
    · rw [if_pos h, if_neg (by omega)]
    · rw [if_neg h, if_pos (by omega)]
  refine (over_out 256 256 _ _ r l (by omega) _).trans ?_
  refine (over_in 0 256 _ _ r l ⟨r.val, by omega⟩ (by simp) _).trans ((pay16_at _ _ _).trans ?_)
  rw [ld_half q 0 _ ⟨r.val, by omega⟩ l (prow r) (by show 256 * (r.val / 512) + r.val % 256 = 0 + r.val; omega)]
  by_cases h : l.val < 64
  · rw [if_pos h, if_pos (by omega)]
  · rw [if_neg h, if_neg (by omega)]

/-- The score of a query and a key of one head, from the block's reals. -/
def xs (qr : Fin 512 → Fin 128 → ℝ) (kr : ℕ → Fin 128 → ℝ) (p : Fin 512) (h : ℕ) (s : ℕ) : ℝ :=
  ∑ l : Fin 128, if l.val / 64 = h then qr p l * 0.125 * kr s l else 0

/-- What a grid point writes. -/
theorem out_at (i : grid0.Coords) (q : S1x512x128.Idx → Elt Ideal .bf16) (K V : S1x8192x128.Idx → Elt Ideal .bf16)
    (tri : S256x256.Idx → Elt Ideal .bf16) (lt : S256x256.Idx → Elt Ideal .f32)
    (qr : Fin 512 → Fin 128 → ℝ) (kr : ℕ → Fin 128 → ℝ) (v : Fin 128 → ℕ → EReal)
    (hq : ∀ p l, q (ix3 0 p l) = ((qr p l : ℝ) : EReal))
    (hk : ∀ (s : Fin 8192) l, K (ix3 0 s l) = ((kr s.val l : ℝ) : EReal))
    (hv : ∀ (s : Fin 8192) (l : Fin 128), V (ix3 0 s l) = v l s.val)
    (hT : ∀ k j : Fin 256, tri (ix2 k j) = (if j.val < k.val then -1 else 0 : EReal))
    (hL : ∀ a j : Fin 256, lt (ix2 a j) = (if j.val < a.val then 1 else 0 : EReal)) (p : Fin 512) (l : Fin 128) :
    out i q K V tri lt (ix3 0 p l)
      = ∑ s ∈ Finset.Ico 0 8192, ((wt (xs qr kr p (l.val / 64)) (512 * (i 2).val + p.val) s : ℝ) : EReal) * v l s := by
  have hp := p.isLt
  have hl := l.isLt
  have C : Ctx i (fun r => xs qr kr (prow r) (r.val / 256 % 2)) (fun r => 512 * (i 2).val + 256 * (r.val / 512) + r.val % 256) v K V tri lt (qs q) := by
    refine ⟨fun r s => ?_, hv, hT, hL, fun r => rfl⟩
    unfold zz xs
    rw [coe_sum]
    refine Finset.sum_congr rfl fun l _ => ?_
    show qs q (ix2 r l) * K (ix3 0 s l) = _
    rw [qs_at, hq, hk]
    by_cases h : l.val / 64 = r.val / 256 % 2
    · rw [if_pos h, if_pos h, EReal.coe_mul, EReal.coe_mul]
    · rw [if_neg h, if_neg h, zero_mul]; rfl
  have G := good_end C
  have row : ∀ (r : Fin 1024) (hr : prow r = p) (hh : r.val / 256 % 2 = l.val / 64),
      (sD i K V tri lt (qs q)).2.1 (ix2 r l)
        = ∑ s ∈ Finset.Ico 0 8192, ((wt (xs qr kr p (l.val / 64)) (512 * (i 2).val + p.val) s : ℝ) : EReal) * v l s := by
    intro r hr hh
    have g : (sD i K V tri lt (qs q)).2.1 (ix2 r l)
        = ∑ s ∈ Finset.Ico 0 8192, ((wt (xs qr kr (prow r) (r.val / 256 % 2)) (512 * (i 2).val + 256 * (r.val / 512) + r.val % 256) s : ℝ) : EReal) * v l s := (G r l).2
    rw [hr, hh] at g
    have e : 512 * (i 2).val + 256 * (r.val / 512) + r.val % 256 = 512 * (i 2).val + p.val := by
      rw [← hr]; show _ = _ + (256 * (r.val / 512) + r.val % 256); omega
    rw [e] at g
    exact g
  unfold out
  simp only [View.canon_cons]
  by_cases h1 : 256 ≤ p.val
  · refine (half_in 256 _ _ p l ⟨p.val - 256, by omega⟩ (by simp; omega) _).trans ((pay2_at _ _ _ _).trans ?_)
    by_cases h : l.val < 64
    · rw [if_pos h]
      refine (ld_rows _ 512 256 _ ⟨p.val - 256, by omega⟩ l ⟨256 + p.val, by omega⟩ (by simp; omega)).trans (row _ (Fin.ext ?_) ?_)
      · show 256 * ((256 + p.val) / 512) + (256 + p.val) % 256 = _; omega
      · show (256 + p.val) / 256 % 2 = _; omega
    · rw [if_neg h]
      refine (ld_rows _ 768 256 _ ⟨p.val - 256, by omega⟩ l ⟨512 + p.val, by omega⟩ (by simp; omega)).trans (row _ (Fin.ext ?_) ?_)
      · show 256 * ((512 + p.val) / 512) + (512 + p.val) % 256 = _; omega
      · show (512 + p.val) / 256 % 2 = _; omega
  refine (half_out 256 _ _ p l (by omega) _).trans ?_
  refine (half_in 0 _ _ p l ⟨p.val, by omega⟩ (by simp) _).trans ((pay1_at _ _ _ _).trans ?_)
  by_cases h : l.val < 64
  · rw [if_pos h]
    refine (ld_rows _ 0 256 _ ⟨p.val, by omega⟩ l ⟨p.val, by omega⟩ (by simp)).trans (row _ (Fin.ext ?_) ?_)
    · show 256 * (p.val / 512) + p.val % 256 = _; omega
    · show p.val / 256 % 2 = _; omega
  · rw [if_neg h]
    refine (ld_rows _ 256 256 _ ⟨p.val, by omega⟩ l ⟨256 + p.val, by omega⟩ (by simp)).trans (row _ (Fin.ext ?_) ?_)
    · show 256 * ((256 + p.val) / 512) + (256 + p.val) % 256 = _; omega
    · show (256 + p.val) / 256 % 2 = _; omega

end Cert.SbAttnIdeal.Val

end
-- ==== Proof.SbV.Ref.lean ====
/-
  The reference's stages, each as a function of the array before it, and what each is at one index: the scores, their
  log-sigmoid, the sums of log probabilities right of a key, the weights and the weighted sum of the values.
-/
module

public import proofs.«01_k».proof.Proof.Gen.SbRefIdeal.Run
public import proofs.«01_k».proof.Proof.SbV.Math
public import Idealize.ShloMosaic.Lib.Pointwise

@[expose] public section

set_option maxRecDepth 16384

noncomputable section

namespace Cert.SbRefIdeal.Val

open Cert.SbRefIdeal Cert.SbRefIdeal.Gen Cert.SbAttnIdeal.Val
open Idealize.ShloMosaic Idealize.ShloMosaic.TcCoe

abbrev Big := FVec Ideal S4x16x8192x8192 .f32

/-- The scores. -/
def zR (X : FVec Ideal S4x8192x3072 .bf16) : Big :=
  mulf (Host.dotGeneral dot_S4x16x8192x64_S4x16x8192x64_S4x16x8192x8192_3_3_2_2_01_01 none (transpose S4x16x8192x64 [0, 2, 1, 3] (shapeCast _ (extractStridedSlice S4x8192x1024 ![0, 0, 0] (extf .f32 X bitsLt_bf16_f32) slices_S4x8192x3072_S4x8192x1024_0_0_0) shapeCasts_S4x8192x1024_S4x8192x16x64) transposes_S4x8192x16x64_S4x16x8192x64_0_2_1_3) (transpose S4x16x8192x64 [0, 2, 1, 3] (shapeCast _ (extractStridedSlice S4x8192x1024 ![0, 0, 1024] (extf .f32 X bitsLt_bf16_f32) slices_S4x8192x3072_S4x8192x1024_0_0_1024) shapeCasts_S4x8192x1024_S4x8192x16x64) transposes_S4x8192x16x64_S4x16x8192x64_0_2_1_3)) (broadcastInDim S4x16x8192x8192 ![] bcast_S_S4x16x8192x8192 (constant S_ .f32 0x3E000000#32))

/-- The log-sigmoid. -/
def lsR (z : Big) : Big :=
  Host.negf (select (cmpf .une (subf (Host.negf z) (broadcastInDim S4x16x8192x8192 ![] bcast_S_S4x16x8192x8192 (constant S_ .f32 0x00000000#32))) (subf (Host.negf z) (broadcastInDim S4x16x8192x8192 ![] bcast_S_S4x16x8192x8192 (constant S_ .f32 0x00000000#32))))
    (addf (Host.negf z) (broadcastInDim S4x16x8192x8192 ![] bcast_S_S4x16x8192x8192 (constant S_ .f32 0x00000000#32)))
    (addf (maximumf (Host.negf z) (broadcastInDim S4x16x8192x8192 ![] bcast_S_S4x16x8192x8192 (constant S_ .f32 0x00000000#32)))
      (Host.log1p (Host.exp (Host.negf (Host.absf (subf (Host.negf z) (broadcastInDim S4x16x8192x8192 ![] bcast_S_S4x16x8192x8192 (constant S_ .f32 0x00000000#32)))))))))

/-- Which keys are left of the query. -/
def mskR : IVec S4x16x8192x8192 1 :=
  broadcastInDim S4x16x8192x8192 ![2, 3] bcast_S8192x8192_S4x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- An array at the keys left of the query, nothing elsewhere. -/
def leftR (y : Big) : Big :=
  select mskR y (broadcastInDim S4x16x8192x8192 ![] bcast_S_S4x16x8192x8192 (id (constant (F := Ideal) S_ .f32 0x00000000#32)))

/-- The sums from a key on. -/
def cumR (y : Big) : Big :=
  Host.reduceWindowAdd ![1, 1, 1, 8192] ![1, 1, 1, 1] ![0, 0, 0, 0] ![0, 0, 0, 8191] y (broadcastInDim S_ ![] bcast_S_S_ (constant S_ .f32 0x00000000#32)) reduceWindows_S4x16x8192x8192_S4x16x8192x8192_w1s1p0_0_w1s1p0_0_w1s1p0_0_w8192s1p0_8191 h_S_

/-- The sums right of a key. -/
def aftR (y : Big) : Big :=
  concatenate S4x16x8192x8192 3 [⟨S4x16x8192x8191, (extractStridedSlice S4x16x8192x8191 ![0, 0, 0, 1] y slices_S4x16x8192x8192_S4x16x8192x8191_0_0_0_1)⟩, ⟨S4x16x8192x1, (broadcastInDim S4x16x8192x1 ![] bcast_S_S4x16x8192x1 (constant S_ .f32 0x00000000#32))⟩] concatenates_S4x16x8192x8191_S4x16x8192x1_S4x16x8192x8192_d3

/-- The weights. -/
def wR (z : Big) : Big :=
  leftR (Host.exp (addf (lsR z) (aftR (cumR (leftR (lsR (Host.negf z)))))))

/-- The result. -/
def outR (w : Big) (X : FVec Ideal S4x8192x3072 .bf16) : FVec Ideal S4x8192x1024 .bf16 :=
  truncf .bf16 (shapeCast _ (transpose S4x8192x16x64 [0, 2, 1, 3] (Host.dotGeneral dot_S4x16x8192x8192_S4x16x8192x64_S4x16x8192x64_3_2_2_3_01_01 none w
    (transpose S4x16x8192x64 [0, 2, 1, 3] (shapeCast _ (extractStridedSlice S4x8192x1024 ![0, 0, 2048] (extf .f32 X bitsLt_bf16_f32) slices_S4x8192x3072_S4x8192x1024_0_0_2048) shapeCasts_S4x8192x1024_S4x8192x16x64) transposes_S4x8192x16x64_S4x16x8192x64_0_2_1_3)) transposes_S4x16x8192x64_S4x8192x16x64_0_2_1_3) shapeCasts_S4x8192x16x64_S4x8192x1024) bitsLt_bf16_f32

/-- The reference's result is its stages in order. -/
theorem res_eq (m : (ℓ : Loc nD τ sig) → Buf (Elt Ideal) ℓ) (c : Dev nD) :
    Cert.SbRefIdeal.Value.res_main_v34 m c
      = outR (wR (zR (m ((c.tc : Thread nD τ).loc main_arg0)))) (m ((c.tc : Thread nD τ).loc main_arg0)) := by
  unfold Cert.SbRefIdeal.Value.res_main_v34
  rfl

theorem eighth : Ideal.ofBits .f32 0x3E000000#32 = ((0.125 : ℝ) : EReal) := by
  simp [Ideal.ofBits, Ideal.ieee, -EReal.coe_mul]; norm_num

theorem zR_at (X : FVec Ideal S4x8192x3072 .bf16) (b : Fin 4) (h : Fin 16) (q s : Fin 8192) :
    zR X (ix4 b h q s) = (∑ d : Fin 64, X (ix3 b q ⟨h.val * 64 + d.val, by omega⟩) * X (ix3 b s ⟨1024 + (h.val * 64 + d.val), by omega⟩))
      * ((0.125 : ℝ) : EReal) := by
  pointwise [zR]
  exact congrArg₂ (fun a b : EReal => a * b) rfl eighth

theorem slt_nat (a b : Fin 8192) : IntOp.cmpi .slt (BitVec.ofNat 32 a.val) (BitVec.ofNat 32 b.val) = if a.val < b.val then 1#1 else 0#1 := by
  have ha : (BitVec.ofNat 32 a.val).toInt = a.val := by
    rw [BitVec.toInt_ofNat']; have := a.isLt; simp [Int.bmod]; omega
  have hb : (BitVec.ofNat 32 b.val).toInt = b.val := by
    rw [BitVec.toInt_ofNat']; have := b.isLt; simp [Int.bmod]; omega
  simp only [IntOp.cmpi, BitVec.slt, ha, hb, Nat.cast_lt]
  by_cases h : a.val < b.val <;> simp [h]

theorem mskR_at (b : Fin 4) (h : Fin 16) (q s : Fin 8192) :
    mskR (ix4 b h q s) = if s.val < q.val then 1#1 else 0#1 := by
  pointwise [mskR]
  exact slt_nat s q

theorem leftR_at (y : Big) (b : Fin 4) (h : Fin 16) (q s : Fin 8192) :
    leftR y (ix4 b h q s) = if s.val < q.val then y (ix4 b h q s) else 0 := by
  have e := mskR_at b h q s
  pointwise [leftR]
  rw [e]
  have z : (id (constant (F := Ideal) S_ .f32 0#32) ix0 : EReal) = 0 := by
    show Ideal.ofBits .f32 0#32 = 0
    simp [Ideal.ofBits, Ideal.ieee]
  by_cases hl : s.val < q.val
  · rw [if_pos hl, if_pos hl]; rfl
  · rw [if_neg hl, if_neg hl]; exact z

theorem aftR_at (y : Big) (b : Fin 4) (h : Fin 16) (q s : Fin 8192) :
    aftR y (ix4 b h q s) = if h' : s.val + 1 < 8192 then y (ix4 b h q ⟨s.val + 1, h'⟩) else 0 := by
  pointwise [aftR]
  by_cases hs : s.val + 1 < 8192
  · rw [dif_pos (by omega), dif_pos hs]
    congr 2
    exact Fin.ext (Nat.add_comm _ _)
  · rw [dif_neg (by omega), dif_neg hs]

theorem spR_neg (x : ℝ) : spR (-x) = spR x - x := by
  unfold spR
  rw [abs_neg]
  rcases le_total 0 x with h | h
  · rw [max_eq_right (by linarith), max_eq_left h]; ring
  · rw [max_eq_left (by linarith), max_eq_right h]; ring

/-- The log-sigmoid at a real score. -/
theorem lsR_at (z : Big) (j : S4x16x8192x8192.Idx) (x : ℝ) (hx : z j = (x : EReal)) :
    lsR z j = ((x - spR x : ℝ) : EReal) := by
  have hlog : Ideal.log1p ((Real.exp (-|x|) : ℝ) : EReal) = ((Real.log (1 + Real.exp (-|x|)) : ℝ) : EReal) := by
    show Ideal.log (1 + ((Real.exp (-|x|) : ℝ) : EReal)) = _
    rw [one_add_exp]
    show (if (1 + Real.exp (-|x|)) ≤ 0 then (⊥ : EReal) else _) = _
    rw [if_neg (by have := Real.exp_pos (-|x|); linarith)]
  have habs : (FloatOps.absf (F := Ideal) (φ := .f32) (-(x : EReal)) : EReal) = ((|x| : ℝ) : EReal) := by
    show max (-(x : EReal)) (-(-(x : EReal))) = _
    rw [neg_neg, max_comm, ← EReal.coe_neg, ← coe_max']; rfl
  pointwise [lsR]
  rw [hx]
  simp only [ne_eq, not_true_eq_false, if_false]
  rw [habs]
  have h1 : Ideal.exp (-((|x| : ℝ) : EReal)) = ((Real.exp (-|x|) : ℝ) : EReal) := by
    rw [← EReal.coe_neg]; rfl
  rw [h1, hlog]
  have h2 : max (-(x : EReal)) 0 = ((max (-x) 0 : ℝ) : EReal) := by
    rw [coe_max', EReal.coe_neg]; rfl
  rw [h2, ← EReal.coe_add, ← EReal.coe_neg]
  congr 1
  have := spR_neg x
  unfold spR at this ⊢
  rw [abs_neg] at this
  linarith

theorem foldl_add {ι : Type} (l : List ι) (g : ι → EReal) : ∀ v : EReal, l.foldl (fun r n => r + g n) v = v + (l.map g).sum := by
  induction l with
  | nil => intro v; simp
  | cons a l ih => intro v; simp [ih, add_assoc]

/-- The sum over a window is the sum over its places. -/
theorem winSum_at {s t u : Shape} (window strides lo hi : Fin s.rank → ℕ) (x : FVec Ideal s .f32) (init : u.Idx → Ideal .f32)
    (h : s.ReduceWindows window strides lo hi t) (hu : 0 < u.numel) (j : t.Idx) :
    Host.reduceWindowAdd (F := Ideal) (φ := .f32) window strides lo hi x init h hu j
      = (init (Shape.Idx.first hu) : EReal) + ∑ w : Shape.Idx ⟨s.rank, window⟩,
          (if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else init (Shape.Idx.first hu) : EReal) := by
  show Host.reduceWindow (fun a b : EReal => a + b) window strides lo hi x (fun _ => init (Shape.Idx.first hu)) h hu j = _
  unfold Host.reduceWindow
  refine (foldl_add _ _ _).trans ?_
  rw [← Fin.sum_univ_def]
  refine congrArg₂ (fun a b : EReal => a + b) rfl (Eq.trans (Finset.sum_congr rfl fun n _ => ?_) (Equiv.sum_comp (Shape.rowMajor ⟨s.rank, window⟩).symm (fun w : Shape.Idx ⟨s.rank, window⟩ => (if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else init (Shape.Idx.first hu) : EReal))))
  congr

/-- The places of a window of 8192 along the last axis. -/
def winE : (Shape.Idx ⟨4, ![1, 1, 1, 8192]⟩) ≃ Fin 8192 where
  toFun p := p 3
  invFun k := ix4 0 0 0 k
  left_inv p := by
    funext a
    refine Fin.cases ?_ (fun a => Fin.cases ?_ (fun a => Fin.cases ?_ (fun a => Fin.cases ?_ (fun a => a.elim0) a) a) a) a
    · exact Fin.ext (by have h : (p 0).val < 1 := (p 0).isLt; show 0 = (p 0).val; omega)
    · exact Fin.ext (by have h : (p 1).val < 1 := (p 1).isLt; show 0 = (p 1).val; omega)
    · exact Fin.ext (by have h : (p 2).val < 1 := (p 2).isLt; show 0 = (p 2).val; omega)
    · rfl
  right_inv k := rfl

/-- The sums from a key on, as sums. -/
theorem cumR_at (y : Big) (b : Fin 4) (h : Fin 16) (q s : Fin 8192) :
    cumR y (ix4 b h q s) = ∑ k : Fin 8192, if h' : s.val + k.val < 8192 then y (ix4 b h q ⟨s.val + k.val, h'⟩) else 0 := by
  unfold cumR
  refine (winSum_at _ _ _ _ _ _ _ _ _).trans ?_
  have z : (broadcastInDim S_ ![] bcast_S_S_ (constant (F := Ideal) S_ .f32 0x00000000#32) (Shape.Idx.first h_S_) : EReal) = 0 := by
    show Ideal.ofBits .f32 0#32 = 0
    simp [Ideal.ofBits, Ideal.ieee]
  refine (congrArg₂ (fun a b : EReal => a + b) z (Fintype.sum_equiv winE _ (fun k : Fin 8192 => if h' : s.val + k.val < 8192 then y (ix4 b h q ⟨s.val + k.val, h'⟩) else 0) fun p => ?_)).trans (zero_add _)
  have p0 : (p 0).val = 0 := by have h : (p 0).val < 1 := (p 0).isLt; omega
  have p1 : (p 1).val = 0 := by have h : (p 1).val < 1 := (p 1).isLt; omega
  have p2 : (p 2).val = 0 := by have h : (p 2).val < 1 := (p 2).isLt; omega
  have key : ∀ a : Fin 4, ((ix4 b h q s : S4x16x8192x8192.Idx) a).val * (![1, 1, 1, 1] : Fin 4 → ℕ) a + (p a).val
      = (![b.val, h.val, q.val, s.val + (p 3).val] : Fin 4 → ℕ) a := by
    intro a
    refine Fin.cases ?_ (fun a => Fin.cases ?_ (fun a => Fin.cases ?_ (fun a => Fin.cases ?_ (fun a => a.elim0) a) a) a) a
    · show b.val * 1 + (p 0).val = b.val; omega
    · show h.val * 1 + (p 1).val = h.val; omega
    · show q.val * 1 + (p 2).val = q.val; omega
    · show s.val * 1 + (p 3).val = s.val + (p 3).val; omega
  by_cases hs : s.val + (p 3).val < 8192
  · have hin : ∀ a : Fin 4, (![0, 0, 0, 0] : Fin 4 → ℕ) a ≤ ((ix4 b h q s : S4x16x8192x8192.Idx) a).val * (![1, 1, 1, 1] : Fin 4 → ℕ) a + (p a).val
        ∧ ((ix4 b h q s : S4x16x8192x8192.Idx) a).val * (![1, 1, 1, 1] : Fin 4 → ℕ) a + (p a).val - (![0, 0, 0, 0] : Fin 4 → ℕ) a < S4x16x8192x8192.size a := by
      intro a
      rw [key a]
      refine Fin.cases ?_ (fun a => Fin.cases ?_ (fun a => Fin.cases ?_ (fun a => Fin.cases ?_ (fun a => a.elim0) a) a) a) a
      · exact ⟨Nat.zero_le _, b.isLt⟩
      · exact ⟨Nat.zero_le _, h.isLt⟩
      · exact ⟨Nat.zero_le _, q.isLt⟩
      · exact ⟨Nat.zero_le _, hs⟩
    refine (dif_pos hin).trans ?_
    refine Eq.trans ?_ (dif_pos (c := s.val + (winE p).val < 8192) hs).symm
    congr 1
    funext a
    apply Fin.ext
    show ((ix4 b h q s : S4x16x8192x8192.Idx) a).val * (![1, 1, 1, 1] : Fin 4 → ℕ) a + (p a).val - (![0, 0, 0, 0] : Fin 4 → ℕ) a = _
    rw [key a]
    refine Fin.cases ?_ (fun a => Fin.cases ?_ (fun a => Fin.cases ?_ (fun a => Fin.cases ?_ (fun a => a.elim0) a) a) a) a <;> rfl
  · refine (dif_neg fun hin => hs ?_).trans ?_
    · have h3 := (hin 3).2
      have k3 := key 3
      have e1 : ((ix4 b h q s : S4x16x8192x8192.Idx) 3).val * (![1, 1, 1, 1] : Fin 4 → ℕ) 3 + (p 3).val - 0 < 8192 := h3
      have e2 : ((ix4 b h q s : S4x16x8192x8192.Idx) 3).val * (![1, 1, 1, 1] : Fin 4 → ℕ) 3 + (p 3).val = s.val + (p 3).val := k3
      omega
    · refine z.trans ?_
      show (0 : EReal) = if h' : s.val + (winE p).val < 8192 then y (ix4 b h q ⟨s.val + (winE p).val, h'⟩) else 0
      rw [dif_neg (show ¬ s.val + (winE p).val < 8192 from hs)]

theorem wR_at (z : Big) (b : Fin 4) (h : Fin 16) (q s : Fin 8192) :
    wR z (ix4 b h q s) = if s.val < q.val then Ideal.exp (lsR z (ix4 b h q s) + aftR (cumR (leftR (lsR (Host.negf z)))) (ix4 b h q s)) else 0 := by
  unfold wR
  rw [leftR_at]
  rfl

theorem outR_at (w : Big) (X : FVec Ideal S4x8192x3072 .bf16) (b : Fin 4) (q : Fin 8192) (n : Fin 1024) :
    outR w X (ix3 b q n) = ∑ s : Fin 8192, w (ix4 b ⟨n.val / 64, by omega⟩ q s) * X (ix3 b s ⟨2048 + n.val, by omega⟩) := by
  pointwise [outR]

end Cert.SbRefIdeal.Val

end
-- ==== Proof.SbV.Same.lean ====
/-
  The reference's result on finite queries and keys, written with the same scores and weights as the kernel's.
-/
module

public import proofs.«01_k».proof.Proof.SbV.Ref

@[expose] public section

set_option maxRecDepth 16384

noncomputable section

namespace Cert.SbRefIdeal.Val

open Cert.SbRefIdeal Cert.SbRefIdeal.Gen Cert.SbAttnIdeal.Val
open Idealize.ShloMosaic Idealize.ShloMosaic.TcCoe

variable (X : FVec Ideal S4x8192x3072 .bf16) (xr : Fin 4 → ℕ → ℕ → ℝ)

/-- The score of query `q` and key `s` in head `h`, from the real entries. -/
def zs (b : Fin 4) (h q s : ℕ) : ℝ := (∑ d : Fin 64, xr b q (h * 64 + d.val) * xr b s (1024 + (h * 64 + d.val))) * 0.125

variable (hX : ∀ (b : Fin 4) (s : Fin 8192) (n : Fin 3072), n.val < 2048 → X (ix3 b s n) = ((xr b s.val n.val : ℝ) : EReal))

include hX in
/-- The scores are real. -/
theorem z_real (b : Fin 4) (h : Fin 16) (q s : Fin 8192) : zR X (ix4 b h q s) = ((zs xr b h.val q.val s.val : ℝ) : EReal) := by
  rw [zR_at]
  unfold zs
  rw [EReal.coe_mul, coe_sum]
  refine congrArg₂ (fun a b : EReal => a * b) (Finset.sum_congr rfl fun d _ => ?_) rfl
  rw [EReal.coe_mul]
  exact congrArg₂ (fun a b : EReal => a * b) (hX b q ⟨h.val * 64 + d.val, by omega⟩ (by show h.val * 64 + d.val < 2048; omega)) (hX b s ⟨1024 + (h.val * 64 + d.val), by omega⟩ (by show 1024 + (h.val * 64 + d.val) < 2048; omega))

/-- A sum over a block of keys, from a key on. -/
theorem sum_from (f : ℕ → ℝ) (J : ℕ) (hJ : J ≤ 8192) :
    ∑ k : Fin 8192, (if h : J + k.val < 8192 then ((f (J + k.val) : ℝ) : EReal) else 0) = ((∑ s ∈ Finset.Ico J 8192, f s : ℝ) : EReal) := by
  have e : ∀ k : Fin 8192, (if h : J + k.val < 8192 then ((f (J + k.val) : ℝ) : EReal) else 0)
      = ((if J + k.val < 8192 then f (J + k.val) else 0 : ℝ) : EReal) := by
    intro k
    by_cases h : J + k.val < 8192
    · rw [dif_pos h, if_pos h]
    · rw [dif_neg h, if_neg h]; rfl
  rw [Finset.sum_congr rfl fun k _ => e k, ← coe_sum]
  congr 1
  rw [Fin.sum_univ_eq_sum_range (fun k => if J + k < 8192 then f (J + k) else 0) 8192, Finset.sum_ite, Finset.sum_const_zero, add_zero,
    Finset.sum_Ico_eq_sum_range]
  refine Finset.sum_congr ?_ fun _ _ => rfl
  ext k
  simp only [Finset.mem_filter, Finset.mem_range]
  omega

include hX in
/-- The log probabilities of the keys right of one. -/
theorem aft_real (b : Fin 4) (h : Fin 16) (q s : Fin 8192) :
    aftR (cumR (leftR (lsR (Host.negf (zR X))))) (ix4 b h q s)
      = ((AA (fun s => zs xr b h.val q.val s) q.val (s.val + 1) : ℝ) : EReal) := by
  have left : ∀ s : Fin 8192, leftR (lsR (Host.negf (zR X))) (ix4 b h q s) = ((-sg (fun s => zs xr b h.val q.val s) q.val s.val : ℝ) : EReal) := by
    intro s
    rw [leftR_at]
    unfold sg
    by_cases hl : s.val < q.val
    · rw [if_pos hl, if_pos hl, lsR_at (Host.negf (zR X)) (ix4 b h q s) (-(zs xr b h.val q.val s.val)) ?_]
      · congr 1; rw [spR_neg]; ring
      · show -(zR X (ix4 b h q s)) = _
        rw [z_real X xr hX, EReal.coe_neg]
    · rw [if_neg hl, if_neg hl, neg_zero]; rfl
  rw [aftR_at]
  unfold AA
  by_cases hs : s.val + 1 < 8192
  · rw [dif_pos hs, cumR_at, ← Finset.sum_neg_distrib, ← sum_from _ _ hs.le]
    refine Finset.sum_congr rfl fun k _ => ?_
    by_cases hk : s.val + 1 + k.val < 8192
    · rw [dif_pos hk, dif_pos hk]; exact left ⟨s.val + 1 + k.val, hk⟩
    · rw [dif_neg hk, dif_neg hk]
  · rw [dif_neg hs, Finset.Ico_eq_empty (by omega), Finset.sum_empty, neg_zero]; rfl

include hX in
/-- The weights. -/
theorem w_real (b : Fin 4) (h : Fin 16) (q s : Fin 8192) :
    wR (zR X) (ix4 b h q s) = ((wt (fun s => zs xr b h.val q.val s) q.val s.val : ℝ) : EReal) := by
  rw [wR_at, aft_real X xr hX, lsR_at (zR X) _ _ (z_real X xr hX b h q s)]
  unfold wt
  by_cases hl : s.val < q.val
  · rw [if_pos hl, if_pos hl, ← EReal.coe_add]; rfl
  · rw [if_neg hl, if_neg hl]; rfl

include hX in
/-- The result: the weighted sum of the values over all keys. -/
theorem res_at (v : ℕ → EReal) (b : Fin 4) (q : Fin 8192) (n : Fin 1024)
    (hv : ∀ (s : Fin 8192) (n' : Fin 3072), n'.val = 2048 + n.val → X (ix3 b s n') = v s.val) :
    outR (wR (zR X)) X (ix3 b q n)
      = ∑ s ∈ Finset.Ico 0 8192, ((wt (fun s => zs xr b (n.val / 64) q.val s) q.val s : ℝ) : EReal) * v s := by
  rw [outR_at, Finset.sum_congr rfl fun s _ => congrArg₂ (fun a b : EReal => a * b) (w_real X xr hX b ⟨n.val / 64, by omega⟩ q s) (hv s ⟨2048 + n.val, by omega⟩ rfl),
    Nat.Ico_zero_eq_range]
  exact Fin.sum_univ_eq_sum_range (fun s => ((wt (fun s => zs xr b (n.val / 64) q.val s) q.val s : ℝ) : EReal) * v s) 8192

/-- A head's 64 columns out of a block's 128. -/
theorem half_sum (f : ℕ → ℝ) (g : ℕ) (hg : g < 2) :
    ∑ l : Fin 128, (if l.val / 64 = g then f l.val else 0) = ∑ d : Fin 64, f (g * 64 + d.val) := by
  rw [Fin.sum_univ_eq_sum_range (fun l => if l / 64 = g then f l else 0) 128, Finset.sum_ite, Finset.sum_const_zero, add_zero,
    Fin.sum_univ_eq_sum_range (fun d => f (g * 64 + d)) 64]
  symm
  refine Finset.sum_bij (fun d _ => g * 64 + d) ?_ ?_ ?_ ?_
  · intro d hd
    simp only [Finset.mem_filter, Finset.mem_range] at hd ⊢
    omega
  · intro a _ b _ h
    omega
  · intro l hl
    simp only [Finset.mem_filter, Finset.mem_range] at hl
    exact ⟨l - g * 64, by simp only [Finset.mem_range]; omega, by omega⟩
  · intro d _; rfl

end Cert.SbRefIdeal.Val

end
-- ==== Proof.SbV.Final.lean ====
/-
  The array the idealized kernel leaves: on finite queries and keys it is the reference's result of the argument.
-/
module

public import proofs.«01_k».proof.Proof.SbI.Run
public import proofs.«01_k».proof.Proof.SbV.Point
public import proofs.«01_k».proof.Proof.SbV.Same
public import proofs.«01_k».proof.Proof.Gen.Pre_finite_qk
public import Idealize.ShloMosaic.Lib.Pipeline.ValueKit
public import Idealize.ShloMosaic.Lib.ReduceAll

@[expose] public section

set_option maxRecDepth 16384

noncomputable section

namespace Cert.SbAttnIdeal.Val

open Cert.SbAttnIdeal Cert.SbAttnIdeal.Gen Cert.SbAttnIdeal.Pure
open Idealize.ShloMosaic Idealize.ShloMosaic.TcCoe
open Cert.SbRefIdeal.Val (outR wR zR zs res_at half_sum)

/-- A finite entry is a real number. -/
theorem finite_at (X : FVec Ideal S4x8192x3072 .bf16) (h : Cert.Pre_finite_qk.fn (F := Ideal) X = fun _ => 1#1)
    (b : Fin 4) (s : Fin 8192) (n : Fin 3072) (hn : n.val < 2048) : ∃ r : ℝ, X (ix3 b s n) = (r : EReal) := by
  have h1 := congrFun h ix0
  unfold Cert.Pre_finite_qk.fn at h1
  have h2 := Host.reduce_andi_all _ _ _ _ _ h1 (ix3 b s ⟨n.val, hn⟩)
  revert h2
  pointwise []
  intro h2
  have top : Ideal.ofBits .f32 0x7F800000#32 = (⊤ : EReal) := by simp [Ideal.ofBits, Ideal.ieee]
  have h3 : max (X (ix3 b s n) : EReal) (-(X (ix3 b s n) : EReal)) < ⊤ := by
    rw [← top]
    by_contra hc
    have : decide ((FloatOps.absf (F := Ideal) (φ := .f32) (X (ix3 b s n)) : EReal) < Ideal.ofBits FTy.f32 2139095040#32) = false := decide_eq_false hc
    rw [this] at h2
    exact absurd h2 (by decide)
  have h4 : (X (ix3 b s n) : EReal) ≠ ⊤ := fun e => by rw [e] at h3; simp at h3
  have h5 : (X (ix3 b s n) : EReal) ≠ ⊥ := fun e => by rw [e] at h3; simp at h3
  exact ⟨(X (ix3 b s n) : EReal).toReal, (EReal.coe_toReal h4 h5).symm⟩

variable (m : (ℓ : Loc nD τ sig) → Buf (Elt Ideal) ℓ) (c : Dev nD)

/-- The blocks at every grid point: batch, rows and columns. -/
theorem idx : ∀ t : Fin (cfg0 (F := Ideal)).N,
    win0_0.index t = ![(grid0.coords t 0).val, (grid0.coords t 2).val, (grid0.coords t 1).val]
    ∧ win0_1.index t = ![(grid0.coords t 0).val, 0, 8 + (grid0.coords t 1).val]
    ∧ win0_2.index t = ![(grid0.coords t 0).val, 0, 16 + (grid0.coords t 1).val]
    ∧ win0_3.index t = ![0, 0] ∧ win0_4.index t = ![0, 0]
    ∧ win0_5.index t = ![(grid0.coords t 0).val, (grid0.coords t 2).val, (grid0.coords t 1).val]
    ∧ (grid0.coords t 0).val < 4 ∧ (grid0.coords t 1).val < 8 ∧ (grid0.coords t 2).val < 16 :=
  (by decide +kernel : ∀ t : Fin grid0.N, _)

/-- The array the blocks are read from. -/
abbrev A : FVec Ideal S4x8192x3072 .bf16 := m ((c.tc : Thread nD τ).loc main_arg0)

theorem iblk0 (t : Fin (cfg0 (F := Ideal)).N) (p : Fin 512) (l : Fin 128) (b : Fin 4) (q : Fin 8192) (n : Fin 3072)
    (hb : b.val = (grid0.coords t 0).val) (hq : q.val = (grid0.coords t 2).val * 512 + p.val)
    (hn : n.val = (grid0.coords t 1).val * 128 + l.val) :
    iblk m c 0 t (ix3 0 p l) = A m c (ix3 b q n) := by
  have e := V_main_arg0 m c
  unfold iblk
  blk_simp [idx t]
  refine (congrFun e _).trans ?_
  blk_ext [idx t]

theorem iblk1 (t : Fin (cfg0 (F := Ideal)).N) (s : Fin 8192) (l : Fin 128) (b : Fin 4) (n : Fin 3072)
    (hb : b.val = (grid0.coords t 0).val)
    (hn : n.val = (8 + (grid0.coords t 1).val) * 128 + l.val) :
    iblk m c 1 t (ix3 0 s l) = A m c (ix3 b s n) := by
  have e := V_main_arg0 m c
  unfold iblk
  blk_simp [idx t]
  refine (congrFun e _).trans ?_
  blk_ext [idx t]

theorem iblk2 (t : Fin (cfg0 (F := Ideal)).N) (s : Fin 8192) (l : Fin 128) (b : Fin 4) (n : Fin 3072)
    (hb : b.val = (grid0.coords t 0).val)
    (hn : n.val = (16 + (grid0.coords t 1).val) * 128 + l.val) :
    iblk m c 2 t (ix3 0 s l) = A m c (ix3 b s n) := by
  have e := V_main_arg0 m c
  unfold iblk
  blk_simp [idx t]
  refine (congrFun e _).trans ?_
  blk_ext [idx t]

/-- The triangle the host computes. -/
def triA : FVec Ideal S256x256 .bf16 :=
  truncf .bf16 (select (cmpi .sgt (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0))))
    (broadcastInDim S256x256 ![] bcast_S_S256x256 (constant (F := Ideal) S_ .f32 0xBF800000#32))
    (broadcastInDim S256x256 ![] bcast_S_S256x256 (constant (F := Ideal) S_ .f32 0x00000000#32))) bitsLt_bf16_f32

/-- The mask the host computes. -/
def ltA : FVec Ideal S256x256 .f32 :=
  select (cmpi .slt (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 (iotaInDim S256 32 0))))
    (broadcastInDim S256x256 ![] bcast_S_S256x256 (constant (F := Ideal) S_ .f32 0x3F800000#32))
    (broadcastInDim S256x256 ![] bcast_S_S256x256 (constant (F := Ideal) S_ .f32 0x00000000#32))

theorem V_tri : V m c main_v7 = triA := by
  unfold V hosts
  simp only [List.flatten_cons, List.flatten_nil, List.cons_append, List.nil_append, List.append_nil]
  entry_read
  rfl

theorem V_lt : V m c main_v14 = ltA := by
  unfold V hosts
  simp only [List.flatten_cons, List.flatten_nil, List.cons_append, List.nil_append, List.append_nil]
  entry_read
  rfl

theorem natcmp (a b : Fin 256) : (BitVec.ofNat 32 a.val).toInt = a.val := by
  rw [BitVec.toInt_ofNat']; have := a.isLt; simp [Int.bmod]; omega
theorem sgt_nat (a b : Fin 256) : IntOp.cmpi .sgt (BitVec.ofNat 32 a.val) (BitVec.ofNat 32 b.val) = if b.val < a.val then 1#1 else 0#1 := by
  simp only [IntOp.cmpi, BitVec.slt, natcmp a a, natcmp b b, Nat.cast_lt]
  by_cases h : b.val < a.val <;> simp [h]
theorem slt_nat (a b : Fin 256) : IntOp.cmpi .slt (BitVec.ofNat 32 a.val) (BitVec.ofNat 32 b.val) = if a.val < b.val then 1#1 else 0#1 := by
  simp only [IntOp.cmpi, BitVec.slt, natcmp a a, natcmp b b, Nat.cast_lt]
  by_cases h : a.val < b.val <;> simp [h]

theorem sel_if {α : Type} (p : Prop) [Decidable p] (a b : α) : Scalar.select (if p then 1#1 else 0#1) a b = if p then a else b := by
  by_cases h : p <;> simp only [h, if_true, if_false] <;> rfl

theorem neg_one : Ideal.ofBits .f32 0xBF800000#32 = (-1 : EReal) := by
  have : Ideal.ofBits .f32 0xBF800000#32 = ((-1 : ℝ) : EReal) := by
    simp [Ideal.ofBits, Ideal.ieee, -EReal.coe_mul, -EReal.coe_neg]; norm_num
  rw [this, EReal.coe_neg]; rfl

theorem tri_at (k j : Fin 256) : triA (ix2 k j) = if j.val < k.val then -1 else 0 := by
  pointwise [triA]
  rw [sgt_nat, neg_one]
  exact sel_if _ _ _

theorem lt_at (a j : Fin 256) : ltA (ix2 a j) = if j.val < a.val then 1 else 0 := by
  pointwise [ltA]
  rw [slt_nat]
  exact sel_if _ _ _

theorem iblk3 (t : Fin (cfg0 (F := Ideal)).N) (k j : Fin 256) :
    iblk m c 3 t (ix2 k j) = (if j.val < k.val then -1 else 0 : EReal) := by
  refine Eq.trans ?_ (tri_at k j)
  have e := V_tri m c
  unfold iblk
  blk_simp [idx t]
  refine (congrFun e _).trans ?_
  blk_ext [idx t]

theorem iblk4 (t : Fin (cfg0 (F := Ideal)).N) (a j : Fin 256) :
    iblk m c 4 t (ix2 a j) = (if j.val < a.val then 1 else 0 : EReal) := by
  refine Eq.trans ?_ (lt_at a j)
  have e := V_lt m c
  unfold iblk
  blk_simp [idx t]
  refine (congrFun e _).trans ?_
  blk_ext [idx t]

/-- A finite array's entries, as real numbers. -/
def xr (X : FVec Ideal S4x8192x3072 .bf16) (b : Fin 4) (s n : ℕ) : ℝ :=
  if h : s < 8192 ∧ n < 3072 then (X (ix3 b ⟨s, h.1⟩ ⟨n, h.2⟩)).toReal else 0

/-- What the body leaves at a place, from blocks of an array whose queries and keys are real, is the reference's result there. -/
theorem point_of (A : FVec Ideal S4x8192x3072 .bf16) (hA : ∀ (b : Fin 4) (s : Fin 8192) (n : Fin 3072), n.val < 2048 → ∃ r : ℝ, A (ix3 b s n) = (r : EReal))
    (i : grid0.Coords) (x0 : S1x512x128.Idx → Elt Ideal .bf16) (x1 x2 : S1x8192x128.Idx → Elt Ideal .bf16)
    (x3 : S256x256.Idx → Elt Ideal .bf16) (x4 : S256x256.Idx → Elt Ideal .f32)
    (g1 : (i 1).val < 8) (g2 : (i 2).val < 16) (p : Fin 512) (l : Fin 128) (b : Fin 4) (q : Fin 8192) (n : Fin 1024)
    (hq : q.val = (i 2).val * 512 + p.val) (hn : n.val = (i 1).val * 128 + l.val)
    (h0 : ∀ (p : Fin 512) (l : Fin 128) (q : Fin 8192) (n : Fin 3072), q.val = (i 2).val * 512 + p.val → n.val = (i 1).val * 128 + l.val →
      x0 (ix3 0 p l) = A (ix3 b q n))
    (h1 : ∀ (s : Fin 8192) (l : Fin 128) (n : Fin 3072), n.val = (8 + (i 1).val) * 128 + l.val → x1 (ix3 0 s l) = A (ix3 b s n))
    (h2 : ∀ (s : Fin 8192) (l : Fin 128) (n : Fin 3072), n.val = (16 + (i 1).val) * 128 + l.val → x2 (ix3 0 s l) = A (ix3 b s n))
    (h3 : ∀ k j : Fin 256, x3 (ix2 k j) = (if j.val < k.val then -1 else 0 : EReal))
    (h4 : ∀ a j : Fin 256, x4 (ix2 a j) = (if j.val < a.val then 1 else 0 : EReal)) :
    out (F := Ideal) i x0 x1 x2 x3 x4 (ix3 0 p l) = outR (wR (zR A)) A (ix3 b q n) := by
  have hX : ∀ (b : Fin 4) (s : Fin 8192) (n : Fin 3072), n.val < 2048 → A (ix3 b s n) = ((xr A b s.val n.val : ℝ) : EReal) := by
    intro b s n hn
    obtain ⟨r, hr⟩ := hA b s n hn
    unfold xr
    rw [dif_pos ⟨s.isLt, n.isLt⟩, hr, EReal.toReal_coe]
  let v : Fin 128 → ℕ → EReal := fun l s => if hs : s < 8192 then A (ix3 b ⟨s, hs⟩ ⟨(16 + (i 1).val) * 128 + l.val, by omega⟩) else 0
  have hv : ∀ (s : Fin 8192) (l : Fin 128), x2 (ix3 0 s l) = v l s.val := by
    intro s l
    rw [h2 s l ⟨(16 + (i 1).val) * 128 + l.val, by omega⟩ rfl]
    show _ = if hs : s.val < 8192 then _ else _
    rw [dif_pos s.isLt]
  rw [out_at i x0 x1 x2 x3 x4
    (fun p l => xr A b ((i 2).val * 512 + p.val) ((i 1).val * 128 + l.val))
    (fun s l => xr A b s ((8 + (i 1).val) * 128 + l.val)) v
    (fun p l => (h0 p l ⟨(i 2).val * 512 + p.val, by omega⟩ ⟨(i 1).val * 128 + l.val, by omega⟩ rfl rfl).trans
      (hX b ⟨(i 2).val * 512 + p.val, by omega⟩ ⟨(i 1).val * 128 + l.val, by omega⟩ (by show (i 1).val * 128 + l.val < 2048; omega)))
    (fun s l => (h1 s l ⟨(8 + (i 1).val) * 128 + l.val, by omega⟩ rfl).trans
      (hX b s ⟨(8 + (i 1).val) * 128 + l.val, by omega⟩ (by show (8 + (i 1).val) * 128 + l.val < 2048; omega)))
    hv h3 h4 p l]
  rw [res_at A (xr A) hX (v l) b q n (fun s n' hn' => ?_)]
  · have ex : xs (fun p l => xr A b ((i 2).val * 512 + p.val) ((i 1).val * 128 + l.val))
        (fun s l => xr A b s ((8 + (i 1).val) * 128 + l.val)) p (l.val / 64)
        = fun s => zs (xr A) b (n.val / 64) q.val s := by
      funext s
      unfold xs zs
      rw [half_sum (fun l => xr A b ((i 2).val * 512 + p.val) ((i 1).val * 128 + l) * 0.125
        * xr A b s ((8 + (i 1).val) * 128 + l)) (l.val / 64) (by omega), Finset.sum_mul]
      refine Finset.sum_congr rfl fun d _ => ?_
      have e1 : n.val / 64 * 64 + d.val = (i 1).val * 128 + (l.val / 64 * 64 + d.val) := by omega
      have e2 : 1024 + (n.val / 64 * 64 + d.val) = (8 + (i 1).val) * 128 + (l.val / 64 * 64 + d.val) := by omega
      rw [e2, e1, hq]
      ring
    rw [ex, show 512 * (i 2).val + p.val = q.val by omega]
  · show _ = if hs : s.val < 8192 then _ else _
    rw [dif_pos s.isLt]
    congr 2
    exact Fin.ext (by show n'.val = (16 + (i 1).val) * 128 + l.val; omega)

/-- What a grid point writes is the reference's block. -/
theorem point (h : Cert.Pre_finite_qk.fn (F := Ideal) (A m c) = fun _ => 1#1) (t : Fin (cfg0 (F := Ideal)).N) (p : Fin 512) (l : Fin 128)
    (b : Fin 4) (q : Fin 8192) (n : Fin 1024)
    (hb : b.val = (grid0.coords t 0).val) (hq : q.val = (grid0.coords t 2).val * 512 + p.val)
    (hn : n.val = (grid0.coords t 1).val * 128 + l.val) :
    out (grid0.coords t) (iblk m c 0 t) (iblk m c 1 t) (iblk m c 2 t) (iblk m c 3 t) (iblk m c 4 t) (ix3 0 p l)
      = outR (wR (zR (A m c))) (A m c) (ix3 b q n) := by
  obtain ⟨-, -, -, -, -, -, g0, g1, g2⟩ := idx t
  exact point_of (A m c) (finite_at _ h) _ _ _ _ _ _ g1 g2 p l b q n hq hn (fun p l q n => iblk0 m c t p l b q n hb)
    (fun s l n => iblk1 m c t s l b n hb) (fun s l n => iblk2 m c t s l b n hb) (iblk3 m c t) (iblk4 m c t)

/-- The array after the run. -/
theorem final (h : Cert.Pre_finite_qk.fn (F := Ideal) (A m c) = fun _ => 1#1) :
    (dats m 0 c).arrAt 5 (cfg0 (F := Ideal)).N = outR (wR (zR (A m c))) (A m c) := by
  refine (dats m 0 c).arrAt_eq_of_covers 5 _ (by decide +kernel) fun t _ y => ?_
  blk_simp
  rw [after0_5]
  obtain ⟨-, -, -, -, -, i5, g0, g1, g2⟩ := idx t
  have key : ∀ (p : Fin 512) (l : Fin 128), (win0_5.blk t).view.emb (ix3 0 p l)
      = ix3 (⟨(grid0.coords t 0).val, g0⟩ : Fin 4) (⟨(grid0.coords t 2).val * 512 + p.val, by omega⟩ : Fin 8192) (⟨(grid0.coords t 1).val * 128 + l.val, by omega⟩ : Fin 1024) := by
    intro p l
    blk_ext [i5]
  idx_vars y
  obtain rfl : y0 = 0 := Subsingleton.elim _ _
  exact (point m c h t y1 y2 _ _ _ rfl rfl rfl).trans (congrArg _ (key y1 y2).symm)

end Cert.SbAttnIdeal.Val

end
-- ==== Proof.OdV.Calls.lean ====
/-
  What each of the odd layer's three calls leaves, from the arrays it finds: the projection, the attention and the
  mixing and feed-forward block, each as its reference writes it.
-/
module

public import proofs.«01_k».proof.Proof.OdI.First
public import proofs.«01_k».proof.Proof.OdI.Second
public import proofs.«01_k».proof.Proof.OdV.Ffn
public import proofs.«01_k».proof.Proof.OdV.Same
public import proofs.«01_k».proof.Proof.Lin.FfnOddFinal
public import proofs.«01_k».proof.Proof.Lin.ProjOdd
public import proofs.«01_k».proof.Proof.SbV.Final

@[expose] public section

set_option maxRecDepth 16384

noncomputable section

open Idealize.ShloMosaic Idealize.ShloMosaic.TcCoe Idealize.SL.Sem
open Idealize.ShloMosaic.Pipeline (Dat)

namespace Cert.OddIdeal.Val

open Cert.OddIdeal Cert.OddIdeal.Gen Cert.Lin
open Cert.FfnOddIdeal.Lin (mix mix_at)
open Cert.SbRefIdeal.Val (outR wR zR)

variable (V : (c : Dev nD) → (b : Ref sig .tc) → Buf (Elt Ideal) ((c : Thread nD τ).loc b))

/-- Which block each window of the projection stages at a grid point. -/
theorem places0 : ∀ t : Fin (cfg0 (F := Ideal)).N, win0_0.index t = ![t.val, 0] ∧ win0_1.index t = ![0, 0] ∧ win0_2.index t = ![t.val, 0] :=
  (by decide +kernel : ∀ t : Fin grid0.N, _)

theorem point0 (c : Dev nD) (t : Fin (cfg0 (F := Ideal)).N) (y) :
    First.out0_2 (First.iblk V c 0 t) (First.iblk V c 1 t) y
      = Cert.ProjOddIdeal.Lin.ref (V c main_arg0) (V c main_arg1) ((((cfg0 (F := Ideal)).win 2).blk t).view.emb y) := by
  unfold First.out0_2
  canon_tiles x h
  all_goals (pointwise [k0_pay1, k0_pay2, k0_pay3, k0_pay4, k0_pay5, k0_pay6, k0_pay7, k0_pay8, Cert.ProjOddIdeal.Lin.ref]; blk_point [First.iblk, places0 t])

/-- The array the projection leaves. -/
theorem final0 (c : Dev nD) : (First.dat V c).arrAt 2 (cfg0 (F := Ideal)).N = Cert.ProjOddIdeal.Lin.ref (V c main_arg0) (V c main_arg1) := by
  refine (First.dat V c).arrAt_eq_of_covers 2 _ (by decide +kernel) fun t _ y => ?_
  blk_simp
  rw [First.after0_2]
  exact point0 V c t y

/-- Which block each window of the last call stages at a grid point. -/
theorem places2 : ∀ t : Fin (cfg2 (F := Ideal)).N, win2_0.index t = ![t.val, 0] ∧ win2_1.index t = ![0, 0] ∧ win2_2.index t = ![t.val, 0]
    ∧ win2_3.index t = ![0, 0] ∧ win2_4.index t = ![0, 0] ∧ win2_5.index t = ![0, 0] ∧ win2_6.index t = ![0, 0]
    ∧ win2_7.index t = ![0, 0] ∧ win2_8.index t = ![0, 0] ∧ win2_9.index t = ![0, 0] ∧ win2_10.index t = ![t.val, 0] :=
  (by decide +kernel : ∀ t : Fin grid2.N, _)

theorem blk1 (c : Dev nD) (t) : Third.iblk V c 1 t = V c main_arg2 := by blk_ext! [Third.iblk, places2 t]
theorem blk3 (c : Dev nD) (t) : Third.iblk V c 3 t = V c main_arg3 := by blk_ext! [Third.iblk, places2 t]
theorem blk4 (c : Dev nD) (t) : Third.iblk V c 4 t = V c main_arg4 := by blk_ext! [Third.iblk, places2 t]
theorem blk5 (c : Dev nD) (t) : Third.iblk V c 5 t = V c main_arg5 := by blk_ext! [Third.iblk, places2 t]
theorem blk6 (c : Dev nD) (t) : Third.iblk V c 6 t = V c main_arg6 := by blk_ext! [Third.iblk, places2 t]
theorem blk7 (c : Dev nD) (t) : Third.iblk V c 7 t = V c main_arg7 := by blk_ext! [Third.iblk, places2 t]
theorem blk8 (c : Dev nD) (t) : Third.iblk V c 8 t = V c main_arg8 := by blk_ext! [Third.iblk, places2 t]
theorem blk9 (c : Dev nD) (t) : Third.iblk V c 9 t = V c main_arg9 := by blk_ext! [Third.iblk, places2 t]

theorem blk0 (c : Dev nD) (t : Fin (cfg2 (F := Ideal)).N) (r : Fin 512) (k : Fin 1024) (R : Fin 32768) (hR : R.val = t.val * 512 + r.val) :
    (show FVec Ideal S512x1024 .bf16 from Third.iblk V c 0 t) (ix2 r k)
      = (show FVec Ideal S32768x1024 .bf16 from V c main_v18) (ix2 R k) := by
  blk_ext [Third.iblk, places2 t]

theorem blk2 (c : Dev nD) (t : Fin (cfg2 (F := Ideal)).N) (r : Fin 512) (k : Fin 1024) (R : Fin 32768) (hR : R.val = t.val * 512 + r.val) :
    (show FVec Ideal S512x1024 .f32 from Third.iblk V c 2 t) (ix2 r k)
      = (show FVec Ideal S32768x1024 .f32 from V c main_arg0) (ix2 R k) := by
  blk_ext [Third.iblk, places2 t]

/-- What the last body leaves at a row and a column of a grid point's block is the block's entry in that row of the array. -/
theorem point2 (c : Dev nD) (t : Fin (cfg2 (F := Ideal)).N) (r : Fin 512) (j : Fin 1024) (R : Fin 32768) (hR : R.val = t.val * 512 + r.val) :
    Third.out2_10 (Third.iblk V c 0 t) (Third.iblk V c 1 t) (Third.iblk V c 2 t) (Third.iblk V c 3 t) (Third.iblk V c 4 t) (Third.iblk V c 5 t)
        (Third.iblk V c 6 t) (Third.iblk V c 7 t) (Third.iblk V c 8 t) (Third.iblk V c 9 t) (ix2 r j)
      = hBlock (mix (V c main_v18) (V c main_arg2)) (V c main_arg0) (V c main_arg3) (V c main_arg4) (V c main_arg5) (V c main_arg6)
          (V c main_arg7) (V c main_arg8) (V c main_arg9) (ix2 R j) := by
  rw [blk1, blk3, blk4, blk5, blk6, blk7, blk8, blk9, Third.out_eq]
  refine (Cert.FfnOddIdeal.Lin.out_at _ _ _ _ _ _ _ _ _ _ r j).trans (Eq.trans ?_ (hBlock_at _ _ _ _ _ _ _ _ _ R j).symm)
  have e0 := fun k => blk0 V c t r k R hR
  have e2 := fun k => blk2 V c t r k R hR
  rw [show (fun n => mix (V c main_v18) (V c main_arg2) (ix2 R n)) = _ from funext fun n => mix_at _ _ R n]
  rw [← funext e2]
  simp only [← e0]

/-- The array the last call leaves. -/
theorem final2 (c : Dev nD) : (Third.dat V c).arrAt 10 (cfg2 (F := Ideal)).N
    = hBlock (mix (V c main_v18) (V c main_arg2)) (V c main_arg0) (V c main_arg3) (V c main_arg4) (V c main_arg5) (V c main_arg6)
        (V c main_arg7) (V c main_arg8) (V c main_arg9) := by
  refine (Third.dat V c).arrAt_eq_of_covers 10 _ (by decide +kernel) fun t _ y => ?_
  have ht : t.val < 64 := lt_of_lt_of_eq t.isLt N_2
  have hy0 : (y 0).val < 512 := (y 0).isLt
  have key : (((cfg2 (F := Ideal)).win 10).blk t).view.emb y
      = (ix2 ⟨t.val * 512 + (y 0).val, by omega⟩ ⟨(y 1).val, (y 1).isLt⟩ : S32768x1024.Idx) := by
    blk_ext [places2 t]
  blk_simp
  rw [Third.after2_10]
  rw [key]
  have hy : y = (ix2 ⟨(y 0).val, hy0⟩ ⟨(y 1).val, (y 1).isLt⟩ : S512x1024.Idx) := eq_ix2 y
  refine (congrArg _ hy).trans ?_
  exact point2 V c t _ _ _ rfl

/-- The blocks of the attention at every grid point: batch, rows and columns. -/
theorem places1 : ∀ t : Fin (cfg1 (F := Ideal)).N,
    win1_0.index t = ![(grid1.coords t 0).val, (grid1.coords t 2).val, (grid1.coords t 1).val]
    ∧ win1_1.index t = ![(grid1.coords t 0).val, 0, 8 + (grid1.coords t 1).val]
    ∧ win1_2.index t = ![(grid1.coords t 0).val, 0, 16 + (grid1.coords t 1).val]
    ∧ win1_3.index t = ![0, 0] ∧ win1_4.index t = ![0, 0]
    ∧ win1_5.index t = ![(grid1.coords t 0).val, (grid1.coords t 2).val, (grid1.coords t 1).val]
    ∧ (grid1.coords t 0).val < 4 ∧ (grid1.coords t 1).val < 8 ∧ (grid1.coords t 2).val < 16 :=
  (by decide +kernel : ∀ t : Fin grid1.N, _)

theorem ablk0 (c : Dev nD) (t : Fin (cfg1 (F := Ideal)).N) (p : Fin 512) (l : Fin 128) (b : Fin 4) (q : Fin 8192) (n : Fin 3072)
    (hb : b.val = (grid1.coords t 0).val) (hq : q.val = (grid1.coords t 2).val * 512 + p.val)
    (hn : n.val = (grid1.coords t 1).val * 128 + l.val) :
    (show FVec Ideal S1x512x128 .bf16 from Att.iblk V c 0 t) (ix3 0 p l) = (show FVec Ideal S4x8192x3072 .bf16 from V c main_v1) (ix3 b q n) := by
  blk_ext [Att.iblk, places1 t]
theorem ablk1 (c : Dev nD) (t : Fin (cfg1 (F := Ideal)).N) (s : Fin 8192) (l : Fin 128) (b : Fin 4) (n : Fin 3072)
    (hb : b.val = (grid1.coords t 0).val) (hn : n.val = (8 + (grid1.coords t 1).val) * 128 + l.val) :
    (show FVec Ideal S1x8192x128 .bf16 from Att.iblk V c 1 t) (ix3 0 s l) = (show FVec Ideal S4x8192x3072 .bf16 from V c main_v1) (ix3 b s n) := by
  blk_ext [Att.iblk, places1 t]
theorem ablk2 (c : Dev nD) (t : Fin (cfg1 (F := Ideal)).N) (s : Fin 8192) (l : Fin 128) (b : Fin 4) (n : Fin 3072)
    (hb : b.val = (grid1.coords t 0).val) (hn : n.val = (16 + (grid1.coords t 1).val) * 128 + l.val) :
    (show FVec Ideal S1x8192x128 .bf16 from Att.iblk V c 2 t) (ix3 0 s l) = (show FVec Ideal S4x8192x3072 .bf16 from V c main_v1) (ix3 b s n) := by
  blk_ext [Att.iblk, places1 t]
theorem ablk3 (c : Dev nD) (t : Fin (cfg1 (F := Ideal)).N) : Att.iblk V c 3 t = V c main_v9 := by blk_ext! [Att.iblk, places1 t]
theorem ablk4 (c : Dev nD) (t : Fin (cfg1 (F := Ideal)).N) : Att.iblk V c 4 t = V c main_v16 := by blk_ext! [Att.iblk, places1 t]

/-- The array the attention leaves, where its queries and keys are real. -/
theorem final1 (c : Dev nD) (hA : ∀ (b : Fin 4) (s : Fin 8192) (n : Fin 3072), n.val < 2048 →
      ∃ r : ℝ, (show FVec Ideal S4x8192x3072 .bf16 from V c main_v1) (ix3 b s n) = (r : EReal))
    (h3 : V c main_v9 = Cert.SbAttnIdeal.Val.triA) (h4 : V c main_v16 = Cert.SbAttnIdeal.Val.ltA) :
    (Att.dat V c).arrAt 5 (cfg1 (F := Ideal)).N = outR (wR (zR (V c main_v1))) (V c main_v1) := by
  refine (Att.dat V c).arrAt_eq_of_covers 5 _ (by decide +kernel) fun t _ y => ?_
  blk_simp
  rw [Att.after1_5]
  obtain ⟨-, -, -, -, -, i5, g0, g1, g2⟩ := places1 t
  have key : ∀ (p : Fin 512) (l : Fin 128), (win1_5.blk t).view.emb (ix3 0 p l)
      = ix3 (⟨(grid1.coords t 0).val, g0⟩ : Fin 4) (⟨(grid1.coords t 2).val * 512 + p.val, by omega⟩ : Fin 8192) (⟨(grid1.coords t 1).val * 128 + l.val, by omega⟩ : Fin 1024) := by
    intro p l
    blk_ext [i5]
  idx_vars y
  obtain rfl : y0 = 0 := Subsingleton.elim _ _
  rw [Att.out_eq, ablk3, ablk4, h3, h4]
  exact (Cert.SbAttnIdeal.Val.point_of (V c main_v1) hA (grid1.coords t) _ _ _ _ _ g1 g2 y1 y2 _ _ _ rfl rfl
    (fun p l q n => ablk0 V c t p l _ q n rfl) (fun s l n => ablk1 V c t s l _ n rfl) (fun s l n => ablk2 V c t s l _ n rfl)
    Cert.SbAttnIdeal.Val.tri_at Cert.SbAttnIdeal.Val.lt_at).trans (congrArg _ (key y1 y2).symm)

end Cert.OddIdeal.Val

end
-- ==== Proof.OdV.Final.lean ====
/-
  The odd layer, its three calls one after the other: the array the program leaves is the reference's result, where the
  layer's input and the weights of its queries and keys are finite.
-/
module

public import proofs.«01_k».proof.Proof.OdI.Whole
public import proofs.«01_k».proof.Proof.OdV.Calls
public import proofs.«01_k».proof.Proof.Gen.OddRefIdeal.Run
public import proofs.«01_k».proof.Proof.Gen.Pre_finite_in

@[expose] public section

set_option maxRecDepth 16384

noncomputable section

open Idealize.ShloMosaic Idealize.ShloMosaic.TcCoe Idealize.SL.Sem
open Idealize.ShloMosaic.Pipeline (Dat)

namespace Cert.OddIdeal.Val

open Cert.OddIdeal Cert.OddIdeal.Gen Cert.OddIdeal.Whole Cert.Lin
open Cert.FfnOddIdeal.Lin (mix)
open Cert.SbRefIdeal.Val (outR wR zR)

/-- The projection, laid out by batch and position. -/
def qkv (h : FVec Ideal S32768x1024 .f32) (w : FVec Ideal S1024x3072 .bf16) : FVec Ideal S4x8192x3072 .bf16 :=
  shapeCast _ (Cert.ProjOddIdeal.Lin.ref h w) shapeCasts_S32768x3072_S4x8192x3072

/-- The odd layer over whole arrays. -/
def layer (h : FVec Ideal S32768x1024 .f32) (w : FVec Ideal S1024x3072 .bf16) (wo : FVec Ideal S1024x1024 .bf16) (g1 b1 : FVec Ideal S1x1024 .f32)
    (w1 w3 : FVec Ideal S1024x2816 .bf16) (w2 : FVec Ideal S2816x1024 .bf16) (g2 b2 : FVec Ideal S1x1024 .f32) : FVec Ideal S32768x1024 .f32 :=
  hBlock (mix (shapeCast _ (outR (wR (zR (qkv h w))) (qkv h w)) shapeCasts_S4x8192x1024_S32768x1024) wo) h g1 b1 w1 w3 w2 g2 b2

/-- An entry of the projection: a row times a column. -/
theorem qkv_at (h : FVec Ideal S32768x1024 .f32) (w : FVec Ideal S1024x3072 .bf16) (b : Fin 4) (s : Fin 8192) (n : Fin 3072) :
    qkv h w (ix3 b s n) = ∑ k : Fin 1024, h (ix2 ⟨b.val * 8192 + s.val, by omega⟩ k) * w (ix2 k n) := by
  pointwise [qkv, Cert.ProjOddIdeal.Lin.ref]

theorem top_bits : Ideal.ofBits .f32 0x7F800000#32 = (⊤ : EReal) := by simp [Ideal.ofBits, Ideal.ieee]

/-- A number whose size is below infinity is real. -/
theorem real_of (x : EReal) (h : FloatOps.cmpf (F := Ideal) (φ := .f32) .olt (FloatOps.absf (F := Ideal) (φ := .f32) x) (Ideal.ofBits .f32 0x7F800000#32) = 1#1) :
    ∃ r : ℝ, x = (r : EReal) := by
  have h3 : max x (-x) < ⊤ := by
    rw [← top_bits]
    by_contra hc
    have : decide ((FloatOps.absf (F := Ideal) (φ := .f32) x : EReal) < Ideal.ofBits FTy.f32 2139095040#32) = false := decide_eq_false hc
    revert h
    show BitVec.ofBool (decide ((FloatOps.absf (F := Ideal) (φ := .f32) x : EReal) < Ideal.ofBits FTy.f32 2139095040#32)) = 1#1 → False
    rw [this]
    decide
  have h4 : x ≠ ⊤ := fun e => by rw [e] at h3; simp at h3
  have h5 : x ≠ ⊥ := fun e => by rw [e] at h3; simp at h3
  exact ⟨x.toReal, (EReal.coe_toReal h4 h5).symm⟩

section Finite

variable (h : FVec Ideal S32768x1024 .f32) (w : FVec Ideal S1024x3072 .bf16) (wo : FVec Ideal S1024x1024 .bf16) (g1 b1 : FVec Ideal S1x1024 .f32)
    (w1 w3 : FVec Ideal S1024x2816 .bf16) (w2 : FVec Ideal S2816x1024 .bf16) (g2 b2 : FVec Ideal S1x1024 .f32)

/-- A finite input and finite weights are real. -/
theorem finite_parts (hp : Cert.Pre_finite_in.fn (F := Ideal) h w wo g1 b1 w1 w3 w2 g2 b2 = fun _ => 1#1) :
    (∀ (r : Fin 32768) (k : Fin 1024), ∃ x : ℝ, h (ix2 r k) = (x : EReal))
      ∧ ∀ (k : Fin 1024) (n : Fin 3072), n.val < 2048 → ∃ x : ℝ, w (ix2 k n) = (x : EReal) := by
  have h1 := congrFun hp ix0
  unfold Cert.Pre_finite_in.fn at h1
  obtain ⟨ha, hb⟩ := (by decide : ∀ a b : BitVec 1, IntOp.andi a b = 1#1 → a = 1#1 ∧ b = 1#1) _ _ h1
  constructor
  · intro r k
    have h2 := Host.reduce_andi_all _ _ _ _ _ ha (ix2 r k)
    exact real_of _ h2
  · intro k n hn
    have h2 := Host.reduce_andi_all _ _ _ _ _ hb (ix2 k ⟨n.val, hn⟩)
    revert h2
    pointwise []
    intro h2
    exact real_of _ h2

/-- So are the queries and the keys. -/
theorem qkv_real (hp : Cert.Pre_finite_in.fn (F := Ideal) h w wo g1 b1 w1 w3 w2 g2 b2 = fun _ => 1#1)
    (b : Fin 4) (s : Fin 8192) (n : Fin 3072) (hn : n.val < 2048) : ∃ r : ℝ, qkv h w (ix3 b s n) = (r : EReal) := by
  obtain ⟨hh, hw⟩ := finite_parts h w wo g1 b1 w1 w3 w2 g2 b2 hp
  choose x hx using fun k => hh ⟨b.val * 8192 + s.val, by omega⟩ k
  choose y hy using fun k => hw k n hn
  refine ⟨∑ k, x k * y k, ?_⟩
  rw [qkv_at, Cert.SbAttnIdeal.Val.coe_sum]
  refine Finset.sum_congr rfl fun k _ => ?_
  rw [hx, hy, EReal.coe_mul]

end Finite

variable (m : (ℓ : Loc nD τ sig) → Buf (Elt Ideal) ℓ) (c : Dev nD)

/-- The layer over the program's arguments. -/
def res : FVec Ideal S32768x1024 .f32 :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The projection's array when its call ends, -/
theorem at_v0 : W1 m c (Proc.devRef .tc main_v0) = Cert.ProjOddIdeal.Lin.ref (m ((c : Thread nD τ).loc main_arg0)) (m ((c : Thread nD τ).loc main_arg1)) :=
  (W1_arr m c 2).trans (final0 (at' (W0 m)) c)

theorem W6_flat : W6 m c = StableHlo.after [hostOps1, hostOps1_1, hostOps1_2, hostOps1_3, hostOps1_4].flatten (W1 m c) := by
  unfold W6
  simp only [List.flatten_cons, List.flatten_nil, List.append_nil, StableHlo.after_append]

/-- and as the attention finds it. -/
theorem at_v1 : W6 m c (Proc.devRef .tc main_v1) = qkv (m ((c : Thread nD τ).loc main_arg0)) (m ((c : Thread nD τ).loc main_arg1)) := by
  unfold qkv
  rw [← at_v0, W6_flat]
  simp only [List.flatten_cons, List.flatten_nil, List.cons_append, List.nil_append, List.append_nil]
  entry_read
  rfl

/-- The triangle as the attention finds it. -/
theorem at_tri : W6 m c (Proc.devRef .tc main_v9) = Cert.SbAttnIdeal.Val.triA := by
  rw [W6_flat]
  simp only [List.flatten_cons, List.flatten_nil, List.cons_append, List.nil_append, List.append_nil]
  entry_read
  rfl

/-- The mask as the attention finds it. -/
theorem at_lt : W6 m c (Proc.devRef .tc main_v16) = Cert.SbAttnIdeal.Val.ltA := by
  rw [W6_flat]
  simp only [List.flatten_cons, List.flatten_nil, List.cons_append, List.nil_append, List.append_nil]
  entry_read
  rfl

variable (hp : Cert.Pre_finite_in.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) = fun _ => 1#1)

include hp in
/-- The attention's array. -/
theorem at_v17 : W7 m c (Proc.devRef .tc main_v17)
    = outR (wR (zR (qkv (m ((c : Thread nD τ).loc main_arg0)) (m ((c : Thread nD τ).loc main_arg1)))))
        (qkv (m ((c : Thread nD τ).loc main_arg0)) (m ((c : Thread nD τ).loc main_arg1))) := by
  have e := at_v1 m c
  refine (W7_arr m c 5).trans ((final1 (at' (W6 m)) c ?_ (at_tri m c) (at_lt m c)).trans ?_)
  · intro b s n hn
    obtain ⟨r, hr⟩ := qkv_real _ _ _ _ _ _ _ _ _ _ hp b s n hn
    exact ⟨r, (congrFun e _).trans hr⟩
  · exact congrArg (fun x => outR (wR (zR x)) x) e

include hp in
/-- The array the program leaves is the layer. -/
theorem final : (Third.dat (at' (W8 m)) c).arrAt 10 (cfg2 (F := Ideal)).N = res m c := by
  have e : at' (W8 m) c main_v18 = shapeCast _ (outR (wR (zR (qkv (m ((c : Thread nD τ).loc main_arg0)) (m ((c : Thread nD τ).loc main_arg1)))))
      (qkv (m ((c : Thread nD τ).loc main_arg0)) (m ((c : Thread nD τ).loc main_arg1)))) shapeCasts_S4x8192x1024_S32768x1024 := by
    rw [← at_v17 m c hp]
    show W8 m c (Proc.devRef .tc main_v18) = _
    unfold W8
    entry_read
    rfl
  have a : ∀ r ∈ argRefs, at' (W8 m) c r = m ((c : Thread nD τ).loc r) := W8_args m c
  refine (final2 (at' (W8 m)) c).trans ?_
  rw [e, a main_arg0 (by decide), a main_arg2 (by decide), a main_arg3 (by decide), a main_arg4 (by decide), a main_arg5 (by decide),
    a main_arg6 (by decide), a main_arg7 (by decide), a main_arg8 (by decide), a main_arg9 (by decide)]
  rfl

end Cert.OddIdeal.Val

namespace Cert.OddRefIdeal.Val

open Cert.OddRefIdeal Cert.OddIdeal.Val

/-- The run of the reference: its result is the layer over whole arrays. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v100) = layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ⟨(h c).1.trans ?_, (h c).2⟩) (Cert.OddRefIdeal.Value.run (F := Ideal) m ρ)
  unfold Cert.OddRefIdeal.Value.res_main_v84 Cert.OddRefIdeal.Value.res_main_v82 Cert.OddRefIdeal.Value.res_main_v78 Cert.OddRefIdeal.Value.res_main_v71
    Cert.OddRefIdeal.Value.res_main_v67 Cert.OddRefIdeal.Value.res_main_v51 Cert.OddRefIdeal.Value.res_main_v49 Cert.OddRefIdeal.Value.res_main_v45
  rfl

end Cert.OddRefIdeal.Val

end
-- ==== Proof.Lin.ProjEven.lean ====
/-
  The projection of the even layer: each row of its two results is the row of the activations times the weights, laid out as the
  reference computes it.
-/
module

public import proofs.«01_k».proof.Proof.Gen.ProjEvenIdeal.Value
public import proofs.«01_k».proof.Proof.Gen.ProjEvenRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjEvenIdeal.Lin

open Cert.ProjEvenIdeal Cert.ProjEvenIdeal.Gen

variable (m : (ℓ : Loc nD τ sig) → Buf (Elt Ideal) ℓ)

/-- The activations times the weights. -/
def proj (X : FVec Ideal S32768x1024 .f32) (W : FVec Ideal S1024x2048 .bf16) :
    FVec Ideal Cert.ProjEvenRefIdeal.S32768x2048 .f32 :=
  Host.dotGeneral Cert.ProjEvenRefIdeal.dot_S32768x1024_S1024x2048_S32768x2048_1_0_0_1_n_n none X
    (extf .f32 W Cert.ProjEvenRefIdeal.Gen.bitsLt_bf16_f32)

/-- The reference's first result, the fused queries, keys and values. -/
def qkvRef (X : FVec Ideal S32768x1024 .f32) (W : FVec Ideal S1024x2048 .bf16) : FVec Ideal S32768x1536 .bf16 :=
  truncf .bf16 (extractStridedSlice S32768x1536 ![0, 0] (proj X W)
    Cert.ProjEvenRefIdeal.Gen.slices_S32768x2048_S32768x1536_0_0) Cert.ProjEvenRefIdeal.Gen.bitsLt_bf16_f32

/-- The reference's second result, the inputs of the recurrence with the time first. -/
def uRef (X : FVec Ideal S32768x1024 .f32) (W : FVec Ideal S1024x2048 .bf16) : FVec Ideal S8192x2048 .f32 :=
  shapeCast _ (transpose Cert.ProjEvenRefIdeal.S8192x4x512 [1, 0, 2] (shapeCast _ (extractStridedSlice
    Cert.ProjEvenRefIdeal.S32768x512 ![0, 1536] (proj X W) Cert.ProjEvenRefIdeal.Gen.slices_S32768x2048_S32768x512_0_1536)
    Cert.ProjEvenRefIdeal.Gen.shapeCasts_S32768x512_S4x8192x512)
    Cert.ProjEvenRefIdeal.Gen.transposes_S4x8192x512_S8192x4x512_1_0_2)
    Cert.ProjEvenRefIdeal.Gen.shapeCasts_S8192x4x512_S8192x2048

/-- Which block each window stages at a grid point. -/
theorem places : ∀ t : Fin cfg0.N, win0_0.index t = ![t.val, 0] ∧ win0_1.index t = ![0, 0] ∧ win0_2.index t = ![t.val, 0]
    ∧ win0_3.index t = ![t.val % 8, t.val / 8] ∧ t.val / 8 < 4 :=
  (by decide +kernel : ∀ t : Fin grid0.N, _)

/-- What the body leaves of the first result at an entry of the block of one grid point is the reference's first result
    at the entry's place in the array. -/
theorem qkv_point (c : Dev nD) (t : Fin cfg0.N) (y) :
    out0_2 (iblk m c 0 t) (iblk m c 1 t) y
      = qkvRef (m ((c : Thread nD τ).loc main_arg0)) (m ((c : Thread nD τ).loc main_arg1)) (((cfg0.win 2).blk t).view.emb y) := by
  unfold out0_2
  canon_tiles x h
  all_goals (open_payloads; pointwise [qkvRef, proj]; blk_point [iblk, V, places t])

/-- The first array the kernel leaves is the reference's first result. -/
theorem qkv_final (c : Dev nD) : (dats m 0 c).arrAt 2 (cfgs 0).N
    = qkvRef (m ((c : Thread nD τ).loc main_arg0)) (m ((c : Thread nD τ).loc main_arg1)) := by
  refine (dats m 0 c).arrAt_eq_of_covers 2 _ (by decide +kernel) fun t _ y => ?_
  blk_simp
  rw [after0_2]
  exact qkv_point m c t y

/-- What the body leaves of the second result at an entry of the block of one grid point is the reference's second result
    at the entry's place in the array. -/
theorem u_point (c : Dev nD) (t : Fin cfg0.N) (y) :
    out0_3 (iblk m c 0 t) (iblk m c 1 t) y
      = uRef (m ((c : Thread nD τ).loc main_arg0)) (m ((c : Thread nD τ).loc main_arg1)) (((cfg0.win 3).blk t).view.emb y) := by
  unfold out0_3
  canon_tiles x h
  all_goals (open_payloads; pointwise [uRef, proj]; blk_point [iblk, V, places t])

/-- The second array the kernel leaves is the reference's second result. -/
theorem u_final (c : Dev nD) : (dats m 0 c).arrAt 3 (cfgs 0).N
    = uRef (m ((c : Thread nD τ).loc main_arg0)) (m ((c : Thread nD τ).loc main_arg1)) := by
  refine (dats m 0 c).arrAt_eq_of_covers 3 _ (by decide +kernel) fun t _ y => ?_
  blk_simp
  rw [after0_3]
  exact u_point m c t y

end Cert.ProjEvenIdeal.Lin

end
-- ==== Proof.Chunk.FrameI.lean ====
/-
  The run of the idealized chunked attention: the host operations before the region, the blocks of the windows, what the
  body leaves in the result's buffer, and the frame.
-/
module

public import proofs.«01_k».proof.Proof.Gen.ChunkAttnIdeal.Launch
public import proofs.«01_k».proof.Proof.Gen.ChunkAttnIdeal.Skeleton
public import proofs.«01_k».proof.Proof.Gen.ChunkAttnIdeal.Points
public import Idealize.ShloMosaic.Lib.Pipeline.FrameBody
public import Idealize.ShloMosaic.Lib.Claim
public import Idealize.ShloMosaic.Lib.Ring
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ChunkAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- The buffers as the region finds them. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 800000 in
/-- The program up to the region, and the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- The frame, from a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 6).trans (((dats 0 c).arrAt_in 6 rfl _).trans ((hA c 6).trans (V_main_arg0 m c))),
      ((h c).2 main_arg1 (Pipeline.mem_restRefs_of main_arg1 (by decide) (by decide))).trans (V_main_arg1 m c)⟩) h

/-! ## The body's accesses -/

abbrev r0_0 : Rect S1x256x256 := Rect.unit (s := S1x256x256) ![0, 0, 0] S1x256x256.size inb_S1x256x256_S1x256x256_0_0_0
abbrev r0_1 : Rect S4x256x768 := Rect.unit (s := S4x256x768) ![0, 0, 0] S1x256x768.size inb_S4x256x768_S1x256x768_0_0_0
abbrev r0_2 : Rect S4x256x768 := Rect.unit (s := S4x256x768) ![1, 0, 0] S1x256x768.size inb_S4x256x768_S1x256x768_1_0_0
abbrev r0_3 : Rect S4x256x768 := Rect.unit (s := S4x256x768) ![2, 0, 0] S1x256x768.size inb_S4x256x768_S1x256x768_2_0_0
abbrev r0_4 : Rect S4x256x768 := Rect.unit (s := S4x256x768) ![3, 0, 0] S1x256x768.size inb_S4x256x768_S1x256x768_3_0_0

/-! ## What the body leaves in each output window's buffer -/

/-- What the body computes on the way. -/
def k0_pay16 : IVec S256x256 32 := iota .tc S256x256 32 [1] iota_S256x256_d1_w32
def k0_pay17 (x1 x2 x3 : Vec F S1x256x256 .bf16) : FVec F S768x256 .bf16 := k0_pay2 (View.ld x1 r0_0) (View.ld x2 r0_0) (View.ld x3 r0_0)
def k0_pay18 (x4 x5 x6 : Vec F S1x256x256 .bf16) : FVec F S768x256 .bf16 := k0_pay3 (View.ld x4 r0_0) (View.ld x5 r0_0) (View.ld x6 r0_0)
def k0_pay19 (x0 : Vec F S1x256x256 .bf16) : FVec F S256x256 .bf16 := k0_pay4 (View.ld x0 r0_0)
def k0_pay20 (i : grid0.Coords) : IVec S256x768 1 := k0_pay5 i

/-- What the body leaves in the result's buffer. -/
def out0_8 (i : grid0.Coords) (x0 x1 : Vec F S1x256x256 .bf16) (x2 x3 : Vec F S1x256x256 .bf16) (x4 x5 x6 : Vec F S1x256x256 .bf16) (x7 : Vec F S4x256x768 .f32) : Vec F S1x256x256 .bf16 :=
  View.canon [⟨r0_0, k0_pay1 (k0_pay18 x4 x5 x6) (k0_pay20 i) (k0_pay13 (k0_pay17 x1 x2 x3) (k0_pay18 x4 x5 x6) k0_pay16 (k0_pay19 x0) (k0_pay20 i) (k0_pay8 (k0_pay17 x1 x2 x3) (k0_pay18 x4 x5 x6) (k0_pay19 x0) (k0_pay20 i) (k0_pay6 (F := F)) k0_pay7 (View.ld x7 r0_1)) (k0_pay9 k0_pay16) (k0_pay11 (k0_pay17 x1 x2 x3) k0_pay16 (k0_pay19 x0) (k0_pay20 i) (View.ld x7 r0_2)) (k0_pay12 (k0_pay17 x1 x2 x3) k0_pay16 (k0_pay19 x0) (k0_pay20 i) (View.ld x7 r0_2)) (View.ld x7 r0_3)) (k0_pay14 k0_pay16) (k0_pay15 (k0_pay17 x1 x2 x3) k0_pay16 (k0_pay19 x0) (View.ld x7 r0_4)) (Named.named κ "mask" 0xF149F2CA#32)⟩]

/-- The store covers the buffer. -/
theorem cover0_8 (p0 : Vec F S1x256x256 .bf16) (y : S1x256x256.Idx) :
    ∃ pc ∈ ([⟨r0_0, p0⟩] : List (View.Piece (Elt F) S1x256x256 .bf16)), y ∈ pc.1.set :=
  View.cover_of_tiled [⟨r0_0, p0⟩] S1x256x256.size (by rfl) y

/-! ## The body's triple -/

set_option maxHeartbeats 1000000 in
/-- The body, run on memrefs held whole: the inputs come back, the output holds what was computed. -/
theorem sound_kernel (c : Dev nD) (E : Set ℕ) (i : grid0.Coords) (arg3 : Memref sig .tc .vmem S1x256x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x256 .bf16) (harg8 : arg8.IsWhole) (arg9 : Memref sig .tc .vmem S1x256x256 .bf16) (harg9 : arg9.IsWhole) (arg10 : Memref sig .tc .vmem S4x256x768 .f32) (harg10 : arg10.IsWhole) (arg11 : Memref sig .tc .vmem S1x256x256 .bf16) (harg11 : arg11.IsWhole)
    (x0 x1 : Vec F S1x256x256 .bf16) (x2 x3 : Vec F S1x256x256 .bf16) (x4 x5 x6 : Vec F S1x256x256 .bf16) (x7 : Vec F S4x256x768 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (out0_8 i x0 x1 x2 x3 x4 x5 x6 x7)) -∗ K ⟨⟩))
      ⊢ wp frame (wpE (defs₀ (F := F)) Variants.none c none) E (cc0_chunk_attn i arg3 harg3 arg4 harg4 arg5 harg5 arg6 harg6 arg7 harg7 arg8 harg8 arg9 harg9 arg10 harg10 arg11 harg11) K := by
  simp only [cc0_chunk_attn_eq_skeleton]; unfold cc0_chunk_attn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (cover0_8 _)).trans ?_
  rfl

/-! ## The pipeline's proof data -/

/-- At each point every input's buffer is left at its block, the output's at the value computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (grid0.coords t) (iblk m c 0 t) (iblk m c 1 t) (iblk m c 2 t) (iblk m c 3 t) (iblk m c 4 t) (iblk m c 5 t) (iblk m c 6 t) (iblk m c 7 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What a point leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (grid0.coords t) (iblk m c 0 t) (iblk m c 1 t) (iblk m c 2 t) (iblk m c 3 t) (iblk m c 4 t) (iblk m c 5 t) (iblk m c 6 t) (iblk m c 7 t) := by dsimp only [dats]

/-- A point finds in an operand's buffer what it leaves there. -/
theorem kept (c : Dev nD) (w : Fin cfg0.W) (hw : w.val < 8) (t : Fin cfg0.N) (d) : (dats m 0 c).before w t d = (dats m 0 c).after w t := by
  obtain ⟨n, hn⟩ := w
  change n < 8 at hw
  interval_cases n <;>
    exact ((dats m 0 c).before_in_eq_fetched _ rfl (fun _ => rfl) (fun _ _ _ => rfl) (fun t => by unfold Dat.blockOf; rw [A_eq]; dsimp only [dats]; unfold iblk; generalize V m c = X; rfl) t d).trans
      (by unfold Dat.fetched Dat.blockOf; rw [A_eq]; dsimp only [dats]; unfold iblk; generalize V m c = X; rfl)

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hk := fun (w : Fin cfg0.W) (hw : w.val < 8) => kept m c w hw t
  simp only [hk 0 (by show 0 < 8; decide), hk 1 (by show 1 < 8; decide), hk 2 (by show 2 < 8; decide), hk 3 (by show 3 < 8; decide), hk 4 (by show 4 < 8; decide), hk 5 (by show 5 < 8; decide), hk 6 (by show 6 < 8; decide), hk 7 (by show 7 < 8; decide)]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body's duty to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- The run from launch, the counters at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run from launch. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The arguments end as they were and no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.ChunkAttnIdeal.Gen

end
-- ==== Proof.Chunk.Value.lean ====
/-
  The result array of the idealized chunked attention after its run.
-/
module

public import proofs.«01_k».proof.Proof.Chunk.FrameI
public import Idealize.ShloMosaic.Lib.Pipeline.Value

@[expose] public section

noncomputable section

namespace Cert.ChunkAttnIdeal.Value

open Cert.ChunkAttnIdeal Cert.ChunkAttnIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v27) = (dats m 0 c).arrAt 8 cfg0.N :=
  (h c).1 8

/-- After the frame run, argument `main_arg0` is as launched: input window 6 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run: the result is the array of window 8 after its points, the arguments as they were. -/
theorem run_blocks : θ_run defs (onTc (τ := τ) (main (F := F))) ⟨m, fun _ => 0, ρ⟩ fun r => ∀ c : Dev nD,
      r.2.mem ((c : Thread nD τ).loc main_v27) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post8 m r h c,
      kept_main_arg0 m r h c,
      kept_main_arg1 m r h c⟩)
    (run_main m ρ)

end Cert.ChunkAttnIdeal.Value

end
-- ==== Proof.Chunk.Bias.lean ====
/-
  The band bias the host computes for the chunked attention: what it is at one query, key and head.
-/
module

public import proofs.«01_k».proof.Proof.Chunk.Value
public import Idealize.ShloMosaic.Lib.Pipeline.ValueKit

@[expose] public section

set_option maxRecDepth 16384

noncomputable section

namespace Cert.ChunkAttnIdeal.Val

open Cert.ChunkAttnIdeal Cert.ChunkAttnIdeal.Gen
open Idealize.ShloMosaic Idealize.ShloMosaic.TcCoe

/-- The chunk of a query row, rounded down. -/
def qch : IVec S256x1 32 :=
  let a : IVec S256x1 32 := broadcastInDim S256x1 ![0] bcast_S256_S256x1_0 (iotaInDim S256 32 0)
  let c : IVec S_ 32 := id (constantI S_ 32 64#32)
  let q : IVec S256x1 32 := Host.divsi a (broadcastInDim S256x1 ![] bcast_S_S256x1 c)
  select (andi (cmpi .ne (signi a) (broadcastInDim S256x1 ![] bcast_S_S256x1 (signi c)))
    (cmpi .ne (Host.remsi a (broadcastInDim S256x1 ![] bcast_S_S256x1 c)) (broadcastInDim S256x1 ![] bcast_S_S256x1 (constantI S_ 32 0#32))))
    (subi q (broadcastInDim S256x1 ![] bcast_S_S256x1 (constantI S_ 32 1#32))) q

/-- The chunk of a key column, rounded down. -/
def kch : IVec S1x768 32 :=
  let a : IVec S1x768 32 := broadcastInDim S1x768 ![1] bcast_S768_S1x768_1 (iotaInDim S768 32 0)
  let c : IVec S_ 32 := id (constantI S_ 32 64#32)
  let q : IVec S1x768 32 := Host.divsi a (broadcastInDim S1x768 ![] bcast_S_S1x768 c)
  select (andi (cmpi .ne (signi a) (broadcastInDim S1x768 ![] bcast_S_S1x768 (signi c)))
    (cmpi .ne (Host.remsi a (broadcastInDim S1x768 ![] bcast_S_S1x768 c)) (broadcastInDim S1x768 ![] bcast_S_S1x768 (constantI S_ 32 0#32))))
    (subi q (broadcastInDim S1x768 ![] bcast_S_S1x768 (constantI S_ 32 1#32))) q

/-- How many chunks a key lies before a query. -/
def distA : IVec S256x768 32 :=
  subi (broadcastInDim S256x768 ![0, 1] bcast_S256x1_S256x768_0_1 (addi qch (broadcastInDim S256x1 ![] bcast_S_S256x1 (constantI S_ 32 8#32))))
    (broadcastInDim S256x768 ![0, 1] bcast_S1x768_S256x768_0_1 kch)

/-- Whether a key lies in a query's band. -/
def bandA : IVec S256x768 1 :=
  andi (cmpi .sge distA (broadcastInDim S256x768 ![] bcast_S_S256x768 (constantI S_ 32 0#32)))
    (cmpi .sle distA (broadcastInDim S256x768 ![] bcast_S_S256x768 (constantI S_ 32 8#32)))

/-- The table with no rows before it and none after it. -/
def rowsA (r : FVec Ideal S8x257 .f32) : FVec Ideal S8x257 .f32 :=
  concatenate S8x257 0 [⟨S0x257, shapeCast S0x257 (broadcastInDim S1x0x257 ![0, 2] bcast_S1x257_S1x0x257_0_2
      (extractStridedSlice S1x257 ![0, 0] r slices_S8x257_S1x257_0_0)) shapeCasts_S1x0x257_S0x257⟩, ⟨S8x257, r⟩,
    ⟨S0x257, shapeCast S0x257 (broadcastInDim S1x0x257 ![0, 2] bcast_S1x257_S1x0x257_0_2
      (extractStridedSlice S1x257 ![7, 0] r slices_S8x257_S1x257_7_0)) shapeCasts_S1x0x257_S0x257⟩] concatenates_S0x257_S8x257_S0x257_S8x257_d0

/-- A table with its first and last entries repeated. -/
def edgeA (r : FVec Ideal S8x257 .f32) : FVec Ideal S8x1023 .f32 :=
  concatenate S8x1023 1 [⟨S8x127, shapeCast S8x127 (broadcastInDim S8x1x127 ![0, 1] bcast_S8x1_S8x1x127_0_1
      (extractStridedSlice S8x1 ![0, 0] r slices_S8x257_S8x1_0_0)) shapeCasts_S8x1x127_S8x127⟩, ⟨S8x257, r⟩,
    ⟨S8x639, shapeCast S8x639 (broadcastInDim S8x1x639 ![0, 1] bcast_S8x1_S8x1x639_0_1
      (extractStridedSlice S8x1 ![0, 256] r slices_S8x257_S8x1_0_256)) shapeCasts_S8x1x639_S8x639⟩] concatenates_S8x127_S8x257_S8x639_S8x1023_d1

/-- The table padded with its edges. -/
def extA (r : FVec Ideal S8x257 .f32) : FVec Ideal S8x1023 .f32 := edgeA (rowsA r)

/-- The same backwards, with one more column. -/
def revA (r : FVec Ideal S8x257 .f32) : FVec Ideal S8x1024 .f32 :=
  pad S8x1024 ![0, 0] ![0, 1] ![0, 0] (Host.reverse [1] (extA r)) (sitofp .f32 (constantI S_ 32 0#32)) pads_S8x1023_S8x1024_000_010 h_S_

/-- Each row of it shifted by one more place. -/
def shiftA (x : FVec Ideal S8x1024 .f32) : FVec Ideal S8x256x768 .f32 :=
  extractStridedSlice S8x256x768 ![0, 0, 255] (shapeCast S8x256x1023 (extractStridedSlice S8x261888 ![0, 0] (shapeCast S8x262144
    (broadcastInDim S1x8x256x1024 ![0, 1, 2, 3] bcast_S1x8x1x1024_S1x8x256x1024_0_1_2_3 (shapeCast S1x8x1x1024 x shapeCasts_S8x1024_S1x8x1x1024))
    shapeCasts_S1x8x256x1024_S8x262144) slices_S8x262144_S8x261888_0_0) shapeCasts_S8x261888_S8x256x1023) slices_S8x256x1023_S8x256x768_0_0_255

/-- The band bias. -/
def biasA (r : FVec Ideal S8x257 .f32) : FVec Ideal S8x256x768 .f32 :=
  select (broadcastInDim S8x256x768 ![0, 1, 2] bcast_S1x256x768_S8x256x768_0_1_2 (broadcastInDim S1x256x768 ![1, 2] bcast_S256x768_S1x256x768_1_2 bandA))
    (shiftA (revA r)) (broadcastInDim S8x256x768 ![] bcast_S_S8x256x768 (id (constant (F := Ideal) S_ .f32 0xFF800000#32)))

variable (m : (ℓ : Loc nD τ sig) → Buf (Elt Ideal) ℓ) (c : Dev nD)

set_option maxHeartbeats 4000000 in
theorem V_bias : V m c main_v26 = biasA (m ((c.tc : Thread nD τ).loc main_arg1)) := by
  entry_read
  rfl

theorem qch_at (i : Fin 256) (z : Fin 1) : qch (ix2 i z) = BitVec.ofNat 32 (i.val / 64) := by
  pointwise [qch]
  revert i
  decide +kernel

theorem kch_at (z : Fin 1) (k : Fin 768) : kch (ix2 z k) = BitVec.ofNat 32 (k.val / 64) := by
  pointwise [kch]
  revert k
  decide +kernel

theorem rows_at (r : FVec Ideal S8x257 .f32) (h : Fin 8) (n : Fin 257) : rowsA r (ix2 h n) = r (ix2 h n) := by
  pointwise [rowsA]
  exact dif_neg (Nat.not_lt_zero _)

theorem edge_at (r : FVec Ideal S8x257 .f32) (h : Fin 8) (j : Fin 1023) (n : Fin 257) (hn : n.val = min (j.val - 127) 256) :
    edgeA r (ix2 h j) = r (ix2 h n) := by
  pointwise [edgeA]
  split
  · refine congrArg (fun n => r (ix2 h n)) (Fin.ext ?_)
    show (0 : Fin 257).val = n.val
    simp; omega
  · split
    · exact congrArg (fun n => r (ix2 h n)) (Fin.ext (by show j.val - 127 = n.val; omega))
    · exact congrArg (fun n => r (ix2 h n)) (Fin.ext (by show 256 = n.val; omega))

theorem ext_at (r : FVec Ideal S8x257 .f32) (h : Fin 8) (j : Fin 1023) (n : Fin 257) (hn : n.val = min (j.val - 127) 256) :
    extA r (ix2 h j) = r (ix2 h n) :=
  (edge_at (rowsA r) h j n hn).trans (rows_at r h n)

theorem rev_at (r : FVec Ideal S8x257 .f32) (h : Fin 8) (j : Fin 1024) (n : Fin 1023) (hn : n.val + j.val = 1022) :
    revA r (ix2 h j) = extA r (ix2 h n) := by
  pointwise [revA]
  rw [dif_pos (by omega)]
  refine congrArg (fun n => extA r (ix2 h n)) (Fin.ext ?_)
  show 1023 - (j.val + 1) = n.val
  omega

theorem shift_at (x : FVec Ideal S8x1024 .f32) (h : Fin 8) (i : Fin 256) (k : Fin 768) (n : Fin 1024)
    (hn : n.val + i.val = 255 + k.val) :
    shiftA x (ix3 h i k) = x (ix2 h n) := by
  pointwise [shiftA]
  refine congrArg (fun n => x (ix2 h n)) (Fin.ext ?_)
  show (i.val * 1023 + (255 + k.val)) % 1024 = n.val
  omega

/-- Whether the key `k` of the window lies in the band of the query row `i`. -/
def inBand (i : Fin 256) (k : Fin 768) : Prop := k.val / 64 ≤ i.val / 64 + 8 ∧ i.val / 64 ≤ k.val / 64

instance (i : Fin 256) (k : Fin 768) : Decidable (inBand i k) := inferInstanceAs (Decidable (_ ∧ _))

theorem band_word : ∀ (a : Fin 4) (b : Fin 12),
    IntOp.andi (IntOp.cmpi .sge (IntOp.subi (IntOp.addi (BitVec.ofNat 32 a.val) 8#32) (BitVec.ofNat 32 b.val)) 0#32)
        (IntOp.cmpi .sle (IntOp.subi (IntOp.addi (BitVec.ofNat 32 a.val) 8#32) (BitVec.ofNat 32 b.val)) 8#32)
      = if b.val ≤ a.val + 8 ∧ a.val ≤ b.val then 1#1 else 0#1 := by decide +kernel

theorem minus_inf : Ideal.ofBits .f32 0xFF800000#32 = (⊥ : EReal) := by simp [Ideal.ofBits, Ideal.ieee]

/-- The band bias at a query row, a key of its window and a head: the table at the clipped distance, inside the band. -/
theorem bias_at (r : FVec Ideal S8x257 .f32) (h : Fin 8) (i : Fin 256) (k : Fin 768) (n : Fin 257)
    (hn : n.val = min (640 + i.val - k.val) 256) :
    biasA r (ix3 h i k) = if inBand i k then r (ix2 h n) else (⊥ : EReal) := by
  pointwise [biasA, bandA, distA]
  rw [qch_at, kch_at, band_word ⟨i.val / 64, by omega⟩ ⟨k.val / 64, by omega⟩,
    shift_at (revA r) h i k ⟨255 + k.val - i.val, by omega⟩ (by show 255 + k.val - i.val + i.val = _; omega),
    rev_at r h ⟨255 + k.val - i.val, by omega⟩ ⟨767 + i.val - k.val, by omega⟩ (by show 767 + i.val - k.val + (255 + k.val - i.val) = 1022; omega),
    ext_at r h ⟨767 + i.val - k.val, by omega⟩ n (by show n.val = min (767 + i.val - k.val - 127) 256; omega)]
  by_cases hb : inBand i k
  · rw [if_pos hb]
    exact congrArg (fun w => Scalar.select w _ _) (if_pos hb)
  · rw [if_neg hb]
    exact (congrArg (fun w => Scalar.select w _ _) (if_neg hb)).trans minus_inf

end Cert.ChunkAttnIdeal.Val

end
-- ==== Proof.Chunk.Math.lean ====
/-
  A softmax over all keys against the same softmax over a window of them: where every key outside the window has no
  score, the normalised weights summed against the values are the windowed sum divided by the windowed normaliser.
-/
module

public import proofs.«01_k».proof.Proof.SbV.Math

@[expose] public section

noncomputable section

namespace Cert.ChunkAttnIdeal.Val

open Idealize.ShloMosaic
open Cert.SbAttnIdeal.Val (coe_mul_sum coe_sum)

/-- The largest score. -/
def top {N : ℕ} (f : Fin N → EReal) : EReal := Finset.univ.fold max ⊥ f

theorem top_eq {N : ℕ} (f : Fin N → EReal) : top f = Finset.univ.sup f := rfl

/-- The windowed form: sums first, one division. -/
def windowed {W : ℕ} (g w : Fin W → EReal) : EReal :=
  Ideal.div (∑ k, Ideal.exp (g k - top g) * w k) (∑ k, Ideal.exp (g k - top g))

/-- The plain form: normalised weights, then the sum. -/
def plain {N : ℕ} (f v : Fin N → EReal) : EReal :=
  ∑ P, Ideal.div (Ideal.exp (f P - top f)) (∑ Q, Ideal.exp (f Q - top f)) * v P

section

variable {N W : ℕ} (f v : Fin N → EReal) (g w : Fin W → EReal) (pos : Fin W → Fin N) (valid : Fin W → Prop)
  (h1 : ∀ k, valid k → g k = f (pos k) ∧ w k = v (pos k)) (h2 : ∀ k, ¬valid k → g k = ⊥)
  (h3 : ∀ k j, valid k → valid j → pos k = pos j → k = j) (h4 : ∀ P, (∃ k, valid k ∧ pos k = P) ∨ f P = ⊥)

include h1 h2 h4 in
/-- Both have the same largest score. -/
theorem top_same : top g = top f := by
  classical
  rw [top_eq, top_eq]
  apply le_antisymm
  · refine Finset.sup_le fun k _ => ?_
    by_cases hk : valid k
    · rw [(h1 k hk).1]; exact Finset.le_sup (Finset.mem_univ _)
    · rw [h2 k hk]; exact bot_le
  · refine Finset.sup_le fun P _ => ?_
    rcases h4 P with ⟨k, hk, rfl⟩ | hP
    · rw [← (h1 k hk).1]; exact Finset.le_sup (Finset.mem_univ _)
    · rw [hP]; exact bot_le

include h1 h2 h3 h4 in
/-- A sum over the window is the sum over all keys. -/
theorem sum_same (F : EReal → EReal → EReal) (hF : ∀ y, F ⊥ y = 0) : ∑ k, F (g k) (w k) = ∑ P, F (f P) (v P) := by
  have hv : ∀ k, F (g k) (w k) ≠ 0 → valid k := fun k hk => by
    by_contra hc
    exact hk (by rw [h2 k hc, hF])
  refine Finset.sum_bij_ne_zero (fun k _ _ => pos k) (fun _ _ _ => Finset.mem_univ _)
    (fun k _ hk j _ hj e => h3 k j (hv k hk) (hv j hj) e) (fun P _ hP => ?_) (fun k _ hk => ?_)
  · rcases h4 P with ⟨k, hk, rfl⟩ | hb
    · exact ⟨k, Finset.mem_univ _, by rw [(h1 k hk).1, (h1 k hk).2]; exact hP, rfl⟩
    · exact absurd (by rw [hb, hF]) hP
  · rw [(h1 k (hv k hk)).1, (h1 k (hv k hk)).2]

variable (h5 : ∀ P, f P = ⊥ ∨ ∃ r : ℝ, f P = (r : EReal)) (h6 : ∃ P, f P ≠ ⊥)

theorem exp_coe (r : ℝ) : Ideal.exp (r : EReal) = ((Real.exp r : ℝ) : EReal) := rfl
theorem exp_bot : Ideal.exp (⊥ : EReal) = 0 := rfl

include h5 h6 in
/-- The largest score is a number. -/
theorem top_real : ∃ M : ℝ, top f = (M : EReal) := by
  have hb : top f ≠ ⊥ := by
    obtain ⟨P, hP⟩ := h6
    intro e
    have : f P ≤ top f := by rw [top_eq]; exact Finset.le_sup (Finset.mem_univ _)
    rw [e] at this
    exact hP (le_bot_iff.mp this)
  have ht : top f < ⊤ := by
    rw [top_eq, Finset.sup_lt_iff bot_lt_top]
    intro P _
    rcases h5 P with h | ⟨r, h⟩
    · rw [h]; exact bot_lt_top
    · rw [h]; exact EReal.coe_lt_top r
  exact ⟨(top f).toReal, (EReal.coe_toReal ht.ne hb).symm⟩

include h5 h6 in
/-- The normaliser is a positive number. -/
theorem norm_real : ∃ L : ℝ, 0 < L ∧ ∑ P, Ideal.exp (f P - top f) = (L : EReal) := by
  obtain ⟨M, hM⟩ := top_real f h5 h6
  have key : ∀ P, ∃ e : ℝ, 0 ≤ e ∧ (f P ≠ ⊥ → 0 < e) ∧ Ideal.exp (f P - top f) = (e : EReal) := by
    intro P
    rw [hM]
    rcases h5 P with h | ⟨r, h⟩
    · refine ⟨0, le_refl _, fun hc => absurd h hc, ?_⟩
      rw [h, EReal.bot_sub, exp_bot]; rfl
    · refine ⟨Real.exp (r - M), (Real.exp_pos _).le, fun _ => Real.exp_pos _, ?_⟩
      rw [h, ← EReal.coe_sub, exp_coe]
  choose e he0 hep he using key
  refine ⟨∑ P, e P, ?_, ?_⟩
  · obtain ⟨P, hP⟩ := h6
    exact Finset.sum_pos' (fun P _ => he0 P) ⟨P, Finset.mem_univ _, hep P hP⟩
  · rw [coe_sum]
    exact Finset.sum_congr rfl fun P _ => he P

include h1 h2 h3 h4 h5 h6 in
/-- The windowed form is the plain one. -/
theorem windowed_eq : windowed g w = plain f v := by
  obtain ⟨L, hL, hs⟩ := norm_real f h5 h6
  obtain ⟨M, hM⟩ := top_real f h5 h6
  unfold windowed plain
  have hb : ∀ y : EReal, Ideal.exp (⊥ - top f) * y = 0 := fun y => by rw [hM, EReal.bot_sub, exp_bot, zero_mul]
  have hb' : Ideal.exp (⊥ - top f) = 0 := by rw [hM, EReal.bot_sub, exp_bot]
  rw [top_same f v g w pos valid h1 h2 h4,
    sum_same f v g w pos valid h1 h2 h3 h4 (fun x y => Ideal.exp (x - top f) * y) hb,
    sum_same f v g w pos valid h1 h2 h3 h4 (fun x _ => Ideal.exp (x - top f)) (fun _ => hb'), hs]
  have hL0 : (L : EReal) ≠ 0 := by exact_mod_cast hL.ne'
  have hdiv : ∀ x : EReal, Ideal.div x (L : EReal) = ((L⁻¹ : ℝ) : EReal) * x := by
    intro x
    unfold Ideal.div
    rw [if_neg hL0, ← EReal.coe_inv, mul_comm]
  rw [hdiv, coe_mul_sum _ _ (inv_nonneg.mpr hL.le)]
  refine Finset.sum_congr rfl fun P _ => ?_
  rw [hdiv, mul_assoc]

end

/-- A head's 64 columns out of a block's 256. -/
theorem head_sum (f : Fin 256 → EReal) (g : ℕ) (hg : g < 4) :
    ∑ l : Fin 256, (if l.val / 64 = g then f l else 0) = ∑ d : Fin 64, f ⟨g * 64 + d.val, by omega⟩ := by
  refine Finset.sum_bij_ne_zero (fun l hl hn => (⟨l.val % 64, Nat.mod_lt _ (by omega)⟩ : Fin 64)) (fun _ _ _ => Finset.mem_univ _)
    (fun a _ ha b _ hb e => ?_) (fun d _ hd => ⟨⟨g * 64 + d.val, by omega⟩, Finset.mem_univ _, ?_, ?_⟩) (fun a _ ha => ?_)
  · have ha' : a.val / 64 = g := by by_contra hc; exact ha (if_neg hc)
    have hb' : b.val / 64 = g := by by_contra hc; exact hb (if_neg hc)
    have := congrArg Fin.val e
    simp only at this
    exact Fin.ext (by omega)
  · rw [if_pos (by show (g * 64 + d.val) / 64 = g; omega)]; exact hd
  · exact Fin.ext (by show (g * 64 + d.val) % 64 = d.val; omega)
  · have ha' : a.val / 64 = g := by by_contra hc; exact ha (if_neg hc)
    rw [if_pos ha']
    exact congrArg f (Fin.ext (by show a.val = g * 64 + a.val % 64; omega))

end Cert.ChunkAttnIdeal.Val

end
-- ==== Proof.Chunk.Pay.lean ====
/-
  The chunked attention's block read at one row and lane: the softmax of one head's scores over the 768 keys of the
  window, and the weighted values of the lane.
-/
module

public import proofs.«01_k».proof.Proof.Chunk.Value
public import proofs.«01_k».proof.Proof.Chunk.Math
public import Idealize.ShloMosaic.Lib.Pipeline.ValueKit

@[expose] public section

set_option maxRecDepth 16384

noncomputable section

namespace Cert.ChunkAttnIdeal.Val

open Cert.ChunkAttnIdeal Cert.ChunkAttnIdeal.Gen
open Idealize.ShloMosaic Idealize.ShloMosaic.TcCoe

/-- The named mask value: none. -/
theorem mask_eq : (Named.named (F := Ideal) κ "mask" (0xF149F2CA#32 : BitVec 32) : Ideal .f32) = (⊥ : EReal) :=
  IdealRules.named_const.ideal_named_scalar _ _ _ _ (by simp [κ])

/-- The three key or value blocks one above another. -/
def stack (a b c : FVec Ideal S1x256x256 .bf16) (k : Fin 768) (l : Fin 256) : EReal :=
  if h : k.val < 256 then a (ix3 0 ⟨k.val, h⟩ l) else if h' : k.val - 256 < 256 then b (ix3 0 ⟨k.val - 256, h'⟩ l) else c (ix3 0 ⟨k.val - 256 - 256, by omega⟩ l)

theorem pay2_at (a b c : FVec Ideal S1x256x256 .bf16) (k : Fin 768) (l : Fin 256) :
    k0_pay2 (F := Ideal) a b c (ix2 k l) = stack a b c k l := by
  unfold stack
  pointwise [k0_pay2]

theorem pay3_at (a b c : FVec Ideal S1x256x256 .bf16) (k : Fin 768) (l : Fin 256) :
    k0_pay3 (F := Ideal) a b c (ix2 k l) = stack a b c k l := by
  unfold stack
  pointwise [k0_pay3]

theorem eighth : Ideal.ofBits .bf16 0x3E00#16 = ((0.125 : ℝ) : EReal) := by
  simp [Ideal.ofBits, Ideal.ieee, -EReal.coe_mul]; norm_num

theorem pay4_at (a : FVec Ideal S1x256x256 .bf16) (p l : Fin 256) :
    k0_pay4 (F := Ideal) a (ix2 p l) = (a (ix3 0 p l) * ((0.125 : ℝ) : EReal) : EReal) := by
  pointwise [k0_pay4]
  exact congrArg (fun x : EReal => _ * x) eighth

theorem col_word : ∀ (i : Fin 32) (k : Fin 768),
    IntOp.cmpi .sge (BitVec.ofNat 32 k.val) (Scalar.muli (Scalar.subi 2#32 (BitVec.ofNat 32 i.val)) 256#32)
      = if 512 ≤ i.val * 256 + k.val then 1#1 else 0#1 := by decide +kernel

theorem pay5_at (i : grid0.Coords) (j : Fin 32) (hj : j.val = (i 2).val) (p : Fin 256) (k : Fin 768) :
    k0_pay5 i (ix2 p k) = if 512 ≤ j.val * 256 + k.val then 1#1 else 0#1 := by
  pointwise [k0_pay5]
  rw [← hj]
  exact col_word j k

theorem head_word (h : Fin 4) : ∀ l : Fin 256,
    IntOp.andi (IntOp.cmpi .sge (BitVec.ofNat 32 l.val) (BitVec.ofNat 32 (64 * h.val))) (IntOp.cmpi .slt (BitVec.ofNat 32 l.val) (BitVec.ofNat 32 (64 * h.val + 64)))
      = if l.val / 64 = h.val then 1#1 else 0#1 := by
  revert h
  decide +kernel

theorem pay7_at (p l : Fin 256) : k0_pay7 (ix2 p l) = if l.val / 64 = 0 then 1#1 else 0#1 := by
  pointwise [k0_pay7]
  exact head_word 0 l

theorem pay9_at (p l : Fin 256) : k0_pay9 (iota .tc S256x256 32 [1] iota_S256x256_d1_w32) (ix2 p l) = if l.val / 64 = 1 then 1#1 else 0#1 := by
  pointwise [k0_pay9]
  exact head_word 1 l

theorem pay14_at (p l : Fin 256) : k0_pay14 (iota .tc S256x256 32 [1] iota_S256x256_d1_w32) (ix2 p l) = if l.val / 64 = 3 then 1#1 else 0#1 := by
  pointwise [k0_pay14]
  exact head_word 3 l

theorem sel_if {α : Type} (p : Prop) [Decidable p] (a b : α) : Scalar.select (if p then 1#1 else 0#1) a b = if p then a else b := by
  by_cases h : p <;> simp only [h, if_true, if_false] <;> rfl

theorem low' : Ideal.ofBits .f32 0xFF800000#32 = (⊥ : EReal) := by simp [Ideal.ofBits, Ideal.ieee]

/-- The greatest entry of a row. -/
theorem top_row (S : FVec Ideal S256x768 .f32) (p : Fin 256) (k : Fin 768) :
    broadcastTo S256x768 (shapeCast S256x1 (multiReduction (F := Ideal) .maximumf [1] S256 S 0xFF800000#32 reduces_S256x768_S256 (.inl rfl) rfl) shapeCasts_S256_S256x1) broadcasts_S256x1_S256x768 (ix2 p k)
      = top (fun k => S (ix2 p k)) := by
  unfold top
  rw [← low']
  pointwise []

/-- Masked scores, minus their greatest, exponentiated. -/
def expo (S : FVec Ideal S256x768 .f32) : FVec Ideal S256x768 .f32 :=
  exp (subf S (broadcastTo S256x768 (shapeCast S256x1 (multiReduction (F := Ideal) .maximumf [1] S256 S 0xFF800000#32 reduces_S256x768_S256 (.inl rfl) rfl) shapeCasts_S256_S256x1) broadcasts_S256x1_S256x768))

theorem expo_at (S : FVec Ideal S256x768 .f32) (p : Fin 256) (k : Fin 768) :
    expo S (ix2 p k) = Ideal.exp (S (ix2 p k) - top (fun k => S (ix2 p k))) := by
  have e := top_row S p k
  exact congrArg (fun x : EReal => Ideal.exp (S (ix2 p k) - x)) e

/-- The weighted values over the sum of the weights. -/
def quot (E : FVec Ideal S256x768 .f32) (V : FVec Ideal S768x256 .bf16) : FVec Ideal S256x256 .f32 :=
  divf (matmul dot_S256x768_S768x256_S256x256_1_0_0_1_n_n none (truncf .bf16 E bitsLt_bf16_f32) V (constant S256x256 .f32 0x00000000#32))
    (broadcastTo S256x256 (shapeCast S256x1 (multiReduction .add [1] S256 E 0x00000000#32 reduces_S256x768_S256 (.inl rfl) rfl) shapeCasts_S256_S256x1) broadcasts_S256x1_S256x256)

theorem quot_at (E : FVec Ideal S256x768 .f32) (V : FVec Ideal S768x256 .bf16) (p l : Fin 256) :
    quot E V (ix2 p l) = Ideal.div (∑ k, E (ix2 p k) * V (ix2 k l)) (∑ k, E (ix2 p k)) := by
  pointwise [quot]

/-- One head's scores. -/
def score (K : FVec Ideal S768x256 .bf16) (Q : FVec Ideal S256x256 .bf16) (H : IVec S256x256 1) (B : FVec Ideal S1x256x768 .f32) : FVec Ideal S256x768 .f32 :=
  addf (matmul dot_S256x256_S768x256_S256x768_1_1_0_0_n_n none (select H Q (broadcast S256x256 (Scalar.ofBits .bf16 0x0000#16))) K (constant S256x768 .f32 0x00000000#32))
    (shapeCast S256x768 B shapeCasts_S1x256x768_S256x768)

theorem score_at (K : FVec Ideal S768x256 .bf16) (Q : FVec Ideal S256x256 .bf16) (H : IVec S256x256 1) (B : FVec Ideal S1x256x768 .f32)
    (g : ℕ) (hH : ∀ p l, H (ix2 p l) = if l.val / 64 = g then 1#1 else 0#1) (p : Fin 256) (k : Fin 768) :
    score K Q H B (ix2 p k) = (∑ l : Fin 256, if l.val / 64 = g then (Q (ix2 p l) * K (ix2 k l) : EReal) else 0) + B (ix3 0 p k) := by
  pointwise [score]
  refine congrArg (fun x : EReal => x + _) (Finset.sum_congr rfl fun l _ => ?_)
  rw [hH, sel_if]

/-- Scores with the columns before the array's first key removed. -/
def cut (M : IVec S256x768 1) (S : FVec Ideal S256x768 .f32) : FVec Ideal S256x768 .f32 :=
  select M S (broadcast S256x768 (Named.named (F := Ideal) κ "mask" 0xF149F2CA#32))

theorem cut_at (M : IVec S256x768 1) (S : FVec Ideal S256x768 .f32) (v : ℕ) (hM : ∀ p k, M (ix2 p k) = if 512 ≤ v + k.val then 1#1 else 0#1)
    (p : Fin 256) (k : Fin 768) : cut M S (ix2 p k) = if 512 ≤ v + k.val then S (ix2 p k) else (⊥ : EReal) := by
  show Scalar.select (M (ix2 p k)) (S (ix2 p k)) (Named.named (F := Ideal) κ "mask" (0xF149F2CA#32 : BitVec 32) : Ideal .f32) = _
  rw [mask_eq, hM, sel_if]

/-- One head of the block. -/
def head (K V : FVec Ideal S768x256 .bf16) (Q : FVec Ideal S256x256 .bf16) (M : IVec S256x768 1) (H : IVec S256x256 1) (B : FVec Ideal S1x256x768 .f32) : FVec Ideal S256x256 .f32 :=
  quot (expo (cut M (score K Q H B))) V

theorem head_at (K V : FVec Ideal S768x256 .bf16) (Q : FVec Ideal S256x256 .bf16) (M : IVec S256x768 1) (H : IVec S256x256 1) (B : FVec Ideal S1x256x768 .f32)
    (g v : ℕ) (hH : ∀ p l, H (ix2 p l) = if l.val / 64 = g then 1#1 else 0#1) (hM : ∀ p k, M (ix2 p k) = if 512 ≤ v + k.val then 1#1 else 0#1)
    (p l : Fin 256) :
    head K V Q M H B (ix2 p l) = windowed (fun k : Fin 768 => if 512 ≤ v + k.val then
        (∑ l : Fin 256, if l.val / 64 = g then (Q (ix2 p l) * K (ix2 k l) : EReal) else 0) + B (ix3 0 p k) else ⊥) (fun k => V (ix2 k l)) := by
  unfold head windowed
  rw [quot_at]
  simp only [expo_at, cut_at M _ v hM, score_at K Q H B g hH]

/-- The lanes of head 2. -/
def two : IVec S256x256 1 :=
  andi (cmpi .sge (iota .tc S256x256 32 [1] iota_S256x256_d1_w32) (broadcast S256x256 128#32)) (cmpi .slt (iota .tc S256x256 32 [1] iota_S256x256_d1_w32) (broadcast S256x256 192#32))

theorem two_at (p l : Fin 256) : two (ix2 p l) = if l.val / 64 = 2 then 1#1 else 0#1 := by
  pointwise [two]
  exact head_word 2 l

/-- The block is the four heads, each in its lanes. -/
def block (K V : FVec Ideal S768x256 .bf16) (Q : FVec Ideal S256x256 .bf16) (M : IVec S256x768 1) (B0 B1 B2 B3 : FVec Ideal S1x256x768 .f32) : FVec Ideal S1x256x256 .bf16 :=
  let L : IVec S256x256 32 := iota .tc S256x256 32 [1] iota_S256x256_d1_w32
  k0_pay1 (F := Ideal) V M
    (k0_pay13 K V L Q M (k0_pay8 K V Q M k0_pay6 k0_pay7 B0) (k0_pay9 L) (k0_pay11 K L Q M B1) (k0_pay12 K L Q M B1) B2)
    (k0_pay14 L) (k0_pay15 K L Q B3) (Named.named κ "mask" 0xF149F2CA#32)

theorem block_eq (K V : FVec Ideal S768x256 .bf16) (Q : FVec Ideal S256x256 .bf16) (M : IVec S256x768 1) (B0 B1 B2 B3 : FVec Ideal S1x256x768 .f32) :
    block K V Q M B0 B1 B2 B3 = shapeCast S1x256x256 (truncf (F := Ideal) .bf16
      (select (k0_pay14 (iota .tc S256x256 32 [1] iota_S256x256_d1_w32)) (head K V Q M (k0_pay14 (iota .tc S256x256 32 [1] iota_S256x256_d1_w32)) B3)
        (select two (head K V Q M two B2)
          (select (k0_pay9 (iota .tc S256x256 32 [1] iota_S256x256_d1_w32)) (head K V Q M (k0_pay9 (iota .tc S256x256 32 [1] iota_S256x256_d1_w32)) B1)
            (select k0_pay7 (head K V Q M k0_pay7 B0) (k0_pay6 (F := Ideal)))))) bitsLt_bf16_f32) shapeCasts_S256x256_S1x256x256 := rfl

theorem block_at (K V : FVec Ideal S768x256 .bf16) (Q : FVec Ideal S256x256 .bf16) (M : IVec S256x768 1) (B0 B1 B2 B3 : FVec Ideal S1x256x768 .f32)
    (B : Fin 4 → Fin 256 → Fin 768 → EReal) (h0 : ∀ p k, B0 (ix3 0 p k) = B 0 p k) (h1 : ∀ p k, B1 (ix3 0 p k) = B 1 p k)
    (h2 : ∀ p k, B2 (ix3 0 p k) = B 2 p k) (h3 : ∀ p k, B3 (ix3 0 p k) = B 3 p k)
    (v : ℕ) (hM : ∀ p k, M (ix2 p k) = if 512 ≤ v + k.val then 1#1 else 0#1) (p l : Fin 256) (g : Fin 4) (hg : g.val = l.val / 64) :
    block K V Q M B0 B1 B2 B3 (ix3 0 p l) = windowed (fun k : Fin 768 => if 512 ≤ v + k.val then
        (∑ l : Fin 256, if l.val / 64 = g.val then (Q (ix2 p l) * K (ix2 k l) : EReal) else 0) + B g p k else ⊥) (fun k => V (ix2 k l)) := by
  rw [block_eq]
  pointwise []
  rw [pay14_at, pay9_at, two_at, pay7_at, sel_if, sel_if, sel_if, sel_if,
    head_at K V Q M _ B3 3 v pay14_at hM, head_at K V Q M _ B2 2 v two_at hM, head_at K V Q M _ B1 1 v pay9_at hM, head_at K V Q M _ B0 0 v pay7_at hM]
  simp only [h0, h1, h2, h3]
  have hl : l.val / 64 < 4 := by omega
  rcases (by omega : l.val / 64 = 3 ∨ l.val / 64 = 2 ∨ l.val / 64 = 1 ∨ l.val / 64 = 0) with e | e | e | e
  · obtain rfl : g = 3 := Fin.ext (hg.trans e)
    rw [if_pos e]; rfl
  · obtain rfl : g = 2 := Fin.ext (hg.trans e)
    rw [if_neg (by omega), if_pos e]; rfl
  · obtain rfl : g = 1 := Fin.ext (hg.trans e)
    rw [if_neg (by omega), if_neg (by omega), if_pos e]; rfl
  · obtain rfl : g = 0 := Fin.ext (hg.trans e)
    rw [if_neg (by omega), if_neg (by omega), if_neg (by omega), if_pos e]; rfl

/-- What a grid point writes, at a row and a lane. -/
theorem out_at (i : grid0.Coords) (j : Fin 32) (hj : j.val = (i 2).val) (x0 x1 x2 x3 x4 x5 x6 : FVec Ideal S1x256x256 .bf16) (x7 : FVec Ideal S4x256x768 .f32)
    (p l : Fin 256) (g : Fin 4) (hg : g.val = l.val / 64) :
    out0_8 (F := Ideal) i x0 x1 x2 x3 x4 x5 x6 x7 (ix3 0 p l)
      = windowed (fun k : Fin 768 => if 512 ≤ j.val * 256 + k.val then
        (∑ l : Fin 256, if l.val / 64 = g.val then (x0 (ix3 0 p l) * ((0.125 : ℝ) : EReal) * stack x1 x2 x3 k l : EReal) else 0) + x7 (ix3 g p k) else ⊥)
          (fun k => stack x4 x5 x6 k l) := by
  have hz : (![0, 0, 0] : Fin 3 → Nat) = fun _ => 0 := by decide
  have e : ∀ x : Vec Ideal S1x256x256 .bf16, View.ld (Val := Elt Ideal) x r0_0 = x := fun x => View.ld_unit_zero hz _ x
  let y1 : FVec Ideal S1x256x768 .f32 := View.ld (Val := Elt Ideal) (e' := .f32) x7 r0_1
  let y2 : FVec Ideal S1x256x768 .f32 := View.ld (Val := Elt Ideal) (e' := .f32) x7 r0_2
  let y3 : FVec Ideal S1x256x768 .f32 := View.ld (Val := Elt Ideal) (e' := .f32) x7 r0_3
  let y4 : FVec Ideal S1x256x768 .f32 := View.ld (Val := Elt Ideal) (e' := .f32) x7 r0_4
  have b1 : ∀ p k, y1 (ix3 0 p k) = x7 (ix3 0 p k) := fun p k => congrArg x7 (funext fun a => Fin.ext (by
    match a with
    | ⟨0, _⟩ => rfl
    | ⟨1, _⟩ => exact (by omega : 0 + 1 * p.val = p.val)
    | ⟨2, _⟩ => exact (by omega : 0 + 1 * k.val = k.val)))
  have b2 : ∀ p k, y2 (ix3 0 p k) = x7 (ix3 1 p k) := fun p k => congrArg x7 (funext fun a => Fin.ext (by
    match a with
    | ⟨0, _⟩ => rfl
    | ⟨1, _⟩ => exact (by omega : 0 + 1 * p.val = p.val)
    | ⟨2, _⟩ => exact (by omega : 0 + 1 * k.val = k.val)))
  have b3 : ∀ p k, y3 (ix3 0 p k) = x7 (ix3 2 p k) := fun p k => congrArg x7 (funext fun a => Fin.ext (by
    match a with
    | ⟨0, _⟩ => rfl
    | ⟨1, _⟩ => exact (by omega : 0 + 1 * p.val = p.val)
    | ⟨2, _⟩ => exact (by omega : 0 + 1 * k.val = k.val)))
  have b4 : ∀ p k, y4 (ix3 0 p k) = x7 (ix3 3 p k) := fun p k => congrArg x7 (funext fun a => Fin.ext (by
    match a with
    | ⟨0, _⟩ => rfl
    | ⟨1, _⟩ => exact (by omega : 0 + 1 * p.val = p.val)
    | ⟨2, _⟩ => exact (by omega : 0 + 1 * k.val = k.val)))
  have key := block_at (k0_pay2 (F := Ideal) x1 x2 x3) (k0_pay3 (F := Ideal) x4 x5 x6) (k0_pay4 (F := Ideal) x0) (k0_pay5 i)
    y1 y2 y3 y4 (fun g p k => x7 (ix3 g p k)) b1 b2 b3 b4
    (j.val * 256) (pay5_at i j hj) p l g hg
  simp only [pay2_at, pay3_at, pay4_at] at key
  refine Eq.trans ?_ key
  unfold out0_8 k0_pay20 k0_pay19 k0_pay18 k0_pay17 k0_pay16
  simp only [e]
  exact congrFun (View.canon_cons_unit_zero hz _ _ []) _

end Cert.ChunkAttnIdeal.Val

end
-- ==== Proof.Chunk.Ref.lean ====
/-
  The reference of the chunked attention: its scores, its mask and its softmax, and what each is at one index.
-/
module

public import proofs.«01_k».proof.Proof.Gen.ChunkRefIdeal.Run
public import proofs.«01_k».proof.Proof.Chunk.Math
public import Idealize.ShloMosaic.Lib.Pointwise

@[expose] public section

set_option maxRecDepth 16384

noncomputable section

namespace Cert.ChunkRefIdeal.Val

open Cert.ChunkRefIdeal Cert.ChunkRefIdeal.Gen Cert.ChunkAttnIdeal.Val
open Idealize.ShloMosaic Idealize.ShloMosaic.TcCoe

abbrev Big := FVec Ideal S4x8x8192x8192 .f32

/-- The chunk of each position. -/
def chR : IVec S8192 32 :=
  Host.divsi (iotaInDim S8192 32 0) (broadcastInDim S8192 ![] bcast_S_S8192 (constantI S_ 32 64#32))

/-- How many chunks a key lies before a query. -/
def backR : IVec S8192x8192 32 :=
  subi (broadcastInDim S8192x8192 ![0, 1] bcast_S8192x1_S8192x8192_0_1 (broadcastInDim S8192x1 ![0] bcast_S8192_S8192x1_0 chR)) (broadcastInDim S8192x8192 ![0, 1] bcast_S1x8192_S8192x8192_0_1 (broadcastInDim S1x8192 ![1] bcast_S8192_S1x8192_1 chR))

/-- Which keys a query attends. -/
def validR : IVec S8192x8192 1 :=
  andi (cmpi .sge backR (broadcastInDim S8192x8192 ![] bcast_S_S8192x8192 (constantI S_ 32 0#32))) (cmpi .sle backR (broadcastInDim S8192x8192 ![] bcast_S_S8192x8192 (constantI S_ 32 8#32)))

/-- The clipped distance. -/
def relR : IVec S8192x8192 32 :=
  addi (minsi (broadcastInDim S8192x8192 ![] bcast_S_S8192x8192 (id (constantI S_ 32 128#32))) (maxsi (broadcastInDim S8192x8192 ![] bcast_S_S8192x8192 (id (constantI S_ 32 4294967168#32))) (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) (broadcastInDim S8192x8192 ![] bcast_S_S8192x8192 (constantI S_ 32 128#32))

/-- The table at the clipped distance. -/
def gathR (R : FVec Ideal S8x257 .f32) : FVec Ideal S8x8192x8192 .f32 :=
  Host.gather gather_S8x257_S8192x8192x1_S8x8192x8192_0_1_n_n_1_2_81 R (broadcastInDim S8192x8192x1 ![0, 1] bcast_S8192x8192_S8192x8192x1_0_1 (select (cmpi .slt relR (broadcastInDim S8192x8192 ![] bcast_S_S8192x8192 (constantI S_ 32 0#32))) (addi relR (broadcastInDim S8192x8192 ![] bcast_S_S8192x8192 (constantI S_ 32 257#32))) relR))

/-- The scores. -/
def scR (X : FVec Ideal S4x8192x1536 .bf16) (R : FVec Ideal S8x257 .f32) : Big :=
  addf (mulf (Host.dotGeneral dot_S4x8x8192x64_S4x8x8192x64_S4x8x8192x8192_3_3_2_2_01_01 none (transpose S4x8x8192x64 [0, 2, 1, 3] (shapeCast _ (extractStridedSlice S4x8192x512 ![0, 0, 0] (extf .f32 X bitsLt_bf16_f32) slices_S4x8192x1536_S4x8192x512_0_0_0) shapeCasts_S4x8192x512_S4x8192x8x64) transposes_S4x8192x8x64_S4x8x8192x64_0_2_1_3) (transpose S4x8x8192x64 [0, 2, 1, 3] (shapeCast _ (extractStridedSlice S4x8192x512 ![0, 0, 512] (extf .f32 X bitsLt_bf16_f32) slices_S4x8192x1536_S4x8192x512_0_0_512) shapeCasts_S4x8192x512_S4x8192x8x64) transposes_S4x8192x8x64_S4x8x8192x64_0_2_1_3)) (broadcastInDim S4x8x8192x8192 ![] bcast_S_S4x8x8192x8192 (constant S_ .f32 0x3E000000#32))) (broadcastInDim S4x8x8192x8192 ![0, 1, 2, 3] bcast_S1x8x8192x8192_S4x8x8192x8192_0_1_2_3 (broadcastInDim S1x8x8192x8192 ![1, 2, 3] bcast_S8x8192x8192_S1x8x8192x8192_1_2_3 (gathR R)))

/-- The scores, none outside the attended chunks. -/
def mscR (s : Big) : Big :=
  select (broadcastInDim S4x8x8192x8192 ![2, 3] bcast_S8192x8192_S4x8x8192x8192_2_3 validR) s (broadcastInDim S4x8x8192x8192 ![] bcast_S_S4x8x8192x8192 (id (constant S_ .f32 0xFF800000#32)))

/-- The weights before they are normalised. -/
def expR (s : Big) : Big :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)))))

/-- The weights. -/
def smR (e : Big) : Big :=
  Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd e (constant S_ .f32 0x00000000#32) reducesTo_S4x8x8192x8192_S4x8x8192_d3 h_S_)))

/-- The result. -/
def outR (w : Big) (X : FVec Ideal S4x8192x1536 .bf16) : FVec Ideal S4x8192x512 .bf16 :=
  truncf .bf16 (shapeCast _ (transpose S4x8192x8x64 [0, 2, 1, 3] (Host.dotGeneral dot_S4x8x8192x8192_S4x8x8192x64_S4x8x8192x64_3_2_2_3_01_01 none w (transpose S4x8x8192x64 [0, 2, 1, 3] (shapeCast _ (extractStridedSlice S4x8192x512 ![0, 0, 1024] (extf .f32 X bitsLt_bf16_f32) slices_S4x8192x1536_S4x8192x512_0_0_1024) shapeCasts_S4x8192x512_S4x8192x8x64) transposes_S4x8192x8x64_S4x8x8192x64_0_2_1_3)) transposes_S4x8x8192x64_S4x8192x8x64_0_2_1_3) shapeCasts_S4x8192x8x64_S4x8192x512) bitsLt_bf16_f32

/-- The reference's result is its stages in order. -/
theorem res_eq (m : (ℓ : Loc nD τ sig) → Buf (Elt Ideal) ℓ) (c : Dev nD) :
    Cert.ChunkRefIdeal.Value.res_main_v59 m c
      = outR (smR (expR (mscR (scR (m ((c.tc : Thread nD τ).loc main_arg0)) (m ((c.tc : Thread nD τ).loc main_arg1)))))) (m ((c.tc : Thread nD τ).loc main_arg0)) := by
  unfold Cert.ChunkRefIdeal.Value.res_main_v59
  rfl

/-- The gather read at a head, a query and a key whose index is a number below 257. -/
theorem gather_at (R : FVec Ideal S8x257 .f32) (idx : IVec S8192x8192x1 32) (h : Fin 8) (q s : Fin 8192) (n : Fin 257)
    (hn : idx (ix3 q s 0) = BitVec.ofNat 32 n.val) :
    Host.gather gather_S8x257_S8192x8192x1_S8x8192x8192_0_1_n_n_1_2_81 R idx (ix3 h q s) = R (ix2 h n) := by
  unfold Host.gather
  refine congrArg R (funext fun a => Fin.ext ?_)
  match a with
  | ⟨0, _⟩ =>
    show GatherDims.start gather_S8x257_S8192x8192x1_S8x8192x8192_0_1_n_n_1_2_81 (ix3 h q s) idx 0
      + GatherDims.batchCoord gather_S8x257_S8192x8192x1_S8x8192x8192_0_1_n_n_1_2_81 (ix3 h q s) 0
      + GatherDims.offCoord gather_S8x257_S8192x8192x1_S8x8192x8192_0_1_n_n_1_2_81 (ix3 h q s) 0 = h.val
    rw [GatherDims.batchCoord_eq_zero _ _ _ List.not_mem_nil]
    unfold GatherDims.start
    rw [dif_neg (show ¬ ((0 : Fin 2) ∈ gather_S8x257_S8192x8192x1_S8x8192x8192_0_1_n_n_1_2_81.startIndexMap) from (by decide : ¬ ((0 : Fin 2) ∈ [(1 : Fin 2)])))]
    unfold GatherDims.offCoord
    rw [dif_pos ((GatherDims.mem_sKept _ _).mpr ⟨(show ¬ ((0 : Fin 2) ∈ [(1 : Fin 2)]) by decide), List.not_mem_nil⟩)]
    simp only [Nat.zero_add, Nat.add_zero]
    rfl
  | ⟨1, _⟩ =>
    show GatherDims.start gather_S8x257_S8192x8192x1_S8x8192x8192_0_1_n_n_1_2_81 (ix3 h q s) idx 1
      + GatherDims.batchCoord gather_S8x257_S8192x8192x1_S8x8192x8192_0_1_n_n_1_2_81 (ix3 h q s) 1
      + GatherDims.offCoord gather_S8x257_S8192x8192x1_S8x8192x8192_0_1_n_n_1_2_81 (ix3 h q s) 1 = n.val
    rw [GatherDims.batchCoord_eq_zero _ _ _ List.not_mem_nil,
      GatherDims.offCoord_eq_zero _ _ _ (fun e => ((GatherDims.mem_sKept _ _).mp e).1 (List.mem_singleton.mpr rfl))]
    simp only [Nat.add_zero]
    unfold GatherDims.start
    rw [dif_pos (show (1 : Fin 2) ∈ gather_S8x257_S8192x8192x1_S8x8192x8192_0_1_n_n_1_2_81.startIndexMap from List.mem_singleton.mpr rfl)]
    have hi : ∀ x, GatherDims.siIdx gather_S8x257_S8192x8192x1_S8x8192x8192_0_1_n_n_1_2_81 (ix3 h q s) x = ix3 q s 0 := by
      intro x
      have hx : x = ⟨0, Nat.one_pos⟩ := Fin.ext (by have := x.isLt; change x.val < 1 at this; show x.val = 0; omega)
      subst hx
      funext b
      refine Fin.ext ?_
      match b with
      | ⟨0, _⟩ => rfl
      | ⟨1, _⟩ => rfl
      | ⟨2, _⟩ => rfl
    rw [hi, hn]
    have e : (BitVec.ofNat 32 n.val).toInt = n.val := by
      rw [BitVec.toInt_ofNat']; have := n.isLt; simp [Int.bmod]; omega
    rw [e]
    show min ((n.val : ℤ)).toNat (257 - 1) = n.val
    have := n.isLt
    omega

theorem clip_word : ∀ d : Fin 16384,
    IntOp.addi (IntOp.minsi 128#32 (IntOp.maxsi 4294967168#32 (IntOp.subi (BitVec.ofNat 32 d.val) 8192#32))) 128#32
      = BitVec.ofNat 32 (min (128 + d.val - 8192) 256) := by decide +kernel

theorem sub_word (q s : Fin 8192) : IntOp.subi (BitVec.ofNat 32 q.val) (BitVec.ofNat 32 s.val)
    = IntOp.subi (BitVec.ofNat 32 (q.val + 8192 - s.val)) 8192#32 := by
  show BitVec.ofNat 32 q.val - BitVec.ofNat 32 s.val = BitVec.ofNat 32 (q.val + 8192 - s.val) - 8192#32
  apply BitVec.eq_of_toNat_eq
  simp only [BitVec.toNat_sub, BitVec.toNat_ofNat]
  omega

theorem rel_at (q s : Fin 8192) : relR (ix2 q s) = BitVec.ofNat 32 (min (128 + q.val - s.val) 256) := by
  pointwise [relR]
  rw [sub_word]
  refine (clip_word ⟨q.val + 8192 - s.val, by omega⟩).trans (congrArg _ ?_)
  show min (128 + (q.val + 8192 - s.val) - 8192) 256 = _
  omega

theorem nonneg_word : ∀ n : Fin 257, IntOp.cmpi .slt (BitVec.ofNat 32 n.val) 0#32 = 0#1 := by decide +kernel

theorem gath_at (R : FVec Ideal S8x257 .f32) (h : Fin 8) (q s : Fin 8192) (n : Fin 257) (hn : n.val = min (128 + q.val - s.val) 256) :
    gathR R (ix3 h q s) = R (ix2 h n) := by
  unfold gathR
  refine gather_at R _ h q s n ?_
  pointwise []
  rw [rel_at, ← hn, nonneg_word]
  rfl

theorem div_word : ∀ q : Fin 8192, IntOp.divsi .host (BitVec.ofNat 32 q.val) 64#32 = BitVec.ofNat 32 (q.val / 64) := by decide +kernel

theorem ch_at (q : Fin 8192) : chR (ix1 q) = BitVec.ofNat 32 (q.val / 64) := by
  pointwise [chR]
  exact div_word q

theorem valid_word : ∀ a b : Fin 128,
    IntOp.andi (IntOp.cmpi .sge (IntOp.subi (BitVec.ofNat 32 a.val) (BitVec.ofNat 32 b.val)) 0#32)
        (IntOp.cmpi .sle (IntOp.subi (BitVec.ofNat 32 a.val) (BitVec.ofNat 32 b.val)) 8#32)
      = if b.val ≤ a.val ∧ a.val ≤ b.val + 8 then 1#1 else 0#1 := by decide +kernel

/-- Whether a query attends a key. -/
def attends (q s : Fin 8192) : Prop := s.val / 64 ≤ q.val / 64 ∧ q.val / 64 ≤ s.val / 64 + 8

instance (q s : Fin 8192) : Decidable (attends q s) := inferInstanceAs (Decidable (_ ∧ _))

theorem valid_at (q s : Fin 8192) : validR (ix2 q s) = if attends q s then 1#1 else 0#1 := by
  pointwise [validR, backR]
  rw [ch_at, ch_at]
  exact valid_word ⟨q.val / 64, by omega⟩ ⟨s.val / 64, by omega⟩

theorem eighth : Ideal.ofBits .f32 0x3E000000#32 = ((0.125 : ℝ) : EReal) := by
  simp [Ideal.ofBits, Ideal.ieee, -EReal.coe_mul]; norm_num

theorem low : Ideal.ofBits .f32 0xFF800000#32 = (⊥ : EReal) := by simp [Ideal.ofBits, Ideal.ieee]

theorem sc_at (X : FVec Ideal S4x8192x1536 .bf16) (R : FVec Ideal S8x257 .f32) (b : Fin 4) (h : Fin 8) (q s : Fin 8192)
    (n : Fin 257) (hn : n.val = min (128 + q.val - s.val) 256) :
    scR X R (ix4 b h q s) = (∑ d : Fin 64, X (ix3 b q ⟨h.val * 64 + d.val, by omega⟩) * X (ix3 b s ⟨512 + (h.val * 64 + d.val), by omega⟩))
      * ((0.125 : ℝ) : EReal) + R (ix2 h n) := by
  pointwise [scR]
  rw [gath_at R h q s n hn]
  exact congrArg (fun a : EReal => _ * a + _) eighth

theorem msc_at (s : Big) (b : Fin 4) (h : Fin 8) (q k : Fin 8192) :
    mscR s (ix4 b h q k) = if attends q k then s (ix4 b h q k) else (⊥ : EReal) := by
  pointwise [mscR]
  rw [valid_at]
  by_cases hb : attends q k
  · rw [if_pos hb, if_pos hb]; rfl
  · rw [if_neg hb, if_neg hb]; exact low

/-- The greatest entry of a row. -/
theorem max_fold {n0 n1 n2 n3 : ℕ} (S : FVec Ideal ⟨4, ![n0, n1, n2, n3]⟩ .f32) (i : FVec Ideal S_ .f32) (hi : i ix0 = (⊥ : EReal))
    (h : (⟨4, ![n0, n1, n2, n3]⟩ : Shape).ReducesTo [3] ⟨3, ![n0, n1, n2]⟩) (b : Fin n0) (c : Fin n1) (q : Fin n2) :
    Host.reduce FloatOps.maximumf S i h h_S_ (ix3 b c q) = top (fun k : Fin n3 => S (ix4 b c q k)) := by
  unfold top
  rw [← hi]
  pointwise []
  exact congrArg (fun z => Finset.fold max (i z : EReal) _ _) (funext fun a => a.elim0)

/-- The greatest score of each query. -/
def topT (t : FVec Ideal S4x8x8192 .f32) : FVec Ideal S4x8x8192 .f32 :=
  maximumf (broadcastInDim S4x8x8192 ![] bcast_S_S4x8x8192 (constant S_ .f32 0xFF800000#32)) t

theorem topT_at (t : FVec Ideal S4x8x8192 .f32) (b : Fin 4) (h : Fin 8) (q : Fin 8192) : topT t (ix3 b h q) = t (ix3 b h q) := by
  pointwise [topT]
  refine (congrArg (fun a : EReal => max a _) low).trans ?_
  exact max_eq_right bot_le

def topR (s : Big) : FVec Ideal S4x8x8192 .f32 :=
  topT (Host.reduce FloatOps.maximumf s (constant S_ .f32 0xFF800000#32) reducesTo_S4x8x8192x8192_S4x8x8192_d3 h_S_)

theorem top_at (s : Big) (b : Fin 4) (h : Fin 8) (q : Fin 8192) : topR s (ix3 b h q) = top (fun k => s (ix4 b h q k)) := by
  unfold topR
  rw [topT_at]
  exact max_fold s (constant S_ .f32 0xFF800000#32) low reducesTo_S4x8x8192x8192_S4x8x8192_d3 b h q

def expT (s : Big) (t : FVec Ideal S4x8x8192 .f32) : Big :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 t)))

theorem expT_at (s : Big) (t : FVec Ideal S4x8x8192 .f32) (b : Fin 4) (h : Fin 8) (q k : Fin 8192) :
    expT s t (ix4 b h q k) = Ideal.exp (s (ix4 b h q k) - t (ix3 b h q)) := by
  pointwise [expT]

theorem exp_at (s : Big) (b : Fin 4) (h : Fin 8) (q k : Fin 8192) :
    expR s (ix4 b h q k) = Ideal.exp (s (ix4 b h q k) - top (fun k => s (ix4 b h q k))) := by
  have e : expR s = expT s (topR s) := rfl
  rw [e, expT_at, top_at]

theorem sm_at (s : Big) (b : Fin 4) (h : Fin 8) (q k : Fin 8192) :
    smR s (ix4 b h q k) = Ideal.div (s (ix4 b h q k)) (∑ x, s (ix4 b h q x)) := by
  pointwise [smR]

theorem out_at (w : Big) (X : FVec Ideal S4x8192x1536 .bf16) (b : Fin 4) (q : Fin 8192) (n : Fin 512) :
    outR w X (ix3 b q n) = ∑ x, w (ix4 b ⟨n.val / 64, by omega⟩ q x) * X (ix3 b x ⟨1024 + n.val, by omega⟩) := by
  pointwise [outR]

/-- The reference's result at a batch entry, a query and a column. -/
theorem res_at (X : FVec Ideal S4x8192x1536 .bf16) (s : Big) (b : Fin 4) (q : Fin 8192) (n : Fin 512) :
    outR (smR (expR s)) X (ix3 b q n)
      = plain (fun k => s (ix4 b ⟨n.val / 64, by omega⟩ q k)) (fun k => X (ix3 b k ⟨1024 + n.val, by omega⟩)) := by
  rw [out_at]
  unfold plain
  refine Finset.sum_congr rfl fun x _ => ?_
  rw [sm_at]
  simp only [exp_at]

end Cert.ChunkRefIdeal.Val

end
-- ==== Proof.Chunk.Final.lean ====
/-
  The array the idealized chunked attention leaves: on finite queries, keys and table it is the reference's result of
  the arguments.
-/
module

public import proofs.«01_k».proof.Proof.Chunk.Bias
public import proofs.«01_k».proof.Proof.Chunk.Pay
public import proofs.«01_k».proof.Proof.Chunk.Ref
public import proofs.«01_k».proof.Proof.Gen.Pre_finite_chunk
public import Idealize.ShloMosaic.Lib.ReduceAll

@[expose] public section

set_option maxRecDepth 16384

noncomputable section

namespace Cert.ChunkAttnIdeal.Val

open Cert.ChunkAttnIdeal Cert.ChunkAttnIdeal.Gen
open Idealize.ShloMosaic Idealize.ShloMosaic.TcCoe
open Cert.ChunkRefIdeal.Val (outR smR expR mscR scR attends res_at msc_at sc_at)

theorem both_one : ∀ x y : BitVec 1, IntOp.andi x y = 1#1 → x = 1#1 ∧ y = 1#1 := by decide

/-- A number whose size is below infinity is real. -/
theorem real_of_lt (x : EReal) (h : max x (-x) < ⊤) : ∃ r : ℝ, x = (r : EReal) := by
  have h4 : x ≠ ⊤ := fun e => by rw [e] at h; simp at h
  have h5 : x ≠ ⊥ := fun e => by rw [e] at h; simp at h
  exact ⟨x.toReal, (EReal.coe_toReal h4 h5).symm⟩

theorem infinity : Ideal.ofBits .f32 0x7F800000#32 = (⊤ : EReal) := by simp [Ideal.ofBits, Ideal.ieee]

/-- A finite query or key entry is a real number. -/
theorem finite_x (X : FVec Ideal S4x8192x1536 .bf16) (R : FVec Ideal S8x257 .f32) (h : Cert.Pre_finite_chunk.fn (F := Ideal) X R = fun _ => 1#1)
    (b : Fin 4) (s : Fin 8192) (n : Fin 1536) (hn : n.val < 1024) : ∃ r : ℝ, X (ix3 b s n) = (r : EReal) := by
  have h1 := congrFun h ix0
  unfold Cert.Pre_finite_chunk.fn at h1
  have h2 := Host.reduce_andi_all _ _ _ _ _ (both_one _ _ h1).1 (ix3 b s ⟨n.val, hn⟩)
  revert h2
  pointwise []
  intro h2
  refine real_of_lt _ ?_
  rw [← infinity]
  by_contra hc
  have : decide ((FloatOps.absf (F := Ideal) (φ := .f32) (X (ix3 b s n)) : EReal) < Ideal.ofBits FTy.f32 2139095040#32) = false := decide_eq_false hc
  rw [this] at h2
  exact absurd h2 (by decide)

/-- A finite table entry is a real number. -/
theorem finite_r (X : FVec Ideal S4x8192x1536 .bf16) (R : FVec Ideal S8x257 .f32) (h : Cert.Pre_finite_chunk.fn (F := Ideal) X R = fun _ => 1#1)
    (g : Fin 8) (n : Fin 257) : ∃ r : ℝ, R (ix2 g n) = (r : EReal) := by
  have h1 := congrFun h ix0
  unfold Cert.Pre_finite_chunk.fn at h1
  have h2 := Host.reduce_andi_all _ _ _ _ _ (both_one _ _ h1).2 (ix2 g n)
  revert h2
  pointwise []
  intro h2
  refine real_of_lt _ ?_
  rw [← infinity]
  by_contra hc
  have : decide ((FloatOps.absf (F := Ideal) (φ := .f32) (R (ix2 g n)) : EReal) < Ideal.ofBits FTy.f32 2139095040#32) = false := decide_eq_false hc
  rw [this] at h2
  exact absurd h2 (by decide)

variable (m : (ℓ : Loc nD τ sig) → Buf (Elt Ideal) ℓ) (c : Dev nD)

/-- The blocks at every grid point: batch, rows and columns. -/
theorem idx : ∀ t : Fin cfg0.N,
    win0_0.index t = ![(grid0.coords t 0).val, (grid0.coords t 2).val, (grid0.coords t 1).val]
    ∧ win0_1.index t = ![(grid0.coords t 0).val, (grid0.coords t 2).val - 2, 2 + (grid0.coords t 1).val]
    ∧ win0_2.index t = ![(grid0.coords t 0).val, (grid0.coords t 2).val - 1, 2 + (grid0.coords t 1).val]
    ∧ win0_3.index t = ![(grid0.coords t 0).val, (grid0.coords t 2).val, 2 + (grid0.coords t 1).val]
    ∧ win0_4.index t = ![(grid0.coords t 0).val, (grid0.coords t 2).val - 2, 4 + (grid0.coords t 1).val]
    ∧ win0_5.index t = ![(grid0.coords t 0).val, (grid0.coords t 2).val - 1, 4 + (grid0.coords t 1).val]
    ∧ win0_6.index t = ![(grid0.coords t 0).val, (grid0.coords t 2).val, 4 + (grid0.coords t 1).val]
    ∧ win0_7.index t = ![(grid0.coords t 1).val, 0, 0]
    ∧ win0_8.index t = ![(grid0.coords t 0).val, (grid0.coords t 2).val, (grid0.coords t 1).val]
    ∧ (grid0.coords t 0).val < 4 ∧ (grid0.coords t 1).val < 2 ∧ (grid0.coords t 2).val < 32 :=
  (by decide +kernel : ∀ t : Fin grid0.N, _)

/-- The packed queries, keys and values. -/
abbrev A : FVec Ideal S4x8192x1536 .bf16 := m ((c.tc : Thread nD τ).loc main_arg0)

/-- The table of the relative bias. -/
abbrev T : FVec Ideal S8x257 .f32 := m ((c.tc : Thread nD τ).loc main_arg1)

section Blocks

variable (t : Fin cfg0.N) (p l : Fin 256) (b : Fin 4) (q : Fin 8192) (n : Fin 1536)
  (hb : b.val = (grid0.coords t 0).val)

include hb

theorem iblk0 (hq : q.val = (grid0.coords t 2).val * 256 + p.val) (hn : n.val = (grid0.coords t 1).val * 256 + l.val) :
    iblk m c 0 t (ix3 0 p l) = A m c (ix3 b q n) := by
  have e := V_main_arg0 m c
  unfold iblk
  blk_simp [idx t]
  refine (congrFun e _).trans ?_
  blk_ext [idx t]

theorem iblk1 (hq : q.val = ((grid0.coords t 2).val - 2) * 256 + p.val) (hn : n.val = (2 + (grid0.coords t 1).val) * 256 + l.val) :
    iblk m c 1 t (ix3 0 p l) = A m c (ix3 b q n) := by
  have e := V_main_arg0 m c
  unfold iblk
  blk_simp [idx t]
  refine (congrFun e _).trans ?_
  blk_ext [idx t]

theorem iblk2 (hq : q.val = ((grid0.coords t 2).val - 1) * 256 + p.val) (hn : n.val = (2 + (grid0.coords t 1).val) * 256 + l.val) :
    iblk m c 2 t (ix3 0 p l) = A m c (ix3 b q n) := by
  have e := V_main_arg0 m c
  unfold iblk
  blk_simp [idx t]
  refine (congrFun e _).trans ?_
  blk_ext [idx t]

theorem iblk3 (hq : q.val = (grid0.coords t 2).val * 256 + p.val) (hn : n.val = (2 + (grid0.coords t 1).val) * 256 + l.val) :
    iblk m c 3 t (ix3 0 p l) = A m c (ix3 b q n) := by
  have e := V_main_arg0 m c
  unfold iblk
  blk_simp [idx t]
  refine (congrFun e _).trans ?_
  blk_ext [idx t]

theorem iblk4 (hq : q.val = ((grid0.coords t 2).val - 2) * 256 + p.val) (hn : n.val = (4 + (grid0.coords t 1).val) * 256 + l.val) :
    iblk m c 4 t (ix3 0 p l) = A m c (ix3 b q n) := by
  have e := V_main_arg0 m c
  unfold iblk
  blk_simp [idx t]
  refine (congrFun e _).trans ?_
  blk_ext [idx t]

theorem iblk5 (hq : q.val = ((grid0.coords t 2).val - 1) * 256 + p.val) (hn : n.val = (4 + (grid0.coords t 1).val) * 256 + l.val) :
    iblk m c 5 t (ix3 0 p l) = A m c (ix3 b q n) := by
  have e := V_main_arg0 m c
  unfold iblk
  blk_simp [idx t]
  refine (congrFun e _).trans ?_
  blk_ext [idx t]

theorem iblk6 (hq : q.val = (grid0.coords t 2).val * 256 + p.val) (hn : n.val = (4 + (grid0.coords t 1).val) * 256 + l.val) :
    iblk m c 6 t (ix3 0 p l) = A m c (ix3 b q n) := by
  have e := V_main_arg0 m c
  unfold iblk
  blk_simp [idx t]
  refine (congrFun e _).trans ?_
  blk_ext [idx t]

/-- The three key blocks are the keys from two blocks before the query's on. -/
theorem keys_at (k : Fin 768) (hv : 512 ≤ (grid0.coords t 2).val * 256 + k.val) (hq : q.val + 512 = (grid0.coords t 2).val * 256 + k.val)
    (hn : n.val = (2 + (grid0.coords t 1).val) * 256 + l.val) :
    stack (iblk m c 1 t) (iblk m c 2 t) (iblk m c 3 t) k l = A m c (ix3 b q n) := by
  unfold stack
  split
  · exact iblk1 m c t ⟨k.val, by assumption⟩ l b q n hb (by show q.val = ((grid0.coords t 2).val - 2) * 256 + k.val; omega) hn
  · split
    · exact iblk2 m c t ⟨k.val - 256, by assumption⟩ l b q n hb (by show q.val = ((grid0.coords t 2).val - 1) * 256 + (k.val - 256); omega) hn
    · exact iblk3 m c t ⟨k.val - 256 - 256, by omega⟩ l b q n hb (by show q.val = (grid0.coords t 2).val * 256 + (k.val - 256 - 256); omega) hn

/-- And the three value blocks the values. -/
theorem values_at (k : Fin 768) (hv : 512 ≤ (grid0.coords t 2).val * 256 + k.val) (hq : q.val + 512 = (grid0.coords t 2).val * 256 + k.val)
    (hn : n.val = (4 + (grid0.coords t 1).val) * 256 + l.val) :
    stack (iblk m c 4 t) (iblk m c 5 t) (iblk m c 6 t) k l = A m c (ix3 b q n) := by
  unfold stack
  split
  · exact iblk4 m c t ⟨k.val, by assumption⟩ l b q n hb (by show q.val = ((grid0.coords t 2).val - 2) * 256 + k.val; omega) hn
  · split
    · exact iblk5 m c t ⟨k.val - 256, by assumption⟩ l b q n hb (by show q.val = ((grid0.coords t 2).val - 1) * 256 + (k.val - 256); omega) hn
    · exact iblk6 m c t ⟨k.val - 256 - 256, by omega⟩ l b q n hb (by show q.val = (grid0.coords t 2).val * 256 + (k.val - 256 - 256); omega) hn

end Blocks

theorem iblk7 (t : Fin cfg0.N) (g : Fin 4) (p : Fin 256) (k : Fin 768) (h : Fin 8) (hh : h.val = (grid0.coords t 1).val * 4 + g.val) :
    iblk m c 7 t (ix3 g p k) = biasA (T m c) (ix3 h p k) := by
  have e := V_bias m c
  unfold iblk
  blk_simp [idx t]
  refine (congrFun e _).trans ?_
  blk_ext [idx t]

/-- Scaling the queries before the product is scaling the product. -/
theorem scale_sum (a d : Fin 64 → ℝ) :
    ∑ x, ((a x : EReal) * ((0.125 : ℝ) : EReal) * (d x : EReal)) = (∑ x, (a x : EReal) * (d x : EReal)) * ((0.125 : ℝ) : EReal) := by
  simp only [← EReal.coe_mul]
  rw [← Cert.SbAttnIdeal.Val.coe_sum, ← Cert.SbAttnIdeal.Val.coe_sum, ← EReal.coe_mul, Finset.sum_mul]
  exact congrArg _ (Finset.sum_congr rfl fun x _ => by ring)

/-- A sum of products of reals is real. -/
theorem sum_real (a d : Fin 64 → ℝ) (r : ℝ) :
    ∃ y : ℝ, (∑ x, (a x : EReal) * (d x : EReal)) * ((0.125 : ℝ) : EReal) + (r : EReal) = (y : EReal) := by
  refine ⟨(∑ x, a x * d x) * 0.125 + r, ?_⟩
  simp only [← EReal.coe_mul]
  rw [← Cert.SbAttnIdeal.Val.coe_sum, ← EReal.coe_mul, ← EReal.coe_add]

/-- What a grid point writes is the reference's block. -/
theorem point (h : Cert.Pre_finite_chunk.fn (F := Ideal) (A m c) (T m c) = fun _ => 1#1) (t : Fin cfg0.N) (p l : Fin 256)
    (b : Fin 4) (q : Fin 8192) (n : Fin 512)
    (hb : b.val = (grid0.coords t 0).val) (hq : q.val = (grid0.coords t 2).val * 256 + p.val)
    (hn : n.val = (grid0.coords t 1).val * 256 + l.val) :
    out0_8 (grid0.coords t) (iblk m c 0 t) (iblk m c 1 t) (iblk m c 2 t) (iblk m c 3 t) (iblk m c 4 t) (iblk m c 5 t) (iblk m c 6 t) (iblk m c 7 t) (ix3 0 p l)
      = outR (smR (expR (mscR (scR (A m c) (T m c))))) (A m c) (ix3 b q n) := by
  obtain ⟨-, -, -, -, -, -, -, -, -, g0, g1, g2⟩ := idx t
  have hX : ∀ (b : Fin 4) (s : Fin 8192) (n : Fin 1536), n.val < 1024 → A m c (ix3 b s n) = (((A m c (ix3 b s n)).toReal : ℝ) : EReal) := by
    intro b s n hn
    obtain ⟨r, hr⟩ := finite_x _ _ h b s n hn
    rw [hr, EReal.toReal_coe]
  have hT : ∀ (g : Fin 8) (n : Fin 257), T m c (ix2 g n) = (((T m c (ix2 g n)).toReal : ℝ) : EReal) := by
    intro g n
    obtain ⟨r, hr⟩ := finite_r _ _ h g n
    rw [hr, EReal.toReal_coe]
  rw [out_at (grid0.coords t) ⟨(grid0.coords t 2).val, g2⟩ rfl (iblk m c 0 t) (iblk m c 1 t) (iblk m c 2 t) (iblk m c 3 t) (iblk m c 4 t) (iblk m c 5 t)
    (iblk m c 6 t) (iblk m c 7 t) p l ⟨l.val / 64, by omega⟩ rfl, res_at]
  -- the reference's masked score of a key
  have hf : ∀ s : Fin 8192, mscR (scR (A m c) (T m c)) (ix4 b (⟨n.val / 64, by omega⟩ : Fin 8) q s)
      = if attends q s then (∑ d : Fin 64, (((A m c (ix3 b q ⟨n.val / 64 * 64 + d.val, by omega⟩)).toReal : ℝ) : EReal)
          * (((A m c (ix3 b s ⟨512 + (n.val / 64 * 64 + d.val), by omega⟩)).toReal : ℝ) : EReal)) * ((0.125 : ℝ) : EReal)
          + T m c (ix2 (⟨n.val / 64, by omega⟩ : Fin 8) ⟨min (128 + q.val - s.val) 256, by omega⟩) else (⊥ : EReal) := by
    intro s
    rw [msc_at, sc_at (A m c) (T m c) b ⟨n.val / 64, by omega⟩ q s ⟨min (128 + q.val - s.val) 256, by omega⟩ rfl]
    refine congrArg (fun x : EReal => if attends q s then x * ((0.125 : ℝ) : EReal) + _ else ⊥) (Finset.sum_congr rfl fun d _ => ?_)
    exact congrArg₂ (fun a b : EReal => a * b) (hX b q _ (by show n.val / 64 * 64 + d.val < 1024; omega))
      (hX b s _ (by show 512 + (n.val / 64 * 64 + d.val) < 1024; omega))
  refine windowed_eq _ _ _ _ (fun k => if hk : 512 ≤ (grid0.coords t 2).val * 256 + k.val then ⟨(grid0.coords t 2).val * 256 + k.val - 512, by omega⟩ else 0)
    (fun k => 512 ≤ (grid0.coords t 2).val * 256 + k.val) ?_ ?_ ?_ ?_ ?_ ?_
  · intro k hk
    rw [dif_pos hk]
    refine ⟨?_, ?_⟩
    · show (if 512 ≤ (grid0.coords t 2).val * 256 + k.val then _ else _) = _
      rw [if_pos hk, hf, iblk7 m c t ⟨l.val / 64, by omega⟩ p k ⟨n.val / 64, by omega⟩ (by show n.val / 64 = (grid0.coords t 1).val * 4 + l.val / 64; omega),
        bias_at (T m c) ⟨n.val / 64, by omega⟩ p k ⟨min (640 + p.val - k.val) 256, by omega⟩ rfl]
      have hw : inBand p k ↔ attends q ⟨(grid0.coords t 2).val * 256 + k.val - 512, by omega⟩ := by
        unfold inBand attends
        show _ ↔ ((grid0.coords t 2).val * 256 + k.val - 512) / 64 ≤ q.val / 64 ∧ q.val / 64 ≤ ((grid0.coords t 2).val * 256 + k.val - 512) / 64 + 8
        omega
      by_cases hband : inBand p k
      · rw [if_pos hband, if_pos (hw.mp hband)]
        have hm : (⟨min (640 + p.val - k.val) 256, by omega⟩ : Fin 257) = ⟨min (128 + q.val - ((grid0.coords t 2).val * 256 + k.val - 512)) 256, by omega⟩ := by
          apply Fin.ext
          show min (640 + p.val - k.val) 256 = min (128 + q.val - ((grid0.coords t 2).val * 256 + k.val - 512)) 256
          omega
        rw [hm, ← scale_sum]
        refine congrArg (fun x : EReal => x + _) ((head_sum _ (l.val / 64) (by omega)).trans (Finset.sum_congr rfl fun d _ => ?_))
        have e1 : iblk m c 0 t (ix3 0 p ⟨l.val / 64 * 64 + d.val, by omega⟩) = A m c (ix3 b q ⟨n.val / 64 * 64 + d.val, by omega⟩) :=
          iblk0 m c t p ⟨l.val / 64 * 64 + d.val, by omega⟩ b q ⟨n.val / 64 * 64 + d.val, by omega⟩ hb hq
            (by show n.val / 64 * 64 + d.val = (grid0.coords t 1).val * 256 + (l.val / 64 * 64 + d.val); omega)
        have e2 := keys_at m c t ⟨l.val / 64 * 64 + d.val, by omega⟩ b ⟨(grid0.coords t 2).val * 256 + k.val - 512, by omega⟩ ⟨512 + (n.val / 64 * 64 + d.val), by omega⟩ hb k hk
          (by show (grid0.coords t 2).val * 256 + k.val - 512 + 512 = (grid0.coords t 2).val * 256 + k.val; omega)
          (by show 512 + (n.val / 64 * 64 + d.val) = (2 + (grid0.coords t 1).val) * 256 + (l.val / 64 * 64 + d.val); omega)
        exact congrArg₂ (fun a b : EReal => a * ((0.125 : ℝ) : EReal) * b) (e1.trans (hX b q _ (by show n.val / 64 * 64 + d.val < 1024; omega)))
          (e2.trans (hX b _ _ (by show 512 + (n.val / 64 * 64 + d.val) < 1024; omega)))
      · rw [if_neg hband, if_neg (fun e => hband (hw.mpr e))]
        exact EReal.add_bot _
    · exact values_at m c t l b ⟨(grid0.coords t 2).val * 256 + k.val - 512, by omega⟩ ⟨1024 + n.val, by omega⟩ hb k hk
        (by show (grid0.coords t 2).val * 256 + k.val - 512 + 512 = (grid0.coords t 2).val * 256 + k.val; omega)
        (by show 1024 + n.val = (4 + (grid0.coords t 1).val) * 256 + l.val; omega)
  · intro k hk
    exact if_neg hk
  · intro k j hk hj e
    rw [dif_pos hk, dif_pos hj] at e
    have := congrArg Fin.val e
    simp only at this
    exact Fin.ext (by omega)
  · intro s
    by_cases ha : attends q s
    · left
      have ha' := ha
      unfold attends at ha'
      refine ⟨⟨s.val + 512 - (grid0.coords t 2).val * 256, by omega⟩, ?_, ?_⟩
      · show 512 ≤ (grid0.coords t 2).val * 256 + (s.val + 512 - (grid0.coords t 2).val * 256)
        omega
      · rw [dif_pos (show 512 ≤ (grid0.coords t 2).val * 256 + (s.val + 512 - (grid0.coords t 2).val * 256) by omega)]
        apply Fin.ext
        show (grid0.coords t 2).val * 256 + (s.val + 512 - (grid0.coords t 2).val * 256) - 512 = s.val
        omega
    · right
      rw [hf, if_neg ha]
  · intro s
    rw [hf]
    by_cases ha : attends q s
    · right
      rw [if_pos ha, hT]
      exact sum_real _ _ _
    · left
      rw [if_neg ha]
  · refine ⟨q, ?_⟩
    have ha : attends q q := ⟨le_refl _, by omega⟩
    rw [hf, if_pos ha, hT]
    obtain ⟨y, hy⟩ := sum_real (fun d => (A m c (ix3 b q ⟨n.val / 64 * 64 + d.val, by omega⟩)).toReal)
      (fun d => (A m c (ix3 b q ⟨512 + (n.val / 64 * 64 + d.val), by omega⟩)).toReal)
      (T m c (ix2 (⟨n.val / 64, by omega⟩ : Fin 8) ⟨min (128 + q.val - q.val) 256, by omega⟩)).toReal
    exact fun e => EReal.coe_ne_bot y (hy.symm.trans e)

/-- The array after the run. -/
theorem final (h : Cert.Pre_finite_chunk.fn (F := Ideal) (A m c) (T m c) = fun _ => 1#1) :
    (dats m 0 c).arrAt 8 cfg0.N = outR (smR (expR (mscR (scR (A m c) (T m c))))) (A m c) := by
  refine (dats m 0 c).arrAt_eq_of_covers 8 _ (by decide +kernel) fun t _ y => ?_
  blk_simp
  rw [after0_8]
  obtain ⟨-, -, -, -, -, -, -, -, i8, g0, g1, g2⟩ := idx t
  have key : ∀ (p l : Fin 256), (win0_8.blk t).view.emb (ix3 0 p l)
      = ix3 (⟨(grid0.coords t 0).val, g0⟩ : Fin 4) (⟨(grid0.coords t 2).val * 256 + p.val, by omega⟩ : Fin 8192) (⟨(grid0.coords t 1).val * 256 + l.val, by omega⟩ : Fin 512) := by
    intro p l
    blk_ext [i8]
  idx_vars y
  obtain rfl : y0 = 0 := Subsingleton.elim _ _
  exact (point m c h t y1 y2 _ _ _ rfl rfl rfl).trans (congrArg _ (key y1 y2).symm)

end Cert.ChunkAttnIdeal.Val

end
-- ==== Proof.Lin.FfnEven.lean ====
/-
  The mixing and feed-forward block of the even layer, row by row: what the body leaves of one block of rows.
-/
module

public import proofs.«01_k».proof.Proof.Gen.FfnEvenIdeal.Frame
public import proofs.«01_k».proof.Proof.Lin.Math

@[expose] public section

set_option maxRecDepth 16384

noncomputable section

open Idealize.ShloMosaic Idealize.ShloMosaic.TcCoe Idealize.SL.Sem
open Idealize.ShloMosaic.Pipeline (Dat)

namespace Cert.FfnEvenIdeal.Lin

open Cert.FfnEvenIdeal Cert.FfnEvenIdeal.Gen Cert.Lin

/-- The row after the mixing step and the first normalization. -/
theorem pay2_at (v0 : FVec Ideal S512x512 .bf16) (v1 : FVec Ideal S512x1024 .bf16) (v3 : FVec Ideal S512x512 .bf16)
    (v4 : FVec Ideal S512x1024 .bf16) (v7 : FVec Ideal S512x1024 .f32) (v11 v12 : FVec Ideal S1x1024 .f32)
    (r : Fin 512) (j : Fin 1024) :
    k0_pay2 (F := Ideal) v0 v1 v3 v4 v7 v11 v12 (ix2 r j)
      = normed (fun n => Ideal.ofBits .f32 0x3FB504F3#32 * v7 (ix2 r n)
          + (∑ k : Fin 512, v0 (ix2 r k) * v1 (ix2 k n) + ∑ k : Fin 512, v3 (ix2 r k) * v4 (ix2 k n)))
          (fun n => v11 (ix2 0 n)) (fun n => v12 (ix2 0 n)) j := by
  pointwise [k0_pay2]
  rfl

/-- The scaled row that the hidden units are added to. -/
theorem pay4_at (v0 : FVec Ideal S512x512 .bf16) (v1 : FVec Ideal S512x1024 .bf16) (v3 : FVec Ideal S512x512 .bf16)
    (v4 : FVec Ideal S512x1024 .bf16) (v7 : FVec Ideal S512x1024 .f32) (v11 v12 : FVec Ideal S1x1024 .f32)
    (r : Fin 512) (j : Fin 1024) :
    k0_pay4 (F := Ideal) v0 v1 v3 v4 v7 v11 v12 (ix2 r j)
      = Ideal.ofBits .f32 0x3FB504F3#32 * k0_pay2 (F := Ideal) v0 v1 v3 v4 v7 v11 v12 (ix2 r j) := by
  pointwise [k0_pay4]

/-- The row the hidden units read. -/
theorem pay3_at (v0 : FVec Ideal S512x512 .bf16) (v1 : FVec Ideal S512x1024 .bf16) (v3 : FVec Ideal S512x512 .bf16)
    (v4 : FVec Ideal S512x1024 .bf16) (v7 : FVec Ideal S512x1024 .f32) (v11 v12 : FVec Ideal S1x1024 .f32)
    (r : Fin 512) (j : Fin 1024) :
    k0_pay3 (F := Ideal) v0 v1 v3 v4 v7 v11 v12 (ix2 r j)
      = k0_pay2 (F := Ideal) v0 v1 v3 v4 v7 v11 v12 (ix2 r j) := by
  pointwise [k0_pay3]

/-- Three tiles of hidden units, added one after another. -/
theorem pay5_at (x : FVec Ideal S512x1024 .bf16) (acc : FVec Ideal S512x1024 .f32)
    (a1 a3 : FVec Ideal S1024x256 .bf16) (a2 : FVec Ideal S256x1024 .bf16) (b1 b3 : FVec Ideal S1024x256 .bf16)
    (b2 : FVec Ideal S256x1024 .bf16) (c1 c3 : FVec Ideal S1024x256 .bf16) (c2 : FVec Ideal S256x1024 .bf16)
    (r : Fin 512) (j : Fin 1024) :
    k0_pay5 x acc a1 a3 a2 b1 b3 b2 c1 c3 c2 (ix2 r j)
      = acc (ix2 r j)
        + tile (fun k => x (ix2 r k)) (fun k f => a1 (ix2 k f)) (fun k f => a3 (ix2 k f)) (fun f => a2 (ix2 f j))
        + tile (fun k => x (ix2 r k)) (fun k f => b1 (ix2 k f)) (fun k f => b3 (ix2 k f)) (fun f => b2 (ix2 f j))
        + tile (fun k => x (ix2 r k)) (fun k f => c1 (ix2 k f)) (fun k f => c3 (ix2 k f)) (fun f => c2 (ix2 f j)) := by
  pointwise [k0_pay5]
  rfl

theorem pay6_eq : @k0_pay6 Ideal _ = k0_pay5 := rfl
theorem pay7_eq : @k0_pay7 Ideal _ = k0_pay5 := rfl

/-- The last two tiles of hidden units and the last normalization. -/
theorem last_at (g b : FVec Ideal S1x1024 .f32) (x : FVec Ideal S512x1024 .bf16) (acc : FVec Ideal S512x1024 .f32)
    (a1 a3 : FVec Ideal S1024x256 .bf16) (a2 : FVec Ideal S256x1024 .bf16) (b1 b3 : FVec Ideal S1024x256 .bf16)
    (b2 : FVec Ideal S256x1024 .bf16) (r : Fin 512) (j : Fin 1024) :
    k0_pay1 g b (k0_pay8 x acc a1 a3 a2 b1 b3 b2) (k0_pay9 x acc a1 a3 a2 b1 b3 b2) (k0_pay10 (F := Ideal)) (ix2 r j)
      = normed (fun n => acc (ix2 r n)
          + tile (fun k => x (ix2 r k)) (fun k f => a1 (ix2 k f)) (fun k f => a3 (ix2 k f)) (fun f => a2 (ix2 f n))
          + tile (fun k => x (ix2 r k)) (fun k f => b1 (ix2 k f)) (fun k f => b3 (ix2 k f)) (fun f => b2 (ix2 f n)))
          (fun n => g (ix2 0 n)) (fun n => b (ix2 0 n)) j := by
  pointwise [k0_pay1, k0_pay8, k0_pay9, k0_pay10]
  rfl

/-- What the body leaves at a row and a column of its block is that entry of the block's row. -/
theorem out_at (x0 x1 : FVec Ideal S512x512 .bf16) (x2 x3 : FVec Ideal S512x1024 .bf16) (x4 : FVec Ideal S512x1024 .f32)
    (x5 x6 : FVec Ideal S1x1024 .f32) (x7 x8 : FVec Ideal S1024x2816 .bf16) (x9 : FVec Ideal S2816x1024 .bf16)
    (x10 x11 : FVec Ideal S1x1024 .f32) (r : Fin 512) (j : Fin 1024) :
    out0_12 (F := Ideal) x0 x1 x2 x3 x4 x5 x6 x7 x8 x9 x10 x11 (ix2 r j)
      = layer (fun n => ∑ k : Fin 512, x0 (ix2 r k) * x2 (ix2 k n) + ∑ k : Fin 512, x1 (ix2 r k) * x3 (ix2 k n))
          (fun n => x4 (ix2 r n)) (fun n => x5 (ix2 0 n))
          (fun n => x6 (ix2 0 n)) (fun k f => x7 (ix2 k f)) (fun k f => x8 (ix2 k f)) (fun f n => x9 (ix2 f n))
          (fun n => x10 (ix2 0 n)) (fun n => x11 (ix2 0 n)) j := by
  unfold out0_12 k0_pay12 k0_pay11
  canon_tiles x h
  obtain rfl : x = ix2 r j := by
    funext a
    fin_cases a
    · exact Fin.ext h0.symm
    · exact Fin.ext h1.symm
  simp only [pay6_eq, pay7_eq]
  simp only [last_at, pay5_at, pay4_at, pay3_at, pay2_at]
  pointwise
  simp only [layer, funext (mid_eq _ _ _ _), part]
  simp only [unit_0, unit_1, unit_2, unit_3, unit_4, unit_5, unit_6, unit_7, unit_8, unit_9, unit_10]

end Cert.FfnEvenIdeal.Lin

end
-- ==== Proof.Lin.FfnEvenFinal.lean ====
/-
  The mixing and feed-forward block of the even layer: the array the kernel leaves is the reference's result.
-/
module

public import proofs.«01_k».proof.Proof.Gen.FfnEvenIdeal.Value
public import proofs.«01_k».proof.Proof.Gen.FfnEvenRefIdeal.Run
public import proofs.«01_k».proof.Proof.Lin.FfnEven
public import proofs.«01_k».proof.Proof.Lin.Host

@[expose] public section

set_option maxRecDepth 16384

noncomputable section

open Idealize.ShloMosaic Idealize.ShloMosaic.TcCoe Idealize.SL.Sem
open Idealize.ShloMosaic.Pipeline (Dat)
open Idealize.ShloMosaic.StableHlo (launchContents)

namespace Cert.FfnEvenIdeal.Lin

open Cert.FfnEvenIdeal Cert.FfnEvenIdeal.Gen Cert.Lin

/-- The second operand of the mixing step with the sequence first and the time second, one row per pair. -/
def turned (b : FVec Ideal S8192x2048 .bf16) : FVec Ideal S32768x512 .bf16 :=
  shapeCast _ (transpose Cert.FfnEvenRefIdeal.S4x8192x512 [1, 0, 2] (shapeCast _ b Cert.FfnEvenRefIdeal.Gen.shapeCasts_S8192x2048_S8192x4x512)
    Cert.FfnEvenRefIdeal.Gen.transposes_S8192x4x512_S4x8192x512_1_0_2) Cert.FfnEvenRefIdeal.Gen.shapeCasts_S4x8192x512_S32768x512

/-- The mixing step of the even layer as the reference writes it. -/
def mix (a : FVec Ideal S32768x512 .bf16) (b : FVec Ideal S8192x2048 .bf16) (wa wb : FVec Ideal S512x1024 .bf16) :
    FVec Ideal S32768x1024 .f32 :=
  Host.dotGeneral Cert.FfnEvenRefIdeal.dot_S32768x1024_S1024x1024_S32768x1024_1_0_0_1_n_n none
    (extf .f32 (concatenate S32768x1024 1 [⟨S32768x512, a⟩, ⟨S32768x512, turned b⟩]
      Cert.FfnEvenRefIdeal.Gen.concatenates_S32768x512_S32768x512_S32768x1024_d1) Cert.FfnEvenRefIdeal.Gen.bitsLt_bf16_f32)
    (extf .f32 (concatenate Cert.FfnEvenRefIdeal.S1024x1024 0 [⟨S512x1024, wa⟩, ⟨S512x1024, wb⟩]
      Cert.FfnEvenRefIdeal.Gen.concatenates_S512x1024_S512x1024_S1024x1024_d0) Cert.FfnEvenRefIdeal.Gen.bitsLt_bf16_f32)

/-- An entry of the turned operand: row `R` is the time `s` of the sequence `q`. -/
theorem turned_at (b : FVec Ideal S8192x2048 .bf16) (R : Fin 32768) (k : Fin 512) (s : Fin 8192) (K : Fin 2048)
    (hs : s.val = R.val % 8192) (hK : K.val = R.val / 8192 * 512 + k.val) : turned b (ix2 R k) = b (ix2 s K) := by
  pointwise [turned]
  blk_point

/-- An entry of the mixing step. -/
theorem mix_at (a : FVec Ideal S32768x512 .bf16) (b : FVec Ideal S8192x2048 .bf16) (wa wb : FVec Ideal S512x1024 .bf16)
    (R : Fin 32768) (n : Fin 1024) :
    mix a b wa wb (ix2 R n)
      = ∑ k : Fin 512, a (ix2 R k) * wa (ix2 k n) + ∑ k : Fin 512, turned b (ix2 R k) * wb (ix2 k n) := by
  pointwise [mix]

/-- The reference's result is the block over whole arrays. -/
theorem res_eq (m : (ℓ : Loc Cert.FfnEvenRefIdeal.nD Cert.FfnEvenRefIdeal.τ Cert.FfnEvenRefIdeal.sig) → Buf (Elt Ideal) ℓ)
    (c : Dev Cert.FfnEvenRefIdeal.nD) :
    addf (mulf (mulf (subf (Cert.FfnEvenRefIdeal.Value.res_main_v43 (F := Ideal) (launchContents m c))
      (broadcastInDim Cert.FfnEvenRefIdeal.S32768x1024 ![0, 1] Cert.FfnEvenRefIdeal.Gen.bcast_S32768x1_S32768x1024_0_1
      (Cert.FfnEvenRefIdeal.Value.res_main_v47 (F := Ideal) (launchContents m c)))) (broadcastInDim
      Cert.FfnEvenRefIdeal.S32768x1024 ![0, 1] Cert.FfnEvenRefIdeal.Gen.bcast_S32768x1_S32768x1024_0_1 (Host.rsqrt
      (addf (Host.divf (broadcastInDim Cert.FfnEvenRefIdeal.S32768x1 ![0]
      Cert.FfnEvenRefIdeal.Gen.bcast_S32768_S32768x1_0 (Host.reduceAdd (mulf (Cert.FfnEvenRefIdeal.Value.res_main_v49
      (F := Ideal) (launchContents m c)) (Cert.FfnEvenRefIdeal.Value.res_main_v49 (F := Ideal) (launchContents m c)))
      (constant Cert.FfnEvenRefIdeal.S_ .f32 0x00000000#32) Cert.FfnEvenRefIdeal.Gen.reducesTo_S32768x1024_S32768_d1
      Cert.FfnEvenRefIdeal.Gen.h_S_)) (broadcastInDim Cert.FfnEvenRefIdeal.S32768x1 ![]
      Cert.FfnEvenRefIdeal.Gen.bcast_S_S32768x1 (constant Cert.FfnEvenRefIdeal.S_ .f32 0x44800000#32)))
      (broadcastInDim Cert.FfnEvenRefIdeal.S32768x1 ![] Cert.FfnEvenRefIdeal.Gen.bcast_S_S32768x1 (constant
      Cert.FfnEvenRefIdeal.S_ .f32 0x3727C5AC#32)))))) (broadcastInDim Cert.FfnEvenRefIdeal.S32768x1024 ![0, 1]
      Cert.FfnEvenRefIdeal.Gen.bcast_S1x1024_S32768x1024_0_1 ((launchContents m c) (Proc.devRef .tc
      Cert.FfnEvenRefIdeal.main_arg10)))) (broadcastInDim Cert.FfnEvenRefIdeal.S32768x1024 ![0, 1]
      Cert.FfnEvenRefIdeal.Gen.bcast_S1x1024_S32768x1024_0_1 ((launchContents m c) (Proc.devRef .tc
      Cert.FfnEvenRefIdeal.main_arg11)))
      = hBlock (mix (m ((c.tc : Thread Cert.FfnEvenRefIdeal.nD Cert.FfnEvenRefIdeal.τ).loc Cert.FfnEvenRefIdeal.main_arg0))
          (m ((c.tc : Thread Cert.FfnEvenRefIdeal.nD Cert.FfnEvenRefIdeal.τ).loc Cert.FfnEvenRefIdeal.main_arg1))
          (m ((c.tc : Thread Cert.FfnEvenRefIdeal.nD Cert.FfnEvenRefIdeal.τ).loc Cert.FfnEvenRefIdeal.main_arg2))
          (m ((c.tc : Thread Cert.FfnEvenRefIdeal.nD Cert.FfnEvenRefIdeal.τ).loc Cert.FfnEvenRefIdeal.main_arg3)))
          (m ((c.tc : Thread Cert.FfnEvenRefIdeal.nD Cert.FfnEvenRefIdeal.τ).loc Cert.FfnEvenRefIdeal.main_arg4))
          (m ((c.tc : Thread Cert.FfnEvenRefIdeal.nD Cert.FfnEvenRefIdeal.τ).loc Cert.FfnEvenRefIdeal.main_arg5))
          (m ((c.tc : Thread Cert.FfnEvenRefIdeal.nD Cert.FfnEvenRefIdeal.τ).loc Cert.FfnEvenRefIdeal.main_arg6))
          (m ((c.tc : Thread Cert.FfnEvenRefIdeal.nD Cert.FfnEvenRefIdeal.τ).loc Cert.FfnEvenRefIdeal.main_arg7))
          (m ((c.tc : Thread Cert.FfnEvenRefIdeal.nD Cert.FfnEvenRefIdeal.τ).loc Cert.FfnEvenRefIdeal.main_arg8))
          (m ((c.tc : Thread Cert.FfnEvenRefIdeal.nD Cert.FfnEvenRefIdeal.τ).loc Cert.FfnEvenRefIdeal.main_arg9))
          (m ((c.tc : Thread Cert.FfnEvenRefIdeal.nD Cert.FfnEvenRefIdeal.τ).loc Cert.FfnEvenRefIdeal.main_arg10))
          (m ((c.tc : Thread Cert.FfnEvenRefIdeal.nD Cert.FfnEvenRefIdeal.τ).loc Cert.FfnEvenRefIdeal.main_arg11)) := by
  unfold Cert.FfnEvenRefIdeal.Value.res_main_v49 Cert.FfnEvenRefIdeal.Value.res_main_v47 Cert.FfnEvenRefIdeal.Value.res_main_v43 Cert.FfnEvenRefIdeal.Value.res_main_v36
    Cert.FfnEvenRefIdeal.Value.res_main_v32 Cert.FfnEvenRefIdeal.Value.res_main_v16 Cert.FfnEvenRefIdeal.Value.res_main_v14 Cert.FfnEvenRefIdeal.Value.res_main_v10
  rfl

variable (m : (ℓ : Loc nD τ sig) → Buf (Elt Ideal) ℓ)

/-- The reference's result over the kernel's argument arrays. -/
def ref (c : Dev nD) : FVec Ideal S32768x1024 .f32 :=
  hBlock (mix (m ((c : Thread nD τ).loc main_arg0)) (m ((c : Thread nD τ).loc main_arg1))
      (m ((c : Thread nD τ).loc main_arg2)) (m ((c : Thread nD τ).loc main_arg3)))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- Which block each window stages at a grid point. -/
theorem places : ∀ t : Fin cfg0.N, win0_0.index t = ![t.val, 0] ∧ win0_1.index t = ![t.val % 16, t.val / 16] ∧ win0_2.index t = ![0, 0] ∧
    win0_3.index t = ![0, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![t.val, 0] :=
  (by decide +kernel : ∀ t : Fin grid0.N, _)

theorem blk2 (c : Dev nD) (t) : iblk m c 2 t = m ((c : Thread nD τ).loc main_arg2) := by blk_ext! [iblk, V, places t]
theorem blk3 (c : Dev nD) (t) : iblk m c 3 t = m ((c : Thread nD τ).loc main_arg3) := by blk_ext! [iblk, V, places t]
theorem blk5 (c : Dev nD) (t) : iblk m c 5 t = m ((c : Thread nD τ).loc main_arg5) := by blk_ext! [iblk, V, places t]
theorem blk6 (c : Dev nD) (t) : iblk m c 6 t = m ((c : Thread nD τ).loc main_arg6) := by blk_ext! [iblk, V, places t]
theorem blk7 (c : Dev nD) (t) : iblk m c 7 t = m ((c : Thread nD τ).loc main_arg7) := by blk_ext! [iblk, V, places t]
theorem blk8 (c : Dev nD) (t) : iblk m c 8 t = m ((c : Thread nD τ).loc main_arg8) := by blk_ext! [iblk, V, places t]
theorem blk9 (c : Dev nD) (t) : iblk m c 9 t = m ((c : Thread nD τ).loc main_arg9) := by blk_ext! [iblk, V, places t]
theorem blk10 (c : Dev nD) (t) : iblk m c 10 t = m ((c : Thread nD τ).loc main_arg10) := by blk_ext! [iblk, V, places t]
theorem blk11 (c : Dev nD) (t) : iblk m c 11 t = m ((c : Thread nD τ).loc main_arg11) := by blk_ext! [iblk, V, places t]

/-- The row of the first window at a grid point is a row of its array. -/
theorem blk0 (c : Dev nD) (t : Fin cfg0.N) (r k : Fin 512) (R : Fin 32768) (hR : R.val = t.val * 512 + r.val) :
    (show FVec Ideal S512x512 .bf16 from iblk m c 0 t) (ix2 r k)
      = (show FVec Ideal S32768x512 .bf16 from m ((c : Thread nD τ).loc main_arg0)) (ix2 R k) := by
  blk_ext [iblk, V, places t]

/-- The row of the second window at a grid point is a row of its turned array. -/
theorem blk1 (c : Dev nD) (t : Fin cfg0.N) (r k : Fin 512) (R : Fin 32768) (hR : R.val = t.val * 512 + r.val) :
    (show FVec Ideal S512x512 .bf16 from iblk m c 1 t) (ix2 r k)
      = turned (m ((c : Thread nD τ).loc main_arg1)) (ix2 R k) := by
  have ht : t.val < 64 := lt_of_lt_of_eq t.isLt N_0
  have hr := r.isLt
  have hk := k.isLt
  have hs : t.val % 16 * 512 + r.val < 8192 := by omega
  have hK : t.val / 16 * 512 + k.val < 2048 := by omega
  refine Eq.trans ?_ (turned_at _ R k ⟨_, hs⟩ ⟨_, hK⟩ (by simp only [hR]; omega) (by simp only [hR]; omega)).symm
  blk_ext [iblk, V, places t]

/-- The row of the fifth window at a grid point is a row of its array. -/
theorem blk4 (c : Dev nD) (t : Fin cfg0.N) (r : Fin 512) (k : Fin 1024) (R : Fin 32768) (hR : R.val = t.val * 512 + r.val) :
    (show FVec Ideal S512x1024 .f32 from iblk m c 4 t) (ix2 r k)
      = (show FVec Ideal S32768x1024 .f32 from m ((c : Thread nD τ).loc main_arg4)) (ix2 R k) := by
  blk_ext [iblk, V, places t]

/-- What the body leaves at a row and a column of a grid point's block is the reference's entry in that row of the array. -/
theorem point (c : Dev nD) (t : Fin cfg0.N) (r : Fin 512) (j : Fin 1024) (R : Fin 32768) (hR : R.val = t.val * 512 + r.val) :
    out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r j) = ref m c (ix2 R j) := by
  rw [blk2, blk3, blk5, blk6, blk7, blk8, blk9, blk10, blk11]
  refine (out_at _ _ _ _ _ _ _ _ _ _ _ _ r j).trans (Eq.trans ?_ (hBlock_at _ _ _ _ _ _ _ _ _ R j).symm)
  have e0 := fun k => blk0 m c t r k R hR
  have e1 := fun k => blk1 m c t r k R hR
  have e4 := fun k => blk4 m c t r k R hR
  rw [show (fun n => mix (m ((c : Thread nD τ).loc main_arg0)) (m ((c : Thread nD τ).loc main_arg1))
    (m ((c : Thread nD τ).loc main_arg2)) (m ((c : Thread nD τ).loc main_arg3)) (ix2 R n)) = _ from
    funext fun n => mix_at _ _ _ _ R n]
  rw [← funext e4]
  simp only [← e0, ← e1]

/-- The array the kernel leaves is the reference's result. -/
theorem final (c : Dev nD) : (dats m 0 c).arrAt 12 (cfgs 0).N = ref m c := by
  refine (dats m 0 c).arrAt_eq_of_covers 12 _ (by decide +kernel) fun t _ y => ?_
  have ht : t.val < 64 := lt_of_lt_of_eq t.isLt N_0
  have hy0 : (y 0).val < 512 := (y 0).isLt
  have key : ((cfg0.win 12).blk t).view.emb y
      = (ix2 ⟨t.val * 512 + (y 0).val, by omega⟩ ⟨(y 1).val, (y 1).isLt⟩ : S32768x1024.Idx) := by
    blk_ext [places t]
  blk_simp
  rw [after0_12]
  rw [key]
  have hy : y = (ix2 ⟨(y 0).val, hy0⟩ ⟨(y 1).val, (y 1).isLt⟩ : S512x1024.Idx) := eq_ix2 y
  refine (congrArg _ hy).trans ?_
  exact point m c t _ _ _ rfl

end Cert.FfnEvenIdeal.Lin

end
-- ==== Proof.Lin.Mid.lean ====
/-
  The even layer's mixing and feed-forward block and the odd layer's projection of its result, one after the other: the
  two arrays the program leaves are the reference's two results.
-/
module

public import proofs.«01_k».proof.Proof.Gen.MidIdeal.Frame
public import proofs.«01_k».proof.Proof.Gen.MidRefIdeal.Run
public import proofs.«01_k».proof.Proof.Lin.FfnEvenFinal
public import proofs.«01_k».proof.Proof.Lin.ProjOdd

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.StableHlo (launchContents)

namespace Cert.MidIdeal.Lin

open Cert.MidIdeal Cert.MidIdeal.Gen Cert.Lin
open Cert.FfnEvenIdeal.Lin (mix turned turned_at mix_at)

/-- The even layer's block over whole arrays. -/
def block (a : FVec Ideal S32768x512 .bf16) (b : FVec Ideal S8192x2048 .bf16) (wa wb : FVec Ideal S512x1024 .bf16)
    (h : FVec Ideal S32768x1024 .f32) (g1 b1 : FVec Ideal S1x1024 .f32) (w1 w3 : FVec Ideal S1024x2816 .bf16)
    (w2 : FVec Ideal S2816x1024 .bf16) (g2 b2 : FVec Ideal S1x1024 .f32) : FVec Ideal S32768x1024 .f32 :=
  hBlock (mix a b wa wb) h g1 b1 w1 w3 w2 g2 b2

/-- The odd layer's projection over whole arrays. -/
abbrev proj (x : FVec Ideal S32768x1024 .f32) (w : FVec Ideal S1024x3072 .bf16) : FVec Ideal S32768x3072 .bf16 :=
  Cert.ProjOddIdeal.Lin.ref x w

section Blocks

variable (V : (c : Dev nD) → (b : Ref sig .tc) → Buf (Elt Ideal) ((c : Thread nD τ).loc b))

/-- Which block each window of the first call stages at a grid point. -/
theorem places : ∀ t : Fin cfg0.N, win0_0.index t = ![t.val, 0] ∧ win0_1.index t = ![t.val % 16, t.val / 16] ∧ win0_2.index t = ![0, 0] ∧
    win0_3.index t = ![0, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![t.val, 0] :=
  (by decide +kernel : ∀ t : Fin grid0.N, _)

/-- Which block each window of the second call stages at a grid point. -/
theorem places' : ∀ t : Fin cfg1.N, win1_0.index t = ![t.val, 0] ∧ win1_1.index t = ![0, 0] ∧ win1_2.index t = ![t.val, 0] :=
  (by decide +kernel : ∀ t : Fin grid1.N, _)

theorem blk2 (c : Dev nD) (t) : iblk0 V c 2 t = V c main_arg2 := by blk_ext! [iblk0, places t]
theorem blk3 (c : Dev nD) (t) : iblk0 V c 3 t = V c main_arg3 := by blk_ext! [iblk0, places t]
theorem blk5 (c : Dev nD) (t) : iblk0 V c 5 t = V c main_arg5 := by blk_ext! [iblk0, places t]
theorem blk6 (c : Dev nD) (t) : iblk0 V c 6 t = V c main_arg6 := by blk_ext! [iblk0, places t]
theorem blk7 (c : Dev nD) (t) : iblk0 V c 7 t = V c main_arg7 := by blk_ext! [iblk0, places t]
theorem blk8 (c : Dev nD) (t) : iblk0 V c 8 t = V c main_arg8 := by blk_ext! [iblk0, places t]
theorem blk9 (c : Dev nD) (t) : iblk0 V c 9 t = V c main_arg9 := by blk_ext! [iblk0, places t]
theorem blk10 (c : Dev nD) (t) : iblk0 V c 10 t = V c main_arg10 := by blk_ext! [iblk0, places t]
theorem blk11 (c : Dev nD) (t) : iblk0 V c 11 t = V c main_arg11 := by blk_ext! [iblk0, places t]

/-- The row of the first window at a grid point is a row of its array. -/
theorem blk0 (c : Dev nD) (t : Fin cfg0.N) (r k : Fin 512) (R : Fin 32768) (hR : R.val = t.val * 512 + r.val) :
    (show FVec Ideal S512x512 .bf16 from iblk0 V c 0 t) (ix2 r k)
      = (show FVec Ideal S32768x512 .bf16 from V c main_arg0) (ix2 R k) := by
  blk_ext [iblk0, places t]

/-- The row of the second window at a grid point is a row of its turned array. -/
theorem blk1 (c : Dev nD) (t : Fin cfg0.N) (r k : Fin 512) (R : Fin 32768) (hR : R.val = t.val * 512 + r.val) :
    (show FVec Ideal S512x512 .bf16 from iblk0 V c 1 t) (ix2 r k) = turned (V c main_arg1) (ix2 R k) := by
  have ht : t.val < 64 := lt_of_lt_of_eq t.isLt N_0
  have hr := r.isLt
  have hk := k.isLt
  have hs : t.val % 16 * 512 + r.val < 8192 := by omega
  have hK : t.val / 16 * 512 + k.val < 2048 := by omega
  refine Eq.trans ?_ (turned_at _ R k ⟨_, hs⟩ ⟨_, hK⟩ (by simp only [hR]; omega) (by simp only [hR]; omega)).symm
  blk_ext [iblk0, places t]

/-- The row of the fifth window at a grid point is a row of its array. -/
theorem blk4 (c : Dev nD) (t : Fin cfg0.N) (r : Fin 512) (k : Fin 1024) (R : Fin 32768) (hR : R.val = t.val * 512 + r.val) :
    (show FVec Ideal S512x1024 .f32 from iblk0 V c 4 t) (ix2 r k)
      = (show FVec Ideal S32768x1024 .f32 from V c main_arg4) (ix2 R k) := by
  blk_ext [iblk0, places t]

/-- The body of the first call leaves what the block's own call leaves. -/
theorem out0_eq (x0 x1 : FVec Ideal S512x512 .bf16) (x2 x3 : FVec Ideal S512x1024 .bf16) (x4 : FVec Ideal S512x1024 .f32)
    (x5 x6 : FVec Ideal S1x1024 .f32) (x7 x8 : FVec Ideal S1024x2816 .bf16) (x9 : FVec Ideal S2816x1024 .bf16)
    (x10 x11 : FVec Ideal S1x1024 .f32) :
    out0_12 (F := Ideal) x0 x1 x2 x3 x4 x5 x6 x7 x8 x9 x10 x11
      = Cert.FfnEvenIdeal.Gen.out0_12 (F := Ideal) x0 x1 x2 x3 x4 x5 x6 x7 x8 x9 x10 x11 := rfl

/-- What the first body leaves at a row and a column of a grid point's block is the block's entry in that row of the
    array. -/
theorem point (c : Dev nD) (t : Fin cfg0.N) (r : Fin 512) (j : Fin 1024) (R : Fin 32768) (hR : R.val = t.val * 512 + r.val) :
    out0_12 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (ix2 r j)
      = block (V c main_arg0) (V c main_arg1) (V c main_arg2) (V c main_arg3) (V c main_arg4) (V c main_arg5) (V c main_arg6)
          (V c main_arg7) (V c main_arg8) (V c main_arg9) (V c main_arg10) (V c main_arg11) (ix2 R j) := by
  rw [blk2, blk3, blk5, blk6, blk7, blk8, blk9, blk10, blk11, out0_eq]
  refine (Cert.FfnEvenIdeal.Lin.out_at _ _ _ _ _ _ _ _ _ _ _ _ r j).trans (Eq.trans ?_ (hBlock_at _ _ _ _ _ _ _ _ _ R j).symm)
  have e0 := fun k => blk0 V c t r k R hR
  have e1 := fun k => blk1 V c t r k R hR
  have e4 := fun k => blk4 V c t r k R hR
  rw [show (fun n => mix (V c main_arg0) (V c main_arg1) (V c main_arg2) (V c main_arg3) (ix2 R n)) = _ from
    funext fun n => mix_at _ _ _ _ R n]
  rw [← funext e4]
  simp only [← e0, ← e1]

/-- The array the first call leaves is the block over whole arrays. -/
theorem final0 (c : Dev nD) : (dat0 V c).arrAt 12 cfg0.N
    = block (V c main_arg0) (V c main_arg1) (V c main_arg2) (V c main_arg3) (V c main_arg4) (V c main_arg5) (V c main_arg6)
        (V c main_arg7) (V c main_arg8) (V c main_arg9) (V c main_arg10) (V c main_arg11) := by
  refine (dat0 V c).arrAt_eq_of_covers 12 _ (by decide +kernel) fun t _ y => ?_
  have ht : t.val < 64 := lt_of_lt_of_eq t.isLt N_0
  have hy0 : (y 0).val < 512 := (y 0).isLt
  have key : ((cfg0.win 12).blk t).view.emb y
      = (ix2 ⟨t.val * 512 + (y 0).val, by omega⟩ ⟨(y 1).val, (y 1).isLt⟩ : S32768x1024.Idx) := by
    blk_ext [places t]
  blk_simp
  rw [after0_12]
  rw [key]
  have hy : y = (ix2 ⟨(y 0).val, hy0⟩ ⟨(y 1).val, (y 1).isLt⟩ : S512x1024.Idx) := eq_ix2 y
  refine (congrArg _ hy).trans ?_
  exact point V c t _ _ _ rfl

/-- What the second body leaves at an entry of a grid point's block is the projection at the entry's place in the array. -/
theorem point' (c : Dev nD) (t : Fin cfg1.N) (y) :
    out1_2 (iblk1 V c 0 t) (iblk1 V c 1 t) y
      = proj (V c main_v0) (V c main_arg12) (((cfg1.win 2).blk t).view.emb y) := by
  unfold out1_2
  canon_tiles x h
  all_goals (pointwise [k1_pay1, k1_pay2, k1_pay3, k1_pay4, k1_pay5, k1_pay6, k1_pay7, proj, Cert.ProjOddIdeal.Lin.ref]; blk_point [iblk1, places' t])

/-- The array the second call leaves is the projection over whole arrays. -/
theorem final1 (c : Dev nD) : (dat1 V c).arrAt 2 cfg1.N = proj (V c main_v0) (V c main_arg12) := by
  refine (dat1 V c).arrAt_eq_of_covers 2 _ (by decide +kernel) fun t _ y => ?_
  blk_simp
  rw [after1_2]
  exact point' V c t y

end Blocks

local notation "𝕄" => MT nD τ sig Unit (Elt Ideal) ℕ (UR sig nD τ) ℕ

variable (m : (ℓ : Loc nD τ sig) → Buf (Elt Ideal) ℓ) (ρ : Dev nD → PrngReg)

/-- The first result over the program's arguments. -/
def first (c : Dev nD) : FVec Ideal S32768x1024 .f32 :=
  block (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The second result over the program's arguments. -/
def second (c : Dev nD) : FVec Ideal S32768x3072 .bf16 := proj (first m c) (m ((c.tc : Thread nD τ).loc main_arg12))

/-- What the first call leaves stands when the second starts. -/
theorem mid_first (c : Dev nD) : W1 m ρ c (Proc.devRef .tc main_v0) = first m c :=
  (W1_arr m ρ c 12).trans (final0 (V0 m ρ) c)

/-- And when the second has ended. -/
theorem end_first (c : Dev nD) : W2 m ρ c (Proc.devRef .tc main_v0) = first m c :=
  (W2_of m ρ c main_v0 (by decide +kernel)).trans (mid_first m ρ c)

/-- The second call leaves the projection of the first result. -/
theorem end_second (c : Dev nD) : W2 m ρ c (Proc.devRef .tc main_v1) = second m c := by
  refine (W2_arr m ρ c 2).trans ((final1 (V1 m ρ) c).trans ?_)
  exact congrArg₂ proj (mid_first m ρ c) (W1_args m ρ c main_arg12 (by decide))

set_option backward.isDefEq.respectTransparency.types false in
/-- The run of the two calls: the two results, and the arguments as they were. -/
theorem run : θ_run defs (onTc (τ := τ) (main (F := Ideal))) ⟨m, fun _ => 0, ρ⟩ (fun r => ∀ c : Dev nD,
      r.2.mem ((c.tc : Thread nD τ).loc main_v0) = first m c
      ∧ r.2.mem ((c.tc : Thread nD τ).loc main_v1) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0 (by decide))).trans (end_first m ρ c),
       (h c _ (mem_uc main_v1 (by decide))).trans (end_second m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c),
       (h c _ (mem_uc main_arg10 (by decide))).trans (W2_main_arg10 m ρ c),
       (h c _ (mem_uc main_arg11 (by decide))).trans (W2_main_arg11 m ρ c),
       (h c _ (mem_uc main_arg12 (by decide))).trans (W2_main_arg12 m ρ c)⟩)

end Cert.MidIdeal.Lin

namespace Cert.MidRefIdeal.Lin

open Cert.MidRefIdeal Cert.MidIdeal.Lin

/-- The run of the reference: its two results are the block and the projection of the block, over whole arrays. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v65) = block (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))
      ∧ r.2.mem ((c.tc : Thread nD τ).loc main_v68) = proj (block (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11))) (m ((c.tc : Thread Cert.MidRefIdeal.nD Cert.MidRefIdeal.τ).loc Cert.MidRefIdeal.main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ⟨(h c).1.trans ?_, (h c).2.1.trans ?_, (h c).2.2⟩) (Cert.MidRefIdeal.Value.run (F := Ideal) m ρ)
  · unfold Cert.MidRefIdeal.Value.res_main_v49 Cert.MidRefIdeal.Value.res_main_v47 Cert.MidRefIdeal.Value.res_main_v43 Cert.MidRefIdeal.Value.res_main_v36
      Cert.MidRefIdeal.Value.res_main_v32 Cert.MidRefIdeal.Value.res_main_v16 Cert.MidRefIdeal.Value.res_main_v14 Cert.MidRefIdeal.Value.res_main_v10
    rfl
  · unfold Cert.MidRefIdeal.Value.res_main_v49 Cert.MidRefIdeal.Value.res_main_v47 Cert.MidRefIdeal.Value.res_main_v43 Cert.MidRefIdeal.Value.res_main_v36
      Cert.MidRefIdeal.Value.res_main_v32 Cert.MidRefIdeal.Value.res_main_v16 Cert.MidRefIdeal.Value.res_main_v14 Cert.MidRefIdeal.Value.res_main_v10
    rfl

end Cert.MidRefIdeal.Lin

end
-- ==== Proof.lean ====
/-
  The certificate of the stick-breaking attention, of the chunked attention, of the two mixing and feed-forward blocks,
  of the two projections and of the whole odd layer: of each the frames of the kernel as printed and as idealized and of the reference, the
  constants, and the agreement of the results, for the attentions on finite scores and for the odd layer on finite input.
-/
module

public import proofs.«01_k».proof.Defs
public import proofs.«01_k».proof.Proof.OdP.Whole
public import proofs.«01_k».proof.Proof.OdV.Final
public import proofs.«01_k».proof.Proof.SbP.Run
public import proofs.«01_k».proof.Proof.Gen.FfnOdd.Frame
public import proofs.«01_k».proof.Proof.Gen.FfnEven.Frame
public import proofs.«01_k».proof.Proof.Gen.ProjOdd.Frame
public import proofs.«01_k».proof.Proof.Gen.ProjEven.Frame
public import proofs.«01_k».proof.Proof.Lin.ProjEven
public import proofs.«01_k».proof.Proof.Chunk.FrameP
public import proofs.«01_k».proof.Proof.Chunk.Final
public import proofs.«01_k».proof.Proof.Gen.Mid.Frame
public import proofs.«01_k».proof.Proof.Lin.Mid
public import proofs.«01_k».proof.Proof.Gen.SbRefIdeal.Run
public import proofs.«01_k».proof.Proof.Gen.FfnOddRefIdeal.Run
public import proofs.«01_k».proof.Proof.Gen.FfnEvenRefIdeal.Run
public import proofs.«01_k».proof.Proof.Gen.ProjOddRefIdeal.Run
public import proofs.«01_k».proof.Proof.Gen.ProjEvenRefIdeal.Run
public import proofs.«01_k».proof.Proof.Gen.ChunkRefIdeal.Run
public import proofs.«01_k».proof.Proof.Gen.MidRefIdeal.Run
public import proofs.«01_k».proof.Proof.Gen.OddRefIdeal.Run

@[expose] public section

noncomputable section

namespace Cert.Proof

open Idealize.ShloMosaic Idealize.SL.Sem

/-- The kernel as printed runs, leaves its argument as it was and every counter at zero. -/
theorem frame_p : Cert.quiescent_SbAttn (hSbAttn := Cert.SbAttn.Gen.facts) := fun m ρ _ => Cert.SbAttn.Pure.frame m ρ

/-- The idealized kernel runs, leaves its argument as it was and every counter at zero. -/
theorem frame_pi : Cert.quiescent_SbAttnIdeal (hSbAttnIdeal := Cert.SbAttnIdeal.Gen.facts) :=
  fun m ρ _ => Cert.SbAttnIdeal.Pure.frame m ρ

/-- The reference runs, leaves its argument as it was and every counter at zero. -/
theorem frame_ri : Cert.quiescent_SbRefIdeal (hSbRefIdeal := Cert.SbRefIdeal.Gen.facts) := fun m ρ _ =>
  (θ_run Cert.SbRefIdeal.defs _ _).mono (fun r h => ⟨fun c => (h c).2, sem_eq_zero_of_no_sems (by decide) r.2⟩)
    (Cert.SbRefIdeal.Value.run (F := Ideal) m ρ)

/-- Each named constant is the value the table gives it. -/
theorem preserves : Cert.preserves_SbAttn_SbAttnIdeal :=
  ⟨IdealRules.named_const.statement _ _ _ _ _ (by simp [Cert.SbAttnIdeal.κ]), IdealRules.named_const.statement _ _ _ _ _ (by simp [Cert.SbAttnIdeal.κ])⟩

/-- On finite queries and keys the idealized kernel and the reference leave the same result. -/
theorem algebraic : Cert.algebraic_SbAttnIdeal_SbRefIdeal_pre_finite_qk (hSbAttnIdeal := Cert.SbAttnIdeal.Gen.facts)
    (hSbRefIdeal := Cert.SbRefIdeal.Gen.facts) (hPre_finite_qk := Cert.Pre_finite_qk.Gen.facts) := by
  intro m g m' g' hpre hm
  refine ⟨fun c => (Cert.SbAttnIdeal.Pure.dats (F := Ideal) m 0 c).arrAt 5 (Cert.SbAttnIdeal.cfg0 (F := Ideal)).N,
    Cert.SbAttnIdeal.Pure.run_out m g, ?_⟩
  refine (θ_run Cert.SbRefIdeal.defs _ _).mono (fun r h c => ⟨(h c).1.trans ?_, (h c).2⟩) (Cert.SbRefIdeal.Value.run (F := Ideal) m' g')
  refine ((Cert.SbRefIdeal.Val.res_eq m' c).trans ?_).trans (Cert.SbAttnIdeal.Val.final m c (hpre c)).symm
  rw [hm c]

/-- The chunked attention as printed runs, leaves its arguments as they were and every counter at zero. -/
theorem frame_chunk : Cert.quiescent_ChunkAttn (hChunkAttn := Cert.ChunkAttn.Gen.facts) := fun m ρ _ => Cert.ChunkAttn.Gen.frame m ρ

/-- The idealized chunked attention runs, leaves its arguments as they were and every counter at zero. -/
theorem frame_chunk_ideal : Cert.quiescent_ChunkAttnIdeal (hChunkAttnIdeal := Cert.ChunkAttnIdeal.Gen.facts) :=
  fun m ρ _ => Cert.ChunkAttnIdeal.Gen.frame m ρ

/-- The reference of the chunked attention runs, leaves its arguments as they were and every counter at zero. -/
theorem frame_chunk_ref : Cert.quiescent_ChunkRefIdeal (hChunkRefIdeal := Cert.ChunkRefIdeal.Gen.facts) := fun m ρ _ =>
  (θ_run Cert.ChunkRefIdeal.defs _ _).mono (fun r h => ⟨fun c => (h c).2, sem_eq_zero_of_no_sems (by decide) r.2⟩)
    (Cert.ChunkRefIdeal.Value.run (F := Ideal) m ρ)

/-- The named mask value of the chunked attention is the value the table gives it. -/
theorem preserves_chunk : Cert.preserves_ChunkAttn_ChunkAttnIdeal :=
  IdealRules.named_const.statement _ _ _ _ _ (by simp [Cert.ChunkAttnIdeal.κ])

/-- On finite queries, keys and relative bias the idealized chunked attention and its reference leave the same result. -/
theorem algebraic_chunk : Cert.algebraic_ChunkAttnIdeal_ChunkRefIdeal_pre_finite_chunk (hChunkAttnIdeal := Cert.ChunkAttnIdeal.Gen.facts)
    (hChunkRefIdeal := Cert.ChunkRefIdeal.Gen.facts) (hPre_finite_chunk := Cert.Pre_finite_chunk.Gen.facts) := by
  intro m g m' g' hpre hm
  refine ⟨fun c => (Cert.ChunkAttnIdeal.Gen.dats (F := Ideal) m 0 c).arrAt 8 Cert.ChunkAttnIdeal.cfg0.N,
    Cert.ChunkAttnIdeal.Value.run_blocks m g, ?_⟩
  refine (θ_run Cert.ChunkRefIdeal.defs _ _).mono
    (fun r h c => ⟨(h c).1.trans (Eq.trans ?_ (Cert.ChunkAttnIdeal.Val.final m c (hpre c)).symm), (h c).2⟩)
    (Cert.ChunkRefIdeal.Value.run (F := Ideal) m' g')
  obtain ⟨h0, h1⟩ := hm c
  refine (Cert.ChunkRefIdeal.Val.res_eq m' c).trans ?_
  rw [h0, h1]

/-- The mixing and feed-forward block of the odd layer as printed runs, leaves its arguments as they were and every counter at zero. -/
theorem frame_block_odd : Cert.quiescent_FfnOdd (hFfnOdd := Cert.FfnOdd.Gen.facts) := fun m ρ _ => Cert.FfnOdd.Gen.frame m ρ

/-- The idealized mixing and feed-forward block of the odd layer runs, leaves its arguments as they were and every counter at zero. -/
theorem frame_block_odd_ideal : Cert.quiescent_FfnOddIdeal (hFfnOddIdeal := Cert.FfnOddIdeal.Gen.facts) :=
  fun m ρ _ => Cert.FfnOddIdeal.Gen.frame m ρ

/-- The reference of the mixing and feed-forward block of the odd layer runs, leaves its arguments as they were and every counter at
    zero. -/
theorem frame_block_odd_ref : Cert.quiescent_FfnOddRefIdeal (hFfnOddRefIdeal := Cert.FfnOddRefIdeal.Gen.facts) := fun m ρ _ =>
  (θ_run Cert.FfnOddRefIdeal.defs _ _).mono (fun r h => ⟨fun c => (h c).2, sem_eq_zero_of_no_sems (by decide) r.2⟩)
    (Cert.FfnOddRefIdeal.Value.run (F := Ideal) m ρ)

/-- The mixing and feed-forward block of the odd layer and its reference leave the same result. -/
theorem algebraic_block_odd : Cert.algebraic_FfnOddIdeal_FfnOddRefIdeal (hFfnOddIdeal := Cert.FfnOddIdeal.Gen.facts)
    (hFfnOddRefIdeal := Cert.FfnOddRefIdeal.Gen.facts) := by
  intro m g m' g' _ hm
  refine ⟨fun c => (Cert.FfnOddIdeal.Gen.dats (F := Ideal) m 0 c).arrAt 10 Cert.FfnOddIdeal.cfg0.N,
    Cert.FfnOddIdeal.Value.run_blocks m g, ?_⟩
  refine (θ_run Cert.FfnOddRefIdeal.defs _ _).mono
    (fun r h c => ⟨(h c).1.trans (Eq.trans ?_ (Cert.FfnOddIdeal.Lin.final m c).symm), (h c).2⟩)
    (Cert.FfnOddRefIdeal.Value.run (F := Ideal) m' g')
  obtain ⟨h0, h1, h2, h3, h4, h5, h6, h7, h8, h9⟩ := hm c
  refine (Cert.FfnOddIdeal.Lin.res_eq m' c).trans ?_
  rw [h0, h1, h2, h3, h4, h5, h6, h7, h8, h9]
  rfl

/-- The mixing and feed-forward block of the even layer as printed runs, leaves its arguments as they were and every counter at zero. -/
theorem frame_block_even : Cert.quiescent_FfnEven (hFfnEven := Cert.FfnEven.Gen.facts) := fun m ρ _ => Cert.FfnEven.Gen.frame m ρ

/-- The idealized mixing and feed-forward block of the even layer runs, leaves its arguments as they were and every counter at zero. -/
theorem frame_block_even_ideal : Cert.quiescent_FfnEvenIdeal (hFfnEvenIdeal := Cert.FfnEvenIdeal.Gen.facts) :=
  fun m ρ _ => Cert.FfnEvenIdeal.Gen.frame m ρ

/-- The reference of the mixing and feed-forward block of the even layer runs, leaves its arguments as they were and every counter at
    zero. -/
theorem frame_block_even_ref : Cert.quiescent_FfnEvenRefIdeal (hFfnEvenRefIdeal := Cert.FfnEvenRefIdeal.Gen.facts) := fun m ρ _ =>
  (θ_run Cert.FfnEvenRefIdeal.defs _ _).mono (fun r h => ⟨fun c => (h c).2, sem_eq_zero_of_no_sems (by decide) r.2⟩)
    (Cert.FfnEvenRefIdeal.Value.run (F := Ideal) m ρ)

/-- The mixing and feed-forward block of the even layer and its reference leave the same result. -/
theorem algebraic_block_even : Cert.algebraic_FfnEvenIdeal_FfnEvenRefIdeal (hFfnEvenIdeal := Cert.FfnEvenIdeal.Gen.facts)
    (hFfnEvenRefIdeal := Cert.FfnEvenRefIdeal.Gen.facts) := by
  intro m g m' g' _ hm
  refine ⟨fun c => (Cert.FfnEvenIdeal.Gen.dats (F := Ideal) m 0 c).arrAt 12 Cert.FfnEvenIdeal.cfg0.N,
    Cert.FfnEvenIdeal.Value.run_blocks m g, ?_⟩
  refine (θ_run Cert.FfnEvenRefIdeal.defs _ _).mono
    (fun r h c => ⟨(h c).1.trans (Eq.trans ?_ (Cert.FfnEvenIdeal.Lin.final m c).symm), (h c).2⟩)
    (Cert.FfnEvenRefIdeal.Value.run (F := Ideal) m' g')
  obtain ⟨h0, h1, h2, h3, h4, h5, h6, h7, h8, h9, h10, h11⟩ := hm c
  refine (Cert.FfnEvenIdeal.Lin.res_eq m' c).trans ?_
  rw [h0, h1, h2, h3, h4, h5, h6, h7, h8, h9, h10, h11]
  rfl

/-- The projection of the odd layer as printed runs, leaves its arguments as they were and every counter at zero. -/
theorem frame_proj_odd : Cert.quiescent_ProjOdd (hProjOdd := Cert.ProjOdd.Gen.facts) := fun m ρ _ => Cert.ProjOdd.Gen.frame m ρ

/-- The idealized projection of the odd layer runs, leaves its arguments as they were and every counter at zero. -/
theorem frame_proj_odd_ideal : Cert.quiescent_ProjOddIdeal (hProjOddIdeal := Cert.ProjOddIdeal.Gen.facts) :=
  fun m ρ _ => Cert.ProjOddIdeal.Gen.frame m ρ

/-- The reference of the projection of the odd layer runs, leaves its arguments as they were and every counter at
    zero. -/
theorem frame_proj_odd_ref : Cert.quiescent_ProjOddRefIdeal (hProjOddRefIdeal := Cert.ProjOddRefIdeal.Gen.facts) := fun m ρ _ =>
  (θ_run Cert.ProjOddRefIdeal.defs _ _).mono (fun r h => ⟨fun c => (h c).2, sem_eq_zero_of_no_sems (by decide) r.2⟩)
    (Cert.ProjOddRefIdeal.Value.run (F := Ideal) m ρ)

/-- The projection of the odd layer and its reference leave the same result. -/
theorem algebraic_proj_odd : Cert.algebraic_ProjOddIdeal_ProjOddRefIdeal (hProjOddIdeal := Cert.ProjOddIdeal.Gen.facts)
    (hProjOddRefIdeal := Cert.ProjOddRefIdeal.Gen.facts) := by
  intro m g m' g' _ hm
  refine ⟨fun c => (Cert.ProjOddIdeal.Gen.dats (F := Ideal) m 0 c).arrAt 2 Cert.ProjOddIdeal.cfg0.N,
    Cert.ProjOddIdeal.Value.run_blocks m g, ?_⟩
  refine (θ_run Cert.ProjOddRefIdeal.defs _ _).mono
    (fun r h c => ⟨(h c).1.trans (Eq.trans ?_ (Cert.ProjOddIdeal.Lin.final m c).symm), (h c).2⟩)
    (Cert.ProjOddRefIdeal.Value.run (F := Ideal) m' g')
  obtain ⟨h0, h1⟩ := hm c
  rw [h0, h1]
  rfl

/-- The projection of the even layer as printed runs, leaves its arguments as they were and every counter at zero. -/
theorem frame_proj_even : Cert.quiescent_ProjEven (hProjEven := Cert.ProjEven.Gen.facts) := fun m ρ _ => Cert.ProjEven.Gen.frame m ρ

/-- The idealized projection of the even layer runs, leaves its arguments as they were and every counter at zero. -/
theorem frame_proj_even_ideal : Cert.quiescent_ProjEvenIdeal (hProjEvenIdeal := Cert.ProjEvenIdeal.Gen.facts) :=
  fun m ρ _ => Cert.ProjEvenIdeal.Gen.frame m ρ

/-- The reference of the projection of the even layer runs, leaves its arguments as they were and every counter at
    zero. -/
theorem frame_proj_even_ref : Cert.quiescent_ProjEvenRefIdeal (hProjEvenRefIdeal := Cert.ProjEvenRefIdeal.Gen.facts) := fun m ρ _ =>
  (θ_run Cert.ProjEvenRefIdeal.defs _ _).mono (fun r h => ⟨fun c => (h c).2.2, sem_eq_zero_of_no_sems (by decide) r.2⟩)
    (Cert.ProjEvenRefIdeal.Value.run (F := Ideal) m ρ)

/-- The projection of the even layer and its reference leave the same results. -/
theorem algebraic_proj_even : Cert.algebraic_ProjEvenIdeal_ProjEvenRefIdeal (hProjEvenIdeal := Cert.ProjEvenIdeal.Gen.facts)
    (hProjEvenRefIdeal := Cert.ProjEvenRefIdeal.Gen.facts) := by
  intro m g m' g' _ hm
  refine ⟨fun c => (Cert.ProjEvenIdeal.Gen.dats (F := Ideal) m 0 c).arrAt 2 Cert.ProjEvenIdeal.cfg0.N,
    fun c => (Cert.ProjEvenIdeal.Gen.dats (F := Ideal) m 0 c).arrAt 3 Cert.ProjEvenIdeal.cfg0.N,
    Cert.ProjEvenIdeal.Value.run_blocks m g, ?_⟩
  refine (θ_run Cert.ProjEvenRefIdeal.defs _ _).mono
    (fun r h c => ⟨(h c).1.trans (Eq.trans ?_ (Cert.ProjEvenIdeal.Lin.qkv_final m c).symm),
      (h c).2.1.trans (Eq.trans ?_ (Cert.ProjEvenIdeal.Lin.u_final m c).symm), (h c).2.2⟩)
    (Cert.ProjEvenRefIdeal.Value.run (F := Ideal) m' g')
  · obtain ⟨h0, h1⟩ := hm c
    rw [h0, h1]
    rfl
  · obtain ⟨h0, h1⟩ := hm c
    rw [h0, h1]
    rfl

/-- The even layer's block and the odd layer's projection as printed run, leave their arguments as they were and every counter at zero. -/
theorem frame_mid : Cert.quiescent_Mid (hMid := Cert.Mid.Gen.facts) := fun m ρ _ => Cert.Mid.Gen.frame m ρ

/-- The idealized block and projection run, leave their arguments as they were and every counter at zero. -/
theorem frame_mid_ideal : Cert.quiescent_MidIdeal (hMidIdeal := Cert.MidIdeal.Gen.facts) := fun m ρ _ => Cert.MidIdeal.Gen.frame m ρ

/-- The reference of the block and the projection runs, leaves its arguments as they were and every counter at zero. -/
theorem frame_mid_ref : Cert.quiescent_MidRefIdeal (hMidRefIdeal := Cert.MidRefIdeal.Gen.facts) := fun m ρ _ =>
  (θ_run Cert.MidRefIdeal.defs _ _).mono (fun r h => ⟨fun c => (h c).2.2, sem_eq_zero_of_no_sems (by decide) r.2⟩)
    (Cert.MidRefIdeal.Value.run (F := Ideal) m ρ)

/-- The even layer's block with the odd layer's projection of it, and their reference, leave the same two results. -/
theorem algebraic_mid : Cert.algebraic_MidIdeal_MidRefIdeal (hMidIdeal := Cert.MidIdeal.Gen.facts)
    (hMidRefIdeal := Cert.MidRefIdeal.Gen.facts) := by
  intro m g m' g' _ hm
  refine ⟨Cert.MidIdeal.Lin.first m, Cert.MidIdeal.Lin.second m, Cert.MidIdeal.Lin.run m g, ?_⟩
  refine (θ_run Cert.MidRefIdeal.defs _ _).mono (fun r h c => ⟨(h c).1.trans ?_, (h c).2.1.trans ?_, (h c).2.2⟩)
    (Cert.MidRefIdeal.Lin.run m' g')
  all_goals
    obtain ⟨h0, h1, h2, h3, h4, h5, h6, h7, h8, h9, h10, h11, h12⟩ := hm c
    rw [h0, h1, h2, h3, h4, h5, h6, h7, h8, h9, h10, h11]
    first | rfl | (rw [h12]; rfl)

/-- The odd layer as printed runs, leaves its arguments as they were and every counter at zero. -/
theorem frame_odd : Cert.quiescent_Odd (hOdd := Cert.Odd.Gen.facts) := fun m ρ _ => Cert.Odd.Whole.frame m ρ

/-- The idealized odd layer runs, leaves its arguments as they were and every counter at zero. -/
theorem frame_odd_ideal : Cert.quiescent_OddIdeal (hOddIdeal := Cert.OddIdeal.Gen.facts) := fun m ρ _ => Cert.OddIdeal.Whole.frame m ρ

/-- The reference of the odd layer runs, leaves its arguments as they were and every counter at zero. -/
theorem frame_odd_ref : Cert.quiescent_OddRefIdeal (hOddRefIdeal := Cert.OddRefIdeal.Gen.facts) := fun m ρ _ =>
  (θ_run Cert.OddRefIdeal.defs _ _).mono (fun r h => ⟨fun c => (h c).2, sem_eq_zero_of_no_sems (by decide) r.2⟩)
    (Cert.OddRefIdeal.Value.run (F := Ideal) m ρ)

/-- Each named constant of the odd layer is the value the table gives it. -/
theorem preserves_odd : Cert.preserves_Odd_OddIdeal :=
  ⟨IdealRules.named_const.statement _ _ _ _ _ (by simp [Cert.OddIdeal.κ]), IdealRules.named_const.statement _ _ _ _ _ (by simp [Cert.OddIdeal.κ])⟩

/-- On a finite input and finite weights of the queries and keys the idealized odd layer and its reference leave the same result. -/
theorem algebraic_odd : Cert.algebraic_OddIdeal_OddRefIdeal_pre_finite_in (hOddIdeal := Cert.OddIdeal.Gen.facts)
    (hOddRefIdeal := Cert.OddRefIdeal.Gen.facts) (hPre_finite_in := Cert.Pre_finite_in.Gen.facts) := by
  intro m g m' g' hpre hm
  refine ⟨fun c => (Cert.OddIdeal.Third.dat (Cert.OddIdeal.Whole.at' (Cert.OddIdeal.Whole.W8 m)) c).arrAt 10 (Cert.OddIdeal.cfg2 (F := Ideal)).N,
    Cert.OddIdeal.Whole.run_out m g, ?_⟩
  refine (θ_run Cert.OddRefIdeal.defs _ _).mono
    (fun r h c => ⟨(h c).1.trans (Eq.trans ?_ (Cert.OddIdeal.Val.final m c (hpre c)).symm), (h c).2⟩) (Cert.OddRefIdeal.Val.run m' g')
  obtain ⟨h0, h1, h2, h3, h4, h5, h6, h7, h8, h9⟩ := hm c
  rw [h0, h1, h2, h3, h4, h5, h6, h7, h8, h9]
  rfl

theorem claim : Cert.Claim := ⟨Cert.SbAttn.Gen.facts, Cert.SbAttnIdeal.Gen.facts, Cert.SbRefIdeal.Gen.facts,
  Cert.ChunkAttn.Gen.facts, Cert.ChunkAttnIdeal.Gen.facts, Cert.ChunkRefIdeal.Gen.facts, Cert.FfnOdd.Gen.facts,
  Cert.FfnOddIdeal.Gen.facts, Cert.FfnOddRefIdeal.Gen.facts, Cert.FfnEven.Gen.facts, Cert.FfnEvenIdeal.Gen.facts,
  Cert.FfnEvenRefIdeal.Gen.facts, Cert.ProjOdd.Gen.facts, Cert.ProjOddIdeal.Gen.facts, Cert.ProjOddRefIdeal.Gen.facts,
  Cert.ProjEven.Gen.facts, Cert.ProjEvenIdeal.Gen.facts, Cert.ProjEvenRefIdeal.Gen.facts, Cert.Mid.Gen.facts, Cert.MidIdeal.Gen.facts,
  Cert.MidRefIdeal.Gen.facts, Cert.Odd.Gen.facts, Cert.OddIdeal.Gen.facts, Cert.OddRefIdeal.Gen.facts, Cert.Pre_finite_qk.Gen.facts,
  Cert.Pre_finite_chunk.Gen.facts, Cert.Pre_finite_in.Gen.facts,
  frame_p, frame_pi, fun m ρ _ => frame_pi m ρ trivial, frame_ri, fun m ρ _ => frame_ri m ρ trivial,
  frame_chunk, frame_chunk_ideal, fun m ρ _ => frame_chunk_ideal m ρ trivial, frame_chunk_ref, fun m ρ _ => frame_chunk_ref m ρ trivial,
  frame_block_odd, frame_block_odd_ideal, frame_block_odd_ref,
  frame_block_even, frame_block_even_ideal, frame_block_even_ref,
  frame_proj_odd, frame_proj_odd_ideal, frame_proj_odd_ref,
  frame_proj_even, frame_proj_even_ideal, frame_proj_even_ref,
  frame_mid, frame_mid_ideal, frame_mid_ref,
  frame_odd, frame_odd_ideal, fun m ρ _ => frame_odd_ideal m ρ trivial, frame_odd_ref, fun m ρ _ => frame_odd_ref m ρ trivial,
  preserves, algebraic,
  preserves_chunk, algebraic_chunk,
  trivial, algebraic_block_odd,
  trivial, algebraic_block_even,
  trivial, algebraic_proj_odd,
  trivial, algebraic_proj_even,
  trivial, algebraic_mid,
  preserves_odd, algebraic_odd⟩

end Cert.Proof

end
